-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10x720x1280x3 : Shape := ⟨4, ![10, 720, 1280, 3]⟩
abbrev S10 : Shape := ⟨1, ![10]⟩
abbrev S7x7x3x96 : Shape := ⟨4, ![7, 7, 3, 96]⟩
abbrev S96 : Shape := ⟨1, ![96]⟩
abbrev S_ : Shape := ⟨0, ![]⟩

class Facts : Prop where
  bcast_S_S10 : S_.BroadcastsInDim S10 (![] : Fin 0 → Fin S10.rank)
  reducesTo_S10_S_d0 : S10.ReducesTo [0] S_
  h_S_ : 0 < S_.numel
  natLt_8_32 : 8 < 32
  bcast_S_S10x720x1280x3 : S_.BroadcastsInDim S10x720x1280x3 (![] : Fin 0 → Fin S10x720x1280x3.rank)
  reducesTo_S10x720x1280x3_S_d0_1_2_3 : S10x720x1280x3.ReducesTo [0, 1, 2, 3] S_
  bcast_S_S7x7x3x96 : S_.BroadcastsInDim S7x7x3x96 (![] : Fin 0 → Fin S7x7x3x96.rank)
  reducesTo_S7x7x3x96_S_d0_1_2_3 : S7x7x3x96.ReducesTo [0, 1, 2, 3] S_

variable [Facts]

def fn_part1 {F : FTy → Type} [FloatOps F] (main_v9 : IVec S_ 1) (main_v15 : IVec S_ 1) : IVec S_ 1 :=
  let main_v16 : IVec S_ 1 := andi main_v9 main_v15
  main_v16

def fn {F : FTy → Type} [FloatOps F] (main_arg0 : IVec S10x720x1280x3 8) (main_arg1 : FVec F S10 .f32) (main_arg2 : IVec S7x7x3x96 8) (main_arg3 : FVec F S96 .f32) (main_arg4 : FVec F S96 .f32) (main_arg5 : FVec F S96 .f32) : IVec S_ 1 :=
  let main_cst : FVec F S_ .f32 := constant S_ .f32 0x00000000#32
  let main_v0 : FVec F S10 .f32 := broadcastInDim S10 ![] bcast_S_S10 main_cst
  let main_v1 : IVec S10 1 := cmpf .oge main_arg1 main_v0
  let main_c : IVec S_ 1 := constantI S_ 1 1#1
  let main_v2 : IVec S_ 1 := (fun x v => Host.reduce IntOp.andi x v reducesTo_S10_S_d0 h_S_) main_v1 main_c
  let main_v3 : IVec S10x720x1280x3 32 := (extui 32 · natLt_8_32) main_arg0
  let main_c_0 : IVec S_ 32 := constantI S_ 32 127#32
  let main_v4 : IVec S10x720x1280x3 32 := broadcastInDim S10x720x1280x3 ![] bcast_S_S10x720x1280x3 main_c_0
  let main_v5 : IVec S10x720x1280x3 32 := andi main_v3 main_v4
  let main_c_1 : IVec S_ 32 := constantI S_ 32 127#32
  let main_v6 : IVec S10x720x1280x3 32 := broadcastInDim S10x720x1280x3 ![] bcast_S_S10x720x1280x3 main_c_1
  let main_v7 : IVec S10x720x1280x3 1 := cmpi .ne main_v5 main_v6
  let main_c_2 : IVec S_ 1 := constantI S_ 1 1#1
  let main_v8 : IVec S_ 1 := (fun x v => Host.reduce IntOp.andi x v reducesTo_S10x720x1280x3_S_d0_1_2_3 h_S_) main_v7 main_c_2
  let main_v9 : IVec S_ 1 := andi main_v2 main_v8
  let main_v10 : IVec S7x7x3x96 32 := (extui 32 · natLt_8_32) main_arg2
  let main_c_3 : IVec S_ 32 := constantI S_ 32 127#32
  let main_v11 : IVec S7x7x3x96 32 := broadcastInDim S7x7x3x96 ![] bcast_S_S7x7x3x96 main_c_3
  let main_v12 : IVec S7x7x3x96 32 := andi main_v10 main_v11
  let main_c_4 : IVec S_ 32 := constantI S_ 32 127#32
  let main_v13 : IVec S7x7x3x96 32 := broadcastInDim S7x7x3x96 ![] bcast_S_S7x7x3x96 main_c_4
  let main_v14 : IVec S7x7x3x96 1 := cmpi .ne main_v12 main_v13
  let main_c_5 : IVec S_ 1 := constantI S_ 1 1#1
  let main_v15 : IVec S_ 1 := (fun x v => Host.reduce IntOp.andi x v reducesTo_S7x7x3x96_S_d0_1_2_3 h_S_) main_v14 main_c_5
  fn_part1 (F := F) main_v9 main_v15
-- ==== Kernel.lean ====
abbrev S10x720x1280x3 : Shape := ⟨4, ![10, 720, 1280, 3]⟩
abbrev S10 : Shape := ⟨1, ![10]⟩
abbrev S7x7x3x96 : Shape := ⟨4, ![7, 7, 3, 96]⟩
abbrev S96 : Shape := ⟨1, ![96]⟩
abbrev S168x1024 : Shape := ⟨2, ![168, 1024]⟩
abbrev S10x3x720x1280 : Shape := ⟨4, ![10, 3, 720, 1280]⟩
abbrev S10x3x90x8x10x128 : Shape := ⟨6, ![10, 3, 90, 8, 10, 128]⟩
abbrev S10x3x90x10x8x128 : Shape := ⟨6, ![10, 3, 90, 10, 8, 128]⟩
abbrev S10x3x7200x128 : Shape := ⟨4, ![10, 3, 7200, 128]⟩
abbrev S7x3x7x96 : Shape := ⟨4, ![7, 3, 7, 96]⟩
abbrev S96x1 : Shape := ⟨2, ![96, 1]⟩
abbrev S96x128 : Shape := ⟨2, ![96, 128]⟩
abbrev S10x180x96x320 : Shape := ⟨4, ![10, 180, 96, 320]⟩
abbrev S2x3x7200x128 : Shape := ⟨4, ![2, 3, 7200, 128]⟩
abbrev S2x10x96x320 : Shape := ⟨4, ![2, 10, 96, 320]⟩
abbrev S5x12012x128 : Shape := ⟨3, ![5, 12012, 128]⟩
abbrev S384x256 : Shape := ⟨2, ![384, 256]⟩
abbrev S2x8x128 : Shape := ⟨3, ![2, 8, 128]⟩
abbrev S3x96x128 : Shape := ⟨3, ![3, 96, 128]⟩
abbrev S2x5x96x128 : Shape := ⟨4, ![2, 5, 96, 128]⟩
abbrev S2x2x96x128 : Shape := ⟨4, ![2, 2, 96, 128]⟩
abbrev S5x66x128 : Shape := ⟨3, ![5, 66, 128]⟩
abbrev S7x3x1x96 : Shape := ⟨4, ![7, 3, 1, 96]⟩
abbrev S7x3x8x96 : Shape := ⟨4, ![7, 3, 8, 96]⟩
abbrev S168x96 : Shape := ⟨2, ![168, 96]⟩
abbrev S96x1024 : Shape := ⟨2, ![96, 1024]⟩
abbrev S16x256 : Shape := ⟨2, ![16, 256]⟩
abbrev S1 : Shape := ⟨1, ![1]⟩
abbrev S8x128 : Shape := ⟨2, ![8, 128]⟩
abbrev S1x8x128 : Shape := ⟨3, ![1, 8, 128]⟩
abbrev S1x1x128 : Shape := ⟨3, ![1, 1, 128]⟩
abbrev S1x128 : Shape := ⟨2, ![1, 128]⟩
abbrev S1x96x128 : Shape := ⟨3, ![1, 96, 128]⟩
abbrev S1x1x640x128 : Shape := ⟨4, ![1, 1, 640, 128]⟩
abbrev S640x128 : Shape := ⟨2, ![640, 128]⟩
abbrev S160x128 : Shape := ⟨2, ![160, 128]⟩
abbrev S8x20x128 : Shape := ⟨3, ![8, 20, 128]⟩
abbrev S8x1x128 : Shape := ⟨3, ![8, 1, 128]⟩
abbrev S8x128x1 : Shape := ⟨3, ![8, 128, 1]⟩
abbrev S1x64x128 : Shape := ⟨3, ![1, 64, 128]⟩
abbrev S64x128 : Shape := ⟨2, ![64, 128]⟩
abbrev S64x256 : Shape := ⟨2, ![64, 256]⟩
abbrev S256x256 : Shape := ⟨2, ![256, 256]⟩
abbrev S16x128 : Shape := ⟨2, ![16, 128]⟩
abbrev S1x1x16x128 : Shape := ⟨4, ![1, 1, 16, 128]⟩
abbrev S1x16x128 : Shape := ⟨3, ![1, 16, 128]⟩
abbrev S16x64 : Shape := ⟨2, ![16, 64]⟩
abbrev S1x1x16x64 : Shape := ⟨4, ![1, 1, 16, 64]⟩

abbrev nBuf : Space → Nat
  | .hbm => 20
  | .vmem => 15
  | .smem => 1
  | _ => 0

abbrev bufTy : (tb : Table) → Fin (tcTables nBuf tb) → BufTy
  | .hbm, ⟨0, _⟩ => ⟨S10x720x1280x3, .i8⟩
  | .hbm, ⟨1, _⟩ => ⟨S10, .f32⟩
  | .hbm, ⟨2, _⟩ => ⟨S7x7x3x96, .i8⟩
  | .hbm, ⟨3, _⟩ => ⟨S96, .f32⟩
  | .hbm, ⟨4, _⟩ => ⟨S96, .f32⟩
  | .hbm, ⟨5, _⟩ => ⟨S96, .f32⟩
  | .hbm, ⟨6, _⟩ => ⟨S168x1024, .bf16⟩
  | .hbm, ⟨7, _⟩ => ⟨S10x3x720x1280, .i8⟩
  | .hbm, ⟨8, _⟩ => ⟨S10x3x90x8x10x128, .i8⟩
  | .hbm, ⟨9, _⟩ => ⟨S10x3x90x10x8x128, .i8⟩
  | .hbm, ⟨10, _⟩ => ⟨S10x3x7200x128, .i8⟩
  | .hbm, ⟨11, _⟩ => ⟨S7x3x7x96, .i8⟩
  | .hbm, ⟨12, _⟩ => ⟨S7x3x7x96, .fp8e4m3⟩
  | .hbm, ⟨13, _⟩ => ⟨S96x1, .f32⟩
  | .hbm, ⟨14, _⟩ => ⟨S96x128, .f32⟩
  | .hbm, ⟨15, _⟩ => ⟨S96x1, .f32⟩
  | .hbm, ⟨16, _⟩ => ⟨S96x128, .f32⟩
  | .hbm, ⟨17, _⟩ => ⟨S96x1, .f32⟩
  | .hbm, ⟨18, _⟩ => ⟨S96x128, .f32⟩
  | .hbm, ⟨19, _⟩ => ⟨S10x180x96x320, .bf16⟩
  | .local _ .vmem, ⟨0, _⟩ => ⟨S2x3x7200x128, .i8⟩
  | .local _ .vmem, ⟨1, _⟩ => ⟨S2x3x7200x128, .i8⟩
  | .local _ .vmem, ⟨2, _⟩ => ⟨S7x3x7x96, .fp8e4m3⟩
  | .local _ .vmem, ⟨3, _⟩ => ⟨S168x1024, .bf16⟩
  | .local _ .vmem, ⟨4, _⟩ => ⟨S96x128, .f32⟩
  | .local _ .vmem, ⟨5, _⟩ => ⟨S96x128, .f32⟩
  | .local _ .vmem, ⟨6, _⟩ => ⟨S96x128, .f32⟩
  | .local _ .vmem, ⟨7, _⟩ => ⟨S2x10x96x320, .bf16⟩
  | .local _ .vmem, ⟨8, _⟩ => ⟨S2x10x96x320, .bf16⟩
  | .local _ .vmem, ⟨9, _⟩ => ⟨S5x12012x128, .i32⟩
  | .local _ .vmem, ⟨10, _⟩ => ⟨S384x256, .fp8e4m3⟩
  | .local _ .vmem, ⟨11, _⟩ => ⟨S2x8x128, .f32⟩
  | .local _ .vmem, ⟨12, _⟩ => ⟨S3x96x128, .f32⟩
  | .local _ .vmem, ⟨13, _⟩ => ⟨S2x5x96x128, .f32⟩
  | .local _ .vmem, ⟨14, _⟩ => ⟨S2x2x96x128, .f32⟩
  | .local _ .smem, ⟨0, _⟩ => ⟨S10, .f32⟩
  | _, _ => ⟨S10x720x1280x3, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![5, 18], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_7 : BitVec 32 := 0#32
  let c182_i32 : BitVec 32 := 182#32
  let v12 : BitVec 32 := Scalar.addi c0_i32_7 c182_i32
  let c1_i32_8 : BitVec 32 := 1#32
  ⟨c0_i32_7, v12, c1_i32_8⟩
def k0_off1 (k0_t1 : Fin k0_t1_loop.trips) : Fin 3 → Nat :=
  let c0_25 : Index := 0#32
  let c0_i32_7 : BitVec 32 := 0#32
  let c1_i32_8 : BitVec 32 := 1#32
  let arg16 : BitVec 32 := Scf.iv c0_i32_7 c1_i32_8 k0_t1
  let c66_i32 : BitVec 32 := 66#32
  let v64 : BitVec 32 := Scalar.muli arg16 c66_i32
  let v65 : Index := Scalar.indexCast v64
  let c0_26 : Index := 0#32
  ![0, v65.toNat, 0]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off2 (i : grid0.Coords) (c0_i32_7 : BitVec 32) : Fin 1 → Nat :=
  let c2_i32 : BitVec 32 := 2#32
  let arg0 : BitVec 32 := BitVec.ofNat 32 (i 0).val
  let v12 : BitVec 32 := Scalar.muli c2_i32 arg0
  let v13 : BitVec 32 := Scalar.addi v12 c0_i32_7
  let v14 : Index := Scalar.indexCast v13
  ![v14.toNat]
@[reducible] def k0_t2_loop : Scf.Loop 32 :=
  let c0_i32_74 : BitVec 32 := 0#32
  let c12_i32 : BitVec 32 := 12#32
  let v185 : BitVec 32 := Scalar.addi c0_i32_74 c12_i32
  let c1_i32_75 : BitVec 32 := 1#32
  ⟨c0_i32_74, v185, c1_i32_75⟩
def k0_mult1 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_384 : BitVec 32 := 8#32
  let v500 : BitVec 32 := Scalar.muli v499 c8_i32_384
  let c10_i32 : BitVec 32 := 10#32
  let v501 : BitVec 32 := Scalar.muli v500 c10_i32
  v501
def k0_off3 (k0_t2 : Fin k0_t2_loop.trips) : Fin 4 → Nat :=
  let c0_385 : Index := 0#32
  let c0_386 : Index := 0#32
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_384 : BitVec 32 := 8#32
  let v500 : BitVec 32 := Scalar.muli v499 c8_i32_384
  let c10_i32 : BitVec 32 := 10#32
  let v501 : BitVec 32 := Scalar.muli v500 c10_i32
  let v502 : BitVec 32 := v501
  let v503 : Index := Scalar.indexCast v502
  let c0_387 : Index := 0#32
  ![0, 0, v503.toNat, 0]
def k0_mult2 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_389 : BitVec 32 := 8#32
  let v518 : BitVec 32 := Scalar.muli v499 c8_i32_389
  let c10_i32_390 : BitVec 32 := 10#32
  let v519 : BitVec 32 := Scalar.muli v518 c10_i32_390
  v519
def k0_mult3 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_396 : BitVec 32 := 8#32
  let v536 : BitVec 32 := Scalar.muli v499 c8_i32_396
  let c10_i32_397 : BitVec 32 := 10#32
  let v537 : BitVec 32 := Scalar.muli v536 c10_i32_397
  v537
def k0_mult4 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_403 : BitVec 32 := 8#32
  let v554 : BitVec 32 := Scalar.muli v499 c8_i32_403
  let c10_i32_404 : BitVec 32 := 10#32
  let v555 : BitVec 32 := Scalar.muli v554 c10_i32_404
  v555
def k0_mult5 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_424 : BitVec 32 := 8#32
  let v611 : BitVec 32 := Scalar.muli v499 c8_i32_424
  let c10_i32_425 : BitVec 32 := 10#32
  let v612 : BitVec 32 := Scalar.muli v611 c10_i32_425
  v612
def k0_mult6 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_431 : BitVec 32 := 8#32
  let v629 : BitVec 32 := Scalar.muli v499 c8_i32_431
  let c10_i32_432 : BitVec 32 := 10#32
  let v630 : BitVec 32 := Scalar.muli v629 c10_i32_432
  v630
def k0_mult7 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_438 : BitVec 32 := 8#32
  let v647 : BitVec 32 := Scalar.muli v499 c8_i32_438
  let c10_i32_439 : BitVec 32 := 10#32
  let v648 : BitVec 32 := Scalar.muli v647 c10_i32_439
  v648
def k0_mult8 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_445 : BitVec 32 := 8#32
  let v665 : BitVec 32 := Scalar.muli v499 c8_i32_445
  let c10_i32_446 : BitVec 32 := 10#32
  let v666 : BitVec 32 := Scalar.muli v665 c10_i32_446
  v666
def k0_mult9 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_467 : BitVec 32 := 8#32
  let v722 : BitVec 32 := Scalar.muli v499 c8_i32_467
  let c10_i32_468 : BitVec 32 := 10#32
  let v723 : BitVec 32 := Scalar.muli v722 c10_i32_468
  v723
def k0_mult10 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_474 : BitVec 32 := 8#32
  let v740 : BitVec 32 := Scalar.muli v499 c8_i32_474
  let c10_i32_475 : BitVec 32 := 10#32
  let v741 : BitVec 32 := Scalar.muli v740 c10_i32_475
  v741
def k0_mult11 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_481 : BitVec 32 := 8#32
  let v758 : BitVec 32 := Scalar.muli v499 c8_i32_481
  let c10_i32_482 : BitVec 32 := 10#32
  let v759 : BitVec 32 := Scalar.muli v758 c10_i32_482
  v759
def k0_off4 (k0_t2 : Fin k0_t2_loop.trips) : Fin 4 → Nat :=
  let c1_483 : Index := 1#32
  let c0_484 : Index := 0#32
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_481 : BitVec 32 := 8#32
  let v758 : BitVec 32 := Scalar.muli v499 c8_i32_481
  let c10_i32_482 : BitVec 32 := 10#32
  let v759 : BitVec 32 := Scalar.muli v758 c10_i32_482
  let v760 : BitVec 32 := v759
  let v761 : Index := Scalar.indexCast v760
  let c0_485 : Index := 0#32
  ![1, 0, v761.toNat, 0]
def k0_mult12 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_488 : BitVec 32 := 8#32
  let v776 : BitVec 32 := Scalar.muli v499 c8_i32_488
  let c10_i32_489 : BitVec 32 := 10#32
  let v777 : BitVec 32 := Scalar.muli v776 c10_i32_489
  v777
def k0_mult13 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_510 : BitVec 32 := 8#32
  let v833 : BitVec 32 := Scalar.muli v499 c8_i32_510
  let c10_i32_511 : BitVec 32 := 10#32
  let v834 : BitVec 32 := Scalar.muli v833 c10_i32_511
  v834
def k0_mult14 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_517 : BitVec 32 := 8#32
  let v851 : BitVec 32 := Scalar.muli v499 c8_i32_517
  let c10_i32_518 : BitVec 32 := 10#32
  let v852 : BitVec 32 := Scalar.muli v851 c10_i32_518
  v852
def k0_mult15 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_524 : BitVec 32 := 8#32
  let v869 : BitVec 32 := Scalar.muli v499 c8_i32_524
  let c10_i32_525 : BitVec 32 := 10#32
  let v870 : BitVec 32 := Scalar.muli v869 c10_i32_525
  v870
def k0_mult16 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_531 : BitVec 32 := 8#32
  let v887 : BitVec 32 := Scalar.muli v499 c8_i32_531
  let c10_i32_532 : BitVec 32 := 10#32
  let v888 : BitVec 32 := Scalar.muli v887 c10_i32_532
  v888
def k0_mult17 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_553 : BitVec 32 := 8#32
  let v944 : BitVec 32 := Scalar.muli v499 c8_i32_553
  let c10_i32_554 : BitVec 32 := 10#32
  let v945 : BitVec 32 := Scalar.muli v944 c10_i32_554
  v945
def k0_mult18 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_560 : BitVec 32 := 8#32
  let v962 : BitVec 32 := Scalar.muli v499 c8_i32_560
  let c10_i32_561 : BitVec 32 := 10#32
  let v963 : BitVec 32 := Scalar.muli v962 c10_i32_561
  v963
def k0_mult19 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_567 : BitVec 32 := 8#32
  let v980 : BitVec 32 := Scalar.muli v499 c8_i32_567
  let c10_i32_568 : BitVec 32 := 10#32
  let v981 : BitVec 32 := Scalar.muli v980 c10_i32_568
  v981
def k0_mult20 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_574 : BitVec 32 := 8#32
  let v998 : BitVec 32 := Scalar.muli v499 c8_i32_574
  let c10_i32_575 : BitVec 32 := 10#32
  let v999 : BitVec 32 := Scalar.muli v998 c10_i32_575
  v999
def k0_off5 (k0_t2 : Fin k0_t2_loop.trips) (c0_i32_682 : BitVec 32) (c0_i32_683 : BitVec 32) : Fin 3 → Nat :=
  let c0_684 : Index := 0#32
  let c2_i32_681 : BitVec 32 := 2#32
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let v1256 : BitVec 32 := Scalar.muli c2_i32_681 v499
  let v1257 : BitVec 32 := Scalar.addi v1256 c0_i32_682
  let c66_i32 : BitVec 32 := 66#32
  let v1258 : BitVec 32 := Scalar.muli v1257 c66_i32
  let c27_i32 : BitVec 32 := 27#32
  let v1259 : BitVec 32 := Scalar.addi v1258 c27_i32
  let v1260 : BitVec 32 := Scalar.addi v1259 c0_i32_683
  let v1261 : Index := Scalar.indexCast v1260
  let c0_685 : Index := 0#32
  ![0, v1261.toNat, 0]
def k0_off6 (k0_t2 : Fin k0_t2_loop.trips) (c0_i32_682 : BitVec 32) (c0_i32_688 : BitVec 32) : Fin 3 → Nat :=
  let c0_689 : Index := 0#32
  let c2_i32_681 : BitVec 32 := 2#32
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let v1256 : BitVec 32 := Scalar.muli c2_i32_681 v499
  let v1257 : BitVec 32 := Scalar.addi v1256 c0_i32_682
  let c66_i32 : BitVec 32 := 66#32
  let v1258 : BitVec 32 := Scalar.muli v1257 c66_i32
  let c66_i32_686 : BitVec 32 := 66#32
  let v1265 : BitVec 32 := Scalar.addi v1258 c66_i32_686
  let c0_i32_687 : BitVec 32 := 0#32
  let v1266 : BitVec 32 := Scalar.addi v1265 c0_i32_687
  let v1267 : BitVec 32 := Scalar.addi v1266 c0_i32_688
  let v1268 : Index := Scalar.indexCast v1267
  let c0_690 : Index := 0#32
  ![0, v1268.toNat, 0]
def k0_off7 (k0_t2 : Fin k0_t2_loop.trips) (c0_i32_682 : BitVec 32) (c0_i32_761 : BitVec 32) (c0_i32_762 : BitVec 32) : Fin 3 → Nat :=
  let c0_763 : Index := 0#32
  let c2_i32_681 : BitVec 32 := 2#32
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let v1256 : BitVec 32 := Scalar.muli c2_i32_681 v499
  let v1257 : BitVec 32 := Scalar.addi v1256 c0_i32_682
  let c66_i32 : BitVec 32 := 66#32
  let v1258 : BitVec 32 := Scalar.muli v1257 c66_i32
  let c132_i32 : BitVec 32 := 132#32
  let v1376 : BitVec 32 := Scalar.addi v1258 c132_i32
  let c54_i32 : BitVec 32 := 54#32
  let v1377 : BitVec 32 := Scalar.addi v1376 c54_i32
  let v1378 : BitVec 32 := Scalar.addi v1377 c0_i32_761
  let v1379 : BitVec 32 := Scalar.addi v1378 c0_i32_762
  let v1380 : Index := Scalar.indexCast v1379
  let c0_764 : Index := 0#32
  ![0, v1380.toNat, 0]
def k0_off8 (k0_t2 : Fin k0_t2_loop.trips) (c0_i32_682 : BitVec 32) (c0_i32_778 : BitVec 32) : Fin 3 → Nat :=
  let c1_779 : Index := 1#32
  let c2_i32_681 : BitVec 32 := 2#32
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let v1256 : BitVec 32 := Scalar.muli c2_i32_681 v499
  let v1257 : BitVec 32 := Scalar.addi v1256 c0_i32_682
  let c66_i32 : BitVec 32 := 66#32
  let v1258 : BitVec 32 := Scalar.muli v1257 c66_i32
  let c27_i32_777 : BitVec 32 := 27#32
  let v1400 : BitVec 32 := Scalar.addi v1258 c27_i32_777
  let v1401 : BitVec 32 := Scalar.addi v1400 c0_i32_778
  let v1402 : Index := Scalar.indexCast v1401
  let c0_780 : Index := 0#32
  ![1, v1402.toNat, 0]
def k0_off9 (k0_t2 : Fin k0_t2_loop.trips) (c0_i32_682 : BitVec 32) (c0_i32_783 : BitVec 32) : Fin 3 → Nat :=
  let c1_784 : Index := 1#32
  let c2_i32_681 : BitVec 32 := 2#32
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let v1256 : BitVec 32 := Scalar.muli c2_i32_681 v499
  let v1257 : BitVec 32 := Scalar.addi v1256 c0_i32_682
  let c66_i32 : BitVec 32 := 66#32
  let v1258 : BitVec 32 := Scalar.muli v1257 c66_i32
  let c66_i32_781 : BitVec 32 := 66#32
  let v1406 : BitVec 32 := Scalar.addi v1258 c66_i32_781
  let c0_i32_782 : BitVec 32 := 0#32
  let v1407 : BitVec 32 := Scalar.addi v1406 c0_i32_782
  let v1408 : BitVec 32 := Scalar.addi v1407 c0_i32_783
  let v1409 : Index := Scalar.indexCast v1408
  let c0_785 : Index := 0#32
  ![1, v1409.toNat, 0]
def k0_off10 (k0_t2 : Fin k0_t2_loop.trips) (c0_i32_682 : BitVec 32) (c0_i32_860 : BitVec 32) (c0_i32_861 : BitVec 32) : Fin 3 → Nat :=
  let c1_862 : Index := 1#32
  let c2_i32_681 : BitVec 32 := 2#32
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let v1256 : BitVec 32 := Scalar.muli c2_i32_681 v499
  let v1257 : BitVec 32 := Scalar.addi v1256 c0_i32_682
  let c66_i32 : BitVec 32 := 66#32
  let v1258 : BitVec 32 := Scalar.muli v1257 c66_i32
  let c132_i32_858 : BitVec 32 := 132#32
  let v1517 : BitVec 32 := Scalar.addi v1258 c132_i32_858
  let c54_i32_859 : BitVec 32 := 54#32
  let v1518 : BitVec 32 := Scalar.addi v1517 c54_i32_859
  let v1519 : BitVec 32 := Scalar.addi v1518 c0_i32_860
  let v1520 : BitVec 32 := Scalar.addi v1519 c0_i32_861
  let v1521 : Index := Scalar.indexCast v1520
  let c0_863 : Index := 0#32
  ![1, v1521.toNat, 0]
def k0_off11 (k0_t2 : Fin k0_t2_loop.trips) (c0_i32_682 : BitVec 32) (c0_i32_877 : BitVec 32) : Fin 3 → Nat :=
  let c2_878 : Index := 2#32
  let c2_i32_681 : BitVec 32 := 2#32
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let v1256 : BitVec 32 := Scalar.muli c2_i32_681 v499
  let v1257 : BitVec 32 := Scalar.addi v1256 c0_i32_682
  let c66_i32 : BitVec 32 := 66#32
  let v1258 : BitVec 32 := Scalar.muli v1257 c66_i32
  let c27_i32_876 : BitVec 32 := 27#32
  let v1541 : BitVec 32 := Scalar.addi v1258 c27_i32_876
  let v1542 : BitVec 32 := Scalar.addi v1541 c0_i32_877
  let v1543 : Index := Scalar.indexCast v1542
  let c0_879 : Index := 0#32
  ![2, v1543.toNat, 0]
def k0_off12 (k0_t2 : Fin k0_t2_loop.trips) (c0_i32_682 : BitVec 32) (c0_i32_882 : BitVec 32) : Fin 3 → Nat :=
  let c2_883 : Index := 2#32
  let c2_i32_681 : BitVec 32 := 2#32
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let v1256 : BitVec 32 := Scalar.muli c2_i32_681 v499
  let v1257 : BitVec 32 := Scalar.addi v1256 c0_i32_682
  let c66_i32 : BitVec 32 := 66#32
  let v1258 : BitVec 32 := Scalar.muli v1257 c66_i32
  let c66_i32_880 : BitVec 32 := 66#32
  let v1547 : BitVec 32 := Scalar.addi v1258 c66_i32_880
  let c0_i32_881 : BitVec 32 := 0#32
  let v1548 : BitVec 32 := Scalar.addi v1547 c0_i32_881
  let v1549 : BitVec 32 := Scalar.addi v1548 c0_i32_882
  let v1550 : Index := Scalar.indexCast v1549
  let c0_884 : Index := 0#32
  ![2, v1550.toNat, 0]
def k0_off13 (k0_t2 : Fin k0_t2_loop.trips) (c0_i32_682 : BitVec 32) (c0_i32_959 : BitVec 32) (c0_i32_960 : BitVec 32) : Fin 3 → Nat :=
  let c2_961 : Index := 2#32
  let c2_i32_681 : BitVec 32 := 2#32
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let v1256 : BitVec 32 := Scalar.muli c2_i32_681 v499
  let v1257 : BitVec 32 := Scalar.addi v1256 c0_i32_682
  let c66_i32 : BitVec 32 := 66#32
  let v1258 : BitVec 32 := Scalar.muli v1257 c66_i32
  let c132_i32_957 : BitVec 32 := 132#32
  let v1658 : BitVec 32 := Scalar.addi v1258 c132_i32_957
  let c54_i32_958 : BitVec 32 := 54#32
  let v1659 : BitVec 32 := Scalar.addi v1658 c54_i32_958
  let v1660 : BitVec 32 := Scalar.addi v1659 c0_i32_959
  let v1661 : BitVec 32 := Scalar.addi v1660 c0_i32_960
  let v1662 : Index := Scalar.indexCast v1661
  let c0_962 : Index := 0#32
  ![2, v1662.toNat, 0]
def k0_off14 (k0_t2 : Fin k0_t2_loop.trips) (c0_i32_682 : BitVec 32) (c0_i32_976 : BitVec 32) : Fin 3 → Nat :=
  let c3_977 : Index := 3#32
  let c2_i32_681 : BitVec 32 := 2#32
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let v1256 : BitVec 32 := Scalar.muli c2_i32_681 v499
  let v1257 : BitVec 32 := Scalar.addi v1256 c0_i32_682
  let c66_i32 : BitVec 32 := 66#32
  let v1258 : BitVec 32 := Scalar.muli v1257 c66_i32
  let c27_i32_975 : BitVec 32 := 27#32
  let v1682 : BitVec 32 := Scalar.addi v1258 c27_i32_975
  let v1683 : BitVec 32 := Scalar.addi v1682 c0_i32_976
  let v1684 : Index := Scalar.indexCast v1683
  let c0_978 : Index := 0#32
  ![3, v1684.toNat, 0]
def k0_off15 (k0_t2 : Fin k0_t2_loop.trips) (c0_i32_682 : BitVec 32) (c0_i32_981 : BitVec 32) : Fin 3 → Nat :=
  let c3_982 : Index := 3#32
  let c2_i32_681 : BitVec 32 := 2#32
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let v1256 : BitVec 32 := Scalar.muli c2_i32_681 v499
  let v1257 : BitVec 32 := Scalar.addi v1256 c0_i32_682
  let c66_i32 : BitVec 32 := 66#32
  let v1258 : BitVec 32 := Scalar.muli v1257 c66_i32
  let c66_i32_979 : BitVec 32 := 66#32
  let v1688 : BitVec 32 := Scalar.addi v1258 c66_i32_979
  let c0_i32_980 : BitVec 32 := 0#32
  let v1689 : BitVec 32 := Scalar.addi v1688 c0_i32_980
  let v1690 : BitVec 32 := Scalar.addi v1689 c0_i32_981
  let v1691 : Index := Scalar.indexCast v1690
  let c0_983 : Index := 0#32
  ![3, v1691.toNat, 0]
def k0_off16 (k0_t2 : Fin k0_t2_loop.trips) (c0_i32_682 : BitVec 32) (c0_i32_1058 : BitVec 32) (c0_i32_1059 : BitVec 32) : Fin 3 → Nat :=
  let c3_1060 : Index := 3#32
  let c2_i32_681 : BitVec 32 := 2#32
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let v1256 : BitVec 32 := Scalar.muli c2_i32_681 v499
  let v1257 : BitVec 32 := Scalar.addi v1256 c0_i32_682
  let c66_i32 : BitVec 32 := 66#32
  let v1258 : BitVec 32 := Scalar.muli v1257 c66_i32
  let c132_i32_1056 : BitVec 32 := 132#32
  let v1799 : BitVec 32 := Scalar.addi v1258 c132_i32_1056
  let c54_i32_1057 : BitVec 32 := 54#32
  let v1800 : BitVec 32 := Scalar.addi v1799 c54_i32_1057
  let v1801 : BitVec 32 := Scalar.addi v1800 c0_i32_1058
  let v1802 : BitVec 32 := Scalar.addi v1801 c0_i32_1059
  let v1803 : Index := Scalar.indexCast v1802
  let c0_1061 : Index := 0#32
  ![3, v1803.toNat, 0]
def k0_off17 (k0_t2 : Fin k0_t2_loop.trips) (c0_i32_682 : BitVec 32) (c0_i32_1075 : BitVec 32) : Fin 3 → Nat :=
  let c4_1076 : Index := 4#32
  let c2_i32_681 : BitVec 32 := 2#32
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let v1256 : BitVec 32 := Scalar.muli c2_i32_681 v499
  let v1257 : BitVec 32 := Scalar.addi v1256 c0_i32_682
  let c66_i32 : BitVec 32 := 66#32
  let v1258 : BitVec 32 := Scalar.muli v1257 c66_i32
  let c27_i32_1074 : BitVec 32 := 27#32
  let v1823 : BitVec 32 := Scalar.addi v1258 c27_i32_1074
  let v1824 : BitVec 32 := Scalar.addi v1823 c0_i32_1075
  let v1825 : Index := Scalar.indexCast v1824
  let c0_1077 : Index := 0#32
  ![4, v1825.toNat, 0]
def k0_off18 (k0_t2 : Fin k0_t2_loop.trips) (c0_i32_682 : BitVec 32) (c0_i32_1080 : BitVec 32) : Fin 3 → Nat :=
  let c4_1081 : Index := 4#32
  let c2_i32_681 : BitVec 32 := 2#32
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let v1256 : BitVec 32 := Scalar.muli c2_i32_681 v499
  let v1257 : BitVec 32 := Scalar.addi v1256 c0_i32_682
  let c66_i32 : BitVec 32 := 66#32
  let v1258 : BitVec 32 := Scalar.muli v1257 c66_i32
  let c66_i32_1078 : BitVec 32 := 66#32
  let v1829 : BitVec 32 := Scalar.addi v1258 c66_i32_1078
  let c0_i32_1079 : BitVec 32 := 0#32
  let v1830 : BitVec 32 := Scalar.addi v1829 c0_i32_1079
  let v1831 : BitVec 32 := Scalar.addi v1830 c0_i32_1080
  let v1832 : Index := Scalar.indexCast v1831
  let c0_1082 : Index := 0#32
  ![4, v1832.toNat, 0]
def k0_off19 (k0_t2 : Fin k0_t2_loop.trips) (c0_i32_682 : BitVec 32) (c0_i32_1157 : BitVec 32) (c0_i32_1158 : BitVec 32) : Fin 3 → Nat :=
  let c4_1159 : Index := 4#32
  let c2_i32_681 : BitVec 32 := 2#32
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let v1256 : BitVec 32 := Scalar.muli c2_i32_681 v499
  let v1257 : BitVec 32 := Scalar.addi v1256 c0_i32_682
  let c66_i32 : BitVec 32 := 66#32
  let v1258 : BitVec 32 := Scalar.muli v1257 c66_i32
  let c132_i32_1155 : BitVec 32 := 132#32
  let v1940 : BitVec 32 := Scalar.addi v1258 c132_i32_1155
  let c54_i32_1156 : BitVec 32 := 54#32
  let v1941 : BitVec 32 := Scalar.addi v1940 c54_i32_1156
  let v1942 : BitVec 32 := Scalar.addi v1941 c0_i32_1157
  let v1943 : BitVec 32 := Scalar.addi v1942 c0_i32_1158
  let v1944 : Index := Scalar.indexCast v1943
  let c0_1160 : Index := 0#32
  ![4, v1944.toNat, 0]
def k0_mult21 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1173 : BitVec 32 := 8#32
  let v1964 : BitVec 32 := Scalar.muli v499 c8_i32_1173
  let c10_i32_1174 : BitVec 32 := 10#32
  let v1965 : BitVec 32 := Scalar.muli v1964 c10_i32_1174
  v1965
def k0_mult22 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1180 : BitVec 32 := 8#32
  let v1982 : BitVec 32 := Scalar.muli v499 c8_i32_1180
  let c10_i32_1181 : BitVec 32 := 10#32
  let v1983 : BitVec 32 := Scalar.muli v1982 c10_i32_1181
  v1983
def k0_mult23 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1187 : BitVec 32 := 8#32
  let v2000 : BitVec 32 := Scalar.muli v499 c8_i32_1187
  let c10_i32_1188 : BitVec 32 := 10#32
  let v2001 : BitVec 32 := Scalar.muli v2000 c10_i32_1188
  v2001
def k0_mult24 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1194 : BitVec 32 := 8#32
  let v2018 : BitVec 32 := Scalar.muli v499 c8_i32_1194
  let c10_i32_1195 : BitVec 32 := 10#32
  let v2019 : BitVec 32 := Scalar.muli v2018 c10_i32_1195
  v2019
def k0_mult25 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1216 : BitVec 32 := 8#32
  let v2075 : BitVec 32 := Scalar.muli v499 c8_i32_1216
  let c10_i32_1217 : BitVec 32 := 10#32
  let v2076 : BitVec 32 := Scalar.muli v2075 c10_i32_1217
  v2076
def k0_mult26 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1223 : BitVec 32 := 8#32
  let v2093 : BitVec 32 := Scalar.muli v499 c8_i32_1223
  let c10_i32_1224 : BitVec 32 := 10#32
  let v2094 : BitVec 32 := Scalar.muli v2093 c10_i32_1224
  v2094
def k0_mult27 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1230 : BitVec 32 := 8#32
  let v2111 : BitVec 32 := Scalar.muli v499 c8_i32_1230
  let c10_i32_1231 : BitVec 32 := 10#32
  let v2112 : BitVec 32 := Scalar.muli v2111 c10_i32_1231
  v2112
def k0_mult28 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1237 : BitVec 32 := 8#32
  let v2129 : BitVec 32 := Scalar.muli v499 c8_i32_1237
  let c10_i32_1238 : BitVec 32 := 10#32
  let v2130 : BitVec 32 := Scalar.muli v2129 c10_i32_1238
  v2130
def k0_mult29 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1259 : BitVec 32 := 8#32
  let v2186 : BitVec 32 := Scalar.muli v499 c8_i32_1259
  let c10_i32_1260 : BitVec 32 := 10#32
  let v2187 : BitVec 32 := Scalar.muli v2186 c10_i32_1260
  v2187
def k0_mult30 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1266 : BitVec 32 := 8#32
  let v2204 : BitVec 32 := Scalar.muli v499 c8_i32_1266
  let c10_i32_1267 : BitVec 32 := 10#32
  let v2205 : BitVec 32 := Scalar.muli v2204 c10_i32_1267
  v2205
def k0_mult31 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1273 : BitVec 32 := 8#32
  let v2222 : BitVec 32 := Scalar.muli v499 c8_i32_1273
  let c10_i32_1274 : BitVec 32 := 10#32
  let v2223 : BitVec 32 := Scalar.muli v2222 c10_i32_1274
  v2223
def k0_mult32 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1280 : BitVec 32 := 8#32
  let v2240 : BitVec 32 := Scalar.muli v499 c8_i32_1280
  let c10_i32_1281 : BitVec 32 := 10#32
  let v2241 : BitVec 32 := Scalar.muli v2240 c10_i32_1281
  v2241
def k0_mult33 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1302 : BitVec 32 := 8#32
  let v2297 : BitVec 32 := Scalar.muli v499 c8_i32_1302
  let c10_i32_1303 : BitVec 32 := 10#32
  let v2298 : BitVec 32 := Scalar.muli v2297 c10_i32_1303
  v2298
def k0_mult34 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1309 : BitVec 32 := 8#32
  let v2315 : BitVec 32 := Scalar.muli v499 c8_i32_1309
  let c10_i32_1310 : BitVec 32 := 10#32
  let v2316 : BitVec 32 := Scalar.muli v2315 c10_i32_1310
  v2316
def k0_mult35 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1316 : BitVec 32 := 8#32
  let v2333 : BitVec 32 := Scalar.muli v499 c8_i32_1316
  let c10_i32_1317 : BitVec 32 := 10#32
  let v2334 : BitVec 32 := Scalar.muli v2333 c10_i32_1317
  v2334
def k0_mult36 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1323 : BitVec 32 := 8#32
  let v2351 : BitVec 32 := Scalar.muli v499 c8_i32_1323
  let c10_i32_1324 : BitVec 32 := 10#32
  let v2352 : BitVec 32 := Scalar.muli v2351 c10_i32_1324
  v2352
def k0_mult37 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1345 : BitVec 32 := 8#32
  let v2408 : BitVec 32 := Scalar.muli v499 c8_i32_1345
  let c10_i32_1346 : BitVec 32 := 10#32
  let v2409 : BitVec 32 := Scalar.muli v2408 c10_i32_1346
  v2409
def k0_mult38 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1352 : BitVec 32 := 8#32
  let v2426 : BitVec 32 := Scalar.muli v499 c8_i32_1352
  let c10_i32_1353 : BitVec 32 := 10#32
  let v2427 : BitVec 32 := Scalar.muli v2426 c10_i32_1353
  v2427
def k0_mult39 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1359 : BitVec 32 := 8#32
  let v2444 : BitVec 32 := Scalar.muli v499 c8_i32_1359
  let c10_i32_1360 : BitVec 32 := 10#32
  let v2445 : BitVec 32 := Scalar.muli v2444 c10_i32_1360
  v2445
def k0_mult40 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1366 : BitVec 32 := 8#32
  let v2462 : BitVec 32 := Scalar.muli v499 c8_i32_1366
  let c10_i32_1367 : BitVec 32 := 10#32
  let v2463 : BitVec 32 := Scalar.muli v2462 c10_i32_1367
  v2463
def k0_mult41 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1979 : BitVec 32 := 8#32
  let v3428 : BitVec 32 := Scalar.muli v499 c8_i32_1979
  let c10_i32_1980 : BitVec 32 := 10#32
  let v3429 : BitVec 32 := Scalar.muli v3428 c10_i32_1980
  v3429
def k0_off20 (k0_t2 : Fin k0_t2_loop.trips) : Fin 4 → Nat :=
  let c0_1981 : Index := 0#32
  let c1_1982 : Index := 1#32
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1979 : BitVec 32 := 8#32
  let v3428 : BitVec 32 := Scalar.muli v499 c8_i32_1979
  let c10_i32_1980 : BitVec 32 := 10#32
  let v3429 : BitVec 32 := Scalar.muli v3428 c10_i32_1980
  let v3430 : BitVec 32 := v3429
  let v3431 : Index := Scalar.indexCast v3430
  let c0_1983 : Index := 0#32
  ![0, 1, v3431.toNat, 0]
def k0_mult42 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1986 : BitVec 32 := 8#32
  let v3446 : BitVec 32 := Scalar.muli v499 c8_i32_1986
  let c10_i32_1987 : BitVec 32 := 10#32
  let v3447 : BitVec 32 := Scalar.muli v3446 c10_i32_1987
  v3447
def k0_mult43 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_1993 : BitVec 32 := 8#32
  let v3464 : BitVec 32 := Scalar.muli v499 c8_i32_1993
  let c10_i32_1994 : BitVec 32 := 10#32
  let v3465 : BitVec 32 := Scalar.muli v3464 c10_i32_1994
  v3465
def k0_mult44 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2000 : BitVec 32 := 8#32
  let v3482 : BitVec 32 := Scalar.muli v499 c8_i32_2000
  let c10_i32_2001 : BitVec 32 := 10#32
  let v3483 : BitVec 32 := Scalar.muli v3482 c10_i32_2001
  v3483
def k0_mult45 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2022 : BitVec 32 := 8#32
  let v3539 : BitVec 32 := Scalar.muli v499 c8_i32_2022
  let c10_i32_2023 : BitVec 32 := 10#32
  let v3540 : BitVec 32 := Scalar.muli v3539 c10_i32_2023
  v3540
def k0_mult46 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2029 : BitVec 32 := 8#32
  let v3557 : BitVec 32 := Scalar.muli v499 c8_i32_2029
  let c10_i32_2030 : BitVec 32 := 10#32
  let v3558 : BitVec 32 := Scalar.muli v3557 c10_i32_2030
  v3558
def k0_mult47 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2036 : BitVec 32 := 8#32
  let v3575 : BitVec 32 := Scalar.muli v499 c8_i32_2036
  let c10_i32_2037 : BitVec 32 := 10#32
  let v3576 : BitVec 32 := Scalar.muli v3575 c10_i32_2037
  v3576
def k0_mult48 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2043 : BitVec 32 := 8#32
  let v3593 : BitVec 32 := Scalar.muli v499 c8_i32_2043
  let c10_i32_2044 : BitVec 32 := 10#32
  let v3594 : BitVec 32 := Scalar.muli v3593 c10_i32_2044
  v3594
def k0_mult49 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2065 : BitVec 32 := 8#32
  let v3650 : BitVec 32 := Scalar.muli v499 c8_i32_2065
  let c10_i32_2066 : BitVec 32 := 10#32
  let v3651 : BitVec 32 := Scalar.muli v3650 c10_i32_2066
  v3651
def k0_mult50 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2072 : BitVec 32 := 8#32
  let v3668 : BitVec 32 := Scalar.muli v499 c8_i32_2072
  let c10_i32_2073 : BitVec 32 := 10#32
  let v3669 : BitVec 32 := Scalar.muli v3668 c10_i32_2073
  v3669
def k0_mult51 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2079 : BitVec 32 := 8#32
  let v3686 : BitVec 32 := Scalar.muli v499 c8_i32_2079
  let c10_i32_2080 : BitVec 32 := 10#32
  let v3687 : BitVec 32 := Scalar.muli v3686 c10_i32_2080
  v3687
def k0_off21 (k0_t2 : Fin k0_t2_loop.trips) : Fin 4 → Nat :=
  let c1_2081 : Index := 1#32
  let c1_2082 : Index := 1#32
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2079 : BitVec 32 := 8#32
  let v3686 : BitVec 32 := Scalar.muli v499 c8_i32_2079
  let c10_i32_2080 : BitVec 32 := 10#32
  let v3687 : BitVec 32 := Scalar.muli v3686 c10_i32_2080
  let v3688 : BitVec 32 := v3687
  let v3689 : Index := Scalar.indexCast v3688
  let c0_2083 : Index := 0#32
  ![1, 1, v3689.toNat, 0]
def k0_mult52 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2086 : BitVec 32 := 8#32
  let v3704 : BitVec 32 := Scalar.muli v499 c8_i32_2086
  let c10_i32_2087 : BitVec 32 := 10#32
  let v3705 : BitVec 32 := Scalar.muli v3704 c10_i32_2087
  v3705
def k0_mult53 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2108 : BitVec 32 := 8#32
  let v3761 : BitVec 32 := Scalar.muli v499 c8_i32_2108
  let c10_i32_2109 : BitVec 32 := 10#32
  let v3762 : BitVec 32 := Scalar.muli v3761 c10_i32_2109
  v3762
def k0_mult54 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2115 : BitVec 32 := 8#32
  let v3779 : BitVec 32 := Scalar.muli v499 c8_i32_2115
  let c10_i32_2116 : BitVec 32 := 10#32
  let v3780 : BitVec 32 := Scalar.muli v3779 c10_i32_2116
  v3780
def k0_mult55 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2122 : BitVec 32 := 8#32
  let v3797 : BitVec 32 := Scalar.muli v499 c8_i32_2122
  let c10_i32_2123 : BitVec 32 := 10#32
  let v3798 : BitVec 32 := Scalar.muli v3797 c10_i32_2123
  v3798
def k0_mult56 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2129 : BitVec 32 := 8#32
  let v3815 : BitVec 32 := Scalar.muli v499 c8_i32_2129
  let c10_i32_2130 : BitVec 32 := 10#32
  let v3816 : BitVec 32 := Scalar.muli v3815 c10_i32_2130
  v3816
def k0_mult57 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2151 : BitVec 32 := 8#32
  let v3872 : BitVec 32 := Scalar.muli v499 c8_i32_2151
  let c10_i32_2152 : BitVec 32 := 10#32
  let v3873 : BitVec 32 := Scalar.muli v3872 c10_i32_2152
  v3873
def k0_mult58 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2158 : BitVec 32 := 8#32
  let v3890 : BitVec 32 := Scalar.muli v499 c8_i32_2158
  let c10_i32_2159 : BitVec 32 := 10#32
  let v3891 : BitVec 32 := Scalar.muli v3890 c10_i32_2159
  v3891
def k0_mult59 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2165 : BitVec 32 := 8#32
  let v3908 : BitVec 32 := Scalar.muli v499 c8_i32_2165
  let c10_i32_2166 : BitVec 32 := 10#32
  let v3909 : BitVec 32 := Scalar.muli v3908 c10_i32_2166
  v3909
def k0_mult60 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2172 : BitVec 32 := 8#32
  let v3926 : BitVec 32 := Scalar.muli v499 c8_i32_2172
  let c10_i32_2173 : BitVec 32 := 10#32
  let v3927 : BitVec 32 := Scalar.muli v3926 c10_i32_2173
  v3927
def k0_mult61 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2779 : BitVec 32 := 8#32
  let v4892 : BitVec 32 := Scalar.muli v499 c8_i32_2779
  let c10_i32_2780 : BitVec 32 := 10#32
  let v4893 : BitVec 32 := Scalar.muli v4892 c10_i32_2780
  v4893
def k0_mult62 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2786 : BitVec 32 := 8#32
  let v4910 : BitVec 32 := Scalar.muli v499 c8_i32_2786
  let c10_i32_2787 : BitVec 32 := 10#32
  let v4911 : BitVec 32 := Scalar.muli v4910 c10_i32_2787
  v4911
def k0_mult63 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2793 : BitVec 32 := 8#32
  let v4928 : BitVec 32 := Scalar.muli v499 c8_i32_2793
  let c10_i32_2794 : BitVec 32 := 10#32
  let v4929 : BitVec 32 := Scalar.muli v4928 c10_i32_2794
  v4929
def k0_mult64 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2800 : BitVec 32 := 8#32
  let v4946 : BitVec 32 := Scalar.muli v499 c8_i32_2800
  let c10_i32_2801 : BitVec 32 := 10#32
  let v4947 : BitVec 32 := Scalar.muli v4946 c10_i32_2801
  v4947
def k0_mult65 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2822 : BitVec 32 := 8#32
  let v5003 : BitVec 32 := Scalar.muli v499 c8_i32_2822
  let c10_i32_2823 : BitVec 32 := 10#32
  let v5004 : BitVec 32 := Scalar.muli v5003 c10_i32_2823
  v5004
def k0_mult66 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2829 : BitVec 32 := 8#32
  let v5021 : BitVec 32 := Scalar.muli v499 c8_i32_2829
  let c10_i32_2830 : BitVec 32 := 10#32
  let v5022 : BitVec 32 := Scalar.muli v5021 c10_i32_2830
  v5022
def k0_mult67 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2836 : BitVec 32 := 8#32
  let v5039 : BitVec 32 := Scalar.muli v499 c8_i32_2836
  let c10_i32_2837 : BitVec 32 := 10#32
  let v5040 : BitVec 32 := Scalar.muli v5039 c10_i32_2837
  v5040
def k0_mult68 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2843 : BitVec 32 := 8#32
  let v5057 : BitVec 32 := Scalar.muli v499 c8_i32_2843
  let c10_i32_2844 : BitVec 32 := 10#32
  let v5058 : BitVec 32 := Scalar.muli v5057 c10_i32_2844
  v5058
def k0_mult69 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2865 : BitVec 32 := 8#32
  let v5114 : BitVec 32 := Scalar.muli v499 c8_i32_2865
  let c10_i32_2866 : BitVec 32 := 10#32
  let v5115 : BitVec 32 := Scalar.muli v5114 c10_i32_2866
  v5115
def k0_mult70 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2872 : BitVec 32 := 8#32
  let v5132 : BitVec 32 := Scalar.muli v499 c8_i32_2872
  let c10_i32_2873 : BitVec 32 := 10#32
  let v5133 : BitVec 32 := Scalar.muli v5132 c10_i32_2873
  v5133
def k0_mult71 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2879 : BitVec 32 := 8#32
  let v5150 : BitVec 32 := Scalar.muli v499 c8_i32_2879
  let c10_i32_2880 : BitVec 32 := 10#32
  let v5151 : BitVec 32 := Scalar.muli v5150 c10_i32_2880
  v5151
def k0_mult72 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2886 : BitVec 32 := 8#32
  let v5168 : BitVec 32 := Scalar.muli v499 c8_i32_2886
  let c10_i32_2887 : BitVec 32 := 10#32
  let v5169 : BitVec 32 := Scalar.muli v5168 c10_i32_2887
  v5169
def k0_mult73 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2908 : BitVec 32 := 8#32
  let v5225 : BitVec 32 := Scalar.muli v499 c8_i32_2908
  let c10_i32_2909 : BitVec 32 := 10#32
  let v5226 : BitVec 32 := Scalar.muli v5225 c10_i32_2909
  v5226
def k0_mult74 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2915 : BitVec 32 := 8#32
  let v5243 : BitVec 32 := Scalar.muli v499 c8_i32_2915
  let c10_i32_2916 : BitVec 32 := 10#32
  let v5244 : BitVec 32 := Scalar.muli v5243 c10_i32_2916
  v5244
def k0_mult75 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2922 : BitVec 32 := 8#32
  let v5261 : BitVec 32 := Scalar.muli v499 c8_i32_2922
  let c10_i32_2923 : BitVec 32 := 10#32
  let v5262 : BitVec 32 := Scalar.muli v5261 c10_i32_2923
  v5262
def k0_mult76 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2929 : BitVec 32 := 8#32
  let v5279 : BitVec 32 := Scalar.muli v499 c8_i32_2929
  let c10_i32_2930 : BitVec 32 := 10#32
  let v5280 : BitVec 32 := Scalar.muli v5279 c10_i32_2930
  v5280
def k0_mult77 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2951 : BitVec 32 := 8#32
  let v5336 : BitVec 32 := Scalar.muli v499 c8_i32_2951
  let c10_i32_2952 : BitVec 32 := 10#32
  let v5337 : BitVec 32 := Scalar.muli v5336 c10_i32_2952
  v5337
def k0_mult78 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2958 : BitVec 32 := 8#32
  let v5354 : BitVec 32 := Scalar.muli v499 c8_i32_2958
  let c10_i32_2959 : BitVec 32 := 10#32
  let v5355 : BitVec 32 := Scalar.muli v5354 c10_i32_2959
  v5355
def k0_mult79 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2965 : BitVec 32 := 8#32
  let v5372 : BitVec 32 := Scalar.muli v499 c8_i32_2965
  let c10_i32_2966 : BitVec 32 := 10#32
  let v5373 : BitVec 32 := Scalar.muli v5372 c10_i32_2966
  v5373
def k0_mult80 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_2972 : BitVec 32 := 8#32
  let v5390 : BitVec 32 := Scalar.muli v499 c8_i32_2972
  let c10_i32_2973 : BitVec 32 := 10#32
  let v5391 : BitVec 32 := Scalar.muli v5390 c10_i32_2973
  v5391
def k0_mult81 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3585 : BitVec 32 := 8#32
  let v6356 : BitVec 32 := Scalar.muli v499 c8_i32_3585
  let c10_i32_3586 : BitVec 32 := 10#32
  let v6357 : BitVec 32 := Scalar.muli v6356 c10_i32_3586
  v6357
def k0_off22 (k0_t2 : Fin k0_t2_loop.trips) : Fin 4 → Nat :=
  let c0_3587 : Index := 0#32
  let c2_3588 : Index := 2#32
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3585 : BitVec 32 := 8#32
  let v6356 : BitVec 32 := Scalar.muli v499 c8_i32_3585
  let c10_i32_3586 : BitVec 32 := 10#32
  let v6357 : BitVec 32 := Scalar.muli v6356 c10_i32_3586
  let v6358 : BitVec 32 := v6357
  let v6359 : Index := Scalar.indexCast v6358
  let c0_3589 : Index := 0#32
  ![0, 2, v6359.toNat, 0]
def k0_mult82 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3592 : BitVec 32 := 8#32
  let v6374 : BitVec 32 := Scalar.muli v499 c8_i32_3592
  let c10_i32_3593 : BitVec 32 := 10#32
  let v6375 : BitVec 32 := Scalar.muli v6374 c10_i32_3593
  v6375
def k0_mult83 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3599 : BitVec 32 := 8#32
  let v6392 : BitVec 32 := Scalar.muli v499 c8_i32_3599
  let c10_i32_3600 : BitVec 32 := 10#32
  let v6393 : BitVec 32 := Scalar.muli v6392 c10_i32_3600
  v6393
def k0_mult84 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3606 : BitVec 32 := 8#32
  let v6410 : BitVec 32 := Scalar.muli v499 c8_i32_3606
  let c10_i32_3607 : BitVec 32 := 10#32
  let v6411 : BitVec 32 := Scalar.muli v6410 c10_i32_3607
  v6411
def k0_mult85 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3628 : BitVec 32 := 8#32
  let v6467 : BitVec 32 := Scalar.muli v499 c8_i32_3628
  let c10_i32_3629 : BitVec 32 := 10#32
  let v6468 : BitVec 32 := Scalar.muli v6467 c10_i32_3629
  v6468
def k0_mult86 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3635 : BitVec 32 := 8#32
  let v6485 : BitVec 32 := Scalar.muli v499 c8_i32_3635
  let c10_i32_3636 : BitVec 32 := 10#32
  let v6486 : BitVec 32 := Scalar.muli v6485 c10_i32_3636
  v6486
def k0_mult87 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3642 : BitVec 32 := 8#32
  let v6503 : BitVec 32 := Scalar.muli v499 c8_i32_3642
  let c10_i32_3643 : BitVec 32 := 10#32
  let v6504 : BitVec 32 := Scalar.muli v6503 c10_i32_3643
  v6504
def k0_mult88 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3649 : BitVec 32 := 8#32
  let v6521 : BitVec 32 := Scalar.muli v499 c8_i32_3649
  let c10_i32_3650 : BitVec 32 := 10#32
  let v6522 : BitVec 32 := Scalar.muli v6521 c10_i32_3650
  v6522
def k0_mult89 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3671 : BitVec 32 := 8#32
  let v6578 : BitVec 32 := Scalar.muli v499 c8_i32_3671
  let c10_i32_3672 : BitVec 32 := 10#32
  let v6579 : BitVec 32 := Scalar.muli v6578 c10_i32_3672
  v6579
def k0_mult90 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3678 : BitVec 32 := 8#32
  let v6596 : BitVec 32 := Scalar.muli v499 c8_i32_3678
  let c10_i32_3679 : BitVec 32 := 10#32
  let v6597 : BitVec 32 := Scalar.muli v6596 c10_i32_3679
  v6597
def k0_mult91 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3685 : BitVec 32 := 8#32
  let v6614 : BitVec 32 := Scalar.muli v499 c8_i32_3685
  let c10_i32_3686 : BitVec 32 := 10#32
  let v6615 : BitVec 32 := Scalar.muli v6614 c10_i32_3686
  v6615
def k0_off23 (k0_t2 : Fin k0_t2_loop.trips) : Fin 4 → Nat :=
  let c1_3687 : Index := 1#32
  let c2_3688 : Index := 2#32
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3685 : BitVec 32 := 8#32
  let v6614 : BitVec 32 := Scalar.muli v499 c8_i32_3685
  let c10_i32_3686 : BitVec 32 := 10#32
  let v6615 : BitVec 32 := Scalar.muli v6614 c10_i32_3686
  let v6616 : BitVec 32 := v6615
  let v6617 : Index := Scalar.indexCast v6616
  let c0_3689 : Index := 0#32
  ![1, 2, v6617.toNat, 0]
def k0_mult92 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3692 : BitVec 32 := 8#32
  let v6632 : BitVec 32 := Scalar.muli v499 c8_i32_3692
  let c10_i32_3693 : BitVec 32 := 10#32
  let v6633 : BitVec 32 := Scalar.muli v6632 c10_i32_3693
  v6633
def k0_mult93 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3714 : BitVec 32 := 8#32
  let v6689 : BitVec 32 := Scalar.muli v499 c8_i32_3714
  let c10_i32_3715 : BitVec 32 := 10#32
  let v6690 : BitVec 32 := Scalar.muli v6689 c10_i32_3715
  v6690
def k0_mult94 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3721 : BitVec 32 := 8#32
  let v6707 : BitVec 32 := Scalar.muli v499 c8_i32_3721
  let c10_i32_3722 : BitVec 32 := 10#32
  let v6708 : BitVec 32 := Scalar.muli v6707 c10_i32_3722
  v6708
def k0_mult95 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3728 : BitVec 32 := 8#32
  let v6725 : BitVec 32 := Scalar.muli v499 c8_i32_3728
  let c10_i32_3729 : BitVec 32 := 10#32
  let v6726 : BitVec 32 := Scalar.muli v6725 c10_i32_3729
  v6726
def k0_mult96 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3735 : BitVec 32 := 8#32
  let v6743 : BitVec 32 := Scalar.muli v499 c8_i32_3735
  let c10_i32_3736 : BitVec 32 := 10#32
  let v6744 : BitVec 32 := Scalar.muli v6743 c10_i32_3736
  v6744
def k0_mult97 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3757 : BitVec 32 := 8#32
  let v6800 : BitVec 32 := Scalar.muli v499 c8_i32_3757
  let c10_i32_3758 : BitVec 32 := 10#32
  let v6801 : BitVec 32 := Scalar.muli v6800 c10_i32_3758
  v6801
def k0_mult98 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3764 : BitVec 32 := 8#32
  let v6818 : BitVec 32 := Scalar.muli v499 c8_i32_3764
  let c10_i32_3765 : BitVec 32 := 10#32
  let v6819 : BitVec 32 := Scalar.muli v6818 c10_i32_3765
  v6819
def k0_mult99 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3771 : BitVec 32 := 8#32
  let v6836 : BitVec 32 := Scalar.muli v499 c8_i32_3771
  let c10_i32_3772 : BitVec 32 := 10#32
  let v6837 : BitVec 32 := Scalar.muli v6836 c10_i32_3772
  v6837
def k0_mult100 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_3778 : BitVec 32 := 8#32
  let v6854 : BitVec 32 := Scalar.muli v499 c8_i32_3778
  let c10_i32_3779 : BitVec 32 := 10#32
  let v6855 : BitVec 32 := Scalar.muli v6854 c10_i32_3779
  v6855
def k0_mult101 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_4383 : BitVec 32 := 8#32
  let v7820 : BitVec 32 := Scalar.muli v499 c8_i32_4383
  let c10_i32_4384 : BitVec 32 := 10#32
  let v7821 : BitVec 32 := Scalar.muli v7820 c10_i32_4384
  v7821
def k0_mult102 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_4390 : BitVec 32 := 8#32
  let v7838 : BitVec 32 := Scalar.muli v499 c8_i32_4390
  let c10_i32_4391 : BitVec 32 := 10#32
  let v7839 : BitVec 32 := Scalar.muli v7838 c10_i32_4391
  v7839
def k0_mult103 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_4397 : BitVec 32 := 8#32
  let v7856 : BitVec 32 := Scalar.muli v499 c8_i32_4397
  let c10_i32_4398 : BitVec 32 := 10#32
  let v7857 : BitVec 32 := Scalar.muli v7856 c10_i32_4398
  v7857
def k0_mult104 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_4404 : BitVec 32 := 8#32
  let v7874 : BitVec 32 := Scalar.muli v499 c8_i32_4404
  let c10_i32_4405 : BitVec 32 := 10#32
  let v7875 : BitVec 32 := Scalar.muli v7874 c10_i32_4405
  v7875
def k0_mult105 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_4426 : BitVec 32 := 8#32
  let v7931 : BitVec 32 := Scalar.muli v499 c8_i32_4426
  let c10_i32_4427 : BitVec 32 := 10#32
  let v7932 : BitVec 32 := Scalar.muli v7931 c10_i32_4427
  v7932
def k0_mult106 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_4433 : BitVec 32 := 8#32
  let v7949 : BitVec 32 := Scalar.muli v499 c8_i32_4433
  let c10_i32_4434 : BitVec 32 := 10#32
  let v7950 : BitVec 32 := Scalar.muli v7949 c10_i32_4434
  v7950
def k0_mult107 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_4440 : BitVec 32 := 8#32
  let v7967 : BitVec 32 := Scalar.muli v499 c8_i32_4440
  let c10_i32_4441 : BitVec 32 := 10#32
  let v7968 : BitVec 32 := Scalar.muli v7967 c10_i32_4441
  v7968
def k0_mult108 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_4447 : BitVec 32 := 8#32
  let v7985 : BitVec 32 := Scalar.muli v499 c8_i32_4447
  let c10_i32_4448 : BitVec 32 := 10#32
  let v7986 : BitVec 32 := Scalar.muli v7985 c10_i32_4448
  v7986
def k0_mult109 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_4469 : BitVec 32 := 8#32
  let v8042 : BitVec 32 := Scalar.muli v499 c8_i32_4469
  let c10_i32_4470 : BitVec 32 := 10#32
  let v8043 : BitVec 32 := Scalar.muli v8042 c10_i32_4470
  v8043
def k0_mult110 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_4476 : BitVec 32 := 8#32
  let v8060 : BitVec 32 := Scalar.muli v499 c8_i32_4476
  let c10_i32_4477 : BitVec 32 := 10#32
  let v8061 : BitVec 32 := Scalar.muli v8060 c10_i32_4477
  v8061
def k0_mult111 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_4483 : BitVec 32 := 8#32
  let v8078 : BitVec 32 := Scalar.muli v499 c8_i32_4483
  let c10_i32_4484 : BitVec 32 := 10#32
  let v8079 : BitVec 32 := Scalar.muli v8078 c10_i32_4484
  v8079
def k0_mult112 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_4490 : BitVec 32 := 8#32
  let v8096 : BitVec 32 := Scalar.muli v499 c8_i32_4490
  let c10_i32_4491 : BitVec 32 := 10#32
  let v8097 : BitVec 32 := Scalar.muli v8096 c10_i32_4491
  v8097
def k0_mult113 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_4512 : BitVec 32 := 8#32
  let v8153 : BitVec 32 := Scalar.muli v499 c8_i32_4512
  let c10_i32_4513 : BitVec 32 := 10#32
  let v8154 : BitVec 32 := Scalar.muli v8153 c10_i32_4513
  v8154
def k0_mult114 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_4519 : BitVec 32 := 8#32
  let v8171 : BitVec 32 := Scalar.muli v499 c8_i32_4519
  let c10_i32_4520 : BitVec 32 := 10#32
  let v8172 : BitVec 32 := Scalar.muli v8171 c10_i32_4520
  v8172
def k0_mult115 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_4526 : BitVec 32 := 8#32
  let v8189 : BitVec 32 := Scalar.muli v499 c8_i32_4526
  let c10_i32_4527 : BitVec 32 := 10#32
  let v8190 : BitVec 32 := Scalar.muli v8189 c10_i32_4527
  v8190
def k0_mult116 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_4533 : BitVec 32 := 8#32
  let v8207 : BitVec 32 := Scalar.muli v499 c8_i32_4533
  let c10_i32_4534 : BitVec 32 := 10#32
  let v8208 : BitVec 32 := Scalar.muli v8207 c10_i32_4534
  v8208
def k0_mult117 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_4555 : BitVec 32 := 8#32
  let v8264 : BitVec 32 := Scalar.muli v499 c8_i32_4555
  let c10_i32_4556 : BitVec 32 := 10#32
  let v8265 : BitVec 32 := Scalar.muli v8264 c10_i32_4556
  v8265
def k0_mult118 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_4562 : BitVec 32 := 8#32
  let v8282 : BitVec 32 := Scalar.muli v499 c8_i32_4562
  let c10_i32_4563 : BitVec 32 := 10#32
  let v8283 : BitVec 32 := Scalar.muli v8282 c10_i32_4563
  v8283
def k0_mult119 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_4569 : BitVec 32 := 8#32
  let v8300 : BitVec 32 := Scalar.muli v499 c8_i32_4569
  let c10_i32_4570 : BitVec 32 := 10#32
  let v8301 : BitVec 32 := Scalar.muli v8300 c10_i32_4570
  v8301
def k0_mult120 (k0_t2 : Fin k0_t2_loop.trips) : BitVec 32 :=
  let c0_i32_74 : BitVec 32 := 0#32
  let c1_i32_75 : BitVec 32 := 1#32
  let arg16 : BitVec 32 := Scf.iv c0_i32_74 c1_i32_75 k0_t2
  let c8_i32 : BitVec 32 := 8#32
  let v498 : BitVec 32 := Scalar.muli arg16 c8_i32
  let c82_i32 : BitVec 32 := 82#32
  let v499 : BitVec 32 := Scalar.minsi v498 c82_i32
  let c8_i32_4576 : BitVec 32 := 8#32
  let v8318 : BitVec 32 := Scalar.muli v499 c8_i32_4576
  let c10_i32_4577 : BitVec 32 := 10#32
  let v8319 : BitVec 32 := Scalar.muli v8318 c10_i32_4577
  v8319
@[reducible] def k0_t3_loop : Scf.Loop 32 :=
  let c0_i32_5 : BitVec 32 := 0#32
  let c5_i32 : BitVec 32 := 5#32
  let v11 : BitVec 32 := Scalar.addi c0_i32_5 c5_i32
  let c1_i32 : BitVec 32 := 1#32
  ⟨c0_i32_5, v11, c1_i32⟩
def k0_off24 (i : grid0.Coords) (k0_t3 : Fin k0_t3_loop.trips) (c0_i32_8 : BitVec 32) : Fin 3 → Nat :=
  let c0 : Index := 0#32
  let arg1 : BitVec 32 := BitVec.ofNat 32 (i 1).val
  let c10_i32 : BitVec 32 := 10#32
  let v12 : BitVec 32 := Scalar.muli arg1 c10_i32
  let c2_i32 : BitVec 32 := 2#32
  let c0_i32_5 : BitVec 32 := 0#32
  let c1_i32 : BitVec 32 := 1#32
  let arg16 : BitVec 32 := Scf.iv c0_i32_5 c1_i32 k0_t3
  let v13 : BitVec 32 := Scalar.muli c2_i32 arg16
  let v14 : BitVec 32 := Scalar.addi v12 v13
  let c1_i32_7 : BitVec 32 := 1#32
  let v15 : BitVec 32 := Scalar.addi v14 c1_i32_7
  let v16 : BitVec 32 := Scalar.addi v15 c0_i32_8
  let c66_i32 : BitVec 32 := 66#32
  let v17 : BitVec 32 := Scalar.muli v16 c66_i32
  let v18 : Index := Scalar.indexCast v17
  let c0_9 : Index := 0#32
  ![0, v18.toNat, 0]
def k0_off25 (i : grid0.Coords) (k0_t3 : Fin k0_t3_loop.trips) (c0_i32_10 : BitVec 32) : Fin 3 → Nat :=
  let c1 : Index := 1#32
  let arg1 : BitVec 32 := BitVec.ofNat 32 (i 1).val
  let c10_i32 : BitVec 32 := 10#32
  let v12 : BitVec 32 := Scalar.muli arg1 c10_i32
  let c2_i32 : BitVec 32 := 2#32
  let c0_i32_5 : BitVec 32 := 0#32
  let c1_i32 : BitVec 32 := 1#32
  let arg16 : BitVec 32 := Scf.iv c0_i32_5 c1_i32 k0_t3
  let v13 : BitVec 32 := Scalar.muli c2_i32 arg16
  let v14 : BitVec 32 := Scalar.addi v12 v13
  let c1_i32_7 : BitVec 32 := 1#32
  let v15 : BitVec 32 := Scalar.addi v14 c1_i32_7
  let v21 : BitVec 32 := Scalar.addi v15 c0_i32_10
  let c66_i32_11 : BitVec 32 := 66#32
  let v22 : BitVec 32 := Scalar.muli v21 c66_i32_11
  let v23 : Index := Scalar.indexCast v22
  let c0_12 : Index := 0#32
  ![1, v23.toNat, 0]
def k0_off26 (k0_t3 : Fin k0_t3_loop.trips) (c0_i32_55 : BitVec 32) : Fin 4 → Nat :=
  let c0_56 : Index := 0#32
  let c2_i32_54 : BitVec 32 := 2#32
  let c0_i32_5 : BitVec 32 := 0#32
  let c1_i32 : BitVec 32 := 1#32
  let arg16 : BitVec 32 := Scf.iv c0_i32_5 c1_i32 k0_t3
  let v90 : BitVec 32 := Scalar.muli c2_i32_54 arg16
  let v91 : BitVec 32 := Scalar.addi v90 c0_i32_55
  let v92 : Index := Scalar.indexCast v91
  let c0_57 : Index := 0#32
  let c0_58 : Index := 0#32
  ![0, v92.toNat, 0, 0]
def k0_off27 (k0_t3 : Fin k0_t3_loop.trips) (c0_i32_66 : BitVec 32) : Fin 4 → Nat :=
  let c0_67 : Index := 0#32
  let c2_i32_65 : BitVec 32 := 2#32
  let c0_i32_5 : BitVec 32 := 0#32
  let c1_i32 : BitVec 32 := 1#32
  let arg16 : BitVec 32 := Scf.iv c0_i32_5 c1_i32 k0_t3
  let v107 : BitVec 32 := Scalar.muli c2_i32_65 arg16
  let v108 : BitVec 32 := Scalar.addi v107 c0_i32_66
  let v109 : Index := Scalar.indexCast v108
  let c0_68 : Index := 0#32
  let c128 : Index := 128#32
  ![0, v109.toNat, 0, 128]
def k0_off28 (k0_t3 : Fin k0_t3_loop.trips) (c0_i32_141 : BitVec 32) : Fin 4 → Nat :=
  let c0_142 : Index := 0#32
  let c2_i32_140 : BitVec 32 := 2#32
  let c0_i32_5 : BitVec 32 := 0#32
  let c1_i32 : BitVec 32 := 1#32
  let arg16 : BitVec 32 := Scf.iv c0_i32_5 c1_i32 k0_t3
  let v232 : BitVec 32 := Scalar.muli c2_i32_140 arg16
  let v233 : BitVec 32 := Scalar.addi v232 c0_i32_141
  let v234 : Index := Scalar.indexCast v233
  let c16_143 : Index := 16#32
  let c0_144 : Index := 0#32
  ![0, v234.toNat, 16, 0]
def k0_off29 (k0_t3 : Fin k0_t3_loop.trips) (c0_i32_152 : BitVec 32) : Fin 4 → Nat :=
  let c0_153 : Index := 0#32
  let c2_i32_151 : BitVec 32 := 2#32
  let c0_i32_5 : BitVec 32 := 0#32
  let c1_i32 : BitVec 32 := 1#32
  let arg16 : BitVec 32 := Scf.iv c0_i32_5 c1_i32 k0_t3
  let v249 : BitVec 32 := Scalar.muli c2_i32_151 arg16
  let v250 : BitVec 32 := Scalar.addi v249 c0_i32_152
  let v251 : Index := Scalar.indexCast v250
  let c16_154 : Index := 16#32
  let c128_155 : Index := 128#32
  ![0, v251.toNat, 16, 128]
def k0_off30 (k0_t3 : Fin k0_t3_loop.trips) (c0_i32_228 : BitVec 32) : Fin 4 → Nat :=
  let c0_229 : Index := 0#32
  let c2_i32_227 : BitVec 32 := 2#32
  let c0_i32_5 : BitVec 32 := 0#32
  let c1_i32 : BitVec 32 := 1#32
  let arg16 : BitVec 32 := Scf.iv c0_i32_5 c1_i32 k0_t3
  let v374 : BitVec 32 := Scalar.muli c2_i32_227 arg16
  let v375 : BitVec 32 := Scalar.addi v374 c0_i32_228
  let v376 : Index := Scalar.indexCast v375
  let c32_230 : Index := 32#32
  let c0_231 : Index := 0#32
  ![0, v376.toNat, 32, 0]
def k0_off31 (k0_t3 : Fin k0_t3_loop.trips) (c0_i32_239 : BitVec 32) : Fin 4 → Nat :=
  let c0_240 : Index := 0#32
  let c2_i32_238 : BitVec 32 := 2#32
  let c0_i32_5 : BitVec 32 := 0#32
  let c1_i32 : BitVec 32 := 1#32
  let arg16 : BitVec 32 := Scf.iv c0_i32_5 c1_i32 k0_t3
  let v391 : BitVec 32 := Scalar.muli c2_i32_238 arg16
  let v392 : BitVec 32 := Scalar.addi v391 c0_i32_239
  let v393 : Index := Scalar.indexCast v392
  let c32_241 : Index := 32#32
  let c128_242 : Index := 128#32
  ![0, v393.toNat, 32, 128]
def k0_off32 (k0_t3 : Fin k0_t3_loop.trips) (c0_i32_315 : BitVec 32) : Fin 4 → Nat :=
  let c0_316 : Index := 0#32
  let c2_i32_314 : BitVec 32 := 2#32
  let c0_i32_5 : BitVec 32 := 0#32
  let c1_i32 : BitVec 32 := 1#32
  let arg16 : BitVec 32 := Scf.iv c0_i32_5 c1_i32 k0_t3
  let v516 : BitVec 32 := Scalar.muli c2_i32_314 arg16
  let v517 : BitVec 32 := Scalar.addi v516 c0_i32_315
  let v518 : Index := Scalar.indexCast v517
  let c48_317 : Index := 48#32
  let c0_318 : Index := 0#32
  ![0, v518.toNat, 48, 0]
def k0_off33 (k0_t3 : Fin k0_t3_loop.trips) (c0_i32_326 : BitVec 32) : Fin 4 → Nat :=
  let c0_327 : Index := 0#32
  let c2_i32_325 : BitVec 32 := 2#32
  let c0_i32_5 : BitVec 32 := 0#32
  let c1_i32 : BitVec 32 := 1#32
  let arg16 : BitVec 32 := Scf.iv c0_i32_5 c1_i32 k0_t3
  let v533 : BitVec 32 := Scalar.muli c2_i32_325 arg16
  let v534 : BitVec 32 := Scalar.addi v533 c0_i32_326
  let v535 : Index := Scalar.indexCast v534
  let c48_328 : Index := 48#32
  let c128_329 : Index := 128#32
  ![0, v535.toNat, 48, 128]
def k0_off34 (k0_t3 : Fin k0_t3_loop.trips) (c0_i32_402 : BitVec 32) : Fin 4 → Nat :=
  let c0_403 : Index := 0#32
  let c2_i32_401 : BitVec 32 := 2#32
  let c0_i32_5 : BitVec 32 := 0#32
  let c1_i32 : BitVec 32 := 1#32
  let arg16 : BitVec 32 := Scf.iv c0_i32_5 c1_i32 k0_t3
  let v658 : BitVec 32 := Scalar.muli c2_i32_401 arg16
  let v659 : BitVec 32 := Scalar.addi v658 c0_i32_402
  let v660 : Index := Scalar.indexCast v659
  let c64_404 : Index := 64#32
  let c0_405 : Index := 0#32
  ![0, v660.toNat, 64, 0]
def k0_off35 (k0_t3 : Fin k0_t3_loop.trips) (c0_i32_413 : BitVec 32) : Fin 4 → Nat :=
  let c0_414 : Index := 0#32
  let c2_i32_412 : BitVec 32 := 2#32
  let c0_i32_5 : BitVec 32 := 0#32
  let c1_i32 : BitVec 32 := 1#32
  let arg16 : BitVec 32 := Scf.iv c0_i32_5 c1_i32 k0_t3
  let v675 : BitVec 32 := Scalar.muli c2_i32_412 arg16
  let v676 : BitVec 32 := Scalar.addi v675 c0_i32_413
  let v677 : Index := Scalar.indexCast v676
  let c64_415 : Index := 64#32
  let c128_416 : Index := 128#32
  ![0, v677.toNat, 64, 128]
def k0_off36 (k0_t3 : Fin k0_t3_loop.trips) (c0_i32_489 : BitVec 32) : Fin 4 → Nat :=
  let c0_490 : Index := 0#32
  let c2_i32_488 : BitVec 32 := 2#32
  let c0_i32_5 : BitVec 32 := 0#32
  let c1_i32 : BitVec 32 := 1#32
  let arg16 : BitVec 32 := Scf.iv c0_i32_5 c1_i32 k0_t3
  let v800 : BitVec 32 := Scalar.muli c2_i32_488 arg16
  let v801 : BitVec 32 := Scalar.addi v800 c0_i32_489
  let v802 : Index := Scalar.indexCast v801
  let c80_491 : Index := 80#32
  let c0_492 : Index := 0#32
  ![0, v802.toNat, 80, 0]
def k0_off37 (k0_t3 : Fin k0_t3_loop.trips) (c0_i32_500 : BitVec 32) : Fin 4 → Nat :=
  let c0_501 : Index := 0#32
  let c2_i32_499 : BitVec 32 := 2#32
  let c0_i32_5 : BitVec 32 := 0#32
  let c1_i32 : BitVec 32 := 1#32
  let arg16 : BitVec 32 := Scf.iv c0_i32_5 c1_i32 k0_t3
  let v817 : BitVec 32 := Scalar.muli c2_i32_499 arg16
  let v818 : BitVec 32 := Scalar.addi v817 c0_i32_500
  let v819 : Index := Scalar.indexCast v818
  let c80_502 : Index := 80#32
  let c128_503 : Index := 128#32
  ![0, v819.toNat, 80, 128]
def k0_off38 (i : grid0.Coords) (k0_t3 : Fin k0_t3_loop.trips) (c0_i32_548 : BitVec 32) : Fin 3 → Nat :=
  let c3 : Index := 3#32
  let arg1 : BitVec 32 := BitVec.ofNat 32 (i 1).val
  let c10_i32 : BitVec 32 := 10#32
  let v12 : BitVec 32 := Scalar.muli arg1 c10_i32
  let c2_i32 : BitVec 32 := 2#32
  let c0_i32_5 : BitVec 32 := 0#32
  let c1_i32 : BitVec 32 := 1#32
  let arg16 : BitVec 32 := Scf.iv c0_i32_5 c1_i32 k0_t3
  let v13 : BitVec 32 := Scalar.muli c2_i32 arg16
  let v14 : BitVec 32 := Scalar.addi v12 v13
  let c1_i32_7 : BitVec 32 := 1#32
  let v15 : BitVec 32 := Scalar.addi v14 c1_i32_7
  let v896 : BitVec 32 := Scalar.addi v15 c0_i32_548
  let c66_i32_549 : BitVec 32 := 66#32
  let v897 : BitVec 32 := Scalar.muli v896 c66_i32_549
  let v898 : Index := Scalar.indexCast v897
  let c0_550 : Index := 0#32
  ![3, v898.toNat, 0]
def k0_off39 (i : grid0.Coords) (k0_t3 : Fin k0_t3_loop.trips) (c0_i32_551 : BitVec 32) : Fin 3 → Nat :=
  let c4 : Index := 4#32
  let arg1 : BitVec 32 := BitVec.ofNat 32 (i 1).val
  let c10_i32 : BitVec 32 := 10#32
  let v12 : BitVec 32 := Scalar.muli arg1 c10_i32
  let c2_i32 : BitVec 32 := 2#32
  let c0_i32_5 : BitVec 32 := 0#32
  let c1_i32 : BitVec 32 := 1#32
  let arg16 : BitVec 32 := Scf.iv c0_i32_5 c1_i32 k0_t3
  let v13 : BitVec 32 := Scalar.muli c2_i32 arg16
  let v14 : BitVec 32 := Scalar.addi v12 v13
  let c1_i32_7 : BitVec 32 := 1#32
  let v15 : BitVec 32 := Scalar.addi v14 c1_i32_7
  let v901 : BitVec 32 := Scalar.addi v15 c0_i32_551
  let c66_i32_552 : BitVec 32 := 66#32
  let v902 : BitVec 32 := Scalar.muli v901 c66_i32_552
  let v903 : Index := Scalar.indexCast v902
  let c0_553 : Index := 0#32
  ![4, v903.toNat, 0]
def k0_off40 (k0_t3 : Fin k0_t3_loop.trips) (c0_i32_596 : BitVec 32) : Fin 4 → Nat :=
  let c1_597 : Index := 1#32
  let c2_i32_595 : BitVec 32 := 2#32
  let c0_i32_5 : BitVec 32 := 0#32
  let c1_i32 : BitVec 32 := 1#32
  let arg16 : BitVec 32 := Scf.iv c0_i32_5 c1_i32 k0_t3
  let v971 : BitVec 32 := Scalar.muli c2_i32_595 arg16
  let v972 : BitVec 32 := Scalar.addi v971 c0_i32_596
  let v973 : Index := Scalar.indexCast v972
  let c0_598 : Index := 0#32
  let c0_599 : Index := 0#32
  ![1, v973.toNat, 0, 0]
def k0_off41 (k0_t3 : Fin k0_t3_loop.trips) (c0_i32_607 : BitVec 32) : Fin 4 → Nat :=
  let c1_608 : Index := 1#32
  let c2_i32_606 : BitVec 32 := 2#32
  let c0_i32_5 : BitVec 32 := 0#32
  let c1_i32 : BitVec 32 := 1#32
  let arg16 : BitVec 32 := Scf.iv c0_i32_5 c1_i32 k0_t3
  let v988 : BitVec 32 := Scalar.muli c2_i32_606 arg16
  let v989 : BitVec 32 := Scalar.addi v988 c0_i32_607
  let v990 : Index := Scalar.indexCast v989
  let c0_609 : Index := 0#32
  let c128_610 : Index := 128#32
  ![1, v990.toNat, 0, 128]
def k0_off42 (k0_t3 : Fin k0_t3_loop.trips) (c0_i32_686 : BitVec 32) : Fin 4 → Nat :=
  let c1_687 : Index := 1#32
  let c2_i32_685 : BitVec 32 := 2#32
  let c0_i32_5 : BitVec 32 := 0#32
  let c1_i32 : BitVec 32 := 1#32
  let arg16 : BitVec 32 := Scf.iv c0_i32_5 c1_i32 k0_t3
  let v1115 : BitVec 32 := Scalar.muli c2_i32_685 arg16
  let v1116 : BitVec 32 := Scalar.addi v1115 c0_i32_686
  let v1117 : Index := Scalar.indexCast v1116
  let c16_688 : Index := 16#32
  let c0_689 : Index := 0#32
  ![1, v1117.toNat, 16, 0]
def k0_off43 (k0_t3 : Fin k0_t3_loop.trips) (c0_i32_697 : BitVec 32) : Fin 4 → Nat :=
  let c1_698 : Index := 1#32
  let c2_i32_696 : BitVec 32 := 2#32
  let c0_i32_5 : BitVec 32 := 0#32
  let c1_i32 : BitVec 32 := 1#32
  let arg16 : BitVec 32 := Scf.iv c0_i32_5 c1_i32 k0_t3
  let v1132 : BitVec 32 := Scalar.muli c2_i32_696 arg16
  let v1133 : BitVec 32 := Scalar.addi v1132 c0_i32_697
  let v1134 : Index := Scalar.indexCast v1133
  let c16_699 : Index := 16#32
  let c128_700 : Index := 128#32
  ![1, v1134.toNat, 16, 128]
def k0_off44 (k0_t3 : Fin k0_t3_loop.trips) (c0_i32_776 : BitVec 32) : Fin 4 → Nat :=
  let c1_777 : Index := 1#32
  let c2_i32_775 : BitVec 32 := 2#32
  let c0_i32_5 : BitVec 32 := 0#32
  let c1_i32 : BitVec 32 := 1#32
  let arg16 : BitVec 32 := Scf.iv c0_i32_5 c1_i32 k0_t3
  let v1259 : BitVec 32 := Scalar.muli c2_i32_775 arg16
  let v1260 : BitVec 32 := Scalar.addi v1259 c0_i32_776
  let v1261 : Index := Scalar.indexCast v1260
  let c32_778 : Index := 32#32
  let c0_779 : Index := 0#32
  ![1, v1261.toNat, 32, 0]
def k0_off45 (k0_t3 : Fin k0_t3_loop.trips) (c0_i32_787 : BitVec 32) : Fin 4 → Nat :=
  let c1_788 : Index := 1#32
  let c2_i32_786 : BitVec 32 := 2#32
  let c0_i32_5 : BitVec 32 := 0#32
  let c1_i32 : BitVec 32 := 1#32
  let arg16 : BitVec 32 := Scf.iv c0_i32_5 c1_i32 k0_t3
  let v1276 : BitVec 32 := Scalar.muli c2_i32_786 arg16
  let v1277 : BitVec 32 := Scalar.addi v1276 c0_i32_787
  let v1278 : Index := Scalar.indexCast v1277
  let c32_789 : Index := 32#32
  let c128_790 : Index := 128#32
  ![1, v1278.toNat, 32, 128]
def k0_off46 (k0_t3 : Fin k0_t3_loop.trips) (c0_i32_866 : BitVec 32) : Fin 4 → Nat :=
  let c1_867 : Index := 1#32
  let c2_i32_865 : BitVec 32 := 2#32
  let c0_i32_5 : BitVec 32 := 0#32
  let c1_i32 : BitVec 32 := 1#32
  let arg16 : BitVec 32 := Scf.iv c0_i32_5 c1_i32 k0_t3
  let v1403 : BitVec 32 := Scalar.muli c2_i32_865 arg16
  let v1404 : BitVec 32 := Scalar.addi v1403 c0_i32_866
  let v1405 : Index := Scalar.indexCast v1404
  let c48_868 : Index := 48#32
  let c0_869 : Index := 0#32
  ![1, v1405.toNat, 48, 0]
def k0_off47 (k0_t3 : Fin k0_t3_loop.trips) (c0_i32_877 : BitVec 32) : Fin 4 → Nat :=
  let c1_878 : Index := 1#32
  let c2_i32_876 : BitVec 32 := 2#32
  let c0_i32_5 : BitVec 32 := 0#32
  let c1_i32 : BitVec 32 := 1#32
  let arg16 : BitVec 32 := Scf.iv c0_i32_5 c1_i32 k0_t3
  let v1420 : BitVec 32 := Scalar.muli c2_i32_876 arg16
  let v1421 : BitVec 32 := Scalar.addi v1420 c0_i32_877
  let v1422 : Index := Scalar.indexCast v1421
  let c48_879 : Index := 48#32
  let c128_880 : Index := 128#32
  ![1, v1422.toNat, 48, 128]
def k0_off48 (k0_t3 : Fin k0_t3_loop.trips) (c0_i32_956 : BitVec 32) : Fin 4 → Nat :=
  let c1_957 : Index := 1#32
  let c2_i32_955 : BitVec 32 := 2#32
  let c0_i32_5 : BitVec 32 := 0#32
  let c1_i32 : BitVec 32 := 1#32
  let arg16 : BitVec 32 := Scf.iv c0_i32_5 c1_i32 k0_t3
  let v1547 : BitVec 32 := Scalar.muli c2_i32_955 arg16
  let v1548 : BitVec 32 := Scalar.addi v1547 c0_i32_956
  let v1549 : Index := Scalar.indexCast v1548
  let c64_958 : Index := 64#32
  let c0_959 : Index := 0#32
  ![1, v1549.toNat, 64, 0]
def k0_off49 (k0_t3 : Fin k0_t3_loop.trips) (c0_i32_967 : BitVec 32) : Fin 4 → Nat :=
  let c1_968 : Index := 1#32
  let c2_i32_966 : BitVec 32 := 2#32
  let c0_i32_5 : BitVec 32 := 0#32
  let c1_i32 : BitVec 32 := 1#32
  let arg16 : BitVec 32 := Scf.iv c0_i32_5 c1_i32 k0_t3
  let v1564 : BitVec 32 := Scalar.muli c2_i32_966 arg16
  let v1565 : BitVec 32 := Scalar.addi v1564 c0_i32_967
  let v1566 : Index := Scalar.indexCast v1565
  let c64_969 : Index := 64#32
  let c128_970 : Index := 128#32
  ![1, v1566.toNat, 64, 128]
def k0_off50 (k0_t3 : Fin k0_t3_loop.trips) (c0_i32_1046 : BitVec 32) : Fin 4 → Nat :=
  let c1_1047 : Index := 1#32
  let c2_i32_1045 : BitVec 32 := 2#32
  let c0_i32_5 : BitVec 32 := 0#32
  let c1_i32 : BitVec 32 := 1#32
  let arg16 : BitVec 32 := Scf.iv c0_i32_5 c1_i32 k0_t3
  let v1691 : BitVec 32 := Scalar.muli c2_i32_1045 arg16
  let v1692 : BitVec 32 := Scalar.addi v1691 c0_i32_1046
  let v1693 : Index := Scalar.indexCast v1692
  let c80_1048 : Index := 80#32
  let c0_1049 : Index := 0#32
  ![1, v1693.toNat, 80, 0]
def k0_off51 (k0_t3 : Fin k0_t3_loop.trips) (c0_i32_1057 : BitVec 32) : Fin 4 → Nat :=
  let c1_1058 : Index := 1#32
  let c2_i32_1056 : BitVec 32 := 2#32
  let c0_i32_5 : BitVec 32 := 0#32
  let c1_i32 : BitVec 32 := 1#32
  let arg16 : BitVec 32 := Scf.iv c0_i32_5 c1_i32 k0_t3
  let v1708 : BitVec 32 := Scalar.muli c2_i32_1056 arg16
  let v1709 : BitVec 32 := Scalar.addi v1708 c0_i32_1057
  let v1710 : Index := Scalar.indexCast v1709
  let c80_1059 : Index := 80#32
  let c128_1060 : Index := 128#32
  ![1, v1710.toNat, 80, 128]
def k0_off52 (i : grid0.Coords) (k0_t3 : Fin k0_t3_loop.trips) : Fin 3 → Nat :=
  let c2_1107 : Index := 2#32
  let arg1 : BitVec 32 := BitVec.ofNat 32 (i 1).val
  let c10_i32 : BitVec 32 := 10#32
  let v12 : BitVec 32 := Scalar.muli arg1 c10_i32
  let c2_i32 : BitVec 32 := 2#32
  let c0_i32_5 : BitVec 32 := 0#32
  let c1_i32 : BitVec 32 := 1#32
  let arg16 : BitVec 32 := Scf.iv c0_i32_5 c1_i32 k0_t3
  let v13 : BitVec 32 := Scalar.muli c2_i32 arg16
  let v14 : BitVec 32 := Scalar.addi v12 v13
  let c1_i32_7 : BitVec 32 := 1#32
  let v15 : BitVec 32 := Scalar.addi v14 c1_i32_7
  let c66_i32_1106 : BitVec 32 := 66#32
  let v1788 : BitVec 32 := Scalar.muli v15 c66_i32_1106
  let v1789 : Index := Scalar.indexCast v1788
  let c0_1108 : Index := 0#32
  ![2, v1789.toNat, 0]
def k0_off53 (i : grid0.Coords) (k0_t3 : Fin k0_t3_loop.trips) : Fin 3 → Nat :=
  let c2_1111 : Index := 2#32
  let arg1 : BitVec 32 := BitVec.ofNat 32 (i 1).val
  let c10_i32 : BitVec 32 := 10#32
  let v12 : BitVec 32 := Scalar.muli arg1 c10_i32
  let c2_i32 : BitVec 32 := 2#32
  let c0_i32_5 : BitVec 32 := 0#32
  let c1_i32 : BitVec 32 := 1#32
  let arg16 : BitVec 32 := Scf.iv c0_i32_5 c1_i32 k0_t3
  let v13 : BitVec 32 := Scalar.muli c2_i32 arg16
  let v14 : BitVec 32 := Scalar.addi v12 v13
  let c1_i32_7 : BitVec 32 := 1#32
  let v15 : BitVec 32 := Scalar.addi v14 c1_i32_7
  let c1_i32_1109 : BitVec 32 := 1#32
  let v1792 : BitVec 32 := Scalar.addi v15 c1_i32_1109
  let c66_i32_1110 : BitVec 32 := 66#32
  let v1793 : BitVec 32 := Scalar.muli v1792 c66_i32_1110
  let v1794 : Index := Scalar.indexCast v1793
  let c0_1112 : Index := 0#32
  ![2, v1794.toNat, 0]
def k0_off54 (k0_t3 : Fin k0_t3_loop.trips) (c0_i32_1140 : BitVec 32) : Fin 4 → Nat :=
  let c0_1141 : Index := 0#32
  let c2_i32_1139 : BitVec 32 := 2#32
  let c0_i32_5 : BitVec 32 := 0#32
  let c1_i32 : BitVec 32 := 1#32
  let arg16 : BitVec 32 := Scf.iv c0_i32_5 c1_i32 k0_t3
  let v1836 : BitVec 32 := Scalar.muli c2_i32_1139 arg16
  let v1837 : BitVec 32 := Scalar.addi v1836 c0_i32_1140
  let v1838 : Index := Scalar.indexCast v1837
  let c0_1142 : Index := 0#32
  let c256 : Index := 256#32
  ![0, v1838.toNat, 0, 256]
def k0_off55 (k0_t3 : Fin k0_t3_loop.trips) (c0_i32_1145 : BitVec 32) : Fin 4 → Nat :=
  let c1_1146 : Index := 1#32
  let c2_i32_1144 : BitVec 32 := 2#32
  let c0_i32_5 : BitVec 32 := 0#32
  let c1_i32 : BitVec 32 := 1#32
  let arg16 : BitVec 32 := Scf.iv c0_i32_5 c1_i32 k0_t3
  let v1844 : BitVec 32 := Scalar.muli c2_i32_1144 arg16
  let v1845 : BitVec 32 := Scalar.addi v1844 c0_i32_1145
  let v1846 : Index := Scalar.indexCast v1845
  let c0_1147 : Index := 0#32
  let c256_1148 : Index := 256#32
  ![1, v1846.toNat, 0, 256]
def k0_off56 (k0_t3 : Fin k0_t3_loop.trips) (c0_i32_1209 : BitVec 32) : Fin 4 → Nat :=
  let c0_1210 : Index := 0#32
  let c2_i32_1208 : BitVec 32 := 2#32
  let c0_i32_5 : BitVec 32 := 0#32
  let c1_i32 : BitVec 32 := 1#32
  let arg16 : BitVec 32 := Scf.iv c0_i32_5 c1_i32 k0_t3
  let v1936 : BitVec 32 := Scalar.muli c2_i32_1208 arg16
  let v1937 : BitVec 32 := Scalar.addi v1936 c0_i32_1209
  let v1938 : Index := Scalar.indexCast v1937
  let c16_1211 : Index := 16#32
  let c256_1212 : Index := 256#32
  ![0, v1938.toNat, 16, 256]
def k0_off57 (k0_t3 : Fin k0_t3_loop.trips) (c0_i32_1215 : BitVec 32) : Fin 4 → Nat :=
  let c1_1216 : Index := 1#32
  let c2_i32_1214 : BitVec 32 := 2#32
  let c0_i32_5 : BitVec 32 := 0#32
  let c1_i32 : BitVec 32 := 1#32
  let arg16 : BitVec 32 := Scf.iv c0_i32_5 c1_i32 k0_t3
  let v1944 : BitVec 32 := Scalar.muli c2_i32_1214 arg16
  let v1945 : BitVec 32 := Scalar.addi v1944 c0_i32_1215
  let v1946 : Index := Scalar.indexCast v1945
  let c16_1217 : Index := 16#32
  let c256_1218 : Index := 256#32
  ![1, v1946.toNat, 16, 256]
def k0_off58 (k0_t3 : Fin k0_t3_loop.trips) (c0_i32_1279 : BitVec 32) : Fin 4 → Nat :=
  let c0_1280 : Index := 0#32
  let c2_i32_1278 : BitVec 32 := 2#32
  let c0_i32_5 : BitVec 32 := 0#32
  let c1_i32 : BitVec 32 := 1#32
  let arg16 : BitVec 32 := Scf.iv c0_i32_5 c1_i32 k0_t3
  let v2036 : BitVec 32 := Scalar.muli c2_i32_1278 arg16
  let v2037 : BitVec 32 := Scalar.addi v2036 c0_i32_1279
  let v2038 : Index := Scalar.indexCast v2037
  let c32_1281 : Index := 32#32
  let c256_1282 : Index := 256#32
  ![0, v2038.toNat, 32, 256]
def k0_off59 (k0_t3 : Fin k0_t3_loop.trips) (c0_i32_1285 : BitVec 32) : Fin 4 → Nat :=
  let c1_1286 : Index := 1#32
  let c2_i32_1284 : BitVec 32 := 2#32
  let c0_i32_5 : BitVec 32 := 0#32
  let c1_i32 : BitVec 32 := 1#32
  let arg16 : BitVec 32 := Scf.iv c0_i32_5 c1_i32 k0_t3
  let v2044 : BitVec 32 := Scalar.muli c2_i32_1284 arg16
  let v2045 : BitVec 32 := Scalar.addi v2044 c0_i32_1285
  let v2046 : Index := Scalar.indexCast v2045
  let c32_1287 : Index := 32#32
  let c256_1288 : Index := 256#32
  ![1, v2046.toNat, 32, 256]
def k0_off60 (k0_t3 : Fin k0_t3_loop.trips) (c0_i32_1349 : BitVec 32) : Fin 4 → Nat :=
  let c0_1350 : Index := 0#32
  let c2_i32_1348 : BitVec 32 := 2#32
  let c0_i32_5 : BitVec 32 := 0#32
  let c1_i32 : BitVec 32 := 1#32
  let arg16 : BitVec 32 := Scf.iv c0_i32_5 c1_i32 k0_t3
  let v2136 : BitVec 32 := Scalar.muli c2_i32_1348 arg16
  let v2137 : BitVec 32 := Scalar.addi v2136 c0_i32_1349
  let v2138 : Index := Scalar.indexCast v2137
  let c48_1351 : Index := 48#32
  let c256_1352 : Index := 256#32
  ![0, v2138.toNat, 48, 256]
def k0_off61 (k0_t3 : Fin k0_t3_loop.trips) (c0_i32_1355 : BitVec 32) : Fin 4 → Nat :=
  let c1_1356 : Index := 1#32
  let c2_i32_1354 : BitVec 32 := 2#32
  let c0_i32_5 : BitVec 32 := 0#32
  let c1_i32 : BitVec 32 := 1#32
  let arg16 : BitVec 32 := Scf.iv c0_i32_5 c1_i32 k0_t3
  let v2144 : BitVec 32 := Scalar.muli c2_i32_1354 arg16
  let v2145 : BitVec 32 := Scalar.addi v2144 c0_i32_1355
  let v2146 : Index := Scalar.indexCast v2145
  let c48_1357 : Index := 48#32
  let c256_1358 : Index := 256#32
  ![1, v2146.toNat, 48, 256]
def k0_off62 (k0_t3 : Fin k0_t3_loop.trips) (c0_i32_1419 : BitVec 32) : Fin 4 → Nat :=
  let c0_1420 : Index := 0#32
  let c2_i32_1418 : BitVec 32 := 2#32
  let c0_i32_5 : BitVec 32 := 0#32
  let c1_i32 : BitVec 32 := 1#32
  let arg16 : BitVec 32 := Scf.iv c0_i32_5 c1_i32 k0_t3
  let v2236 : BitVec 32 := Scalar.muli c2_i32_1418 arg16
  let v2237 : BitVec 32 := Scalar.addi v2236 c0_i32_1419
  let v2238 : Index := Scalar.indexCast v2237
  let c64_1421 : Index := 64#32
  let c256_1422 : Index := 256#32
  ![0, v2238.toNat, 64, 256]
def k0_off63 (k0_t3 : Fin k0_t3_loop.trips) (c0_i32_1425 : BitVec 32) : Fin 4 → Nat :=
  let c1_1426 : Index := 1#32
  let c2_i32_1424 : BitVec 32 := 2#32
  let c0_i32_5 : BitVec 32 := 0#32
  let c1_i32 : BitVec 32 := 1#32
  let arg16 : BitVec 32 := Scf.iv c0_i32_5 c1_i32 k0_t3
  let v2244 : BitVec 32 := Scalar.muli c2_i32_1424 arg16
  let v2245 : BitVec 32 := Scalar.addi v2244 c0_i32_1425
  let v2246 : Index := Scalar.indexCast v2245
  let c64_1427 : Index := 64#32
  let c256_1428 : Index := 256#32
  ![1, v2246.toNat, 64, 256]
def k0_off64 (k0_t3 : Fin k0_t3_loop.trips) (c0_i32_1489 : BitVec 32) : Fin 4 → Nat :=
  let c0_1490 : Index := 0#32
  let c2_i32_1488 : BitVec 32 := 2#32
  let c0_i32_5 : BitVec 32 := 0#32
  let c1_i32 : BitVec 32 := 1#32
  let arg16 : BitVec 32 := Scf.iv c0_i32_5 c1_i32 k0_t3
  let v2336 : BitVec 32 := Scalar.muli c2_i32_1488 arg16
  let v2337 : BitVec 32 := Scalar.addi v2336 c0_i32_1489
  let v2338 : Index := Scalar.indexCast v2337
  let c80_1491 : Index := 80#32
  let c256_1492 : Index := 256#32
  ![0, v2338.toNat, 80, 256]
def k0_off65 (k0_t3 : Fin k0_t3_loop.trips) (c0_i32_1495 : BitVec 32) : Fin 4 → Nat :=
  let c1_1496 : Index := 1#32
  let c2_i32_1494 : BitVec 32 := 2#32
  let c0_i32_5 : BitVec 32 := 0#32
  let c1_i32 : BitVec 32 := 1#32
  let arg16 : BitVec 32 := Scf.iv c0_i32_5 c1_i32 k0_t3
  let v2344 : BitVec 32 := Scalar.muli c2_i32_1494 arg16
  let v2345 : BitVec 32 := Scalar.addi v2344 c0_i32_1495
  let v2346 : Index := Scalar.indexCast v2345
  let c80_1497 : Index := 80#32
  let c256_1498 : Index := 256#32
  ![1, v2346.toNat, 80, 256]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x3x7200x128 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .smem S10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S7x3x7x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S168x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2x10x96x320 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S10x720x1280x3 : Shape := ⟨4, ![10, 720, 1280, 3]⟩
abbrev S10 : Shape := ⟨1, ![10]⟩
abbrev S7x7x3x96 : Shape := ⟨4, ![7, 7, 3, 96]⟩
abbrev S96 : Shape := ⟨1, ![96]⟩
abbrev S_ : Shape := ⟨0, ![]⟩
abbrev S10x726x1286x3 : Shape := ⟨4, ![10, 726, 1286, 3]⟩
abbrev S10x726x640x3 : Shape := ⟨4, ![10, 726, 640, 3]⟩
abbrev S10x726x640x21 : Shape := ⟨4, ![10, 726, 640, 21]⟩
abbrev S10x360x640x21 : Shape := ⟨4, ![10, 360, 640, 21]⟩
abbrev S10x360x640x147 : Shape := ⟨4, ![10, 360, 640, 147]⟩
abbrev S147x96 : Shape := ⟨2, ![147, 96]⟩
abbrev S10x360x640x96 : Shape := ⟨4, ![10, 360, 640, 96]⟩
abbrev S10x1x1x1 : Shape := ⟨4, ![10, 1, 1, 1]⟩
abbrev S1x1x1x96 : Shape := ⟨4, ![1, 1, 1, 96]⟩
abbrev S10x180x320x96 : Shape := ⟨4, ![10, 180, 320, 96]⟩
abbrev S10x180x96x320 : Shape := ⟨4, ![10, 180, 96, 320]⟩

abbrev nBuf : Space → Nat
  | .hbm => 48
  | .vmem => 4
  | .smem => 0
  | _ => 0

abbrev bufTy : (tb : Table) → Fin (tcTables nBuf tb) → BufTy
  | .hbm, ⟨0, _⟩ => ⟨S10x720x1280x3, .i8⟩
  | .hbm, ⟨1, _⟩ => ⟨S10, .f32⟩
  | .hbm, ⟨2, _⟩ => ⟨S7x7x3x96, .i8⟩
  | .hbm, ⟨3, _⟩ => ⟨S96, .f32⟩
  | .hbm, ⟨4, _⟩ => ⟨S96, .f32⟩
  | .hbm, ⟨5, _⟩ => ⟨S96, .f32⟩
  | .hbm, ⟨6, _⟩ => ⟨S10x720x1280x3, .bf16⟩
  | .hbm, ⟨7, _⟩ => ⟨S7x7x3x96, .bf16⟩
  | .hbm, ⟨8, _⟩ => ⟨S_, .i32⟩
  | .hbm, ⟨9, _⟩ => ⟨S_, .bf16⟩
  | .hbm, ⟨10, _⟩ => ⟨S10x726x1286x3, .bf16⟩
  | .hbm, ⟨11, _⟩ => ⟨S10x726x640x3, .bf16⟩
  | .hbm, ⟨12, _⟩ => ⟨S10x726x640x3, .bf16⟩
  | .hbm, ⟨13, _⟩ => ⟨S10x726x640x3, .bf16⟩
  | .hbm, ⟨14, _⟩ => ⟨S10x726x640x3, .bf16⟩
  | .hbm, ⟨15, _⟩ => ⟨S10x726x640x3, .bf16⟩
  | .hbm, ⟨16, _⟩ => ⟨S10x726x640x3, .bf16⟩
  | .hbm, ⟨17, _⟩ => ⟨S10x726x640x3, .bf16⟩
  | .hbm, ⟨18, _⟩ => ⟨S10x726x640x21, .bf16⟩
  | .hbm, ⟨19, _⟩ => ⟨S10x360x640x21, .bf16⟩
  | .hbm, ⟨20, _⟩ => ⟨S10x360x640x21, .bf16⟩
  | .hbm, ⟨21, _⟩ => ⟨S10x360x640x21, .bf16⟩
  | .hbm, ⟨22, _⟩ => ⟨S10x360x640x21, .bf16⟩
  | .hbm, ⟨23, _⟩ => ⟨S10x360x640x21, .bf16⟩
  | .hbm, ⟨24, _⟩ => ⟨S10x360x640x21, .bf16⟩
  | .hbm, ⟨25, _⟩ => ⟨S10x360x640x21, .bf16⟩
  | .hbm, ⟨26, _⟩ => ⟨S10x360x640x147, .bf16⟩
  | .hbm, ⟨27, _⟩ => ⟨S147x96, .bf16⟩
  | .hbm, ⟨28, _⟩ => ⟨S10x360x640x96, .f32⟩
  | .hbm, ⟨29, _⟩ => ⟨S10x1x1x1, .f32⟩
  | .hbm, ⟨30, _⟩ => ⟨S10x360x640x96, .f32⟩
  | .hbm, ⟨31, _⟩ => ⟨S10x360x640x96, .f32⟩
  | .hbm, ⟨32, _⟩ => ⟨S1x1x1x96, .f32⟩
  | .hbm, ⟨33, _⟩ => ⟨S10x360x640x96, .f32⟩
  | .hbm, ⟨34, _⟩ => ⟨S10x360x640x96, .f32⟩
  | .hbm, ⟨35, _⟩ => ⟨S1x1x1x96, .f32⟩
  | .hbm, ⟨36, _⟩ => ⟨S10x360x640x96, .f32⟩
  | .hbm, ⟨37, _⟩ => ⟨S10x360x640x96, .f32⟩
  | .hbm, ⟨38, _⟩ => ⟨S1x1x1x96, .f32⟩
  | .hbm, ⟨39, _⟩ => ⟨S10x360x640x96, .f32⟩
  | .hbm, ⟨40, _⟩ => ⟨S10x360x640x96, .f32⟩
  | .hbm, ⟨41, _⟩ => ⟨S_, .f32⟩
  | .hbm, ⟨42, _⟩ => ⟨S10x360x640x96, .f32⟩
  | .hbm, ⟨43, _⟩ => ⟨S10x360x640x96, .f32⟩
  | .hbm, ⟨44, _⟩ => ⟨S_, .f32⟩
  | .hbm, ⟨45, _⟩ => ⟨S10x180x320x96, .f32⟩
  | .hbm, ⟨46, _⟩ => ⟨S10x180x320x96, .bf16⟩
  | .hbm, ⟨47, _⟩ => ⟨S10x180x96x320, .bf16⟩
  | .local _ .vmem, ⟨0, _⟩ => ⟨S10x720x1280x3, .i8⟩
  | .local _ .vmem, ⟨1, _⟩ => ⟨S7x7x3x96, .i8⟩
  | .local _ .vmem, ⟨2, _⟩ => ⟨S10x720x1280x3, .bf16⟩
  | .local _ .vmem, ⟨3, _⟩ => ⟨S7x7x3x96, .bf16⟩
  | _, _ => ⟨S10x720x1280x3, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst : Ref sig .tc := ⟨.hbm, 41, rfl⟩
abbrev main_v32 : Ref sig .tc := ⟨.hbm, 42, rfl⟩
abbrev main_v33 : Ref sig .tc := ⟨.hbm, 43, rfl⟩
abbrev main_cst_0 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S10x720x1280x3 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x7x3x96 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x720x1280x3 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7x7x3x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.BitsTrip.lean ====
/-
  One trip of the loop over the twelve-row groups of the patch build: run once at a symbolic trip. The trip reads the
  codes block (`arg2`) and stores words into the patch buffer (`arg10`); the list of its stores is the witness of
  `trip`. From it the loop's invariant: before trip `k` the patch buffer holds the stores of the trips before `k`.
-/
module

public import proofs.«01_k».proof.Proof.Gen.Kernel.Skeleton
public import proofs.«01_k».proof.Proof.Gen.Kernel.Loops
public import Idealize.ShloMosaic.Lib.Tactic

@[expose] public section

set_option maxRecDepth 16384
set_option maxHeartbeats 40000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

local notation "𝕄" => MT nD τ sig Unit (Elt F) ℕ (UU nD τ) ℕ

/-- What a trip holds: the codes block at `X`, the patch buffer at `f`. -/
abbrev Trip (c : Dev nD) (arg2 : Memref sig .tc .vmem S2x3x7200x128 .i8) (arg10 : Memref sig .tc .vmem S5x12012x128 .i32)
    (X : BufTy.Contents (Elt F) arg2.view.ty) (f : BufTy.Contents (Elt F) arg10.view.ty) : sProp 𝕄 :=
  iprop((arg2.view.loc (c : Thread nD τ) ↦[arg2.view.set]{fullShare} X) ∗ (arg10.view.loc (c : Thread nD τ) ↦[arg10.view.set]{fullShare} f))

section
variable (i : grid0.Coords)
  (arg2 : Memref sig .tc .vmem S2x3x7200x128 .i8) (harg2 : arg2.IsWhole)
  (arg3 : Memref sig .tc .smem S10 .f32) (harg3 : arg3.IsWhole)
  (arg4 : Memref sig .tc .vmem S7x3x7x96 .fp8e4m3) (harg4 : arg4.IsWhole)
  (arg5 : Memref sig .tc .vmem S168x1024 .bf16) (harg5 : arg5.IsWhole)
  (arg6 : Memref sig .tc .vmem S96x128 .f32) (harg6 : arg6.IsWhole)
  (arg7 : Memref sig .tc .vmem S96x128 .f32) (harg7 : arg7.IsWhole)
  (arg8 : Memref sig .tc .vmem S96x128 .f32) (harg8 : arg8.IsWhole)
  (arg9 : Memref sig .tc .vmem S2x10x96x320 .bf16) (harg9 : arg9.IsWhole)
  (arg10 : Memref sig .tc .vmem S5x12012x128 .i32) (harg10 : arg10.IsWhole)
  (arg11 : Memref sig .tc .vmem S384x256 .fp8e4m3) (harg11 : arg11.IsWhole)
  (arg12 : Memref sig .tc .vmem S2x8x128 .f32) (harg12 : arg12.IsWhole)
  (arg13 : Memref sig .tc .vmem S3x96x128 .f32) (harg13 : arg13.IsWhole)
  (arg14 : Memref sig .tc .vmem S2x5x96x128 .f32) (harg14 : arg14.IsWhole)
  (arg15 : Memref sig .tc .vmem S2x2x96x128 .f32) (harg15 : arg15.IsWhole)
  (k0_h2 : k0_cond2 i = 1#1) (v84 v121 v142 v163 v165 : IVec S8x128 32) (v169 : BitVec 32) (v171 : IVec S8x128 32) (v173 : IVec S8x128 1)

/-- One trip, run once: the list of its stores into the patch buffer. -/
@[irreducible] def trip (c : Dev nD) (X : BufTy.Contents (Elt F) arg2.view.ty) (k : Fin k0_t2_loop.trips) :
    { L : List (View.Piece (Elt F) S5x12012x128 .i32) // ∀ (E : Set ℕ) (f : BufTy.Contents (Elt F) arg10.view.ty),
      Trip (F := F) c arg2 arg10 X f
      ⊢ wp frame (wpE (defs₀ (F := F)) 𝒱₀ (c : Thread nD τ) none) E
          (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 k PUnit.unit)
          (fun _ => Trip (F := F) c arg2 arg10 X (arg10.view.writes (Elt F) f L)) } := by
  refine ⟨?_, fun E f => ?run⟩
  case run =>
    unfold k0_t2_body
    iintro ⟨HR, HW⟩
    sl_exec
    sl_step
    sl_close

end

end Cert.Proof.Kernel

end
-- ==== Proof.BitsLoop.lean ====
/-
  The loop over the twelve groups by its invariant: before trip `k` the patch buffer holds the stores of the trips
  before `k` over what it held at entry.
-/
module

public import proofs.«01_k».proof.Proof.Gen.Kernel.Skeleton
public import proofs.«01_k».proof.Proof.Gen.Kernel.Loops
public import proofs.«01_k».proof.Proof.BitsTrip
public import Idealize.ShloMosaic.Lib.Tactic

@[expose] public section

set_option maxRecDepth 16384
set_option maxHeartbeats 40000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section
variable (i : grid0.Coords)
  (arg2 : Memref sig .tc .vmem S2x3x7200x128 .i8) (harg2 : arg2.IsWhole)
  (arg3 : Memref sig .tc .smem S10 .f32) (harg3 : arg3.IsWhole)
  (arg4 : Memref sig .tc .vmem S7x3x7x96 .fp8e4m3) (harg4 : arg4.IsWhole)
  (arg5 : Memref sig .tc .vmem S168x1024 .bf16) (harg5 : arg5.IsWhole)
  (arg6 : Memref sig .tc .vmem S96x128 .f32) (harg6 : arg6.IsWhole)
  (arg7 : Memref sig .tc .vmem S96x128 .f32) (harg7 : arg7.IsWhole)
  (arg8 : Memref sig .tc .vmem S96x128 .f32) (harg8 : arg8.IsWhole)
  (arg9 : Memref sig .tc .vmem S2x10x96x320 .bf16) (harg9 : arg9.IsWhole)
  (arg10 : Memref sig .tc .vmem S5x12012x128 .i32) (harg10 : arg10.IsWhole)
  (arg11 : Memref sig .tc .vmem S384x256 .fp8e4m3) (harg11 : arg11.IsWhole)
  (arg12 : Memref sig .tc .vmem S2x8x128 .f32) (harg12 : arg12.IsWhole)
  (arg13 : Memref sig .tc .vmem S3x96x128 .f32) (harg13 : arg13.IsWhole)
  (arg14 : Memref sig .tc .vmem S2x5x96x128 .f32) (harg14 : arg14.IsWhole)
  (arg15 : Memref sig .tc .vmem S2x2x96x128 .f32) (harg15 : arg15.IsWhole)
  (k0_h2 : k0_cond2 i = 1#1) (v84 v121 v142 v163 v165 : IVec S8x128 32) (v169 : BitVec 32) (v171 : IVec S8x128 32) (v173 : IVec S8x128 1)

/-- Trip `k`'s stores; past the last trip, none. -/
@[irreducible] def tripAt (c : Dev nD) (X : BufTy.Contents (Elt F) arg2.view.ty) (k : ℕ) : List (View.Piece (Elt F) S5x12012x128 .i32) :=
  if h : k < k0_t2_loop.trips then (trip (F := F) i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 c X ⟨k, h⟩).1 else []

theorem tripAt_eq (c : Dev nD) (X : BufTy.Contents (Elt F) arg2.view.ty) (k : Fin k0_t2_loop.trips) :
    tripAt (F := F) i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 c X k.val = (trip (F := F) i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 c X k).1 := by
  unfold tripAt; exact dif_pos k.isLt

/-- The stores of the trips before `k`, last first. -/
def pieces (c : Dev nD) (X : BufTy.Contents (Elt F) arg2.view.ty) : ℕ → List (View.Piece (Elt F) S5x12012x128 .i32)
  | 0 => []
  | k + 1 => tripAt (F := F) i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 c X k ++ pieces c X k

theorem pieces_succ (c : Dev nD) (X : BufTy.Contents (Elt F) arg2.view.ty) (k : Fin k0_t2_loop.trips) :
    pieces (F := F) i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 c X (k.val + 1)
      = (trip (F := F) i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 c X k).1 ++ pieces (F := F) i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 c X k.val := by
  rw [pieces.eq_2, tripAt_eq]

set_option warn.classDefReducibility false in
/-- The loop by its invariant. -/
@[sl_loop] def loopInv_k0_t2 (c : Dev nD) (X : BufTy.Contents (Elt F) arg2.view.ty) (G : BufTy.Contents (Elt F) arg10.view.ty) :
    LoopInvTy_k0_t2 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 where
  inv := fun k _ => iprop((arg2.view.loc (c : Thread nD τ) ↦[arg2.view.set]{fullShare} X)
    ∗ (∃ f, (arg10.view.loc (c : Thread nD τ) ↦[arg10.view.set]{fullShare} f)
        ∗ ⌜f = arg10.view.writes (Elt F) G (pieces (F := F) i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 c X k)⌝))
  step k acc := by
    iintro ⟨HR, ⟨%f, HW, %h⟩⟩
    iapply (wp_wand_r Idealize.ShloMosaic.frame (wpE (defs₀ (F := F)) 𝒱₀ (c : Thread nD τ) none) Set.univ)
    isplitl [HR HW]
    · iapply ((trip (F := F) i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 c X k).2 Set.univ f)
      isplitl [HR]; · iexact HR
      iexact HW
    · iintro %_ ⟨HR, HW⟩
      isplitl [HR]; · iexact HR
      rw [pieces_succ]
      iexists _; isplitl [HW]; · iexact HW
      ipureintro; rw [h, ← View.writes_append]
end

end Cert.Proof.Kernel

end
-- ==== Proof.BitsHeld.lean ====
/-
  The kernel's buffers as the body holds them.
-/
module

public import proofs.«01_k».proof.Proof.Gen.Kernel.Skeleton
public import proofs.«01_k».proof.Proof.Gen.Kernel.Frame
public import proofs.«01_k».proof.Proof.BitsLoop
public import Idealize.ShloMosaic.Lib.Tactic

@[expose] public section

set_option maxRecDepth 16384
set_option maxHeartbeats 40000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The kernel's fourteen buffers, each whole at its contents. -/
abbrev Held (c : Dev nD)
    (arg2 : Memref sig .tc .vmem S2x3x7200x128 .i8)
    (arg3 : Memref sig .tc .smem S10 .f32)
    (arg4 : Memref sig .tc .vmem S7x3x7x96 .fp8e4m3)
    (arg5 : Memref sig .tc .vmem S168x1024 .bf16)
    (arg6 : Memref sig .tc .vmem S96x128 .f32)
    (arg7 : Memref sig .tc .vmem S96x128 .f32)
    (arg8 : Memref sig .tc .vmem S96x128 .f32)
    (arg9 : Memref sig .tc .vmem S2x10x96x320 .bf16)
    (arg10 : Memref sig .tc .vmem S5x12012x128 .i32)
    (arg11 : Memref sig .tc .vmem S384x256 .fp8e4m3)
    (arg12 : Memref sig .tc .vmem S2x8x128 .f32)
    (arg13 : Memref sig .tc .vmem S3x96x128 .f32)
    (arg14 : Memref sig .tc .vmem S2x5x96x128 .f32)
    (arg15 : Memref sig .tc .vmem S2x2x96x128 .f32)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty)
    (f12 : BufTy.Contents (Elt F) arg12.view.ty)
    (f13 : BufTy.Contents (Elt F) arg13.view.ty)
    (f14 : BufTy.Contents (Elt F) arg14.view.ty)
    (f15 : BufTy.Contents (Elt F) arg15.view.ty) : sProp 𝕄 :=
  iprop((arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} f12)
      ∗ (arg13.view.loc (c : Thread nD τ) ↦[arg13.view.set]{fullShare} f13)
      ∗ (arg14.view.loc (c : Thread nD τ) ↦[arg14.view.set]{fullShare} f14)
      ∗ (arg15.view.loc (c : Thread nD τ) ↦[arg15.view.set]{fullShare} f15))

end Cert.Proof.Kernel

end
-- ==== Proof.BitsRunA.lean ====
/-
  One run of the kernel's body at the first point of all: the patch buffer cleared, the weights and the pair's state made, then the steps.
-/
module

public import proofs.«01_k».proof.Proof.Gen.Kernel.Skeleton
public import proofs.«01_k».proof.Proof.Gen.Kernel.Frame
public import proofs.«01_k».proof.Proof.BitsLoop
public import proofs.«01_k».proof.Proof.BitsHeld
public import Idealize.ShloMosaic.Lib.Tactic

@[expose] public section

set_option maxRecDepth 16384
set_option maxHeartbeats 40000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The body at the first point of all: the patch buffer cleared, the weights and the pair's state made, then the steps: what it leaves in the buffers it
    writes, found by the run. -/
@[irreducible] def runA (c : Dev nD) (i : grid0.Coords)
  (arg2 : Memref sig .tc .vmem S2x3x7200x128 .i8) (harg2 : arg2.IsWhole)
  (arg3 : Memref sig .tc .smem S10 .f32) (harg3 : arg3.IsWhole)
  (arg4 : Memref sig .tc .vmem S7x3x7x96 .fp8e4m3) (harg4 : arg4.IsWhole)
  (arg5 : Memref sig .tc .vmem S168x1024 .bf16) (harg5 : arg5.IsWhole)
  (arg6 : Memref sig .tc .vmem S96x128 .f32) (harg6 : arg6.IsWhole)
  (arg7 : Memref sig .tc .vmem S96x128 .f32) (harg7 : arg7.IsWhole)
  (arg8 : Memref sig .tc .vmem S96x128 .f32) (harg8 : arg8.IsWhole)
  (arg9 : Memref sig .tc .vmem S2x10x96x320 .bf16) (harg9 : arg9.IsWhole)
  (arg10 : Memref sig .tc .vmem S5x12012x128 .i32) (harg10 : arg10.IsWhole)
  (arg11 : Memref sig .tc .vmem S384x256 .fp8e4m3) (harg11 : arg11.IsWhole)
  (arg12 : Memref sig .tc .vmem S2x8x128 .f32) (harg12 : arg12.IsWhole)
  (arg13 : Memref sig .tc .vmem S3x96x128 .f32) (harg13 : arg13.IsWhole)
  (arg14 : Memref sig .tc .vmem S2x5x96x128 .f32) (harg14 : arg14.IsWhole)
  (arg15 : Memref sig .tc .vmem S2x2x96x128 .f32) (harg15 : arg15.IsWhole)
  (f2 : BufTy.Contents (Elt F) arg2.view.ty)
  (f3 : BufTy.Contents (Elt F) arg3.view.ty)
  (f4 : BufTy.Contents (Elt F) arg4.view.ty)
  (f5 : BufTy.Contents (Elt F) arg5.view.ty)
  (f6 : BufTy.Contents (Elt F) arg6.view.ty)
  (f7 : BufTy.Contents (Elt F) arg7.view.ty)
  (f8 : BufTy.Contents (Elt F) arg8.view.ty)
  (f9 : BufTy.Contents (Elt F) arg9.view.ty)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty)
  (h1 : k0_cond1 i = 1#1) (h2 : k0_cond2 i = 1#1) :
    Σ' (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty),
      { g15 : BufTy.Contents (Elt F) arg15.view.ty // ∀ (K : PUnit → sProp 𝕄),
        iprop(Held (F := F) c arg2 arg3 arg4 arg5 arg6 arg7 arg8 arg9 arg10 arg11 arg12 arg13 arg14 arg15 f2 f3 f4 f5 f6 f7 f8 f9 f10 f11 f12 f13 f14 f15
            ∗ (Held (F := F) c arg2 arg3 arg4 arg5 arg6 arg7 arg8 arg9 arg10 arg11 arg12 arg13 arg14 arg15 f2 f3 f4 f5 f6 f7 f8 g9 g10 g11 g12 g13 g14 g15 -∗ K ⟨⟩))
          ⊢ wp frame (wpE (defs₀ (F := F)) 𝒱₀ (c : Thread nD τ) none) Set.univ (cc0__body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun K => ?run⟩
  case run =>
    iintro ⟨⟨H2, H3, H4, H5, H6, H7, H8, H9, H10, H11, H12, H13, H14, H15⟩, Hk⟩
    simp only [cc0__body_eq_skeleton]; unfold cc0__body_skel
    sl_exec (disch := assumption)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Proof.Kernel

end
-- ==== Proof.BitsRunB.lean ====
/-
  One run of the kernel's body at the first point of a later pair: the pair's state made, then the steps.
-/
module

public import proofs.«01_k».proof.Proof.Gen.Kernel.Skeleton
public import proofs.«01_k».proof.Proof.Gen.Kernel.Frame
public import proofs.«01_k».proof.Proof.BitsLoop
public import proofs.«01_k».proof.Proof.BitsHeld
public import Idealize.ShloMosaic.Lib.Tactic

@[expose] public section

set_option maxRecDepth 16384
set_option maxHeartbeats 40000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The body at the first point of a later pair: the pair's state made, then the steps: what it leaves in the buffers it
    writes, found by the run. -/
@[irreducible] def runB (c : Dev nD) (i : grid0.Coords)
  (arg2 : Memref sig .tc .vmem S2x3x7200x128 .i8) (harg2 : arg2.IsWhole)
  (arg3 : Memref sig .tc .smem S10 .f32) (harg3 : arg3.IsWhole)
  (arg4 : Memref sig .tc .vmem S7x3x7x96 .fp8e4m3) (harg4 : arg4.IsWhole)
  (arg5 : Memref sig .tc .vmem S168x1024 .bf16) (harg5 : arg5.IsWhole)
  (arg6 : Memref sig .tc .vmem S96x128 .f32) (harg6 : arg6.IsWhole)
  (arg7 : Memref sig .tc .vmem S96x128 .f32) (harg7 : arg7.IsWhole)
  (arg8 : Memref sig .tc .vmem S96x128 .f32) (harg8 : arg8.IsWhole)
  (arg9 : Memref sig .tc .vmem S2x10x96x320 .bf16) (harg9 : arg9.IsWhole)
  (arg10 : Memref sig .tc .vmem S5x12012x128 .i32) (harg10 : arg10.IsWhole)
  (arg11 : Memref sig .tc .vmem S384x256 .fp8e4m3) (harg11 : arg11.IsWhole)
  (arg12 : Memref sig .tc .vmem S2x8x128 .f32) (harg12 : arg12.IsWhole)
  (arg13 : Memref sig .tc .vmem S3x96x128 .f32) (harg13 : arg13.IsWhole)
  (arg14 : Memref sig .tc .vmem S2x5x96x128 .f32) (harg14 : arg14.IsWhole)
  (arg15 : Memref sig .tc .vmem S2x2x96x128 .f32) (harg15 : arg15.IsWhole)
  (f2 : BufTy.Contents (Elt F) arg2.view.ty)
  (f3 : BufTy.Contents (Elt F) arg3.view.ty)
  (f4 : BufTy.Contents (Elt F) arg4.view.ty)
  (f5 : BufTy.Contents (Elt F) arg5.view.ty)
  (f6 : BufTy.Contents (Elt F) arg6.view.ty)
  (f7 : BufTy.Contents (Elt F) arg7.view.ty)
  (f8 : BufTy.Contents (Elt F) arg8.view.ty)
  (f9 : BufTy.Contents (Elt F) arg9.view.ty)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty)
  (h1 : ¬ k0_cond1 i = 1#1) (h2 : k0_cond2 i = 1#1) :
    Σ' (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty),
      { g15 : BufTy.Contents (Elt F) arg15.view.ty // ∀ (K : PUnit → sProp 𝕄),
        iprop(Held (F := F) c arg2 arg3 arg4 arg5 arg6 arg7 arg8 arg9 arg10 arg11 arg12 arg13 arg14 arg15 f2 f3 f4 f5 f6 f7 f8 f9 f10 f11 f12 f13 f14 f15
            ∗ (Held (F := F) c arg2 arg3 arg4 arg5 arg6 arg7 arg8 arg9 arg10 arg11 arg12 arg13 arg14 arg15 f2 f3 f4 f5 f6 f7 f8 g9 g10 g11 g12 g13 g14 g15 -∗ K ⟨⟩))
          ⊢ wp frame (wpE (defs₀ (F := F)) 𝒱₀ (c : Thread nD τ) none) Set.univ (cc0__body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun K => ?run⟩
  case run =>
    iintro ⟨⟨H2, H3, H4, H5, H6, H7, H8, H9, H10, H11, H12, H13, H14, H15⟩, Hk⟩
    simp only [cc0__body_eq_skeleton]; unfold cc0__body_skel
    sl_exec (disch := assumption)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Proof.Kernel

end
-- ==== Proof.BitsRunC.lean ====
/-
  One run of the kernel's body at a later point of a pair: the steps alone.
-/
module

public import proofs.«01_k».proof.Proof.Gen.Kernel.Skeleton
public import proofs.«01_k».proof.Proof.Gen.Kernel.Frame
public import proofs.«01_k».proof.Proof.BitsLoop
public import proofs.«01_k».proof.Proof.BitsHeld
public import Idealize.ShloMosaic.Lib.Tactic

@[expose] public section

set_option maxRecDepth 16384
set_option maxHeartbeats 40000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The body at a later point of a pair: the steps alone: what it leaves in the buffers it
    writes, found by the run. -/
@[irreducible] def runC (c : Dev nD) (i : grid0.Coords)
  (arg2 : Memref sig .tc .vmem S2x3x7200x128 .i8) (harg2 : arg2.IsWhole)
  (arg3 : Memref sig .tc .smem S10 .f32) (harg3 : arg3.IsWhole)
  (arg4 : Memref sig .tc .vmem S7x3x7x96 .fp8e4m3) (harg4 : arg4.IsWhole)
  (arg5 : Memref sig .tc .vmem S168x1024 .bf16) (harg5 : arg5.IsWhole)
  (arg6 : Memref sig .tc .vmem S96x128 .f32) (harg6 : arg6.IsWhole)
  (arg7 : Memref sig .tc .vmem S96x128 .f32) (harg7 : arg7.IsWhole)
  (arg8 : Memref sig .tc .vmem S96x128 .f32) (harg8 : arg8.IsWhole)
  (arg9 : Memref sig .tc .vmem S2x10x96x320 .bf16) (harg9 : arg9.IsWhole)
  (arg10 : Memref sig .tc .vmem S5x12012x128 .i32) (harg10 : arg10.IsWhole)
  (arg11 : Memref sig .tc .vmem S384x256 .fp8e4m3) (harg11 : arg11.IsWhole)
  (arg12 : Memref sig .tc .vmem S2x8x128 .f32) (harg12 : arg12.IsWhole)
  (arg13 : Memref sig .tc .vmem S3x96x128 .f32) (harg13 : arg13.IsWhole)
  (arg14 : Memref sig .tc .vmem S2x5x96x128 .f32) (harg14 : arg14.IsWhole)
  (arg15 : Memref sig .tc .vmem S2x2x96x128 .f32) (harg15 : arg15.IsWhole)
  (f2 : BufTy.Contents (Elt F) arg2.view.ty)
  (f3 : BufTy.Contents (Elt F) arg3.view.ty)
  (f4 : BufTy.Contents (Elt F) arg4.view.ty)
  (f5 : BufTy.Contents (Elt F) arg5.view.ty)
  (f6 : BufTy.Contents (Elt F) arg6.view.ty)
  (f7 : BufTy.Contents (Elt F) arg7.view.ty)
  (f8 : BufTy.Contents (Elt F) arg8.view.ty)
  (f9 : BufTy.Contents (Elt F) arg9.view.ty)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty)
  (h1 : ¬ k0_cond1 i = 1#1) (h2 : ¬ k0_cond2 i = 1#1) :
    Σ' (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty),
      { g15 : BufTy.Contents (Elt F) arg15.view.ty // ∀ (K : PUnit → sProp 𝕄),
        iprop(Held (F := F) c arg2 arg3 arg4 arg5 arg6 arg7 arg8 arg9 arg10 arg11 arg12 arg13 arg14 arg15 f2 f3 f4 f5 f6 f7 f8 f9 f10 f11 f12 f13 f14 f15
            ∗ (Held (F := F) c arg2 arg3 arg4 arg5 arg6 arg7 arg8 arg9 arg10 arg11 arg12 arg13 arg14 arg15 f2 f3 f4 f5 f6 f7 f8 g9 g10 g11 g12 g13 g14 g15 -∗ K ⟨⟩))
          ⊢ wp frame (wpE (defs₀ (F := F)) 𝒱₀ (c : Thread nD τ) none) Set.univ (cc0__body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun K => ?run⟩
  case run =>
    iintro ⟨⟨H2, H3, H4, H5, H6, H7, H8, H9, H10, H11, H12, H13, H14, H15⟩, Hk⟩
    simp only [cc0__body_eq_skeleton]; unfold cc0__body_skel
    sl_exec (disch := assumption)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Proof.Kernel

end
-- ==== Proof.BitsFrame.lean ====
/-
  The frame of the kernel: at every point the body runs from the windows' blocks and the scratch buffers at any contents
  to the same blocks and the scratch buffers at some contents (one of the three runs, by the point's coordinates); the
  result's window is not named. Hence the run of the whole program.
-/
module

public import proofs.«01_k».proof.Proof.BitsRunA
public import proofs.«01_k».proof.Proof.BitsRunB
public import proofs.«01_k».proof.Proof.BitsRunC
public import Idealize.ShloMosaic.Lib.Pipeline.Covers

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UU nD τ) ℕ

variable (m : (ℓ : Loc nD τ sig) → Buf (Elt F) ℓ) (ρ : Dev nD → PrngReg)

/-- A whole buffer held, in the spelling of the launch and in that of the body. -/
theorem pt_whole (c : Dev nD) (b : Ref sig .tc) (f : Buf (Elt F) ((c : Thread nD τ).loc b)) :
    ((((c : Thread nD τ).loc b) ↦{fullShare} f) : sProp 𝕄)
      = ((Memref.whole b).view.loc (c : Thread nD τ) ↦[(Memref.whole b).view.set]{fullShare} f) := by
  rw [show (Memref.whole b).view.set = Finset.univ from View.set_whole _]

/-- The scratch at any contents, in the spelling of the body. -/
theorem PhiA_eq (c : Dev nD) : (Pipeline.ΦA spec0 c : sProp 𝕄) = iprop(((∃ f, (Memref.whole cc0_scratch0).view.loc (c : Thread nD τ) ↦[(Memref.whole cc0_scratch0).view.set]{fullShare} f) ∗ (∃ f, (Memref.whole cc0_scratch1).view.loc (c : Thread nD τ) ↦[(Memref.whole cc0_scratch1).view.set]{fullShare} f) ∗ (∃ f, (Memref.whole cc0_scratch2).view.loc (c : Thread nD τ) ↦[(Memref.whole cc0_scratch2).view.set]{fullShare} f) ∗ (∃ f, (Memref.whole cc0_scratch3).view.loc (c : Thread nD τ) ↦[(Memref.whole cc0_scratch3).view.set]{fullShare} f) ∗ (∃ f, (Memref.whole cc0_scratch4).view.loc (c : Thread nD τ) ↦[(Memref.whole cc0_scratch4).view.set]{fullShare} f) ∗ (∃ f, (Memref.whole cc0_scratch5).view.loc (c : Thread nD τ) ↦[(Memref.whole cc0_scratch5).view.set]{fullShare} f)) ∗ ∃ r, prngReg c r) := by
  rw [Pipeline.ΦA, scopedRest0_eq]; simp only [pt_whole]

/-- The first point of all is the first point of its pair. -/
theorem cond2_of_cond1 : ∀ i : grid0.Coords, k0_cond1 i = 1#1 → k0_cond2 i = 1#1 := by
  intro i h1
  have h : ∀ t : Fin grid0.N, k0_cond1 (grid0.coords t) = 1#1 → k0_cond2 (grid0.coords t) = 1#1 := by decide +kernel
  obtain ⟨t, rfl⟩ := grid0.coords_surjective i
  exact h t h1

/-- The proof data: each input's buffer at its block, the invariant the scratch at any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Pipeline.Dat.unnamed (7 : Fin cfg0.W) t
  Φ _ := Pipeline.ΦA spec0 c
  q _ := fullShare
  owed _ := 0

/-- The result's window is the one not named. -/
abbrev fgt : Fin cfg0.W → Bool := fun | ⟨7, _⟩ => true | _ => false

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) rfl (after0_0 m c) t d
theorem before0_1 (c : Dev nD) (t : Fin cfg0.N) (d) : (dats m 0 c).before 1 t d = iblk m c 1 t :=
  before0_1_of m (dats m 0 c) rfl (after0_1 m c) t d
theorem before0_2 (c : Dev nD) (t : Fin cfg0.N) (d) : (dats m 0 c).before 2 t d = iblk m c 2 t :=
  before0_2_of m (dats m 0 c) rfl (after0_2 m c) t d
theorem before0_3 (c : Dev nD) (t : Fin cfg0.N) (d) : (dats m 0 c).before 3 t d = iblk m c 3 t :=
  before0_3_of m (dats m 0 c) rfl (after0_3 m c) t d
theorem before0_4 (c : Dev nD) (t : Fin cfg0.N) (d) : (dats m 0 c).before 4 t d = iblk m c 4 t :=
  before0_4_of m (dats m 0 c) rfl (after0_4 m c) t d
theorem before0_5 (c : Dev nD) (t : Fin cfg0.N) (d) : (dats m 0 c).before 5 t d = iblk m c 5 t :=
  before0_5_of m (dats m 0 c) rfl (after0_5 m c) t d
theorem before0_6 (c : Dev nD) (t : Fin cfg0.N) (d) : (dats m 0 c).before 6 t d = iblk m c 6 t :=
  before0_6_of m (dats m 0 c) rfl (after0_6 m c) t d

theorem body_obligation (c : Dev nD) : BodyObligation (dats (F := F) m 0 c) (defs₀ (F := F)) 𝒱₀ () Set.univ fgt := fun t => by
  rw [bigSep_W0, bigSep_W0]
  sl_whnfR [defs₀, Defs.onTc]
  rw [show fgt 0 = false from rfl, show fgt 1 = false from rfl, show fgt 2 = false from rfl, show fgt 3 = false from rfl,
    show fgt 4 = false from rfl, show fgt 5 = false from rfl, show fgt 6 = false from rfl, show fgt 7 = true from rfl]
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6]
  rw [PhiA_eq]
  unfold owns
  iintro ⟨HΦ, Ho, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%X9, %f9, %e9, H9⟩⟩
  icases HΦ with ⟨⟨⟨%f10, H10⟩, ⟨%f11, H11⟩, ⟨%f12, H12⟩, ⟨%f13, H13⟩, ⟨%f14, H14⟩, ⟨%f15, H15⟩⟩, HR⟩
  by_cases h1 : k0_cond1 (grid0.coords t) = 1#1
  · have h2 := cond2_of_cond1 _ h1
    iapply ((runA (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
      f2 f3 f4 f5 f6 f7 f8 f9 f10 f11 f12 f13 f14 f15 h1 h2).2.2.2.2.2.2.2 _)
    isplitl [H2 H3 H4 H5 H6 H7 H8 H9 H10 H11 H12 H13 H14 H15]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    iintro ⟨H2, H3, H4, H5, H6, H7, H8, H9, H10, H11, H12, H13, H14, H15⟩
    isplitl [HR H10 H11 H12 H13 H14 H15]
    · isplitl [H10 H11 H12 H13 H14 H15]
      · isplitl [H10]; · iexists _; iexact H10
        isplitl [H11]; · iexists _; iexact H11
        isplitl [H12]; · iexists _; iexact H12
        isplitl [H13]; · iexists _; iexact H13
        isplitl [H14]; · iexists _; iexact H14
        iexists _; iexact H15
      iexact HR
    isplitl [Ho]; · iexact Ho
    isplitl [H2]
    · iexists _; isplitr; · ipureintro; exact e2
      iexact H2
    isplitl [H3]
    · iexists _; isplitr; · ipureintro; exact e3
      iexact H3
    isplitl [H4]
    · iexists _; isplitr; · ipureintro; exact e4
      iexact H4
    isplitl [H5]
    · iexists _; isplitr; · ipureintro; exact e5
      iexact H5
    isplitl [H6]
    · iexists _; isplitr; · ipureintro; exact e6
      iexact H6
    isplitl [H7]
    · iexists _; isplitr; · ipureintro; exact e7
      iexact H7
    isplitl [H8]
    · iexists _; isplitr; · ipureintro; exact e8
      iexact H8
    iexists _; iexists _; isplitr; swap; · iexact H9
    ipureintro; rfl
  · by_cases h2 : k0_cond2 (grid0.coords t) = 1#1
    · iapply ((runB (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
        f2 f3 f4 f5 f6 f7 f8 f9 f10 f11 f12 f13 f14 f15 h1 h2).2.2.2.2.2.2.2 _)
      isplitl [H2 H3 H4 H5 H6 H7 H8 H9 H10 H11 H12 H13 H14 H15]
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexact H15
      iintro ⟨H2, H3, H4, H5, H6, H7, H8, H9, H10, H11, H12, H13, H14, H15⟩
      isplitl [HR H10 H11 H12 H13 H14 H15]
      · isplitl [H10 H11 H12 H13 H14 H15]
        · isplitl [H10]; · iexists _; iexact H10
          isplitl [H11]; · iexists _; iexact H11
          isplitl [H12]; · iexists _; iexact H12
          isplitl [H13]; · iexists _; iexact H13
          isplitl [H14]; · iexists _; iexact H14
          iexists _; iexact H15
        iexact HR
      isplitl [Ho]; · iexact Ho
      isplitl [H2]
      · iexists _; isplitr; · ipureintro; exact e2
        iexact H2
      isplitl [H3]
      · iexists _; isplitr; · ipureintro; exact e3
        iexact H3
      isplitl [H4]
      · iexists _; isplitr; · ipureintro; exact e4
        iexact H4
      isplitl [H5]
      · iexists _; isplitr; · ipureintro; exact e5
        iexact H5
      isplitl [H6]
      · iexists _; isplitr; · ipureintro; exact e6
        iexact H6
      isplitl [H7]
      · iexists _; isplitr; · ipureintro; exact e7
        iexact H7
      isplitl [H8]
      · iexists _; isplitr; · ipureintro; exact e8
        iexact H8
      iexists _; iexists _; isplitr; swap; · iexact H9
      ipureintro; rfl
    · iapply ((runC (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
        f2 f3 f4 f5 f6 f7 f8 f9 f10 f11 f12 f13 f14 f15 h1 h2).2.2.2.2.2.2.2 _)
      isplitl [H2 H3 H4 H5 H6 H7 H8 H9 H10 H11 H12 H13 H14 H15]
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexact H15
      iintro ⟨H2, H3, H4, H5, H6, H7, H8, H9, H10, H11, H12, H13, H14, H15⟩
      isplitl [HR H10 H11 H12 H13 H14 H15]
      · isplitl [H10 H11 H12 H13 H14 H15]
        · isplitl [H10]; · iexists _; iexact H10
          isplitl [H11]; · iexists _; iexact H11
          isplitl [H12]; · iexists _; iexact H12
          isplitl [H13]; · iexists _; iexact H13
          isplitl [H14]; · iexists _; iexact H14
          iexists _; iexact H15
        iexact HR
      isplitl [Ho]; · iexact Ho
      isplitl [H2]
      · iexists _; isplitr; · ipureintro; exact e2
        iexact H2
      isplitl [H3]
      · iexists _; isplitr; · ipureintro; exact e3
        iexact H3
      isplitl [H4]
      · iexists _; isplitr; · ipureintro; exact e4
        iexact H4
      isplitl [H5]
      · iexists _; isplitr; · ipureintro; exact e5
        iexact H5
      isplitl [H6]
      · iexists _; isplitr; · ipureintro; exact e6
        iexact H6
      isplitl [H7]
      · iexists _; isplitr; · ipureintro; exact e7
        iexact H7
      isplitl [H8]
      · iexists _; isplitr; · ipureintro; exact e8
        iexact H8
      iexists _; iexists _; isplitr; swap; · iexact H9
      ipureintro; rfl

set_option backward.isDefEq.respectTransparency.types false in
/-- Every execution of the program terminates, with every array but the result's at what the library computes from the
    proof data, and every semaphore counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ 𝒱₀ fgt m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: the arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨
      ((h.1 c).2 main_arg0 (Pipeline.mem_restRefs_of main_arg0 (by decide) (by decide))).trans (V_main_arg0 m c),
      (Pipeline.RDat.FramePost.arr_in h.1 c 1 rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_main m ρ)

end Cert.Proof.Kernel

end
-- ==== Proof.IdealTrip.lean ====
/-
  One trip of the loop over the twelve-row groups of the patch build: run once at a symbolic trip. The trip reads the
  codes block (`arg2`) and stores words into the patch buffer (`arg10`); the list of its stores is the witness of
  `trip`. From it the loop's invariant: before trip `k` the patch buffer holds the stores of the trips before `k`.
-/
module

public import proofs.«01_k».proof.Proof.Gen.KernelIdeal.Skeleton
public import proofs.«01_k».proof.Proof.Gen.KernelIdeal.Loops
public import Idealize.ShloMosaic.Lib.Tactic

@[expose] public section

set_option maxRecDepth 16384
set_option maxHeartbeats 40000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

local notation "𝕄" => MT nD τ sig Unit (Elt F) ℕ (UU nD τ) ℕ

/-- What a trip holds: the codes block at `X`, the patch buffer at `f`. -/
abbrev Trip (c : Dev nD) (arg2 : Memref sig .tc .vmem S2x3x7200x128 .i8) (arg10 : Memref sig .tc .vmem S5x12012x128 .i32)
    (X : BufTy.Contents (Elt F) arg2.view.ty) (f : BufTy.Contents (Elt F) arg10.view.ty) : sProp 𝕄 :=
  iprop((arg2.view.loc (c : Thread nD τ) ↦[arg2.view.set]{fullShare} X) ∗ (arg10.view.loc (c : Thread nD τ) ↦[arg10.view.set]{fullShare} f))

section
variable (i : grid0.Coords)
  (arg2 : Memref sig .tc .vmem S2x3x7200x128 .i8) (harg2 : arg2.IsWhole)
  (arg3 : Memref sig .tc .smem S10 .f32) (harg3 : arg3.IsWhole)
  (arg4 : Memref sig .tc .vmem S7x3x7x96 .fp8e4m3) (harg4 : arg4.IsWhole)
  (arg5 : Memref sig .tc .vmem S168x1024 .bf16) (harg5 : arg5.IsWhole)
  (arg6 : Memref sig .tc .vmem S96x128 .f32) (harg6 : arg6.IsWhole)
  (arg7 : Memref sig .tc .vmem S96x128 .f32) (harg7 : arg7.IsWhole)
  (arg8 : Memref sig .tc .vmem S96x128 .f32) (harg8 : arg8.IsWhole)
  (arg9 : Memref sig .tc .vmem S2x10x96x320 .bf16) (harg9 : arg9.IsWhole)
  (arg10 : Memref sig .tc .vmem S5x12012x128 .i32) (harg10 : arg10.IsWhole)
  (arg11 : Memref sig .tc .vmem S384x256 .fp8e4m3) (harg11 : arg11.IsWhole)
  (arg12 : Memref sig .tc .vmem S2x8x128 .f32) (harg12 : arg12.IsWhole)
  (arg13 : Memref sig .tc .vmem S3x96x128 .f32) (harg13 : arg13.IsWhole)
  (arg14 : Memref sig .tc .vmem S2x5x96x128 .f32) (harg14 : arg14.IsWhole)
  (arg15 : Memref sig .tc .vmem S2x2x96x128 .f32) (harg15 : arg15.IsWhole)
  (k0_h2 : k0_cond2 i = 1#1) (v84 v121 v142 v163 v165 : IVec S8x128 32) (v169 : BitVec 32) (v171 : IVec S8x128 32) (v173 : IVec S8x128 1)

/-- One trip, run once: the list of its stores into the patch buffer. -/
@[irreducible] def trip (c : Dev nD) (X : BufTy.Contents (Elt F) arg2.view.ty) (k : Fin k0_t2_loop.trips) :
    { L : List (View.Piece (Elt F) S5x12012x128 .i32) // ∀ (E : Set ℕ) (f : BufTy.Contents (Elt F) arg10.view.ty),
      Trip (F := F) c arg2 arg10 X f
      ⊢ wp frame (wpE (defs₀ (F := F)) 𝒱₀ (c : Thread nD τ) none) E
          (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 k PUnit.unit)
          (fun _ => Trip (F := F) c arg2 arg10 X (arg10.view.writes (Elt F) f L)) } := by
  refine ⟨?_, fun E f => ?run⟩
  case run =>
    unfold k0_t2_body
    iintro ⟨HR, HW⟩
    sl_exec
    sl_step
    sl_close

end

end Cert.Proof.KernelIdeal

end
-- ==== Proof.IdealLoop.lean ====
/-
  The loop over the twelve groups by its invariant: before trip `k` the patch buffer holds the stores of the trips
  before `k` over what it held at entry.
-/
module

public import proofs.«01_k».proof.Proof.Gen.KernelIdeal.Skeleton
public import proofs.«01_k».proof.Proof.Gen.KernelIdeal.Loops
public import proofs.«01_k».proof.Proof.IdealTrip
public import Idealize.ShloMosaic.Lib.Tactic

@[expose] public section

set_option maxRecDepth 16384
set_option maxHeartbeats 40000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section
variable (i : grid0.Coords)
  (arg2 : Memref sig .tc .vmem S2x3x7200x128 .i8) (harg2 : arg2.IsWhole)
  (arg3 : Memref sig .tc .smem S10 .f32) (harg3 : arg3.IsWhole)
  (arg4 : Memref sig .tc .vmem S7x3x7x96 .fp8e4m3) (harg4 : arg4.IsWhole)
  (arg5 : Memref sig .tc .vmem S168x1024 .bf16) (harg5 : arg5.IsWhole)
  (arg6 : Memref sig .tc .vmem S96x128 .f32) (harg6 : arg6.IsWhole)
  (arg7 : Memref sig .tc .vmem S96x128 .f32) (harg7 : arg7.IsWhole)
  (arg8 : Memref sig .tc .vmem S96x128 .f32) (harg8 : arg8.IsWhole)
  (arg9 : Memref sig .tc .vmem S2x10x96x320 .bf16) (harg9 : arg9.IsWhole)
  (arg10 : Memref sig .tc .vmem S5x12012x128 .i32) (harg10 : arg10.IsWhole)
  (arg11 : Memref sig .tc .vmem S384x256 .fp8e4m3) (harg11 : arg11.IsWhole)
  (arg12 : Memref sig .tc .vmem S2x8x128 .f32) (harg12 : arg12.IsWhole)
  (arg13 : Memref sig .tc .vmem S3x96x128 .f32) (harg13 : arg13.IsWhole)
  (arg14 : Memref sig .tc .vmem S2x5x96x128 .f32) (harg14 : arg14.IsWhole)
  (arg15 : Memref sig .tc .vmem S2x2x96x128 .f32) (harg15 : arg15.IsWhole)
  (k0_h2 : k0_cond2 i = 1#1) (v84 v121 v142 v163 v165 : IVec S8x128 32) (v169 : BitVec 32) (v171 : IVec S8x128 32) (v173 : IVec S8x128 1)

/-- Trip `k`'s stores; past the last trip, none. -/
@[irreducible] def tripAt (c : Dev nD) (X : BufTy.Contents (Elt F) arg2.view.ty) (k : ℕ) : List (View.Piece (Elt F) S5x12012x128 .i32) :=
  if h : k < k0_t2_loop.trips then (trip (F := F) i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 c X ⟨k, h⟩).1 else []

theorem tripAt_eq (c : Dev nD) (X : BufTy.Contents (Elt F) arg2.view.ty) (k : Fin k0_t2_loop.trips) :
    tripAt (F := F) i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 c X k.val = (trip (F := F) i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 c X k).1 := by
  unfold tripAt; exact dif_pos k.isLt

/-- The stores of the trips before `k`, last first. -/
def pieces (c : Dev nD) (X : BufTy.Contents (Elt F) arg2.view.ty) : ℕ → List (View.Piece (Elt F) S5x12012x128 .i32)
  | 0 => []
  | k + 1 => tripAt (F := F) i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 c X k ++ pieces c X k

theorem pieces_succ (c : Dev nD) (X : BufTy.Contents (Elt F) arg2.view.ty) (k : Fin k0_t2_loop.trips) :
    pieces (F := F) i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 c X (k.val + 1)
      = (trip (F := F) i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 c X k).1 ++ pieces (F := F) i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 c X k.val := by
  rw [pieces.eq_2, tripAt_eq]

set_option warn.classDefReducibility false in
/-- The loop by its invariant. -/
@[sl_loop] def loopInv_k0_t2 (c : Dev nD) (X : BufTy.Contents (Elt F) arg2.view.ty) (G : BufTy.Contents (Elt F) arg10.view.ty) :
    LoopInvTy_k0_t2 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 where
  inv := fun k _ => iprop((arg2.view.loc (c : Thread nD τ) ↦[arg2.view.set]{fullShare} X)
    ∗ (∃ f, (arg10.view.loc (c : Thread nD τ) ↦[arg10.view.set]{fullShare} f)
        ∗ ⌜f = arg10.view.writes (Elt F) G (pieces (F := F) i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 c X k)⌝))
  step k acc := by
    iintro ⟨HR, ⟨%f, HW, %h⟩⟩
    iapply (wp_wand_r Idealize.ShloMosaic.frame (wpE (defs₀ (F := F)) 𝒱₀ (c : Thread nD τ) none) Set.univ)
    isplitl [HR HW]
    · iapply ((trip (F := F) i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 c X k).2 Set.univ f)
      isplitl [HR]; · iexact HR
      iexact HW
    · iintro %_ ⟨HR, HW⟩
      isplitl [HR]; · iexact HR
      rw [pieces_succ]
      iexists _; isplitl [HW]; · iexact HW
      ipureintro; rw [h, ← View.writes_append]
end

end Cert.Proof.KernelIdeal

end
-- ==== Proof.IdealHeld.lean ====
/-
  The kernel's buffers as the body holds them.
-/
module

public import proofs.«01_k».proof.Proof.Gen.KernelIdeal.Skeleton
public import proofs.«01_k».proof.Proof.Gen.KernelIdeal.Frame
public import proofs.«01_k».proof.Proof.IdealLoop
public import Idealize.ShloMosaic.Lib.Tactic

@[expose] public section

set_option maxRecDepth 16384
set_option maxHeartbeats 40000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The kernel's fourteen buffers, each whole at its contents. -/
abbrev Held (c : Dev nD)
    (arg2 : Memref sig .tc .vmem S2x3x7200x128 .i8)
    (arg3 : Memref sig .tc .smem S10 .f32)
    (arg4 : Memref sig .tc .vmem S7x3x7x96 .fp8e4m3)
    (arg5 : Memref sig .tc .vmem S168x1024 .bf16)
    (arg6 : Memref sig .tc .vmem S96x128 .f32)
    (arg7 : Memref sig .tc .vmem S96x128 .f32)
    (arg8 : Memref sig .tc .vmem S96x128 .f32)
    (arg9 : Memref sig .tc .vmem S2x10x96x320 .bf16)
    (arg10 : Memref sig .tc .vmem S5x12012x128 .i32)
    (arg11 : Memref sig .tc .vmem S384x256 .fp8e4m3)
    (arg12 : Memref sig .tc .vmem S2x8x128 .f32)
    (arg13 : Memref sig .tc .vmem S3x96x128 .f32)
    (arg14 : Memref sig .tc .vmem S2x5x96x128 .f32)
    (arg15 : Memref sig .tc .vmem S2x2x96x128 .f32)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty)
    (f12 : BufTy.Contents (Elt F) arg12.view.ty)
    (f13 : BufTy.Contents (Elt F) arg13.view.ty)
    (f14 : BufTy.Contents (Elt F) arg14.view.ty)
    (f15 : BufTy.Contents (Elt F) arg15.view.ty) : sProp 𝕄 :=
  iprop((arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} f12)
      ∗ (arg13.view.loc (c : Thread nD τ) ↦[arg13.view.set]{fullShare} f13)
      ∗ (arg14.view.loc (c : Thread nD τ) ↦[arg14.view.set]{fullShare} f14)
      ∗ (arg15.view.loc (c : Thread nD τ) ↦[arg15.view.set]{fullShare} f15))

end Cert.Proof.KernelIdeal

end
-- ==== Proof.IdealRunA.lean ====
/-
  One run of the kernel's body at the first point of all: the patch buffer cleared, the weights and the pair's state made, then the steps.
-/
module

public import proofs.«01_k».proof.Proof.Gen.KernelIdeal.Skeleton
public import proofs.«01_k».proof.Proof.Gen.KernelIdeal.Frame
public import proofs.«01_k».proof.Proof.IdealLoop
public import proofs.«01_k».proof.Proof.IdealHeld
public import Idealize.ShloMosaic.Lib.Tactic

@[expose] public section

set_option maxRecDepth 16384
set_option maxHeartbeats 40000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The body at the first point of all: the patch buffer cleared, the weights and the pair's state made, then the steps: what it leaves in the buffers it
    writes, found by the run. -/
@[irreducible] def runA (c : Dev nD) (i : grid0.Coords)
  (arg2 : Memref sig .tc .vmem S2x3x7200x128 .i8) (harg2 : arg2.IsWhole)
  (arg3 : Memref sig .tc .smem S10 .f32) (harg3 : arg3.IsWhole)
  (arg4 : Memref sig .tc .vmem S7x3x7x96 .fp8e4m3) (harg4 : arg4.IsWhole)
  (arg5 : Memref sig .tc .vmem S168x1024 .bf16) (harg5 : arg5.IsWhole)
  (arg6 : Memref sig .tc .vmem S96x128 .f32) (harg6 : arg6.IsWhole)
  (arg7 : Memref sig .tc .vmem S96x128 .f32) (harg7 : arg7.IsWhole)
  (arg8 : Memref sig .tc .vmem S96x128 .f32) (harg8 : arg8.IsWhole)
  (arg9 : Memref sig .tc .vmem S2x10x96x320 .bf16) (harg9 : arg9.IsWhole)
  (arg10 : Memref sig .tc .vmem S5x12012x128 .i32) (harg10 : arg10.IsWhole)
  (arg11 : Memref sig .tc .vmem S384x256 .fp8e4m3) (harg11 : arg11.IsWhole)
  (arg12 : Memref sig .tc .vmem S2x8x128 .f32) (harg12 : arg12.IsWhole)
  (arg13 : Memref sig .tc .vmem S3x96x128 .f32) (harg13 : arg13.IsWhole)
  (arg14 : Memref sig .tc .vmem S2x5x96x128 .f32) (harg14 : arg14.IsWhole)
  (arg15 : Memref sig .tc .vmem S2x2x96x128 .f32) (harg15 : arg15.IsWhole)
  (f2 : BufTy.Contents (Elt F) arg2.view.ty)
  (f3 : BufTy.Contents (Elt F) arg3.view.ty)
  (f4 : BufTy.Contents (Elt F) arg4.view.ty)
  (f5 : BufTy.Contents (Elt F) arg5.view.ty)
  (f6 : BufTy.Contents (Elt F) arg6.view.ty)
  (f7 : BufTy.Contents (Elt F) arg7.view.ty)
  (f8 : BufTy.Contents (Elt F) arg8.view.ty)
  (f9 : BufTy.Contents (Elt F) arg9.view.ty)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty)
  (h1 : k0_cond1 i = 1#1) (h2 : k0_cond2 i = 1#1) :
    Σ' (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty),
      { g15 : BufTy.Contents (Elt F) arg15.view.ty // ∀ (K : PUnit → sProp 𝕄),
        iprop(Held (F := F) c arg2 arg3 arg4 arg5 arg6 arg7 arg8 arg9 arg10 arg11 arg12 arg13 arg14 arg15 f2 f3 f4 f5 f6 f7 f8 f9 f10 f11 f12 f13 f14 f15
            ∗ (Held (F := F) c arg2 arg3 arg4 arg5 arg6 arg7 arg8 arg9 arg10 arg11 arg12 arg13 arg14 arg15 f2 f3 f4 f5 f6 f7 f8 g9 g10 g11 g12 g13 g14 g15 -∗ K ⟨⟩))
          ⊢ wp frame (wpE (defs₀ (F := F)) 𝒱₀ (c : Thread nD τ) none) Set.univ (cc0__body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun K => ?run⟩
  case run =>
    iintro ⟨⟨H2, H3, H4, H5, H6, H7, H8, H9, H10, H11, H12, H13, H14, H15⟩, Hk⟩
    simp only [cc0__body_eq_skeleton]; unfold cc0__body_skel
    sl_exec (disch := assumption)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Proof.KernelIdeal

end
-- ==== Proof.IdealRunB.lean ====
/-
  One run of the kernel's body at the first point of a later pair: the pair's state made, then the steps.
-/
module

public import proofs.«01_k».proof.Proof.Gen.KernelIdeal.Skeleton
public import proofs.«01_k».proof.Proof.Gen.KernelIdeal.Frame
public import proofs.«01_k».proof.Proof.IdealLoop
public import proofs.«01_k».proof.Proof.IdealHeld
public import Idealize.ShloMosaic.Lib.Tactic

@[expose] public section

set_option maxRecDepth 16384
set_option maxHeartbeats 40000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The body at the first point of a later pair: the pair's state made, then the steps: what it leaves in the buffers it
    writes, found by the run. -/
@[irreducible] def runB (c : Dev nD) (i : grid0.Coords)
  (arg2 : Memref sig .tc .vmem S2x3x7200x128 .i8) (harg2 : arg2.IsWhole)
  (arg3 : Memref sig .tc .smem S10 .f32) (harg3 : arg3.IsWhole)
  (arg4 : Memref sig .tc .vmem S7x3x7x96 .fp8e4m3) (harg4 : arg4.IsWhole)
  (arg5 : Memref sig .tc .vmem S168x1024 .bf16) (harg5 : arg5.IsWhole)
  (arg6 : Memref sig .tc .vmem S96x128 .f32) (harg6 : arg6.IsWhole)
  (arg7 : Memref sig .tc .vmem S96x128 .f32) (harg7 : arg7.IsWhole)
  (arg8 : Memref sig .tc .vmem S96x128 .f32) (harg8 : arg8.IsWhole)
  (arg9 : Memref sig .tc .vmem S2x10x96x320 .bf16) (harg9 : arg9.IsWhole)
  (arg10 : Memref sig .tc .vmem S5x12012x128 .i32) (harg10 : arg10.IsWhole)
  (arg11 : Memref sig .tc .vmem S384x256 .fp8e4m3) (harg11 : arg11.IsWhole)
  (arg12 : Memref sig .tc .vmem S2x8x128 .f32) (harg12 : arg12.IsWhole)
  (arg13 : Memref sig .tc .vmem S3x96x128 .f32) (harg13 : arg13.IsWhole)
  (arg14 : Memref sig .tc .vmem S2x5x96x128 .f32) (harg14 : arg14.IsWhole)
  (arg15 : Memref sig .tc .vmem S2x2x96x128 .f32) (harg15 : arg15.IsWhole)
  (f2 : BufTy.Contents (Elt F) arg2.view.ty)
  (f3 : BufTy.Contents (Elt F) arg3.view.ty)
  (f4 : BufTy.Contents (Elt F) arg4.view.ty)
  (f5 : BufTy.Contents (Elt F) arg5.view.ty)
  (f6 : BufTy.Contents (Elt F) arg6.view.ty)
  (f7 : BufTy.Contents (Elt F) arg7.view.ty)
  (f8 : BufTy.Contents (Elt F) arg8.view.ty)
  (f9 : BufTy.Contents (Elt F) arg9.view.ty)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty)
  (h1 : ¬ k0_cond1 i = 1#1) (h2 : k0_cond2 i = 1#1) :
    Σ' (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty),
      { g15 : BufTy.Contents (Elt F) arg15.view.ty // ∀ (K : PUnit → sProp 𝕄),
        iprop(Held (F := F) c arg2 arg3 arg4 arg5 arg6 arg7 arg8 arg9 arg10 arg11 arg12 arg13 arg14 arg15 f2 f3 f4 f5 f6 f7 f8 f9 f10 f11 f12 f13 f14 f15
            ∗ (Held (F := F) c arg2 arg3 arg4 arg5 arg6 arg7 arg8 arg9 arg10 arg11 arg12 arg13 arg14 arg15 f2 f3 f4 f5 f6 f7 f8 g9 g10 g11 g12 g13 g14 g15 -∗ K ⟨⟩))
          ⊢ wp frame (wpE (defs₀ (F := F)) 𝒱₀ (c : Thread nD τ) none) Set.univ (cc0__body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun K => ?run⟩
  case run =>
    iintro ⟨⟨H2, H3, H4, H5, H6, H7, H8, H9, H10, H11, H12, H13, H14, H15⟩, Hk⟩
    simp only [cc0__body_eq_skeleton]; unfold cc0__body_skel
    sl_exec (disch := assumption)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Proof.KernelIdeal

end
-- ==== Proof.IdealRunC.lean ====
/-
  One run of the kernel's body at a later point of a pair: the steps alone.
-/
module

public import proofs.«01_k».proof.Proof.Gen.KernelIdeal.Skeleton
public import proofs.«01_k».proof.Proof.Gen.KernelIdeal.Frame
public import proofs.«01_k».proof.Proof.IdealLoop
public import proofs.«01_k».proof.Proof.IdealHeld
public import Idealize.ShloMosaic.Lib.Tactic

@[expose] public section

set_option maxRecDepth 16384
set_option maxHeartbeats 40000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The body at a later point of a pair: the steps alone: what it leaves in the buffers it
    writes, found by the run. -/
@[irreducible] def runC (c : Dev nD) (i : grid0.Coords)
  (arg2 : Memref sig .tc .vmem S2x3x7200x128 .i8) (harg2 : arg2.IsWhole)
  (arg3 : Memref sig .tc .smem S10 .f32) (harg3 : arg3.IsWhole)
  (arg4 : Memref sig .tc .vmem S7x3x7x96 .fp8e4m3) (harg4 : arg4.IsWhole)
  (arg5 : Memref sig .tc .vmem S168x1024 .bf16) (harg5 : arg5.IsWhole)
  (arg6 : Memref sig .tc .vmem S96x128 .f32) (harg6 : arg6.IsWhole)
  (arg7 : Memref sig .tc .vmem S96x128 .f32) (harg7 : arg7.IsWhole)
  (arg8 : Memref sig .tc .vmem S96x128 .f32) (harg8 : arg8.IsWhole)
  (arg9 : Memref sig .tc .vmem S2x10x96x320 .bf16) (harg9 : arg9.IsWhole)
  (arg10 : Memref sig .tc .vmem S5x12012x128 .i32) (harg10 : arg10.IsWhole)
  (arg11 : Memref sig .tc .vmem S384x256 .fp8e4m3) (harg11 : arg11.IsWhole)
  (arg12 : Memref sig .tc .vmem S2x8x128 .f32) (harg12 : arg12.IsWhole)
  (arg13 : Memref sig .tc .vmem S3x96x128 .f32) (harg13 : arg13.IsWhole)
  (arg14 : Memref sig .tc .vmem S2x5x96x128 .f32) (harg14 : arg14.IsWhole)
  (arg15 : Memref sig .tc .vmem S2x2x96x128 .f32) (harg15 : arg15.IsWhole)
  (f2 : BufTy.Contents (Elt F) arg2.view.ty)
  (f3 : BufTy.Contents (Elt F) arg3.view.ty)
  (f4 : BufTy.Contents (Elt F) arg4.view.ty)
  (f5 : BufTy.Contents (Elt F) arg5.view.ty)
  (f6 : BufTy.Contents (Elt F) arg6.view.ty)
  (f7 : BufTy.Contents (Elt F) arg7.view.ty)
  (f8 : BufTy.Contents (Elt F) arg8.view.ty)
  (f9 : BufTy.Contents (Elt F) arg9.view.ty)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty)
  (h1 : ¬ k0_cond1 i = 1#1) (h2 : ¬ k0_cond2 i = 1#1) :
    Σ' (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty),
      { g15 : BufTy.Contents (Elt F) arg15.view.ty // ∀ (K : PUnit → sProp 𝕄),
        iprop(Held (F := F) c arg2 arg3 arg4 arg5 arg6 arg7 arg8 arg9 arg10 arg11 arg12 arg13 arg14 arg15 f2 f3 f4 f5 f6 f7 f8 f9 f10 f11 f12 f13 f14 f15
            ∗ (Held (F := F) c arg2 arg3 arg4 arg5 arg6 arg7 arg8 arg9 arg10 arg11 arg12 arg13 arg14 arg15 f2 f3 f4 f5 f6 f7 f8 g9 g10 g11 g12 g13 g14 g15 -∗ K ⟨⟩))
          ⊢ wp frame (wpE (defs₀ (F := F)) 𝒱₀ (c : Thread nD τ) none) Set.univ (cc0__body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun K => ?run⟩
  case run =>
    iintro ⟨⟨H2, H3, H4, H5, H6, H7, H8, H9, H10, H11, H12, H13, H14, H15⟩, Hk⟩
    simp only [cc0__body_eq_skeleton]; unfold cc0__body_skel
    sl_exec (disch := assumption)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Proof.KernelIdeal

end
-- ==== Proof.IdealFrame.lean ====
/-
  The frame of the kernel: at every point the body runs from the windows' blocks and the scratch buffers at any contents
  to the same blocks and the scratch buffers at some contents (one of the three runs, by the point's coordinates); the
  result's window is not named. Hence the run of the whole program.
-/
module

public import proofs.«01_k».proof.Proof.IdealRunA
public import proofs.«01_k».proof.Proof.IdealRunB
public import proofs.«01_k».proof.Proof.IdealRunC
public import Idealize.ShloMosaic.Lib.Pipeline.Covers

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UU nD τ) ℕ

variable (m : (ℓ : Loc nD τ sig) → Buf (Elt F) ℓ) (ρ : Dev nD → PrngReg)

/-- A whole buffer held, in the spelling of the launch and in that of the body. -/
theorem pt_whole (c : Dev nD) (b : Ref sig .tc) (f : Buf (Elt F) ((c : Thread nD τ).loc b)) :
    ((((c : Thread nD τ).loc b) ↦{fullShare} f) : sProp 𝕄)
      = ((Memref.whole b).view.loc (c : Thread nD τ) ↦[(Memref.whole b).view.set]{fullShare} f) := by
  rw [show (Memref.whole b).view.set = Finset.univ from View.set_whole _]

/-- The scratch at any contents, in the spelling of the body. -/
theorem PhiA_eq (c : Dev nD) : (Pipeline.ΦA spec0 c : sProp 𝕄) = iprop(((∃ f, (Memref.whole cc0_scratch0).view.loc (c : Thread nD τ) ↦[(Memref.whole cc0_scratch0).view.set]{fullShare} f) ∗ (∃ f, (Memref.whole cc0_scratch1).view.loc (c : Thread nD τ) ↦[(Memref.whole cc0_scratch1).view.set]{fullShare} f) ∗ (∃ f, (Memref.whole cc0_scratch2).view.loc (c : Thread nD τ) ↦[(Memref.whole cc0_scratch2).view.set]{fullShare} f) ∗ (∃ f, (Memref.whole cc0_scratch3).view.loc (c : Thread nD τ) ↦[(Memref.whole cc0_scratch3).view.set]{fullShare} f) ∗ (∃ f, (Memref.whole cc0_scratch4).view.loc (c : Thread nD τ) ↦[(Memref.whole cc0_scratch4).view.set]{fullShare} f) ∗ (∃ f, (Memref.whole cc0_scratch5).view.loc (c : Thread nD τ) ↦[(Memref.whole cc0_scratch5).view.set]{fullShare} f)) ∗ ∃ r, prngReg c r) := by
  rw [Pipeline.ΦA, scopedRest0_eq]; simp only [pt_whole]

/-- The first point of all is the first point of its pair. -/
theorem cond2_of_cond1 : ∀ i : grid0.Coords, k0_cond1 i = 1#1 → k0_cond2 i = 1#1 := by
  intro i h1
  have h : ∀ t : Fin grid0.N, k0_cond1 (grid0.coords t) = 1#1 → k0_cond2 (grid0.coords t) = 1#1 := by decide +kernel
  obtain ⟨t, rfl⟩ := grid0.coords_surjective i
  exact h t h1

/-- The proof data: each input's buffer at its block, the invariant the scratch at any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Pipeline.Dat.unnamed (7 : Fin cfg0.W) t
  Φ _ := Pipeline.ΦA spec0 c
  q _ := fullShare
  owed _ := 0

/-- The result's window is the one not named. -/
abbrev fgt : Fin cfg0.W → Bool := fun | ⟨7, _⟩ => true | _ => false

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) rfl (after0_0 m c) t d
theorem before0_1 (c : Dev nD) (t : Fin cfg0.N) (d) : (dats m 0 c).before 1 t d = iblk m c 1 t :=
  before0_1_of m (dats m 0 c) rfl (after0_1 m c) t d
theorem before0_2 (c : Dev nD) (t : Fin cfg0.N) (d) : (dats m 0 c).before 2 t d = iblk m c 2 t :=
  before0_2_of m (dats m 0 c) rfl (after0_2 m c) t d
theorem before0_3 (c : Dev nD) (t : Fin cfg0.N) (d) : (dats m 0 c).before 3 t d = iblk m c 3 t :=
  before0_3_of m (dats m 0 c) rfl (after0_3 m c) t d
theorem before0_4 (c : Dev nD) (t : Fin cfg0.N) (d) : (dats m 0 c).before 4 t d = iblk m c 4 t :=
  before0_4_of m (dats m 0 c) rfl (after0_4 m c) t d
theorem before0_5 (c : Dev nD) (t : Fin cfg0.N) (d) : (dats m 0 c).before 5 t d = iblk m c 5 t :=
  before0_5_of m (dats m 0 c) rfl (after0_5 m c) t d
theorem before0_6 (c : Dev nD) (t : Fin cfg0.N) (d) : (dats m 0 c).before 6 t d = iblk m c 6 t :=
  before0_6_of m (dats m 0 c) rfl (after0_6 m c) t d

theorem body_obligation (c : Dev nD) : BodyObligation (dats (F := F) m 0 c) (defs₀ (F := F)) 𝒱₀ () Set.univ fgt := fun t => by
  rw [bigSep_W0, bigSep_W0]
  sl_whnfR [defs₀, Defs.onTc]
  rw [show fgt 0 = false from rfl, show fgt 1 = false from rfl, show fgt 2 = false from rfl, show fgt 3 = false from rfl,
    show fgt 4 = false from rfl, show fgt 5 = false from rfl, show fgt 6 = false from rfl, show fgt 7 = true from rfl]
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6]
  rw [PhiA_eq]
  unfold owns
  iintro ⟨HΦ, Ho, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%X9, %f9, %e9, H9⟩⟩
  icases HΦ with ⟨⟨⟨%f10, H10⟩, ⟨%f11, H11⟩, ⟨%f12, H12⟩, ⟨%f13, H13⟩, ⟨%f14, H14⟩, ⟨%f15, H15⟩⟩, HR⟩
  by_cases h1 : k0_cond1 (grid0.coords t) = 1#1
  · have h2 := cond2_of_cond1 _ h1
    iapply ((runA (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
      f2 f3 f4 f5 f6 f7 f8 f9 f10 f11 f12 f13 f14 f15 h1 h2).2.2.2.2.2.2.2 _)
    isplitl [H2 H3 H4 H5 H6 H7 H8 H9 H10 H11 H12 H13 H14 H15]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    iintro ⟨H2, H3, H4, H5, H6, H7, H8, H9, H10, H11, H12, H13, H14, H15⟩
    isplitl [HR H10 H11 H12 H13 H14 H15]
    · isplitl [H10 H11 H12 H13 H14 H15]
      · isplitl [H10]; · iexists _; iexact H10
        isplitl [H11]; · iexists _; iexact H11
        isplitl [H12]; · iexists _; iexact H12
        isplitl [H13]; · iexists _; iexact H13
        isplitl [H14]; · iexists _; iexact H14
        iexists _; iexact H15
      iexact HR
    isplitl [Ho]; · iexact Ho
    isplitl [H2]
    · iexists _; isplitr; · ipureintro; exact e2
      iexact H2
    isplitl [H3]
    · iexists _; isplitr; · ipureintro; exact e3
      iexact H3
    isplitl [H4]
    · iexists _; isplitr; · ipureintro; exact e4
      iexact H4
    isplitl [H5]
    · iexists _; isplitr; · ipureintro; exact e5
      iexact H5
    isplitl [H6]
    · iexists _; isplitr; · ipureintro; exact e6
      iexact H6
    isplitl [H7]
    · iexists _; isplitr; · ipureintro; exact e7
      iexact H7
    isplitl [H8]
    · iexists _; isplitr; · ipureintro; exact e8
      iexact H8
    iexists _; iexists _; isplitr; swap; · iexact H9
    ipureintro; rfl
  · by_cases h2 : k0_cond2 (grid0.coords t) = 1#1
    · iapply ((runB (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
        f2 f3 f4 f5 f6 f7 f8 f9 f10 f11 f12 f13 f14 f15 h1 h2).2.2.2.2.2.2.2 _)
      isplitl [H2 H3 H4 H5 H6 H7 H8 H9 H10 H11 H12 H13 H14 H15]
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexact H15
      iintro ⟨H2, H3, H4, H5, H6, H7, H8, H9, H10, H11, H12, H13, H14, H15⟩
      isplitl [HR H10 H11 H12 H13 H14 H15]
      · isplitl [H10 H11 H12 H13 H14 H15]
        · isplitl [H10]; · iexists _; iexact H10
          isplitl [H11]; · iexists _; iexact H11
          isplitl [H12]; · iexists _; iexact H12
          isplitl [H13]; · iexists _; iexact H13
          isplitl [H14]; · iexists _; iexact H14
          iexists _; iexact H15
        iexact HR
      isplitl [Ho]; · iexact Ho
      isplitl [H2]
      · iexists _; isplitr; · ipureintro; exact e2
        iexact H2
      isplitl [H3]
      · iexists _; isplitr; · ipureintro; exact e3
        iexact H3
      isplitl [H4]
      · iexists _; isplitr; · ipureintro; exact e4
        iexact H4
      isplitl [H5]
      · iexists _; isplitr; · ipureintro; exact e5
        iexact H5
      isplitl [H6]
      · iexists _; isplitr; · ipureintro; exact e6
        iexact H6
      isplitl [H7]
      · iexists _; isplitr; · ipureintro; exact e7
        iexact H7
      isplitl [H8]
      · iexists _; isplitr; · ipureintro; exact e8
        iexact H8
      iexists _; iexists _; isplitr; swap; · iexact H9
      ipureintro; rfl
    · iapply ((runC (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
        f2 f3 f4 f5 f6 f7 f8 f9 f10 f11 f12 f13 f14 f15 h1 h2).2.2.2.2.2.2.2 _)
      isplitl [H2 H3 H4 H5 H6 H7 H8 H9 H10 H11 H12 H13 H14 H15]
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexact H15
      iintro ⟨H2, H3, H4, H5, H6, H7, H8, H9, H10, H11, H12, H13, H14, H15⟩
      isplitl [HR H10 H11 H12 H13 H14 H15]
      · isplitl [H10 H11 H12 H13 H14 H15]
        · isplitl [H10]; · iexists _; iexact H10
          isplitl [H11]; · iexists _; iexact H11
          isplitl [H12]; · iexists _; iexact H12
          isplitl [H13]; · iexists _; iexact H13
          isplitl [H14]; · iexists _; iexact H14
          iexists _; iexact H15
        iexact HR
      isplitl [Ho]; · iexact Ho
      isplitl [H2]
      · iexists _; isplitr; · ipureintro; exact e2
        iexact H2
      isplitl [H3]
      · iexists _; isplitr; · ipureintro; exact e3
        iexact H3
      isplitl [H4]
      · iexists _; isplitr; · ipureintro; exact e4
        iexact H4
      isplitl [H5]
      · iexists _; isplitr; · ipureintro; exact e5
        iexact H5
      isplitl [H6]
      · iexists _; isplitr; · ipureintro; exact e6
        iexact H6
      isplitl [H7]
      · iexists _; isplitr; · ipureintro; exact e7
        iexact H7
      isplitl [H8]
      · iexists _; isplitr; · ipureintro; exact e8
        iexact H8
      iexists _; iexists _; isplitr; swap; · iexact H9
      ipureintro; rfl

set_option backward.isDefEq.respectTransparency.types false in
/-- Every execution of the program terminates, with every array but the result's at what the library computes from the
    proof data, and every semaphore counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ 𝒱₀ fgt m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: the arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨
      ((h.1 c).2 main_arg0 (Pipeline.mem_restRefs_of main_arg0 (by decide) (by decide))).trans (V_main_arg0 m c),
      (Pipeline.RDat.FramePost.arr_in h.1 c 1 rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_main m ρ)

end Cert.Proof.KernelIdeal

end
-- ==== Proof.Blocks.lean ====
/-
  The grid's points and the blocks the windows hold at them.
-/
module

public import proofs.«01_k».proof.Proof.IdealFrame
public import Idealize.ShloMosaic.Lib.ValueIdx
public import Idealize.ShloMosaic.Lib.Pipeline.ValueKit.Geometry

@[expose] public section

set_option maxRecDepth 65536
set_option maxHeartbeats 400000

noncomputable section

namespace Cert.Proof.KernelIdeal

open Cert.KernelIdeal Cert.KernelIdeal.Gen
open Idealize.ShloMosaic Idealize.ShloMosaic.TcCoe Idealize.ShloMosaic.Tactic
open Idealize.SL Idealize.SL.Sem

theorem grid_pair : ∀ t : Fin cfg0.N, (grid0.coords t 0).val = t.val / 18 := (by decide +kernel : ∀ t : Fin grid0.N, _)
theorem grid_blk : ∀ t : Fin cfg0.N, (grid0.coords t 1).val = t.val % 18 := (by decide +kernel : ∀ t : Fin grid0.N, _)
theorem pair_small : ∀ t : Fin cfg0.N, t.val / 18 < 5 := (by decide +kernel : ∀ t : Fin grid0.N, _)
theorem first_blk : ∀ t : Fin cfg0.N, k0_cond2 (grid0.coords t) = 1#1 → t.val % 18 = 0 := (by decide +kernel : ∀ t : Fin grid0.N, _)
theorem cond1_of_zero : ∀ t : Fin cfg0.N, t.val = 0 → k0_cond1 (grid0.coords t) = 1#1 := (by decide +kernel : ∀ t : Fin grid0.N, _)
theorem later_pair : ∀ t : Fin cfg0.N, ¬ k0_cond2 (grid0.coords t) = 1#1 → (t.val - 1) / 18 = t.val / 18 := (by decide +kernel : ∀ t : Fin grid0.N, _)
theorem later_blk : ∀ t : Fin cfg0.N, ¬ k0_cond2 (grid0.coords t) = 1#1 → (t.val - 1) % 18 + 1 = t.val % 18 := (by decide +kernel : ∀ t : Fin grid0.N, _)

theorem idx_0 : ∀ t : Fin cfg0.N, win0_0.index t = ![t.val / 18, 0, 0, 0] := (by decide +kernel : ∀ t : Fin grid0.N, _)
theorem idx_1 : ∀ t : Fin cfg0.N, win0_1.index t = ![0] := (by decide +kernel : ∀ t : Fin grid0.N, _)
theorem idx_2 : ∀ t : Fin cfg0.N, win0_2.index t = ![0, 0, 0, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![t.val / 18, t.val % 18, 0, 0] := (by decide +kernel : ∀ t : Fin grid0.N, _)

variable (m : (ℓ : Loc nD τ sig) → Buf (Elt Ideal) ℓ) (c : Dev nD) (t : Fin cfg0.N)

/-- The two images of a pair, as their planes. -/
def XB (p : ℕ) (y : S2x3x7200x128.Idx) : BitVec 8 := V m c main_v3 (ValueIdx.ix4 ⟨(2 * p + (y 0).val) % 10, Nat.mod_lt _ (by decide)⟩ (y 1) (y 2) (y 3))

theorem iblk_0 : iblk m c 0 t = XB m c (t.val / 18) := by
  funext y
  have hp := pair_small t
  have h0 : (y 0).val < 2 := (y 0).isLt
  show V m c main_v3 ((win0_0.blk t).view.emb y) = V m c main_v3 _
  refine congrArg (V m c main_v3) (funext fun a => Fin.ext ?_)
  match a with
  | ⟨0, _⟩ =>
    show win0_0.index t 0 * 2 + 1 * (y 0).val = (2 * (t.val / 18) + (y 0).val) % 10
    rw [idx_0 t]
    show t.val / 18 * 2 + 1 * (y 0).val = _
    omega
  | ⟨1, _⟩ =>
    show win0_0.index t 1 * 3 + 1 * (y 1).val = (y 1).val
    rw [idx_0 t]
    show 0 * 3 + 1 * (y 1).val = _
    omega
  | ⟨2, _⟩ =>
    show win0_0.index t 2 * 7200 + 1 * (y 2).val = (y 2).val
    rw [idx_0 t]
    show 0 * 7200 + 1 * (y 2).val = _
    omega
  | ⟨3, _⟩ =>
    show win0_0.index t 3 * 128 + 1 * (y 3).val = (y 3).val
    rw [idx_0 t]
    show 0 * 128 + 1 * (y 3).val = _
    omega

theorem iblk_1 : iblk m c 1 t = V m c main_arg1 := by
  funext y
  show V m c main_arg1 ((win0_1.blk t).view.emb y) = V m c main_arg1 y
  refine congrArg (V m c main_arg1) (funext fun a => Fin.ext ?_)
  match a with
  | ⟨0, _⟩ =>
    show win0_1.index t 0 * 10 + 1 * (y 0).val = (y 0).val
    rw [idx_1 t]
    show 0 * 10 + 1 * (y 0).val = _
    omega

theorem iblk_2 : iblk m c 2 t = V m c main_v5 := by
  funext y
  show V m c main_v5 ((win0_2.blk t).view.emb y) = V m c main_v5 y
  refine congrArg (V m c main_v5) (funext fun a => Fin.ext ?_)
  match a with
  | ⟨0, _⟩ =>
    show win0_2.index t 0 * 7 + 1 * (y 0).val = (y 0).val
    rw [idx_2 t]
    show 0 * 7 + 1 * (y 0).val = _
    omega
  | ⟨1, _⟩ =>
    show win0_2.index t 1 * 3 + 1 * (y 1).val = (y 1).val
    rw [idx_2 t]
    show 0 * 3 + 1 * (y 1).val = _
    omega
  | ⟨2, _⟩ =>
    show win0_2.index t 2 * 7 + 1 * (y 2).val = (y 2).val
    rw [idx_2 t]
    show 0 * 7 + 1 * (y 2).val = _
    omega
  | ⟨3, _⟩ =>
    show win0_2.index t 3 * 96 + 1 * (y 3).val = (y 3).val
    rw [idx_2 t]
    show 0 * 96 + 1 * (y 3).val = _
    omega

theorem iblk_3 : iblk m c 3 t = V m c main_cst := by
  funext y
  show V m c main_cst ((win0_3.blk t).view.emb y) = V m c main_cst y
  refine congrArg (V m c main_cst) (funext fun a => Fin.ext ?_)
  match a with
  | ⟨0, _⟩ =>
    show win0_3.index t 0 * 168 + 1 * (y 0).val = (y 0).val
    rw [idx_3 t]
    show 0 * 168 + 1 * (y 0).val = _
    omega
  | ⟨1, _⟩ =>
    show win0_3.index t 1 * 1024 + 1 * (y 1).val = (y 1).val
    rw [idx_3 t]
    show 0 * 1024 + 1 * (y 1).val = _
    omega

theorem iblk_4 : iblk m c 4 t = V m c main_v7 := by
  funext y
  show V m c main_v7 ((win0_4.blk t).view.emb y) = V m c main_v7 y
  refine congrArg (V m c main_v7) (funext fun a => Fin.ext ?_)
  match a with
  | ⟨0, _⟩ =>
    show win0_4.index t 0 * 96 + 1 * (y 0).val = (y 0).val
    rw [idx_4 t]
    show 0 * 96 + 1 * (y 0).val = _
    omega
  | ⟨1, _⟩ =>
    show win0_4.index t 1 * 128 + 1 * (y 1).val = (y 1).val
    rw [idx_4 t]
    show 0 * 128 + 1 * (y 1).val = _
    omega

theorem iblk_5 : iblk m c 5 t = V m c main_v9 := by
  funext y
  show V m c main_v9 ((win0_5.blk t).view.emb y) = V m c main_v9 y
  refine congrArg (V m c main_v9) (funext fun a => Fin.ext ?_)
  match a with
  | ⟨0, _⟩ =>
    show win0_5.index t 0 * 96 + 1 * (y 0).val = (y 0).val
    rw [idx_5 t]
    show 0 * 96 + 1 * (y 0).val = _
    omega
  | ⟨1, _⟩ =>
    show win0_5.index t 1 * 128 + 1 * (y 1).val = (y 1).val
    rw [idx_5 t]
    show 0 * 128 + 1 * (y 1).val = _
    omega

theorem iblk_6 : iblk m c 6 t = V m c main_v11 := by
  funext y
  show V m c main_v11 ((win0_6.blk t).view.emb y) = V m c main_v11 y
  refine congrArg (V m c main_v11) (funext fun a => Fin.ext ?_)
  match a with
  | ⟨0, _⟩ =>
    show win0_6.index t 0 * 96 + 1 * (y 0).val = (y 0).val
    rw [idx_6 t]
    show 0 * 96 + 1 * (y 0).val = _
    omega
  | ⟨1, _⟩ =>
    show win0_6.index t 1 * 128 + 1 * (y 1).val = (y 1).val
    rw [idx_6 t]
    show 0 * 128 + 1 * (y 1).val = _
    omega

end Cert.Proof.KernelIdeal

end
-- ==== Proof.StepMirror.lean ====
/-
  The stores of one step of the row loop, written as a comprehension over side, channel group, row and half, and the
  proof that the lists found by running the step are those comprehensions.
-/
module

public import proofs.«01_k».proof.Proof.IdealTrip

@[expose] public section

set_option maxRecDepth 65536
set_option maxHeartbeats 40000000

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

theorem slices_piece (g : Fin 6) (ph : Fin 4) (half : Fin 2) :
    Shape.Slices S384x256 ![64 * g.val + 16 * ph.val, 128 * half.val] S16x128 := by
  revert g ph half; decide

theorem inb_carry (t : Fin 2) (v : Fin 5) (g : Fin 6) :
    ∀ a, (![t.val, v.val, 16 * g.val, 0] : Fin 4 → ℕ) a + S1x1x16x128.size a ≤ S2x5x96x128.size a := by
  revert t v g; decide
theorem inb_edge (d side : Fin 2) (g : Fin 6) :
    ∀ a, (![d.val, side.val, 16 * g.val, 0] : Fin 4 → ℕ) a + S1x1x16x128.size a ≤ S2x2x96x128.size a := by
  revert d side g; decide
theorem inb_mul (kind : Fin 3) (g : Fin 6) :
    ∀ a, (![kind.val, 16 * g.val, 0] : Fin 3 → ℕ) a + S1x16x128.size a ≤ S3x96x128.size a := by
  revert kind g; decide
theorem inb_bias (g : Fin 6) : ∀ a, (![16 * g.val, 0] : Fin 2 → ℕ) a + S16x128.size a ≤ S96x128.size a := by
  revert g; decide

/-- The tile numbers of the two full tiles of a side. -/
def tileOf (side h : Fin 2) : Fin 5 :=
  match side, h with | 0, 0 => 0 | 0, 1 => 1 | 1, 0 => 3 | 1, 1 => 4

/-- The convolution of two tiles of patches: the prepared weights times the bytes of the words. -/
def convOf (lo hi : IVec S1x64x128 32) (wk : Vec F S384x256 .fp8e4m3) : FVec F S384x256 .f32 :=
  matmul dot_S384x256_S256x256_S384x256_1_0_0_1_n_n none wk
    (bitcastToFloat .fp8e4m3 (bitcast S256x256 8
      (concatenate S64x256 1 [⟨S64x128, shapeCast S64x128 lo shapeCasts_S1x64x128_S64x128⟩, ⟨S64x128, shapeCast S64x128 hi shapeCasts_S1x64x128_S64x128⟩]
        concatenates_S64x128_S64x128_S64x256_d1) bitcasts_S64x256_w32_S256x256_w8))
    (constant S384x256 .f32 0x00000000#32)

/-- One channel group, phase and half of a convolution. -/
def pieceOf (acc : FVec F S384x256 .f32) (g : Fin 6) (ph : Fin 4) (half : Fin 2) : FVec F S16x128 .f32 :=
  extractStridedSlice S16x128 ![64 * g.val + 16 * ph.val, 128 * half.val] acc (slices_piece g ph half)

/-- Scale, bias, clamp at zero, narrow. -/
def finishOf (m : FVec F S16x128 .f32) (mul : FVec F S1x16x128 .f32) (bb : FVec F S16x128 .f32) : FVec F S16x128 .bf16 :=
  truncf .bf16 (maximumf (addf (mulf m (shapeCast S16x128 mul shapeCasts_S1x16x128_S16x128)) (shapeCast S16x128 bb shapeCasts_S16x128_S16x128))
    (broadcast S16x128 (Scalar.ofBits .f32 0x00000000#32))) bitsLt_bf16_f32

section
variable (i : grid0.Coords) (arg8 : Memref sig .tc .vmem S96x128 .f32) (arg10 : Memref sig .tc .vmem S5x12012x128 .i32)
  (arg11 : Memref sig .tc .vmem S384x256 .fp8e4m3) (arg13 : Memref sig .tc .vmem S3x96x128 .f32) (arg14 : Memref sig .tc .vmem S2x5x96x128 .f32)
  (arg15 : Memref sig .tc .vmem S2x2x96x128 .f32) (v8 : IVec S16x128 32)
  (X8 : BufTy.Contents (Elt F) arg8.view.ty) (X10 : BufTy.Contents (Elt F) arg10.view.ty) (X11 : BufTy.Contents (Elt F) arg11.view.ty)
  (X13 : BufTy.Contents (Elt F) arg13.view.ty) (f14 : BufTy.Contents (Elt F) arg14.view.ty) (k : Fin k0_t3_loop.trips)

def wkLoad : Vec F S384x256 .fp8e4m3 :=
  View.readAt (Elt F) arg11.view (Rect.unit (s := S384x256) ![0, 0] S384x256.size inb_S384x256_S384x256_0_0).toLoadRect X11

/-- The convolution of the two full tiles of a side, at the first or second patch of the step. -/
def accOf (side d : Fin 2) : FVec F S384x256 .f32 :=
  match side with
  | 0 => convOf (View.readAt (Elt F) arg10.view (Rect.unit (s := S5x12012x128) (k0_off24 i k (BitVec.ofNat 32 d.val)) S1x64x128.size (k0_off24_inb i k d)).toLoadRect X10)
      (View.readAt (Elt F) arg10.view (Rect.unit (s := S5x12012x128) (k0_off25 i k (BitVec.ofNat 32 d.val)) S1x64x128.size (k0_off25_inb i k d)).toLoadRect X10) (wkLoad arg11 X11)
  | 1 => convOf (View.readAt (Elt F) arg10.view (Rect.unit (s := S5x12012x128) (k0_off38 i k (BitVec.ofNat 32 d.val)) S1x64x128.size (k0_off38_inb i k d)).toLoadRect X10)
      (View.readAt (Elt F) arg10.view (Rect.unit (s := S5x12012x128) (k0_off39 i k (BitVec.ofNat 32 d.val)) S1x64x128.size (k0_off39_inb i k d)).toLoadRect X10) (wkLoad arg11 X11)

/-- The convolution of the shared tile at both patches of the step. -/
def accMid : FVec F S384x256 .f32 :=
  convOf (View.readAt (Elt F) arg10.view (Rect.unit (s := S5x12012x128) (k0_off52 i k) S1x64x128.size (k0_off52_inb i k)).toLoadRect X10)
    (View.readAt (Elt F) arg10.view (Rect.unit (s := S5x12012x128) (k0_off53 i k) S1x64x128.size (k0_off53_inb i k)).toLoadRect X10) (wkLoad arg11 X11)

def carryLoad (t : Fin 2) (v : Fin 5) (g : Fin 6) : FVec F S16x128 .f32 :=
  shapeCast S16x128 (View.readAt (Elt F) arg14.view (Rect.unit (s := S2x5x96x128) ![t.val, v.val, 16 * g.val, 0] S1x1x16x128.size (inb_carry t v g)).toLoadRect f14)
    shapeCasts_S1x1x16x128_S16x128

def mulLoad (kind : Fin 3) (g : Fin 6) : FVec F S1x16x128 .f32 :=
  View.readAt (Elt F) arg13.view (Rect.unit (s := S3x96x128) ![kind.val, 16 * g.val, 0] S1x16x128.size (inb_mul kind g)).toLoadRect X13
def biasLoad (g : Fin 6) : FVec F S16x128 .f32 :=
  View.readAt (Elt F) arg8.view (Rect.unit (s := S96x128) ![16 * g.val, 0] S16x128.size (inb_bias g)).toLoadRect X8

/-- The even (`t = 0`) or odd carried row maximum before row `d` of the step. -/
def carried (side : Fin 2) (g : Fin 6) (t d h : Fin 2) : FVec F S16x128 .f32 :=
  match d with
  | 0 => carryLoad arg14 f14 t (tileOf side h) g
  | 1 => maximumf (pieceOf (accOf i arg10 arg11 X10 X11 k side 0) g (match t with | 0 => 0 | 1 => 1) h)
      (pieceOf (accOf i arg10 arg11 X10 X11 k side 0) g (match t with | 0 => 2 | 1 => 3) h)

/-- The maximum over the rows of the window, of the even or odd columns. -/
def rowMax (side : Fin 2) (g : Fin 6) (t d h : Fin 2) : FVec F S16x128 .f32 :=
  maximumf (carried i arg10 arg11 arg14 X10 X11 f14 k side g t d h)
    (pieceOf (accOf i arg10 arg11 X10 X11 k side d) g (match t with | 0 => 0 | 1 => 1) h)

/-- The odd columns moved one quad to the right. -/
def movedOdd (side : Fin 2) (g : Fin 6) (d h : Fin 2) : FVec F S16x128 .f32 :=
  match h with
  | 0 => select k0_pay5 (rowMax i arg10 arg11 arg14 X10 X11 f14 k side g 1 d 0)
      (dynamicRotate 1 1#32 none (rowMax i arg10 arg11 arg14 X10 X11 f14 k side g 1 d 0) rotates_S16x128_d1)
  | 1 => select k0_pay5 (dynamicRotate 1 1#32 none (rowMax i arg10 arg11 arg14 X10 X11 f14 k side g 1 d 0) rotates_S16x128_d1)
      (dynamicRotate 1 1#32 none (rowMax i arg10 arg11 arg14 X10 X11 f14 k side g 1 d 1) rotates_S16x128_d1)

def outSide (side : Fin 2) (g : Fin 6) (d h : Fin 2) : FVec F S16x128 .bf16 :=
  finishOf (maximumf (maximumf (rowMax i arg10 arg11 arg14 X10 X11 f14 k side g 0 d h) (rowMax i arg10 arg11 arg14 X10 X11 f14 k side g 1 d h))
      (movedOdd i arg10 arg11 arg14 X10 X11 f14 k side g d h))
    (mulLoad arg13 X13 (match side with | 0 => 0 | 1 => 2) g) (biasLoad arg8 X8 g)

def edgeOf (side : Fin 2) (g : Fin 6) (d : Fin 2) : FVec F S16x128 .f32 :=
  match side with
  | 0 => dynamicRotate 1 1#32 none (rowMax i arg10 arg11 arg14 X10 X11 f14 k 0 g 1 d 1) rotates_S16x128_d1
  | 1 => dynamicRotate 1 65#32 none (rowMax i arg10 arg11 arg14 X10 X11 f14 k 1 g 1 d 1) rotates_S16x128_d1

def edgePiece (side : Fin 2) (g : Fin 6) (d : Fin 2) : View.Piece (Elt F) S2x2x96x128 .f32 :=
  ⟨Rect.unit (s := S2x2x96x128) ![d.val, side.val, 16 * g.val, 0] S1x1x16x128.size (inb_edge d side g),
    shapeCast S1x1x16x128 (edgeOf i arg10 arg11 arg14 X10 X11 f14 k side g d) shapeCasts_S16x128_S1x1x16x128⟩

def edgePieces : List (View.Piece (Elt F) S2x2x96x128 .f32) :=
  (([0, 1] : List (Fin 2)).flatMap fun side => ([0, 1, 2, 3, 4, 5] : List (Fin 6)).flatMap fun g => ([0, 1] : List (Fin 2)).map fun d =>
    edgePiece i arg10 arg11 arg14 X10 X11 f14 k side g d).reverse

def edgeLoad (d side : Fin 2) (g : Fin 6) : FVec F S16x128 .f32 :=
  shapeCast S16x128 (arg15.view.readCov (edgePieces i arg10 arg11 arg14 X10 X11 f14 k)
    (Rect.unit (s := S2x2x96x128) ![d.val, side.val, 16 * g.val, 0] S1x1x16x128.size (inb_edge d side g)).toLoadRect) shapeCasts_S1x1x16x128_S16x128

/-- The carried row maximum of the shared tile before row `d`. -/
def carriedMid (g : Fin 6) (t d : Fin 2) : FVec F S16x128 .f32 :=
  match d with
  | 0 => carryLoad arg14 f14 t 2 g
  | 1 => maximumf (pieceOf (accMid i arg10 arg11 X10 X11 k) g (match t with | 0 => 0 | 1 => 1) 0)
      (pieceOf (accMid i arg10 arg11 X10 X11 k) g (match t with | 0 => 2 | 1 => 3) 0)

def rowMaxMid (g : Fin 6) (t d : Fin 2) : FVec F S16x128 .f32 :=
  maximumf (carriedMid i arg10 arg11 arg14 X10 X11 f14 k g t d)
    (pieceOf (accMid i arg10 arg11 X10 X11 k) g (match t with | 0 => 0 | 1 => 1) d)

def movedMid (g : Fin 6) (d : Fin 2) : FVec F S16x128 .f32 :=
  select k0_pay5 (edgeLoad i arg10 arg11 arg14 arg15 X10 X11 f14 k d 0 g)
    (select (cmpi .eq v8 (broadcast S16x128 64#32)) (edgeLoad i arg10 arg11 arg14 arg15 X10 X11 f14 k d 1 g)
      (dynamicRotate 1 1#32 none (rowMaxMid i arg10 arg11 arg14 X10 X11 f14 k g 1 d) rotates_S16x128_d1))

def outMid (g : Fin 6) (d : Fin 2) : FVec F S16x128 .bf16 :=
  finishOf (maximumf (maximumf (rowMaxMid i arg10 arg11 arg14 X10 X11 f14 k g 0 d) (rowMaxMid i arg10 arg11 arg14 X10 X11 f14 k g 1 d))
      (movedMid i arg10 arg11 arg14 arg15 v8 X10 X11 f14 k g d))
    (mulLoad arg13 X13 1 g) (biasLoad arg8 X8 g)

def offSide (side : Fin 2) (g : Fin 6) (d h : Fin 2) : Fin 4 → ℕ :=
  match side, g, h with
  | 0, 0, 0 => k0_off26 k (BitVec.ofNat 32 d.val)
  | 0, 0, 1 => k0_off27 k (BitVec.ofNat 32 d.val)
  | 0, 1, 0 => k0_off28 k (BitVec.ofNat 32 d.val)
  | 0, 1, 1 => k0_off29 k (BitVec.ofNat 32 d.val)
  | 0, 2, 0 => k0_off30 k (BitVec.ofNat 32 d.val)
  | 0, 2, 1 => k0_off31 k (BitVec.ofNat 32 d.val)
  | 0, 3, 0 => k0_off32 k (BitVec.ofNat 32 d.val)
  | 0, 3, 1 => k0_off33 k (BitVec.ofNat 32 d.val)
  | 0, 4, 0 => k0_off34 k (BitVec.ofNat 32 d.val)
  | 0, 4, 1 => k0_off35 k (BitVec.ofNat 32 d.val)
  | 0, 5, 0 => k0_off36 k (BitVec.ofNat 32 d.val)
  | 0, 5, 1 => k0_off37 k (BitVec.ofNat 32 d.val)
  | 1, 0, 0 => k0_off40 k (BitVec.ofNat 32 d.val)
  | 1, 0, 1 => k0_off41 k (BitVec.ofNat 32 d.val)
  | 1, 1, 0 => k0_off42 k (BitVec.ofNat 32 d.val)
  | 1, 1, 1 => k0_off43 k (BitVec.ofNat 32 d.val)
  | 1, 2, 0 => k0_off44 k (BitVec.ofNat 32 d.val)
  | 1, 2, 1 => k0_off45 k (BitVec.ofNat 32 d.val)
  | 1, 3, 0 => k0_off46 k (BitVec.ofNat 32 d.val)
  | 1, 3, 1 => k0_off47 k (BitVec.ofNat 32 d.val)
  | 1, 4, 0 => k0_off48 k (BitVec.ofNat 32 d.val)
  | 1, 4, 1 => k0_off49 k (BitVec.ofNat 32 d.val)
  | 1, 5, 0 => k0_off50 k (BitVec.ofNat 32 d.val)
  | 1, 5, 1 => k0_off51 k (BitVec.ofNat 32 d.val)

theorem offSide_inb (side : Fin 2) (g : Fin 6) (d h : Fin 2) : ∀ a, offSide k side g d h a + S1x1x16x128.size a ≤ S2x10x96x320.size a :=
  match side, g, h with
  | 0, 0, 0 => k0_off26_inb k d
  | 0, 0, 1 => k0_off27_inb k d
  | 0, 1, 0 => k0_off28_inb k d
  | 0, 1, 1 => k0_off29_inb k d
  | 0, 2, 0 => k0_off30_inb k d
  | 0, 2, 1 => k0_off31_inb k d
  | 0, 3, 0 => k0_off32_inb k d
  | 0, 3, 1 => k0_off33_inb k d
  | 0, 4, 0 => k0_off34_inb k d
  | 0, 4, 1 => k0_off35_inb k d
  | 0, 5, 0 => k0_off36_inb k d
  | 0, 5, 1 => k0_off37_inb k d
  | 1, 0, 0 => k0_off40_inb k d
  | 1, 0, 1 => k0_off41_inb k d
  | 1, 1, 0 => k0_off42_inb k d
  | 1, 1, 1 => k0_off43_inb k d
  | 1, 2, 0 => k0_off44_inb k d
  | 1, 2, 1 => k0_off45_inb k d
  | 1, 3, 0 => k0_off46_inb k d
  | 1, 3, 1 => k0_off47_inb k d
  | 1, 4, 0 => k0_off48_inb k d
  | 1, 4, 1 => k0_off49_inb k d
  | 1, 5, 0 => k0_off50_inb k d
  | 1, 5, 1 => k0_off51_inb k d

theorem offSide_eq (side : Fin 2) (g : Fin 6) (d h : Fin 2) : offSide k side g d h = ![side.val, 2 * k.val + d.val, 16 * g.val, 128 * h.val] :=
  match side, g, h with
  | 0, 0, 0 => k0_off26_eq k d
  | 0, 0, 1 => k0_off27_eq k d
  | 0, 1, 0 => k0_off28_eq k d
  | 0, 1, 1 => k0_off29_eq k d
  | 0, 2, 0 => k0_off30_eq k d
  | 0, 2, 1 => k0_off31_eq k d
  | 0, 3, 0 => k0_off32_eq k d
  | 0, 3, 1 => k0_off33_eq k d
  | 0, 4, 0 => k0_off34_eq k d
  | 0, 4, 1 => k0_off35_eq k d
  | 0, 5, 0 => k0_off36_eq k d
  | 0, 5, 1 => k0_off37_eq k d
  | 1, 0, 0 => k0_off40_eq k d
  | 1, 0, 1 => k0_off41_eq k d
  | 1, 1, 0 => k0_off42_eq k d
  | 1, 1, 1 => k0_off43_eq k d
  | 1, 2, 0 => k0_off44_eq k d
  | 1, 2, 1 => k0_off45_eq k d
  | 1, 3, 0 => k0_off46_eq k d
  | 1, 3, 1 => k0_off47_eq k d
  | 1, 4, 0 => k0_off48_eq k d
  | 1, 4, 1 => k0_off49_eq k d
  | 1, 5, 0 => k0_off50_eq k d
  | 1, 5, 1 => k0_off51_eq k d

def offMid (side : Fin 2) (g : Fin 6) (d : Fin 2) : Fin 4 → ℕ :=
  match side, g with
  | 0, 0 => k0_off54 k (BitVec.ofNat 32 d.val)
  | 0, 1 => k0_off56 k (BitVec.ofNat 32 d.val)
  | 0, 2 => k0_off58 k (BitVec.ofNat 32 d.val)
  | 0, 3 => k0_off60 k (BitVec.ofNat 32 d.val)
  | 0, 4 => k0_off62 k (BitVec.ofNat 32 d.val)
  | 0, 5 => k0_off64 k (BitVec.ofNat 32 d.val)
  | 1, 0 => k0_off55 k (BitVec.ofNat 32 d.val)
  | 1, 1 => k0_off57 k (BitVec.ofNat 32 d.val)
  | 1, 2 => k0_off59 k (BitVec.ofNat 32 d.val)
  | 1, 3 => k0_off61 k (BitVec.ofNat 32 d.val)
  | 1, 4 => k0_off63 k (BitVec.ofNat 32 d.val)
  | 1, 5 => k0_off65 k (BitVec.ofNat 32 d.val)

theorem offMid_inb (side : Fin 2) (g : Fin 6) (d : Fin 2) : ∀ a, offMid k side g d a + S1x1x16x64.size a ≤ S2x10x96x320.size a :=
  match side, g with
  | 0, 0 => k0_off54_inb k d
  | 0, 1 => k0_off56_inb k d
  | 0, 2 => k0_off58_inb k d
  | 0, 3 => k0_off60_inb k d
  | 0, 4 => k0_off62_inb k d
  | 0, 5 => k0_off64_inb k d
  | 1, 0 => k0_off55_inb k d
  | 1, 1 => k0_off57_inb k d
  | 1, 2 => k0_off59_inb k d
  | 1, 3 => k0_off61_inb k d
  | 1, 4 => k0_off63_inb k d
  | 1, 5 => k0_off65_inb k d

theorem offMid_eq (side : Fin 2) (g : Fin 6) (d : Fin 2) : offMid k side g d = ![side.val, 2 * k.val + d.val, 16 * g.val, 256] :=
  match side, g with
  | 0, 0 => k0_off54_eq k d
  | 0, 1 => k0_off56_eq k d
  | 0, 2 => k0_off58_eq k d
  | 0, 3 => k0_off60_eq k d
  | 0, 4 => k0_off62_eq k d
  | 0, 5 => k0_off64_eq k d
  | 1, 0 => k0_off55_eq k d
  | 1, 1 => k0_off57_eq k d
  | 1, 2 => k0_off59_eq k d
  | 1, 3 => k0_off61_eq k d
  | 1, 4 => k0_off63_eq k d
  | 1, 5 => k0_off65_eq k d

def sidePiece (side : Fin 2) (g : Fin 6) (d h : Fin 2) : View.Piece (Elt F) S2x10x96x320 .bf16 :=
  ⟨Rect.unit (s := S2x10x96x320) (offSide k side g d h) S1x1x16x128.size (offSide_inb k side g d h),
    shapeCast S1x1x16x128 (outSide i arg8 arg10 arg11 arg13 arg14 X8 X10 X11 X13 f14 k side g d h) shapeCasts_S16x128_S1x1x16x128⟩

def midOut (side : Fin 2) (g : Fin 6) (d : Fin 2) : FVec F S16x128 .bf16 :=
  match side with
  | 0 => outMid i arg8 arg10 arg11 arg13 arg14 arg15 v8 X8 X10 X11 X13 f14 k g d
  | 1 => dynamicRotate 1 64#32 none (outMid i arg8 arg10 arg11 arg13 arg14 arg15 v8 X8 X10 X11 X13 f14 k g d) rotates_S16x128_d1

def midPiece (side : Fin 2) (g : Fin 6) (d : Fin 2) : View.Piece (Elt F) S2x10x96x320 .bf16 :=
  ⟨Rect.unit (s := S2x10x96x320) (offMid k side g d) S1x1x16x64.size (offMid_inb k side g d),
    shapeCast S1x1x16x64 (extractStridedSlice S16x64 ![0, 0] (midOut i arg8 arg10 arg11 arg13 arg14 arg15 v8 X8 X10 X11 X13 f14 k side g d) slices_S16x128_o0_0_S16x64)
      shapeCasts_S16x64_S1x1x16x64⟩

def outPieces : List (View.Piece (Elt F) S2x10x96x320 .bf16) :=
  ((([0, 1] : List (Fin 2)).flatMap fun side => ([0, 1, 2, 3, 4, 5] : List (Fin 6)).flatMap fun g => ([0, 1] : List (Fin 2)).flatMap fun d =>
      ([0, 1] : List (Fin 2)).map fun h => sidePiece i arg8 arg10 arg11 arg13 arg14 X8 X10 X11 X13 f14 k side g d h)
    ++ (([0, 1, 2, 3, 4, 5] : List (Fin 6)).flatMap fun g => ([0, 1] : List (Fin 2)).flatMap fun d =>
      ([0, 1] : List (Fin 2)).map fun side => midPiece i arg8 arg10 arg11 arg13 arg14 arg15 v8 X8 X10 X11 X13 f14 k side g d)).reverse

def carrySide (side : Fin 2) (g : Fin 6) (h t : Fin 2) : View.Piece (Elt F) S2x5x96x128 .f32 :=
  ⟨Rect.unit (s := S2x5x96x128) ![t.val, (tileOf side h).val, 16 * g.val, 0] S1x1x16x128.size (inb_carry t (tileOf side h) g),
    shapeCast S1x1x16x128 (maximumf (pieceOf (accOf i arg10 arg11 X10 X11 k side 1) g (match t with | 0 => 0 | 1 => 1) h)
      (pieceOf (accOf i arg10 arg11 X10 X11 k side 1) g (match t with | 0 => 2 | 1 => 3) h)) shapeCasts_S16x128_S1x1x16x128⟩

def carryMid (g : Fin 6) (t : Fin 2) : View.Piece (Elt F) S2x5x96x128 .f32 :=
  ⟨Rect.unit (s := S2x5x96x128) ![t.val, (2 : Fin 5).val, 16 * g.val, 0] S1x1x16x128.size (inb_carry t 2 g),
    shapeCast S1x1x16x128 (maximumf (pieceOf (accMid i arg10 arg11 X10 X11 k) g (match t with | 0 => 0 | 1 => 1) 1)
      (pieceOf (accMid i arg10 arg11 X10 X11 k) g (match t with | 0 => 2 | 1 => 3) 1)) shapeCasts_S16x128_S1x1x16x128⟩

def carryPieces : List (View.Piece (Elt F) S2x5x96x128 .f32) :=
  ((([0, 1] : List (Fin 2)).flatMap fun side => ([0, 1, 2, 3, 4, 5] : List (Fin 6)).flatMap fun g => ([0, 1] : List (Fin 2)).flatMap fun h =>
      ([0, 1] : List (Fin 2)).map fun t => carrySide i arg10 arg11 X10 X11 k side g h t)
    ++ (([0, 1, 2, 3, 4, 5] : List (Fin 6)).flatMap fun g => ([0, 1] : List (Fin 2)).map fun t => carryMid i arg10 arg11 X10 X11 k g t)).reverse

end

section
variable (i : grid0.Coords)
  (arg2 : Memref sig .tc .vmem S2x3x7200x128 .i8) (harg2 : arg2.IsWhole)
  (arg3 : Memref sig .tc .smem S10 .f32) (harg3 : arg3.IsWhole)
  (arg4 : Memref sig .tc .vmem S7x3x7x96 .fp8e4m3) (harg4 : arg4.IsWhole)
  (arg5 : Memref sig .tc .vmem S168x1024 .bf16) (harg5 : arg5.IsWhole)
  (arg6 : Memref sig .tc .vmem S96x128 .f32) (harg6 : arg6.IsWhole)
  (arg7 : Memref sig .tc .vmem S96x128 .f32) (harg7 : arg7.IsWhole)
  (arg8 : Memref sig .tc .vmem S96x128 .f32) (harg8 : arg8.IsWhole)
  (arg9 : Memref sig .tc .vmem S2x10x96x320 .bf16) (harg9 : arg9.IsWhole)
  (arg10 : Memref sig .tc .vmem S5x12012x128 .i32) (harg10 : arg10.IsWhole)
  (arg11 : Memref sig .tc .vmem S384x256 .fp8e4m3) (harg11 : arg11.IsWhole)
  (arg12 : Memref sig .tc .vmem S2x8x128 .f32) (harg12 : arg12.IsWhole)
  (arg13 : Memref sig .tc .vmem S3x96x128 .f32) (harg13 : arg13.IsWhole)
  (arg14 : Memref sig .tc .vmem S2x5x96x128 .f32) (harg14 : arg14.IsWhole)
  (arg15 : Memref sig .tc .vmem S2x2x96x128 .f32) (harg15 : arg15.IsWhole)
  (v8 : IVec S16x128 32) (arg1 : BitVec 32)
  (X8 : BufTy.Contents (Elt F) arg8.view.ty) (X10 : BufTy.Contents (Elt F) arg10.view.ty) (X11 : BufTy.Contents (Elt F) arg11.view.ty)
  (X13 : BufTy.Contents (Elt F) arg13.view.ty) (f9 : BufTy.Contents (Elt F) arg9.view.ty) (f14 : BufTy.Contents (Elt F) arg14.view.ty)
  (f15 : BufTy.Contents (Elt F) arg15.view.ty) (k : Fin k0_t3_loop.trips)

theorem step_eq (c : Dev nD) :
    tripL_k0_t3 (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg1 v8 X8 X10 X11 X13 k f9 f14 f15
      = (outPieces i arg8 arg10 arg11 arg13 arg14 arg15 v8 X8 X10 X11 X13 f14 k, carryPieces i arg10 arg11 X10 X11 k,
          edgePieces i arg10 arg11 arg14 X10 X11 f14 k) := by
  unfold tripL_k0_t3 trip_k0_t3
  with_unfolding_all rfl

end

end Cert.Proof.KernelIdeal

end
-- ==== Proof.StepPoint.lean ====
/-
  One step of the row loop read at an index: the convolutions as sums over the 256 bytes of a patch, the window maxima,
  and what the step leaves in the result's block and in the carried maxima.
-/
module

public import proofs.«01_k».proof.Proof.StepMirror
public import Idealize.ShloMosaic.Lib.ValueIdx
public import Idealize.ShloMosaic.Lib.MatmulPlain
public import Idealize.ShloMosaic.Lib.BitcastPair
public import Idealize.ShloMosaic.Lib.Pipeline.Value
public import Idealize.ShloMosaic.Lib.KernelVsHost
public import Idealize.ShloMosaic.Lib.Pointwise.Reshape
public import Idealize.ShloMosaic.Lib.Pipeline.FrameBody

@[expose] public section

set_option maxRecDepth 65536
set_option maxHeartbeats 4000000

noncomputable section

namespace Cert.Proof.KernelIdeal

open Cert.KernelIdeal Cert.KernelIdeal.Gen
open Idealize.ShloMosaic hiding ix1 ix2 ix3 ix4 ix5
open Idealize.ShloMosaic.TcCoe Idealize.ShloMosaic.Tactic Idealize.ShloMosaic.ValueIdx

/-- Byte `b` of a word. -/
abbrev wbyte (w : BitVec 32) (b : ℕ) : BitVec 8 := w.extractLsb' (8 * b) 8
/-- The number a code denotes. -/
abbrev dec (b : BitVec 8) : EReal := Ideal.ofBits .fp8e4m3 b

theorem bytes_row (x : IVec S64x256 32) (k n : Fin 256) :
    bitcast S256x256 8 x bitcasts_S64x256_w32_S256x256_w8 (ix2 k n) = wbyte (x (ix2 ⟨k.val / 4, by omega⟩ n)) (k.val % 4) := by
  apply BitVec.eq_of_getLsbD_eq
  intro q hq
  rw [bitcast_getLsbD x _ _ q hq (by decide), BitVec.getLsbD_extractLsb']
  have hr : Shape.row S256x256 (ix2 k n) = k.val := rfl
  have e1 : (Shape.row S256x256 (ix2 k n) * 8 + q) / 32 = k.val / 4 := by rw [hr]; omega
  have e2 : (Shape.row S256x256 (ix2 k n) * 8 + q) % 32 = 8 * (k.val % 4) + q := by rw [hr]; omega
  rw [e2, decide_eq_true hq, Bool.true_and]
  refine congrArg (fun z : BitVec 32 => z.getLsbD _) (congrArg x ?_)
  funext c
  match c with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

theorem cast_tile (x : IVec S1x64x128 32) (r : Fin 64) (l : Fin 128) :
    shapeCast S64x128 x shapeCasts_S1x64x128_S64x128 (ix2 r l) = x (ix3 0 r l) := by
  refine shapeCast_apply _ _ _ _ ?_
  rw [rowMajor_val3 _ 8192 128 rfl rfl, rowMajor_val2 _ 128 rfl]
  simp

/-- The two tiles side by side. -/
theorem pair_tile (lo hi : IVec S1x64x128 32) (h : Fin 2) (r : Fin 64) (l : Fin 128) :
    concatenate S64x256 1 [⟨S64x128, shapeCast S64x128 lo shapeCasts_S1x64x128_S64x128⟩, ⟨S64x128, shapeCast S64x128 hi shapeCasts_S1x64x128_S64x128⟩]
        concatenates_S64x128_S64x128_S64x256_d1 (ix2 r ⟨128 * h.val + l.val, by omega⟩)
      = (match h with | 0 => lo | 1 => hi) (ix3 0 r l) := by
  match h with
  | 0 =>
    refine (concatenate_pair_apply_left (t := S64x256) (s₁ := S64x128) (s₂ := S64x128) 1 _ _ _ _ rfl (ix2 r l) (fun b => ?_)).trans (cast_tile lo r l)
    match b with
    | ⟨0, _⟩ => rfl
    | ⟨1, _⟩ => show l.val = 128 * 0 + l.val; omega
  | 1 =>
    refine (concatenate_pair_apply_right (t := S64x256) (s₁ := S64x128) (s₂ := S64x128) 1 _ _ _ _ rfl rfl (ix2 r l) (fun b hb => ?_) ?_).trans (cast_tile hi r l)
    · match b with
      | ⟨0, _⟩ => rfl
      | ⟨1, _⟩ => exact absurd rfl hb
    · show l.val + 128 = 128 * 1 + l.val; omega

theorem convOf_apply (lo hi : IVec S1x64x128 32) (wk : Vec Ideal S384x256 .fp8e4m3) (m : Fin 384) (h : Fin 2) (l : Fin 128) :
    convOf (F := Ideal) lo hi wk (ix2 m ⟨128 * h.val + l.val, by omega⟩)
      = ∑ k : Fin 256, wk (ix2 m k) * dec (wbyte ((match h with | 0 => lo | 1 => hi) (ix3 0 ⟨k.val / 4, by omega⟩ l)) (k.val % 4)) := by
  unfold convOf
  refine (Ideal.matmul_plain_apply (M := 384) (K := 256) (N := 256) none _ _ _ m ⟨128 * h.val + l.val, by omega⟩).trans ?_
  have hz : (constant (F := Ideal) S384x256 .f32 0x00000000#32) (ix2 m ⟨128 * h.val + l.val, by omega⟩) = 0 := Ideal.ofBits_zero_f32
  rw [hz, zero_add]
  refine Finset.sum_congr rfl fun k _ => congrArg (wk (ix2 m k) * ·) ?_
  show Ideal.ofBits .fp8e4m3 _ = _
  rw [bytes_row, pair_tile]

/-- Row of the prepared weights of channel `ch`, phase `ph`. -/
abbrev mrow (ph : Fin 4) (ch : Fin 96) : Fin 384 := ⟨64 * (ch.val / 16) + 16 * ph.val + ch.val % 16, by omega⟩

/-- The convolution at patch `P`, tile `v`, prepared row `m`, lane `l`. -/
def cv (W : S384x256.Idx → EReal) (R : S5x12012x128.Idx → BitVec 32) (P : ℕ) (v : Fin 5) (m : Fin 384) (l : Fin 128) : EReal :=
  ∑ k : Fin 256, W (ix2 m k) * dec (wbyte (R (ix3 v ⟨(66 * P + k.val / 4) % 12012, Nat.mod_lt _ (by decide)⟩ l)) (k.val % 4))

def ph0 (t : Fin 2) : Fin 4 := match t with | 0 => 0 | 1 => 1
def ph1 (t : Fin 2) : Fin 4 := match t with | 0 => 2 | 1 => 3

/-- The carried maximum before patch `P`, of the even (`t = 0`) or odd columns. -/
def CAR (W : S384x256.Idx → EReal) (R : S5x12012x128.Idx → BitVec 32) (P : ℕ) (t : Fin 2) (v : Fin 5) (ch : Fin 96) (l : Fin 128) : EReal :=
  if P = 1 then cv W R 0 v (mrow (ph1 t) ch) l
  else max (cv W R (P - 1) v (mrow (ph0 t) ch) l) (cv W R (P - 1) v (mrow (ph1 t) ch) l)

/-- The maximum over the three rows of the window that ends in patch `P`. -/
def MX (W : S384x256.Idx → EReal) (R : S5x12012x128.Idx → BitVec 32) (P : ℕ) (t : Fin 2) (v : Fin 5) (ch : Fin 96) (l : Fin 128) : EReal :=
  max (CAR W R P t v ch l) (cv W R P v (mrow (ph0 t) ch) l)

/-- The odd columns one quad to the left. -/
def SH (W : S384x256.Idx → EReal) (R : S5x12012x128.Idx → BitVec 32) (P : ℕ) (v : Fin 5) (ch : Fin 96) (l : Fin 128) : EReal :=
  if l.val = 0 then
    match v with
    | 0 => MX W R P 1 0 ch 0
    | 1 => MX W R P 1 0 ch 127
    | 2 => MX W R P 1 1 ch 127
    | 3 => MX W R P 1 3 ch 0
    | 4 => MX W R P 1 3 ch 127
  else if v = 2 ∧ l.val = 64 then MX W R P 1 4 ch 127
  else MX W R P 1 v ch ⟨l.val - 1, by omega⟩

def kindOf (v : Fin 5) : Fin 3 := match v with | 0 => 0 | 1 => 0 | 2 => 1 | 3 => 2 | 4 => 2

/-- The result at patch `P`, tile `v`, channel `ch`, lane `l`. -/
def FIN (W : S384x256.Idx → EReal) (R : S5x12012x128.Idx → BitVec 32) (M : S3x96x128.Idx → EReal) (B : S96x128.Idx → EReal)
    (P : ℕ) (v : Fin 5) (ch : Fin 96) (l : Fin 128) : EReal :=
  max (max (max (MX W R P 0 v ch l) (MX W R P 1 v ch l)) (SH W R P v ch l) * M (ix3 (kindOf v) ch l) + B (ix2 ch l)) 0

/-- The tile and lane of image `a`, column quad `q`. -/
def tileAt (a : Fin 2) (q : Fin 320) : Fin 5 := if q.val < 256 then tileOf a ⟨q.val / 128 % 2, by omega⟩ else 2
def laneAt (a : Fin 2) (q : Fin 320) : Fin 128 := if q.val < 256 then ⟨q.val % 128, by omega⟩ else ⟨(64 * a.val + (q.val - 256)) % 128, by omega⟩

/-- The block of the result at the point of row block `blk`. -/
def OUT (W : S384x256.Idx → EReal) (R : S5x12012x128.Idx → BitVec 32) (M : S3x96x128.Idx → EReal) (B : S96x128.Idx → EReal)
    (blk : ℕ) (y : S2x10x96x320.Idx) : EReal :=
  FIN W R M B (10 * blk + (y 1).val + 1) (tileAt (y 0) (y 3)) (y 2) (laneAt (y 0) (y 3))

theorem pieceOf_apply (acc : FVec Ideal S384x256 .f32) (g : Fin 6) (ph : Fin 4) (h : Fin 2) (j : Fin 16) (l : Fin 128) :
    pieceOf acc g ph h (ix2 j l) = acc (ix2 (mrow ph ⟨16 * g.val + j.val, by omega⟩) ⟨128 * h.val + l.val, by omega⟩) := by
  unfold pieceOf extractStridedSlice
  refine congrArg acc (funext fun a => Fin.ext ?_)
  match a with
  | ⟨0, _⟩ => show 64 * g.val + 16 * ph.val + j.val = 64 * ((16 * g.val + j.val) / 16) + 16 * ph.val + (16 * g.val + j.val) % 16; omega
  | ⟨1, _⟩ => rfl

section
variable (i : grid0.Coords) (arg8 : Memref sig .tc .vmem S96x128 .f32) (arg10 : Memref sig .tc .vmem S5x12012x128 .i32)
  (arg11 : Memref sig .tc .vmem S384x256 .fp8e4m3) (arg13 : Memref sig .tc .vmem S3x96x128 .f32) (arg14 : Memref sig .tc .vmem S2x5x96x128 .f32)
  (arg15 : Memref sig .tc .vmem S2x2x96x128 .f32)
  (X8 : BufTy.Contents (Elt Ideal) arg8.view.ty) (X10 : BufTy.Contents (Elt Ideal) arg10.view.ty) (X11 : BufTy.Contents (Elt Ideal) arg11.view.ty)
  (X13 : BufTy.Contents (Elt Ideal) arg13.view.ty) (f14 : BufTy.Contents (Elt Ideal) arg14.view.ty) (k : Fin k0_t3_loop.trips)

theorem t3_lt : k.val < 5 := Nat.lt_of_lt_of_le k.isLt k0_t3_abs.2.1
theorem blk_lt : (i 1).val < 18 := (i 1).isLt

theorem wkLoad_apply (m : Fin 384) (n : Fin 256) : wkLoad (F := Ideal) arg11 X11 (ix2 m n) = (View.read (Elt Ideal) arg11.view X11) (ix2 m n) := by
  unfold wkLoad
  rw [View.readAt_apply]
  refine congrArg (View.read (Elt Ideal) arg11.view X11) (funext fun a => Fin.ext ?_)
  match a with
  | ⟨0, _⟩ => show 0 + 1 * m.val = m.val; omega
  | ⟨1, _⟩ => show 0 + 1 * n.val = n.val; omega

/-- One tile of a patch, loaded. -/
theorem tile_apply (off : Fin 3 → ℕ) (inb : ∀ a, off a + S1x64x128.size a ≤ S5x12012x128.size a) (v : Fin 5) (P : ℕ) (hP : P < 182)
    (e : off = ![v.val, 66 * P, 0]) (r : Fin 64) (l : Fin 128) :
    (View.readAt (Elt Ideal) arg10.view (Rect.unit (s := S5x12012x128) off S1x64x128.size inb).toLoadRect X10) (ix3 0 r l)
      = (View.read (Elt Ideal) arg10.view X10) (ix3 v ⟨(66 * P + r.val) % 12012, Nat.mod_lt _ (by decide)⟩ l) := by
  subst e
  rw [View.readAt_apply]
  refine congrArg (View.read (Elt Ideal) arg10.view X10) (funext fun a => Fin.ext ?_)
  match a with
  | ⟨0, _⟩ => show v.val + 1 * 0 = v.val; omega
  | ⟨1, _⟩ => show 66 * P + 1 * r.val = (66 * P + r.val) % 12012; omega
  | ⟨2, _⟩ => show 0 + 1 * l.val = l.val; omega

theorem conv_tiles (offA offB : Fin 3 → ℕ) (inbA : ∀ a, offA a + S1x64x128.size a ≤ S5x12012x128.size a) (inbB : ∀ a, offB a + S1x64x128.size a ≤ S5x12012x128.size a)
    (vA vB : Fin 5) (PA PB : ℕ) (hPA : PA < 182) (hPB : PB < 182) (eA : offA = ![vA.val, 66 * PA, 0]) (eB : offB = ![vB.val, 66 * PB, 0])
    (wk : Vec Ideal S384x256 .fp8e4m3) (hwk : ∀ m n, wk (ix2 m n) = (View.read (Elt Ideal) arg11.view X11) (ix2 m n))
    (m : Fin 384) (h : Fin 2) (l : Fin 128) :
    convOf (F := Ideal) (View.readAt (Elt Ideal) arg10.view (Rect.unit (s := S5x12012x128) offA S1x64x128.size inbA).toLoadRect X10)
      (View.readAt (Elt Ideal) arg10.view (Rect.unit (s := S5x12012x128) offB S1x64x128.size inbB).toLoadRect X10) wk
        (ix2 m ⟨128 * h.val + l.val, by omega⟩)
      = cv (View.read (Elt Ideal) arg11.view X11) (View.read (Elt Ideal) arg10.view X10) (match h with | 0 => PA | 1 => PB) (match h with | 0 => vA | 1 => vB) m l := by
  rw [convOf_apply]
  unfold cv
  refine Finset.sum_congr rfl fun n _ => ?_
  rw [hwk]
  match h with
  | 0 => dsimp only; rw [tile_apply arg10 X10 offA inbA vA PA hPA eA]
  | 1 => dsimp only; rw [tile_apply arg10 X10 offB inbB vB PB hPB eB]

theorem accOf_apply (side d h : Fin 2) (m : Fin 384) (l : Fin 128) :
    accOf (F := Ideal) i arg10 arg11 X10 X11 k side d (ix2 m ⟨128 * h.val + l.val, by omega⟩)
      = cv (View.read (Elt Ideal) arg11.view X11) (View.read (Elt Ideal) arg10.view X10) (10 * (i 1).val + 2 * k.val + 1 + d.val) (tileOf side h) m l := by
  have hk := t3_lt k
  have hb := blk_lt i
  match side with
  | 0 =>
    unfold accOf
    refine (conv_tiles arg10 arg11 X10 X11 _ _ _ _ 0 1 (10 * (i 1).val + 2 * k.val + 1 + d.val) (10 * (i 1).val + 2 * k.val + 1 + d.val) (by omega) (by omega)
      ((k0_off24_eq i k d).trans (by congr 2; omega)) ((k0_off25_eq i k d).trans (by congr 2; omega)) _ (wkLoad_apply arg11 X11) m h l).trans ?_
    match h with | 0 => rfl | 1 => rfl
  | 1 =>
    unfold accOf
    refine (conv_tiles arg10 arg11 X10 X11 _ _ _ _ 3 4 (10 * (i 1).val + 2 * k.val + 1 + d.val) (10 * (i 1).val + 2 * k.val + 1 + d.val) (by omega) (by omega)
      ((k0_off38_eq i k d).trans (by congr 2; omega)) ((k0_off39_eq i k d).trans (by congr 2; omega)) _ (wkLoad_apply arg11 X11) m h l).trans ?_
    match h with | 0 => rfl | 1 => rfl

theorem accMid_apply (d : Fin 2) (m : Fin 384) (l : Fin 128) :
    accMid (F := Ideal) i arg10 arg11 X10 X11 k (ix2 m ⟨128 * d.val + l.val, by omega⟩)
      = cv (View.read (Elt Ideal) arg11.view X11) (View.read (Elt Ideal) arg10.view X10) (10 * (i 1).val + 2 * k.val + 1 + d.val) 2 m l := by
  have hk := t3_lt k
  have hb := blk_lt i
  unfold accMid
  refine (conv_tiles arg10 arg11 X10 X11 _ _ _ _ 2 2 (10 * (i 1).val + 2 * k.val + 1) (10 * (i 1).val + 2 * k.val + 2) (by omega) (by omega)
      ((k0_off52_eq i k).trans (by congr 2; omega)) ((k0_off53_eq i k).trans (by congr 2; omega)) _ (wkLoad_apply arg11 X11) m d l).trans ?_
  match d with | 0 => rfl | 1 => rfl

end

end Cert.Proof.KernelIdeal

end
-- ==== Proof.StepFinish.lean ====
/-
  What one step of the row loop leaves: its pieces of the result's block agree with one function of the prepared weights
  and the patches, and the carried maxima are those of the next step.
-/
module

public import proofs.«01_k».proof.Proof.StepPoint

@[expose] public section

set_option maxRecDepth 65536
set_option maxHeartbeats 400000

noncomputable section

namespace Cert.Proof.KernelIdeal

open Cert.KernelIdeal Cert.KernelIdeal.Gen
open Idealize.ShloMosaic hiding ix1 ix2 ix3 ix4 ix5
open Idealize.ShloMosaic.TcCoe Idealize.ShloMosaic.Tactic Idealize.ShloMosaic.ValueIdx

theorem cast_load {α : Type} (x : S1x1x16x128.Idx → α) (j : Fin 16) (l : Fin 128) :
    shapeCast S16x128 x shapeCasts_S1x1x16x128_S16x128 (ix2 j l) = x (ix4 0 0 j l) := by
  refine shapeCast_apply _ _ _ _ ?_
  rw [rowMajor_val4 _ 2048 2048 128 rfl rfl rfl, rowMajor_val2 _ 128 rfl]
  simp
theorem cast_store {α : Type} (x : S16x128.Idx → α) (a b : Fin 1) (j : Fin 16) (l : Fin 128) :
    shapeCast S1x1x16x128 x shapeCasts_S16x128_S1x1x16x128 (ix4 a b j l) = x (ix2 j l) := by
  obtain rfl := Subsingleton.elim a 0
  obtain rfl := Subsingleton.elim b 0
  refine shapeCast_apply _ _ _ _ ?_
  rw [rowMajor_val4 _ 2048 2048 128 rfl rfl rfl, rowMajor_val2 _ 128 rfl]
  simp
theorem cast_narrow {α : Type} (x : S16x64.Idx → α) (a b : Fin 1) (j : Fin 16) (l : Fin 64) :
    shapeCast S1x1x16x64 x shapeCasts_S16x64_S1x1x16x64 (ix4 a b j l) = x (ix2 j l) := by
  obtain rfl := Subsingleton.elim a 0
  obtain rfl := Subsingleton.elim b 0
  refine shapeCast_apply _ _ _ _ ?_
  rw [rowMajor_val4 _ 1024 1024 64 rfl rfl rfl, rowMajor_val2 _ 64 rfl]
  simp
theorem cast_kind {α : Type} (x : S1x16x128.Idx → α) (j : Fin 16) (l : Fin 128) :
    shapeCast S16x128 x shapeCasts_S1x16x128_S16x128 (ix2 j l) = x (ix3 0 j l) := by
  refine shapeCast_apply _ _ _ _ ?_
  rw [rowMajor_val3 _ 2048 128 rfl rfl, rowMajor_val2 _ 128 rfl]
  simp
theorem cast_same {α : Type} (x : S16x128.Idx → α) (j : Fin 16) (l : Fin 128) :
    shapeCast S16x128 x shapeCasts_S16x128_S16x128 (ix2 j l) = x (ix2 j l) := shapeCast_apply _ _ _ _ rfl

/-- A rotation along the lanes. -/
theorem roll_apply {α : Type} (n : ℕ) (hn : n < 128) (x : S16x128.Idx → α) (j : Fin 16) (l : Fin 128) :
    dynamicRotate 1 (BitVec.ofNat 32 n) none x rotates_S16x128_d1 (ix2 j l) = x (ix2 j ⟨(l.val + 128 - n) % 128, Nat.mod_lt _ (by decide)⟩) := by
  refine dynamicRotate_apply _ _ _ _ _ _ fun b => ?_
  have e : (BitVec.ofNat 32 n).toNat = n := by rw [BitVec.toNat_ofNat]; omega
  match b with
  | ⟨0, _⟩ => rfl
  | ⟨1, _⟩ =>
    rw [e]
    show (l.val + 128 - n) % 128 = (l.val + 128 - n % 128) % 128
    omega

theorem first_lane (l : Fin 128) (j : Fin 16) : k0_pay5 (ix2 j l) = if l.val = 0 then 1#1 else 0#1 := by
  revert l j; decide +kernel

/-- The lane of an element. -/
abbrev lanes : IVec S16x128 32 := iota .tc S16x128 32 [1] iota_S16x128_d1_w32

theorem mid_lane (l : Fin 128) (j : Fin 16) : (cmpi .eq lanes (broadcast S16x128 64#32)) (ix2 j l) = if l.val = 64 then 1#1 else 0#1 := by
  revert l j; decide +kernel

theorem finishOf_apply (m : FVec Ideal S16x128 .f32) (mul : FVec Ideal S1x16x128 .f32) (bb : FVec Ideal S16x128 .f32) (j : Fin 16) (l : Fin 128) :
    finishOf m mul bb (ix2 j l) = max (m (ix2 j l) * mul (ix3 0 j l) + bb (ix2 j l)) 0 := by
  unfold finishOf
  show max (m (ix2 j l) * shapeCast S16x128 mul shapeCasts_S1x16x128_S16x128 (ix2 j l) + shapeCast S16x128 bb shapeCasts_S16x128_S16x128 (ix2 j l))
    (Ideal.ofBits .f32 0x00000000#32) = _
  rw [cast_kind, cast_same, Ideal.ofBits_zero_f32]

theorem max3_apply (a b c : FVec Ideal S16x128 .f32) (q : S16x128.Idx) : maximumf (maximumf a b) c q = max (max (a q) (b q)) (c q) := rfl
theorem max2_apply (a b : FVec Ideal S16x128 .f32) (q : S16x128.Idx) : maximumf a b q = max (a q) (b q) := rfl

theorem exists_tile (x : S1x1x16x128.Idx) : ∃ (j : Fin 16) (l : Fin 128), x = ix4 0 0 j l := by
  refine ⟨x 2, x 3, funext fun a => ?_⟩
  match a with
  | ⟨0, _⟩ => exact Subsingleton.elim (α := Fin 1) _ _
  | ⟨1, _⟩ => exact Subsingleton.elim (α := Fin 1) _ _
  | ⟨2, _⟩ => rfl
  | ⟨3, _⟩ => rfl
theorem exists_half (x : S1x1x16x64.Idx) : ∃ (j : Fin 16) (l : Fin 64), x = ix4 0 0 j l := by
  refine ⟨x 2, x 3, funext fun a => ?_⟩
  match a with
  | ⟨0, _⟩ => exact Subsingleton.elim (α := Fin 1) _ _
  | ⟨1, _⟩ => exact Subsingleton.elim (α := Fin 1) _ _
  | ⟨2, _⟩ => rfl
  | ⟨3, _⟩ => rfl

attribute [local irreducible] cv

abbrev chOf (g : Fin 6) (j : Fin 16) : Fin 96 := ⟨16 * g.val + j.val, by omega⟩

section
variable (i : grid0.Coords) (arg8 : Memref sig .tc .vmem S96x128 .f32) (arg10 : Memref sig .tc .vmem S5x12012x128 .i32)
  (arg11 : Memref sig .tc .vmem S384x256 .fp8e4m3) (arg13 : Memref sig .tc .vmem S3x96x128 .f32) (arg14 : Memref sig .tc .vmem S2x5x96x128 .f32)
  (arg15 : Memref sig .tc .vmem S2x2x96x128 .f32)
  (X8 : BufTy.Contents (Elt Ideal) arg8.view.ty) (X10 : BufTy.Contents (Elt Ideal) arg10.view.ty) (X11 : BufTy.Contents (Elt Ideal) arg11.view.ty)
  (X13 : BufTy.Contents (Elt Ideal) arg13.view.ty) (f14 : BufTy.Contents (Elt Ideal) arg14.view.ty) (k : Fin k0_t3_loop.trips)

theorem mulLoad_apply (kind : Fin 3) (g : Fin 6) (j : Fin 16) (l : Fin 128) :
    mulLoad (F := Ideal) arg13 X13 kind g (ix3 0 j l) = (View.read (Elt Ideal) arg13.view X13) (ix3 kind (chOf g j) l) := by
  unfold mulLoad
  rw [View.readAt_apply]
  refine congrArg (View.read (Elt Ideal) arg13.view X13) (funext fun a => Fin.ext ?_)
  match a with
  | ⟨0, _⟩ => show kind.val + 1 * 0 = kind.val; omega
  | ⟨1, _⟩ => show 16 * g.val + 1 * j.val = 16 * g.val + j.val; omega
  | ⟨2, _⟩ => show 0 + 1 * l.val = l.val; omega

theorem biasLoad_apply (g : Fin 6) (j : Fin 16) (l : Fin 128) :
    biasLoad (F := Ideal) arg8 X8 g (ix2 j l) = (View.read (Elt Ideal) arg8.view X8) (ix2 (chOf g j) l) := by
  unfold biasLoad
  rw [View.readAt_apply]
  refine congrArg (View.read (Elt Ideal) arg8.view X8) (funext fun a => Fin.ext ?_)
  match a with
  | ⟨0, _⟩ => show 16 * g.val + 1 * j.val = 16 * g.val + j.val; omega
  | ⟨1, _⟩ => show 0 + 1 * l.val = l.val; omega

theorem carryLoad_apply (t : Fin 2) (v : Fin 5) (g : Fin 6) (j : Fin 16) (l : Fin 128) :
    carryLoad (F := Ideal) arg14 f14 t v g (ix2 j l) = View.read (Elt Ideal) arg14.view f14 (ix4 t v (chOf g j) l) := by
  unfold carryLoad
  rw [cast_load, View.readAt_apply]
  refine congrArg (View.read (Elt Ideal) arg14.view f14) (funext fun a => Fin.ext ?_)
  match a with
  | ⟨0, _⟩ => show t.val + 1 * 0 = t.val; omega
  | ⟨1, _⟩ => show v.val + 1 * 0 = v.val; omega
  | ⟨2, _⟩ => show 16 * g.val + 1 * j.val = 16 * g.val + j.val; omega
  | ⟨3, _⟩ => show 0 + 1 * l.val = l.val; omega

/-- The carried maxima are those before patch `P`. -/
def Carries (P : ℕ) (f14 : BufTy.Contents (Elt Ideal) arg14.view.ty) : Prop :=
  ∀ t v ch l, View.read (Elt Ideal) arg14.view f14 (ix4 t v ch l) = CAR (View.read (Elt Ideal) arg11.view X11) (View.read (Elt Ideal) arg10.view X10) P t v ch l

theorem rowMax_apply (hC : Carries arg10 arg11 arg14 X10 X11 (10 * (i 1).val + 2 * k.val + 1) f14)
    (side : Fin 2) (g : Fin 6) (t d h : Fin 2) (j : Fin 16) (l : Fin 128) :
    rowMax (F := Ideal) i arg10 arg11 arg14 X10 X11 f14 k side g t d h (ix2 j l)
      = MX (View.read (Elt Ideal) arg11.view X11) (View.read (Elt Ideal) arg10.view X10) (10 * (i 1).val + 2 * k.val + 1 + d.val) t (tileOf side h) (chOf g j) l := by
  unfold rowMax MX
  refine congrArg₂ max ?_ ?_
  · match d with
    | 0 =>
      show carryLoad (F := Ideal) arg14 f14 t (tileOf side h) g (ix2 j l) = _
      rw [carryLoad_apply, hC]; rfl
    | 1 =>
      unfold CAR
      rw [if_neg (show ¬ 10 * (i 1).val + 2 * k.val + 1 + (1 : Fin 2).val = 1 by show ¬ _ + 1 = 1; omega)]
      refine congrArg₂ max ?_ ?_
      · rw [pieceOf_apply, accOf_apply]; match t with | 0 => rfl | 1 => rfl
      · rw [pieceOf_apply, accOf_apply]; match t with | 0 => rfl | 1 => rfl
  · rw [pieceOf_apply, accOf_apply]; match t with | 0 => rfl | 1 => rfl

theorem rowMaxMid_apply (hC : Carries arg10 arg11 arg14 X10 X11 (10 * (i 1).val + 2 * k.val + 1) f14)
    (g : Fin 6) (t d : Fin 2) (j : Fin 16) (l : Fin 128) :
    rowMaxMid (F := Ideal) i arg10 arg11 arg14 X10 X11 f14 k g t d (ix2 j l)
      = MX (View.read (Elt Ideal) arg11.view X11) (View.read (Elt Ideal) arg10.view X10) (10 * (i 1).val + 2 * k.val + 1 + d.val) t 2 (chOf g j) l := by
  unfold rowMaxMid MX
  refine congrArg₂ max ?_ ?_
  · match d with
    | 0 =>
      show carryLoad (F := Ideal) arg14 f14 t 2 g (ix2 j l) = _
      rw [carryLoad_apply, hC]; rfl
    | 1 =>
      unfold CAR
      rw [if_neg (show ¬ 10 * (i 1).val + 2 * k.val + 1 + (1 : Fin 2).val = 1 by show ¬ _ + 1 = 1; omega)]
      refine congrArg₂ max ?_ ?_
      · rw [pieceOf_apply, accMid_apply]; match t with | 0 => rfl | 1 => rfl
      · rw [pieceOf_apply, accMid_apply]; match t with | 0 => rfl | 1 => rfl
  · rw [pieceOf_apply, accMid_apply]; match t with | 0 => rfl | 1 => rfl

theorem select_if {α : Type} (c : S16x128.Idx → BitVec 1) (x y : S16x128.Idx → α) (q : S16x128.Idx) (p : Prop) [Decidable p]
    (hc : c q = if p then 1#1 else 0#1) : select c x y q = if p then x q else y q := by
  by_cases hp : p
  · rw [if_pos hp] at hc ⊢; show (if c q = 1#1 then x q else y q) = _; rw [hc, if_pos rfl]
  · rw [if_neg hp] at hc ⊢; show (if c q = 1#1 then x q else y q) = _; rw [hc, if_neg (by decide)]

theorem movedOdd_apply (hC : Carries arg10 arg11 arg14 X10 X11 (10 * (i 1).val + 2 * k.val + 1) f14)
    (side : Fin 2) (g : Fin 6) (d h : Fin 2) (j : Fin 16) (l : Fin 128) :
    movedOdd (F := Ideal) i arg10 arg11 arg14 X10 X11 f14 k side g d h (ix2 j l)
      = SH (View.read (Elt Ideal) arg11.view X11) (View.read (Elt Ideal) arg10.view X10) (10 * (i 1).val + 2 * k.val + 1 + d.val) (tileOf side h) (chOf g j) l := by
  have hz : ∀ (l : Fin 128), l.val = 0 → l = 0 := fun l hl => Fin.ext hl
  have hm : ∀ (l : Fin 128) (p : (l.val + 128 - 1) % 128 < 128), l.val = 0 → (⟨(l.val + 128 - 1) % 128, p⟩ : Fin 128) = 127 :=
    fun l _ hl => Fin.ext (by show (l.val + 128 - 1) % 128 = 127; omega)
  have hp : ∀ (l : Fin 128) (p : (l.val + 128 - 1) % 128 < 128) (q : l.val - 1 < 128), ¬ l.val = 0 → (⟨(l.val + 128 - 1) % 128, p⟩ : Fin 128) = ⟨l.val - 1, q⟩ :=
    fun l _ _ hl => Fin.ext (by show (l.val + 128 - 1) % 128 = l.val - 1; omega)
  unfold SH
  match h with
  | 0 =>
    show select k0_pay5 _ _ _ = _
    rw [select_if _ _ _ _ _ (first_lane l j), roll_apply 1 (by decide), rowMax_apply i arg10 arg11 arg14 X10 X11 f14 k hC, rowMax_apply i arg10 arg11 arg14 X10 X11 f14 k hC]
    by_cases hl : l.val = 0
    · rw [if_pos hl, if_pos hl, hz l hl]
      match side with | 0 => rfl | 1 => rfl
    · rw [if_neg hl, if_neg hl, if_neg (by rintro ⟨h2, _⟩; revert h2; revert side; decide), hp l _ _ hl]
  | 1 =>
    show select k0_pay5 _ _ _ = _
    rw [select_if _ _ _ _ _ (first_lane l j), roll_apply 1 (by decide), roll_apply 1 (by decide), rowMax_apply i arg10 arg11 arg14 X10 X11 f14 k hC, rowMax_apply i arg10 arg11 arg14 X10 X11 f14 k hC]
    by_cases hl : l.val = 0
    · rw [if_pos hl, if_pos hl, hm l _ hl]
      match side with | 0 => rfl | 1 => rfl
    · rw [if_neg hl, if_neg hl, if_neg (by rintro ⟨h2, _⟩; revert h2; revert side; decide), hp l _ _ hl]

theorem outSide_apply (hC : Carries arg10 arg11 arg14 X10 X11 (10 * (i 1).val + 2 * k.val + 1) f14)
    (side : Fin 2) (g : Fin 6) (d h : Fin 2) (j : Fin 16) (l : Fin 128) :
    outSide (F := Ideal) i arg8 arg10 arg11 arg13 arg14 X8 X10 X11 X13 f14 k side g d h (ix2 j l)
      = FIN (View.read (Elt Ideal) arg11.view X11) (View.read (Elt Ideal) arg10.view X10) (View.read (Elt Ideal) arg13.view X13) (View.read (Elt Ideal) arg8.view X8) (10 * (i 1).val + 2 * k.val + 1 + d.val) (tileOf side h) (chOf g j) l := by
  have e : outSide (F := Ideal) i arg8 arg10 arg11 arg13 arg14 X8 X10 X11 X13 f14 k side g d h
      = finishOf (maximumf (maximumf (rowMax i arg10 arg11 arg14 X10 X11 f14 k side g 0 d h) (rowMax i arg10 arg11 arg14 X10 X11 f14 k side g 1 d h))
          (movedOdd i arg10 arg11 arg14 X10 X11 f14 k side g d h)) (mulLoad arg13 X13 (kindOf (tileOf side h)) g) (biasLoad arg8 X8 g) := by
    match side, h with | 0, 0 => rfl | 0, 1 => rfl | 1, 0 => rfl | 1, 1 => rfl
  unfold FIN
  rw [e, finishOf_apply, biasLoad_apply, mulLoad_apply, max3_apply]
  rw [rowMax_apply i arg10 arg11 arg14 X10 X11 f14 k hC, rowMax_apply i arg10 arg11 arg14 X10 X11 f14 k hC, movedOdd_apply i arg10 arg11 arg14 X10 X11 f14 k hC]

theorem edge_cover (d side : Fin 2) (g : Fin 6) :
    edgePiece (F := Ideal) i arg10 arg11 arg14 X10 X11 f14 k side g d ∈ edgePieces (F := Ideal) i arg10 arg11 arg14 X10 X11 f14 k := by
  unfold edgePieces
  rw [List.mem_reverse, List.mem_flatMap]
  refine ⟨side, by revert side; decide, ?_⟩
  rw [List.mem_flatMap]
  refine ⟨g, by revert g; decide, ?_⟩
  rw [List.mem_map]
  exact ⟨d, by revert d; decide, rfl⟩

/-- What the edge buffer holds. -/
def EDGE (P0 : ℕ) (W : S384x256.Idx → EReal) (R : S5x12012x128.Idx → BitVec 32) (y : S2x2x96x128.Idx) : EReal :=
  MX W R (P0 + (y 0).val) 1 (tileOf (y 1) 1) (y 2) ⟨((y 3).val + 128 - (if (y 1).val = 0 then 1 else 65)) % 128, Nat.mod_lt _ (by decide)⟩

theorem edge_agree (hC : Carries arg10 arg11 arg14 X10 X11 (10 * (i 1).val + 2 * k.val + 1) f14) :
    ∀ p ∈ edgePieces (F := Ideal) i arg10 arg11 arg14 X10 X11 f14 k, ∀ x, p.2 x = EDGE (10 * (i 1).val + 2 * k.val + 1) (View.read (Elt Ideal) arg11.view X11) (View.read (Elt Ideal) arg10.view X10) (p.1.emb x) := by
  intro p hp
  unfold edgePieces at hp
  rw [List.mem_reverse, List.mem_flatMap] at hp
  obtain ⟨side, -, hp⟩ := hp
  rw [List.mem_flatMap] at hp
  obtain ⟨g, -, hp⟩ := hp
  rw [List.mem_map] at hp
  obtain ⟨d, -, rfl⟩ := hp
  intro x
  obtain ⟨j, l, rfl⟩ := exists_tile x
  have he : (edgePiece (F := Ideal) i arg10 arg11 arg14 X10 X11 f14 k side g d).1.emb (ix4 0 0 j l) = ix4 d side (chOf g j) l := by
    funext a; refine Fin.ext ?_
    match a with
    | ⟨0, _⟩ => show d.val + 1 * 0 = d.val; omega
    | ⟨1, _⟩ => show side.val + 1 * 0 = side.val; omega
    | ⟨2, _⟩ => show 16 * g.val + 1 * j.val = 16 * g.val + j.val; omega
    | ⟨3, _⟩ => show 0 + 1 * l.val = l.val; omega
  rw [he]
  show shapeCast S1x1x16x128 (edgeOf (F := Ideal) i arg10 arg11 arg14 X10 X11 f14 k side g d) shapeCasts_S16x128_S1x1x16x128 (ix4 0 0 j l) = _
  rw [cast_store]
  match side with
  | 0 =>
    rw [show edgeOf (F := Ideal) i arg10 arg11 arg14 X10 X11 f14 k 0 g d = dynamicRotate 1 1#32 none (rowMax i arg10 arg11 arg14 X10 X11 f14 k 0 g 1 d 1) rotates_S16x128_d1 from rfl]
    rw [roll_apply 1 (by decide), rowMax_apply i arg10 arg11 arg14 X10 X11 f14 k hC]; rfl
  | 1 =>
    rw [show edgeOf (F := Ideal) i arg10 arg11 arg14 X10 X11 f14 k 1 g d = dynamicRotate 1 65#32 none (rowMax i arg10 arg11 arg14 X10 X11 f14 k 1 g 1 d 1) rotates_S16x128_d1 from rfl]
    rw [roll_apply 65 (by decide), rowMax_apply i arg10 arg11 arg14 X10 X11 f14 k hC]; rfl

theorem edgeLoad_apply (hC : Carries arg10 arg11 arg14 X10 X11 (10 * (i 1).val + 2 * k.val + 1) f14)
    (d side : Fin 2) (g : Fin 6) (j : Fin 16) (l : Fin 128) :
    edgeLoad (F := Ideal) i arg10 arg11 arg14 arg15 X10 X11 f14 k d side g (ix2 j l)
      = EDGE (10 * (i 1).val + 2 * k.val + 1) (View.read (Elt Ideal) arg11.view X11) (View.read (Elt Ideal) arg10.view X10) (ix4 d side (chOf g j) l) := by
  have hi : (Rect.unit (s := S2x2x96x128) ![d.val, side.val, 16 * g.val, 0] S1x1x16x128.size (inb_edge d side g)).emb (ix4 0 0 j l)
      = ix4 d side (chOf g j) l := by
    funext a; refine Fin.ext ?_
    match a with
    | ⟨0, _⟩ => show d.val + 1 * 0 = d.val; omega
    | ⟨1, _⟩ => show side.val + 1 * 0 = side.val; omega
    | ⟨2, _⟩ => show 16 * g.val + 1 * j.val = 16 * g.val + j.val; omega
    | ⟨3, _⟩ => show 0 + 1 * l.val = l.val; omega
  unfold edgeLoad
  rw [cast_load]
  show View.read (Elt Ideal) arg15.view (arg15.view.writes (Elt Ideal) arg15.view.junk _)
    ((Rect.unit (s := S2x2x96x128) ![d.val, side.val, 16 * g.val, 0] S1x1x16x128.size (inb_edge d side g)).emb (ix4 0 0 j l)) = _
  rw [← hi]
  refine View.read_writes_apply_of_pieces _ _ _ _ (edge_agree i arg10 arg11 arg14 X10 X11 f14 k hC) _ ?_
  exact ⟨_, edge_cover i arg10 arg11 arg14 X10 X11 f14 k d side g, LoadRect.idx_mem _ _⟩

theorem movedMid_apply (hC : Carries arg10 arg11 arg14 X10 X11 (10 * (i 1).val + 2 * k.val + 1) f14)
    (g : Fin 6) (d : Fin 2) (j : Fin 16) (l : Fin 128) :
    movedMid (F := Ideal) i arg10 arg11 arg14 arg15 lanes X10 X11 f14 k g d (ix2 j l)
      = SH (View.read (Elt Ideal) arg11.view X11) (View.read (Elt Ideal) arg10.view X10) (10 * (i 1).val + 2 * k.val + 1 + d.val) 2 (chOf g j) l := by
  unfold movedMid SH
  rw [select_if _ _ _ _ _ (first_lane l j), select_if _ _ _ _ _ (mid_lane l j), edgeLoad_apply i arg10 arg11 arg14 arg15 X10 X11 f14 k hC,
    edgeLoad_apply i arg10 arg11 arg14 arg15 X10 X11 f14 k hC, roll_apply 1 (by decide), rowMaxMid_apply i arg10 arg11 arg14 X10 X11 f14 k hC]
  by_cases hl : l.val = 0
  · rw [if_pos hl, if_pos hl]
    show MX (View.read (Elt Ideal) arg11.view X11) (View.read (Elt Ideal) arg10.view X10) _ 1 1 (chOf g j) ⟨(l.val + 128 - 1) % 128, _⟩ = MX (View.read (Elt Ideal) arg11.view X11) (View.read (Elt Ideal) arg10.view X10) _ 1 1 (chOf g j) 127
    exact congrArg _ (Fin.ext (by show (l.val + 128 - 1) % 128 = 127; omega))
  · rw [if_neg hl, if_neg hl]
    by_cases h6 : l.val = 64
    · rw [if_pos h6, if_pos ⟨rfl, h6⟩]
      show MX (View.read (Elt Ideal) arg11.view X11) (View.read (Elt Ideal) arg10.view X10) _ 1 4 (chOf g j) ⟨(l.val + 128 - 65) % 128, _⟩ = MX (View.read (Elt Ideal) arg11.view X11) (View.read (Elt Ideal) arg10.view X10) _ 1 4 (chOf g j) 127
      exact congrArg _ (Fin.ext (by show (l.val + 128 - 65) % 128 = 127; omega))
    · rw [if_neg h6, if_neg (fun h => h6 h.2)]
      exact congrArg _ (Fin.ext (by show (l.val + 128 - 1) % 128 = l.val - 1; omega))

theorem outMid_apply (hC : Carries arg10 arg11 arg14 X10 X11 (10 * (i 1).val + 2 * k.val + 1) f14)
    (g : Fin 6) (d : Fin 2) (j : Fin 16) (l : Fin 128) :
    outMid (F := Ideal) i arg8 arg10 arg11 arg13 arg14 arg15 lanes X8 X10 X11 X13 f14 k g d (ix2 j l)
      = FIN (View.read (Elt Ideal) arg11.view X11) (View.read (Elt Ideal) arg10.view X10) (View.read (Elt Ideal) arg13.view X13) (View.read (Elt Ideal) arg8.view X8) (10 * (i 1).val + 2 * k.val + 1 + d.val) 2 (chOf g j) l := by
  unfold outMid FIN
  rw [finishOf_apply, biasLoad_apply, mulLoad_apply, max3_apply, rowMaxMid_apply i arg10 arg11 arg14 X10 X11 f14 k hC, rowMaxMid_apply i arg10 arg11 arg14 X10 X11 f14 k hC, movedMid_apply i arg10 arg11 arg14 arg15 X10 X11 f14 k hC]
  rfl

theorem side_agree (hC : Carries arg10 arg11 arg14 X10 X11 (10 * (i 1).val + 2 * k.val + 1) f14)
    (side : Fin 2) (g : Fin 6) (d h : Fin 2) (x : S1x1x16x128.Idx) :
    (sidePiece (F := Ideal) i arg8 arg10 arg11 arg13 arg14 X8 X10 X11 X13 f14 k side g d h).2 x
      = OUT (View.read (Elt Ideal) arg11.view X11) (View.read (Elt Ideal) arg10.view X10) (View.read (Elt Ideal) arg13.view X13) (View.read (Elt Ideal) arg8.view X8) (i 1).val ((sidePiece (F := Ideal) i arg8 arg10 arg11 arg13 arg14 X8 X10 X11 X13 f14 k side g d h).1.emb x) := by
  have hk := t3_lt k
  obtain ⟨j, l, rfl⟩ := exists_tile x
  have he : (sidePiece (F := Ideal) i arg8 arg10 arg11 arg13 arg14 X8 X10 X11 X13 f14 k side g d h).1.emb (ix4 0 0 j l)
      = ix4 side (⟨2 * k.val + d.val, by omega⟩ : Fin 10) (chOf g j) (⟨128 * h.val + l.val, by omega⟩ : Fin 320) := by
    funext a; refine Fin.ext ?_
    have eo := congrFun (offSide_eq k side g d h) a
    match a with
    | ⟨0, _⟩ => show offSide k side g d h 0 + 1 * 0 = side.val; rw [show offSide k side g d h 0 = side.val from eo]; omega
    | ⟨1, _⟩ => show offSide k side g d h 1 + 1 * 0 = 2 * k.val + d.val; rw [show offSide k side g d h 1 = 2 * k.val + d.val from eo]; omega
    | ⟨2, _⟩ => show offSide k side g d h 2 + 1 * j.val = 16 * g.val + j.val; rw [show offSide k side g d h 2 = 16 * g.val from eo]; omega
    | ⟨3, _⟩ => show offSide k side g d h 3 + 1 * l.val = 128 * h.val + l.val; rw [show offSide k side g d h 3 = 128 * h.val from eo]; omega
  rw [he]
  show shapeCast S1x1x16x128 (outSide (F := Ideal) i arg8 arg10 arg11 arg13 arg14 X8 X10 X11 X13 f14 k side g d h) shapeCasts_S16x128_S1x1x16x128 (ix4 0 0 j l) = _
  rw [cast_store, outSide_apply i arg8 arg10 arg11 arg13 arg14 X8 X10 X11 X13 f14 k hC]
  unfold OUT
  have et : tileAt side (⟨128 * h.val + l.val, by omega⟩ : Fin 320) = tileOf side h := by
    unfold tileAt
    rw [if_pos (by show 128 * h.val + l.val < 256; omega)]
    exact congrArg _ (Fin.ext (by show (128 * h.val + l.val) / 128 % 2 = h.val; omega))
  have el : laneAt side (⟨128 * h.val + l.val, by omega⟩ : Fin 320) = l := by
    unfold laneAt
    rw [if_pos (by show 128 * h.val + l.val < 256; omega)]
    exact Fin.ext (by show (128 * h.val + l.val) % 128 = l.val; omega)
  show _ = FIN (View.read (Elt Ideal) arg11.view X11) (View.read (Elt Ideal) arg10.view X10) (View.read (Elt Ideal) arg13.view X13) (View.read (Elt Ideal) arg8.view X8) (10 * (i 1).val + (2 * k.val + d.val) + 1) (tileAt side (⟨128 * h.val + l.val, by omega⟩ : Fin 320)) (chOf g j) (laneAt side (⟨128 * h.val + l.val, by omega⟩ : Fin 320))
  rw [et, el, show 10 * (i 1).val + (2 * k.val + d.val) + 1 = 10 * (i 1).val + 2 * k.val + 1 + d.val by omega]

theorem mid_agree (hC : Carries arg10 arg11 arg14 X10 X11 (10 * (i 1).val + 2 * k.val + 1) f14)
    (side : Fin 2) (g : Fin 6) (d : Fin 2) (x : S1x1x16x64.Idx) :
    (midPiece (F := Ideal) i arg8 arg10 arg11 arg13 arg14 arg15 lanes X8 X10 X11 X13 f14 k side g d).2 x
      = OUT (View.read (Elt Ideal) arg11.view X11) (View.read (Elt Ideal) arg10.view X10) (View.read (Elt Ideal) arg13.view X13) (View.read (Elt Ideal) arg8.view X8) (i 1).val ((midPiece (F := Ideal) i arg8 arg10 arg11 arg13 arg14 arg15 lanes X8 X10 X11 X13 f14 k side g d).1.emb x) := by
  have hk := t3_lt k
  obtain ⟨j, l, rfl⟩ := exists_half x
  have he : (midPiece (F := Ideal) i arg8 arg10 arg11 arg13 arg14 arg15 lanes X8 X10 X11 X13 f14 k side g d).1.emb (ix4 0 0 j l)
      = ix4 side (⟨2 * k.val + d.val, by omega⟩ : Fin 10) (chOf g j) (⟨256 + l.val, by omega⟩ : Fin 320) := by
    funext a; refine Fin.ext ?_
    have eo := congrFun (offMid_eq k side g d) a
    match a with
    | ⟨0, _⟩ => show offMid k side g d 0 + 1 * 0 = side.val; rw [show offMid k side g d 0 = side.val from eo]; omega
    | ⟨1, _⟩ => show offMid k side g d 1 + 1 * 0 = 2 * k.val + d.val; rw [show offMid k side g d 1 = 2 * k.val + d.val from eo]; omega
    | ⟨2, _⟩ => show offMid k side g d 2 + 1 * j.val = 16 * g.val + j.val; rw [show offMid k side g d 2 = 16 * g.val from eo]; omega
    | ⟨3, _⟩ => show offMid k side g d 3 + 1 * l.val = 256 + l.val; rw [show offMid k side g d 3 = 256 from eo]; omega
  rw [he]
  show shapeCast S1x1x16x64 (extractStridedSlice S16x64 ![0, 0] (midOut (F := Ideal) i arg8 arg10 arg11 arg13 arg14 arg15 lanes X8 X10 X11 X13 f14 k side g d) slices_S16x128_o0_0_S16x64)
      shapeCasts_S16x64_S1x1x16x64 (ix4 0 0 j l) = _
  have hs : extractStridedSlice S16x64 ![0, 0] (midOut (F := Ideal) i arg8 arg10 arg11 arg13 arg14 arg15 lanes X8 X10 X11 X13 f14 k side g d) slices_S16x128_o0_0_S16x64 (ix2 j l)
      = midOut (F := Ideal) i arg8 arg10 arg11 arg13 arg14 arg15 lanes X8 X10 X11 X13 f14 k side g d (ix2 j (⟨l.val, by omega⟩ : Fin 128)) := by
    unfold extractStridedSlice
    refine congrArg _ (funext fun a => Fin.ext ?_)
    match a with
    | ⟨0, _⟩ => show 0 + j.val = j.val; omega
    | ⟨1, _⟩ => show 0 + l.val = l.val; omega
  rw [cast_narrow]
  refine hs.trans ?_
  unfold OUT
  have et : tileAt side (⟨256 + l.val, by omega⟩ : Fin 320) = 2 := by
    unfold tileAt
    rw [if_neg (by show ¬ 256 + l.val < 256; omega)]
  have el : laneAt side (⟨256 + l.val, by omega⟩ : Fin 320) = ⟨64 * side.val + l.val, by omega⟩ := by
    unfold laneAt
    rw [if_neg (by show ¬ 256 + l.val < 256; omega)]
    exact Fin.ext (by show (64 * side.val + (256 + l.val - 256)) % 128 = 64 * side.val + l.val; omega)
  show _ = FIN (View.read (Elt Ideal) arg11.view X11) (View.read (Elt Ideal) arg10.view X10) (View.read (Elt Ideal) arg13.view X13) (View.read (Elt Ideal) arg8.view X8) (10 * (i 1).val + (2 * k.val + d.val) + 1) (tileAt side (⟨256 + l.val, by omega⟩ : Fin 320)) (chOf g j) (laneAt side (⟨256 + l.val, by omega⟩ : Fin 320))
  rw [et, el, show 10 * (i 1).val + (2 * k.val + d.val) + 1 = 10 * (i 1).val + 2 * k.val + 1 + d.val by omega]
  match side with
  | 0 =>
    refine (outMid_apply i arg8 arg10 arg11 arg13 arg14 arg15 X8 X10 X11 X13 f14 k hC g d j _).trans ?_
    exact congrArg _ (Fin.ext (by show l.val = 64 * 0 + l.val; omega))
  | 1 =>
    rw [show midOut (F := Ideal) i arg8 arg10 arg11 arg13 arg14 arg15 lanes X8 X10 X11 X13 f14 k 1 g d
      = dynamicRotate 1 64#32 none (outMid i arg8 arg10 arg11 arg13 arg14 arg15 lanes X8 X10 X11 X13 f14 k g d) rotates_S16x128_d1 from rfl]
    refine (roll_apply 64 (by decide) _ j _).trans ?_
    refine (outMid_apply i arg8 arg10 arg11 arg13 arg14 arg15 X8 X10 X11 X13 f14 k hC g d j _).trans ?_
    exact congrArg _ (Fin.ext (by show (l.val + 128 - 64) % 128 = 64 * 1 + l.val; omega))

theorem out_agree (hC : Carries arg10 arg11 arg14 X10 X11 (10 * (i 1).val + 2 * k.val + 1) f14) :
    ∀ p ∈ outPieces (F := Ideal) i arg8 arg10 arg11 arg13 arg14 arg15 lanes X8 X10 X11 X13 f14 k, ∀ x,
      p.2 x = OUT (View.read (Elt Ideal) arg11.view X11) (View.read (Elt Ideal) arg10.view X10) (View.read (Elt Ideal) arg13.view X13) (View.read (Elt Ideal) arg8.view X8) (i 1).val (p.1.emb x) := by
  intro p hp
  unfold outPieces at hp
  rw [List.mem_reverse, List.mem_append] at hp
  rcases hp with hp | hp
  · rw [List.mem_flatMap] at hp; obtain ⟨side, -, hp⟩ := hp
    rw [List.mem_flatMap] at hp; obtain ⟨g, -, hp⟩ := hp
    rw [List.mem_flatMap] at hp; obtain ⟨d, -, hp⟩ := hp
    rw [List.mem_map] at hp; obtain ⟨h, -, rfl⟩ := hp
    exact side_agree i arg8 arg10 arg11 arg13 arg14 X8 X10 X11 X13 f14 k hC side g d h
  · rw [List.mem_flatMap] at hp; obtain ⟨g, -, hp⟩ := hp
    rw [List.mem_flatMap] at hp; obtain ⟨d, -, hp⟩ := hp
    rw [List.mem_map] at hp; obtain ⟨side, -, rfl⟩ := hp
    exact mid_agree i arg8 arg10 arg11 arg13 arg14 arg15 X8 X10 X11 X13 f14 k hC side g d

theorem all2 (a : Fin 2) : a ∈ ([0, 1] : List (Fin 2)) := by revert a; decide
theorem all6 (a : Fin 6) : a ∈ ([0, 1, 2, 3, 4, 5] : List (Fin 6)) := by revert a; decide

theorem out_cover (y : S2x10x96x320.Idx) (hy : (y 1).val / 2 = k.val) :
    ∃ p ∈ outPieces (F := Ideal) i arg8 arg10 arg11 arg13 arg14 arg15 lanes X8 X10 X11 X13 f14 k, y ∈ p.1.set := by
  have hk := t3_lt k
  have h0 : (y 0).val < 2 := (y 0).isLt
  have h1 : (y 1).val < 10 := (y 1).isLt
  have h2 : (y 2).val < 96 := (y 2).isLt
  have h3 : (y 3).val < 320 := (y 3).isLt
  by_cases hq : (y 3).val < 256
  · refine ⟨sidePiece (F := Ideal) i arg8 arg10 arg11 arg13 arg14 X8 X10 X11 X13 f14 k (⟨(y 0).val, h0⟩ : Fin 2) (⟨(y 2).val / 16, by omega⟩ : Fin 6) (⟨(y 1).val % 2, by omega⟩ : Fin 2) (⟨(y 3).val / 128, by omega⟩ : Fin 2), ?_, ?_⟩
    · unfold outPieces
      rw [List.mem_reverse, List.mem_append]
      refine Or.inl ?_
      rw [List.mem_flatMap]; refine ⟨(⟨(y 0).val, h0⟩ : Fin 2), all2 _, ?_⟩
      rw [List.mem_flatMap]; refine ⟨(⟨(y 2).val / 16, by omega⟩ : Fin 6), all6 _, ?_⟩
      rw [List.mem_flatMap]; refine ⟨(⟨(y 1).val % 2, by omega⟩ : Fin 2), all2 _, ?_⟩
      rw [List.mem_map]; exact ⟨(⟨(y 3).val / 128, by omega⟩ : Fin 2), all2 _, rfl⟩
    · refine (Rect.mem_set_unit (inb := offSide_inb k _ _ _ _)).mpr fun a => ?_
      rw [offSide_eq]
      match a with
      | ⟨0, _⟩ => show (y 0).val ≤ (y 0).val ∧ (y 0).val < (y 0).val + 1; omega
      | ⟨1, _⟩ => show 2 * k.val + (y 1).val % 2 ≤ (y 1).val ∧ (y 1).val < 2 * k.val + (y 1).val % 2 + 1; omega
      | ⟨2, _⟩ => show 16 * ((y 2).val / 16) ≤ (y 2).val ∧ (y 2).val < 16 * ((y 2).val / 16) + 16; omega
      | ⟨3, _⟩ => show 128 * ((y 3).val / 128) ≤ (y 3).val ∧ (y 3).val < 128 * ((y 3).val / 128) + 128; omega
  · refine ⟨midPiece (F := Ideal) i arg8 arg10 arg11 arg13 arg14 arg15 lanes X8 X10 X11 X13 f14 k (⟨(y 0).val, h0⟩ : Fin 2) (⟨(y 2).val / 16, by omega⟩ : Fin 6) (⟨(y 1).val % 2, by omega⟩ : Fin 2), ?_, ?_⟩
    · unfold outPieces
      rw [List.mem_reverse, List.mem_append]
      refine Or.inr ?_
      rw [List.mem_flatMap]; refine ⟨(⟨(y 2).val / 16, by omega⟩ : Fin 6), all6 _, ?_⟩
      rw [List.mem_flatMap]; refine ⟨(⟨(y 1).val % 2, by omega⟩ : Fin 2), all2 _, ?_⟩
      rw [List.mem_map]; exact ⟨(⟨(y 0).val, h0⟩ : Fin 2), all2 _, rfl⟩
    · refine (Rect.mem_set_unit (inb := offMid_inb k _ _ _)).mpr fun a => ?_
      rw [offMid_eq]
      match a with
      | ⟨0, _⟩ => show (y 0).val ≤ (y 0).val ∧ (y 0).val < (y 0).val + 1; omega
      | ⟨1, _⟩ => show 2 * k.val + (y 1).val % 2 ≤ (y 1).val ∧ (y 1).val < 2 * k.val + (y 1).val % 2 + 1; omega
      | ⟨2, _⟩ => show 16 * ((y 2).val / 16) ≤ (y 2).val ∧ (y 2).val < 16 * ((y 2).val / 16) + 16; omega
      | ⟨3, _⟩ => show 256 ≤ (y 3).val ∧ (y 3).val < 256 + 64; omega

/-- The carried maxima before patch `P`, as one array. -/
def CARY (W : S384x256.Idx → EReal) (R : S5x12012x128.Idx → BitVec 32) (P : ℕ) (y : S2x5x96x128.Idx) : EReal := CAR W R P (y 0) (y 1) (y 2) (y 3)

theorem carry_emb (t : Fin 2) (v : Fin 5) (g : Fin 6) (x : S1x1x16x128.Idx) :
    (Rect.unit (s := S2x5x96x128) ![t.val, v.val, 16 * g.val, 0] S1x1x16x128.size (inb_carry t v g)).emb x = ix4 t v (chOf g (x 2)) (x 3) := by
  funext a; refine Fin.ext ?_
  have h0 : (x 0).val = 0 := Nat.lt_one_iff.mp (x 0).isLt
  have h1 : (x 1).val = 0 := Nat.lt_one_iff.mp (x 1).isLt
  match a with
  | ⟨0, _⟩ => show t.val + 1 * (x 0).val = t.val; omega
  | ⟨1, _⟩ => show v.val + 1 * (x 1).val = v.val; omega
  | ⟨2, _⟩ => show 16 * g.val + 1 * (x 2).val = 16 * g.val + (x 2).val; omega
  | ⟨3, _⟩ => show 0 + 1 * (x 3).val = (x 3).val; omega

theorem carry_agree : ∀ p ∈ carryPieces (F := Ideal) i arg10 arg11 X10 X11 k, ∀ x,
    p.2 x = CARY (View.read (Elt Ideal) arg11.view X11) (View.read (Elt Ideal) arg10.view X10) (10 * (i 1).val + 2 * k.val + 3) (p.1.emb x) := by
  intro p hp
  unfold carryPieces at hp
  rw [List.mem_reverse, List.mem_append] at hp
  rcases hp with hp | hp
  · rw [List.mem_flatMap] at hp; obtain ⟨side, -, hp⟩ := hp
    rw [List.mem_flatMap] at hp; obtain ⟨g, -, hp⟩ := hp
    rw [List.mem_flatMap] at hp; obtain ⟨h, -, hp⟩ := hp
    rw [List.mem_map] at hp; obtain ⟨t, -, rfl⟩ := hp
    intro x
    obtain ⟨j, l, rfl⟩ := exists_tile x
    refine Eq.trans ?_ (congrArg _ (carry_emb t (tileOf side h) g _)).symm
    refine (cast_store (maximumf (pieceOf (accOf (F := Ideal) i arg10 arg11 X10 X11 k side 1) g (match t with | 0 => 0 | 1 => 1) h)
      (pieceOf (accOf i arg10 arg11 X10 X11 k side 1) g (match t with | 0 => 2 | 1 => 3) h)) 0 0 j l).trans ?_
    show _ = CAR (View.read (Elt Ideal) arg11.view X11) (View.read (Elt Ideal) arg10.view X10) (10 * (i 1).val + 2 * k.val + 3) t (tileOf side h) (chOf g j) l
    unfold CAR
    rw [if_neg (by omega)]
    refine congrArg₂ max ?_ ?_
    · rw [pieceOf_apply, accOf_apply]; match t with | 0 => rfl | 1 => rfl
    · rw [pieceOf_apply, accOf_apply]; match t with | 0 => rfl | 1 => rfl
  · rw [List.mem_flatMap] at hp; obtain ⟨g, -, hp⟩ := hp
    rw [List.mem_map] at hp; obtain ⟨t, -, rfl⟩ := hp
    intro x
    obtain ⟨j, l, rfl⟩ := exists_tile x
    refine Eq.trans ?_ (congrArg _ (carry_emb t 2 g _)).symm
    refine (cast_store (maximumf (pieceOf (accMid (F := Ideal) i arg10 arg11 X10 X11 k) g (match t with | 0 => 0 | 1 => 1) 1)
      (pieceOf (accMid i arg10 arg11 X10 X11 k) g (match t with | 0 => 2 | 1 => 3) 1)) 0 0 j l).trans ?_
    show _ = CAR (View.read (Elt Ideal) arg11.view X11) (View.read (Elt Ideal) arg10.view X10) (10 * (i 1).val + 2 * k.val + 3) t 2 (chOf g j) l
    unfold CAR
    rw [if_neg (by omega)]
    refine congrArg₂ max ?_ ?_
    · rw [pieceOf_apply, accMid_apply]; match t with | 0 => rfl | 1 => rfl
    · rw [pieceOf_apply, accMid_apply]; match t with | 0 => rfl | 1 => rfl

theorem carry_cover (y : S2x5x96x128.Idx) : ∃ p ∈ carryPieces (F := Ideal) i arg10 arg11 X10 X11 k, y ∈ p.1.set := by
  have h2 : (y 2).val < 96 := (y 2).isLt
  have key : ∀ (t : Fin 2) (v : Fin 5), t = y 0 → v = y 1 →
      y ∈ (Rect.unit (s := S2x5x96x128) ![t.val, v.val, 16 * (⟨(y 2).val / 16, by omega⟩ : Fin 6).val, 0] S1x1x16x128.size (inb_carry t v ⟨(y 2).val / 16, by omega⟩)).set := by
    rintro t v rfl rfl
    refine Rect.mem_set_unit.mpr fun a => ?_
    have h3 : (y 3).val < 128 := (y 3).isLt
    match a with
    | ⟨0, _⟩ => show (y 0).val ≤ (y 0).val ∧ (y 0).val < (y 0).val + 1; omega
    | ⟨1, _⟩ => show (y 1).val ≤ (y 1).val ∧ (y 1).val < (y 1).val + 1; omega
    | ⟨2, _⟩ => show 16 * ((y 2).val / 16) ≤ (y 2).val ∧ (y 2).val < 16 * ((y 2).val / 16) + 16; omega
    | ⟨3, _⟩ => show 0 ≤ (y 3).val ∧ (y 3).val < 0 + 128; omega
  have tiles : ∀ v : Fin 5, v = 2 ∨ ∃ side h, v = tileOf side h := by decide
  rcases tiles (y 1) with e | ⟨side, h, e⟩
  · refine ⟨carryMid (F := Ideal) i arg10 arg11 X10 X11 k ⟨(y 2).val / 16, by omega⟩ (y 0), ?_, key (y 0) 2 rfl e.symm⟩
    unfold carryPieces
    rw [List.mem_reverse, List.mem_append]
    refine Or.inr ?_
    rw [List.mem_flatMap]; refine ⟨(⟨(y 2).val / 16, by omega⟩ : Fin 6), all6 _, ?_⟩
    rw [List.mem_map]; exact ⟨y 0, all2 _, rfl⟩
  · refine ⟨carrySide (F := Ideal) i arg10 arg11 X10 X11 k side ⟨(y 2).val / 16, by omega⟩ h (y 0), ?_, key (y 0) (tileOf side h) rfl e.symm⟩
    unfold carryPieces
    rw [List.mem_reverse, List.mem_append]
    refine Or.inl ?_
    rw [List.mem_flatMap]; refine ⟨side, all2 _, ?_⟩
    rw [List.mem_flatMap]; refine ⟨(⟨(y 2).val / 16, by omega⟩ : Fin 6), all6 _, ?_⟩
    rw [List.mem_flatMap]; refine ⟨h, all2 _, ?_⟩
    rw [List.mem_map]; exact ⟨y 0, all2 _, rfl⟩

end

end Cert.Proof.KernelIdeal

end
-- ==== Proof.PatchMirror.lean ====
/-
  The stores of one trip of the patch build, written as a comprehension over channel, row parity, tile and column shift,
  and the proof that the list found by running the trip is that comprehension.
-/
module

public import proofs.«01_k».proof.Proof.IdealTrip

@[expose] public section

set_option maxRecDepth 65536
set_option maxHeartbeats 40000000

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

theorem slices_word (n : Fin 20) : Shape.Slices S8x20x128 ![0, n.val, 0] S8x1x128 := by
  revert n; decide

/-- The lane number. -/
abbrev lane32 : IVec S8x128 32 := iota .tc S8x128 32 [1] iota_S8x128_d1_w32

/-- Eight twelve-row words of one channel of one image, as loaded: tile rows, then word rows, then lanes. -/
def spanBytes (i : grid0.Coords) (arg2 : Memref sig .tc .vmem S2x3x7200x128 .i8) (k0_h2 : k0_cond2 i = 1#1)
    (X : BufTy.Contents (Elt F) arg2.view.ty) (k : Fin k0_t2_loop.trips) (g : Fin 2) (c : Fin 3) : IVec S1x1x640x128 8 :=
  match g, c with
  | 0, 0 => View.readAt (Elt F) arg2.view (Rect.unit (s := S2x3x7200x128) (k0_off3 k) S1x1x640x128.size (k0_off3_inb i k k0_h2)).toLoadRect X
  | 0, 1 => View.readAt (Elt F) arg2.view (Rect.unit (s := S2x3x7200x128) (k0_off20 k) S1x1x640x128.size (k0_off20_inb i k k0_h2)).toLoadRect X
  | 0, 2 => View.readAt (Elt F) arg2.view (Rect.unit (s := S2x3x7200x128) (k0_off22 k) S1x1x640x128.size (k0_off22_inb i k k0_h2)).toLoadRect X
  | 1, 0 => View.readAt (Elt F) arg2.view (Rect.unit (s := S2x3x7200x128) (k0_off4 k) S1x1x640x128.size (k0_off4_inb i k k0_h2)).toLoadRect X
  | 1, 1 => View.readAt (Elt F) arg2.view (Rect.unit (s := S2x3x7200x128) (k0_off21 k) S1x1x640x128.size (k0_off21_inb i k k0_h2)).toLoadRect X
  | 1, 2 => View.readAt (Elt F) arg2.view (Rect.unit (s := S2x3x7200x128) (k0_off23 k) S1x1x640x128.size (k0_off23_inb i k k0_h2)).toLoadRect X

def spanWords (i : grid0.Coords) (arg2 : Memref sig .tc .vmem S2x3x7200x128 .i8) (k0_h2 : k0_cond2 i = 1#1)
    (X : BufTy.Contents (Elt F) arg2.view.ty) (k : Fin k0_t2_loop.trips) (g : Fin 2) (c : Fin 3) : IVec S8x20x128 32 :=
  shapeCast S8x20x128 (bitcast S160x128 32 (shapeCast S640x128 (spanBytes i arg2 k0_h2 X k g c) shapeCasts_S1x1x640x128_S640x128)
    bitcasts_S640x128_w8_S160x128_w32) shapeCasts_S160x128_S8x20x128

/-- A gather's index vector, brought into range. -/
def fixIdx (u : IVec S8x128 32) : IVec S8x128 32 :=
  shapeCast S8x128 (shapeCast S8x128x1 (select (cmpi .slt u (broadcast S8x128 0#32)) (addi u (broadcast S8x128 128#32)) u)
    shapeCasts_S8x128_S8x128x1) shapeCasts_S8x128x1_S8x128

/-- The image of the pair the a-th source of tile v comes from, and its column tile. -/
def srcG (v : Fin 5) (a : Fin 4) : Fin 2 :=
  match v with | 0 => 0 | 1 => 0 | 2 => (match a with | 0 => 0 | 1 => 0 | 2 => 1 | 3 => 1) | 3 => 1 | 4 => 1
def srcT (v : Fin 5) (a : Fin 4) : Fin 10 :=
  match v, a with
  | 0, 0 => 0 | 0, 1 => 1 | 0, 2 => 2 | 0, 3 => 3
  | 1, 0 => 4 | 1, 1 => 5 | 1, 2 => 6 | 1, 3 => 7
  | 2, 0 => 8 | 2, 1 => 9 | 2, 2 => 8 | 2, 3 => 9
  | 3, 0 => 0 | 3, 1 => 1 | 3, 2 => 2 | 3, 3 => 3
  | 4, 0 => 4 | 4, 1 => 5 | 4, 2 => 6 | 4, 3 => 7

section
variable (i : grid0.Coords) (arg2 : Memref sig .tc .vmem S2x3x7200x128 .i8) (k0_h2 : k0_cond2 i = 1#1)
  (v84 v121 v142 v163 v165 : IVec S8x128 32) (v169 : BitVec 32) (v171 : IVec S8x128 32) (v173 : IVec S8x128 1)
  (X : BufTy.Contents (Elt F) arg2.view.ty) (k : Fin k0_t2_loop.trips)

def baseIdx (a : Fin 4) : IVec S8x128 32 :=
  match a with | 0 => v121 | 1 => v142 | 2 => v163 | 3 => k0_pay1476 v165 v169 v171 v173

def got (c : Fin 3) (kk : Fin 2) (v : Fin 5) (a : Fin 4) : IVec S8x128 32 :=
  dynamicGather 1
    (shapeCast S8x128 (extractStridedSlice S8x1x128 ![0, (⟨2 * (srcT v a).val + kk.val, by omega⟩ : Fin 20).val, 0]
      (spanWords i arg2 k0_h2 X k (srcG v a) c) (slices_word _)) shapeCasts_S8x1x128_S8x128)
    (fixIdx (baseIdx v121 v142 v163 v165 v169 v171 v173 a))

/-- Words of columns `4Q + p`, still at the rotated lanes. -/
def quartered (c : Fin 3) (kk : Fin 2) (v : Fin 5) (p : Fin 4) : IVec S8x128 32 :=
  let G : Fin 4 → IVec S8x128 32 := got i arg2 k0_h2 v121 v142 v163 v165 v169 v171 v173 X k c kk v
  select (cmpi .eq v84 (broadcast S8x128 3#32)) (G (match p with | 0 => 3 | 1 => 2 | 2 => 1 | 3 => 0))
    (select (cmpi .eq v84 (broadcast S8x128 2#32)) (G (match p with | 0 => 2 | 1 => 1 | 2 => 0 | 3 => 3))
      (select (cmpi .eq v84 (broadcast S8x128 1#32)) (G (match p with | 0 => 1 | 1 => 0 | 2 => 3 | 3 => 2))
        (G (match p with | 0 => 0 | 1 => 3 | 2 => 2 | 3 => 1))))

/-- Words of columns `4Q + p`. -/
def deal (c : Fin 3) (kk : Fin 2) (p : Fin 4) (v : Fin 5) : IVec S8x128 32 :=
  match p with
  | 0 => quartered i arg2 k0_h2 v84 v121 v142 v163 v165 v169 v171 v173 X k c kk v 0
  | 1 => dynamicRotate 1 96#32 none (quartered i arg2 k0_h2 v84 v121 v142 v163 v165 v169 v171 v173 X k c kk v 1) rotates_S8x128_d1
  | 2 => dynamicRotate 1 64#32 none (quartered i arg2 k0_h2 v84 v121 v142 v163 v165 v169 v171 v173 X k c kk v 2) rotates_S8x128_d1
  | 3 => dynamicRotate 1 32#32 none (quartered i arg2 k0_h2 v84 v121 v142 v163 v165 v169 v171 v173 X k c kk v 3) rotates_S8x128_d1

/-- The last rows of four column words, joined to a word. -/
def topWord (d : Fin 4 → IVec S8x128 32) : IVec S8x128 32 :=
  ori (ori (ori (shrui (d 0) (broadcast S8x128 24#32)) (andi (shrui (d 1) (broadcast S8x128 16#32)) (broadcast S8x128 65280#32)))
    (andi (shrui (d 2) (broadcast S8x128 8#32)) (broadcast S8x128 16711680#32))) (andi (d 3) (broadcast S8x128 4278190080#32))

def shiftR (x : Fin 5 → IVec S8x128 32) (v : Fin 5) : IVec S8x128 32 :=
  match v with
  | 0 => select (cmpi .eq lane32 (broadcast S8x128 0#32)) (broadcast S8x128 0#32) (dynamicRotate 1 1#32 none (x 0) rotates_S8x128_d1)
  | 1 => select (cmpi .eq lane32 (broadcast S8x128 0#32)) (dynamicRotate 1 1#32 none (x 0) rotates_S8x128_d1) (dynamicRotate 1 1#32 none (x 1) rotates_S8x128_d1)
  | 2 => select (cmpi .eq lane32 (broadcast S8x128 0#32)) (dynamicRotate 1 1#32 none (x 1) rotates_S8x128_d1)
      (select (cmpi .eq lane32 (broadcast S8x128 64#32)) (dynamicRotate 1 65#32 none (x 4) rotates_S8x128_d1) (dynamicRotate 1 1#32 none (x 2) rotates_S8x128_d1))
  | 3 => select (cmpi .eq lane32 (broadcast S8x128 0#32)) (broadcast S8x128 0#32) (dynamicRotate 1 1#32 none (x 3) rotates_S8x128_d1)
  | 4 => select (cmpi .eq lane32 (broadcast S8x128 0#32)) (dynamicRotate 1 1#32 none (x 3) rotates_S8x128_d1) (dynamicRotate 1 1#32 none (x 4) rotates_S8x128_d1)

def shiftL (x : Fin 5 → IVec S8x128 32) (v : Fin 5) : IVec S8x128 32 :=
  match v with
  | 0 => select (cmpi .eq lane32 (broadcast S8x128 127#32)) (dynamicRotate 1 127#32 none (x 1) rotates_S8x128_d1) (dynamicRotate 1 127#32 none (x 0) rotates_S8x128_d1)
  | 1 => select (cmpi .eq lane32 (broadcast S8x128 127#32)) (dynamicRotate 1 127#32 none (x 2) rotates_S8x128_d1) (dynamicRotate 1 127#32 none (x 1) rotates_S8x128_d1)
  | 2 => select (ori (cmpi .eq lane32 (broadcast S8x128 127#32)) (cmpi .eq lane32 (broadcast S8x128 63#32))) (broadcast S8x128 0#32)
      (dynamicRotate 1 127#32 none (x 2) rotates_S8x128_d1)
  | 3 => select (cmpi .eq lane32 (broadcast S8x128 127#32)) (dynamicRotate 1 127#32 none (x 4) rotates_S8x128_d1) (dynamicRotate 1 127#32 none (x 3) rotates_S8x128_d1)
  | 4 => select (cmpi .eq lane32 (broadcast S8x128 127#32)) (dynamicRotate 1 63#32 none (x 2) rotates_S8x128_d1) (dynamicRotate 1 127#32 none (x 4) rotates_S8x128_d1)

/-- The words of the nine columns `4Q + s - 3`, from the words of the four columns `4Q + p`. -/
def colsOf (d : Fin 4 → Fin 5 → IVec S8x128 32) (s : Fin 9) (v : Fin 5) : IVec S8x128 32 :=
  match s with
  | 0 => shiftR (d 1) v | 1 => shiftR (d 2) v | 2 => shiftR (d 3) v
  | 3 => d 0 v | 4 => d 1 v | 5 => d 2 v | 6 => d 3 v
  | 7 => shiftL (d 0) v | 8 => shiftL (d 1) v

/-- The last rows of the columns of the quads `Q - 1`, `Q`, `Q + 1`. -/
def topsOf (d : Fin 4 → Fin 5 → IVec S8x128 32) (q : Fin 3) (v : Fin 5) : IVec S8x128 32 :=
  match q with
  | 0 => shiftR (fun v => topWord (fun p => d p v)) v
  | 1 => topWord (fun p => d p v)
  | 2 => shiftL (fun v => topWord (fun p => d p v)) v

def offCur (kk : Fin 2) (row : Fin 27) (v : Fin 5) : Fin 3 → ℕ :=
  match v with
  | 0 => k0_off5 k (BitVec.ofNat 32 kk.val) (BitVec.ofNat 32 row.val)
  | 1 => k0_off8 k (BitVec.ofNat 32 kk.val) (BitVec.ofNat 32 row.val)
  | 2 => k0_off11 k (BitVec.ofNat 32 kk.val) (BitVec.ofNat 32 row.val)
  | 3 => k0_off14 k (BitVec.ofNat 32 kk.val) (BitVec.ofNat 32 row.val)
  | 4 => k0_off17 k (BitVec.ofNat 32 kk.val) (BitVec.ofNat 32 row.val)

theorem offCur_inb (i : grid0.Coords) (k0_h2 : k0_cond2 i = 1#1) (kk : Fin 2) (row : Fin 27) (v : Fin 5) (a : Fin 3) : S1x8x128.size a = 0 ∨ offCur k kk row v a + (![1, 132, 1] : Fin 3 → ℕ) a * (S1x8x128.size a - 1) < S5x12012x128.size a :=
  match v with
  | 0 => k0_off5_inb i k k0_h2 kk row a
  | 1 => k0_off8_inb i k k0_h2 kk row a
  | 2 => k0_off11_inb i k k0_h2 kk row a
  | 3 => k0_off14_inb i k k0_h2 kk row a
  | 4 => k0_off17_inb i k k0_h2 kk row a

def rectCur (kk : Fin 2) (row : Fin 27) (v : Fin 5) : Rect S5x12012x128 :=
  ⟨⟨offCur k kk row v, S1x8x128.size, ![1, 132, 1], offCur_inb k i k0_h2 kk row v⟩, spos_1_132_1⟩

def offPrev (kk : Fin 2) (row : Fin 27) (v : Fin 5) : Fin 3 → ℕ :=
  match v with
  | 0 => k0_off6 k (BitVec.ofNat 32 kk.val) (BitVec.ofNat 32 row.val)
  | 1 => k0_off9 k (BitVec.ofNat 32 kk.val) (BitVec.ofNat 32 row.val)
  | 2 => k0_off12 k (BitVec.ofNat 32 kk.val) (BitVec.ofNat 32 row.val)
  | 3 => k0_off15 k (BitVec.ofNat 32 kk.val) (BitVec.ofNat 32 row.val)
  | 4 => k0_off18 k (BitVec.ofNat 32 kk.val) (BitVec.ofNat 32 row.val)

theorem offPrev_inb (i : grid0.Coords) (k0_h2 : k0_cond2 i = 1#1) (kk : Fin 2) (row : Fin 27) (v : Fin 5) (a : Fin 3) : S1x8x128.size a = 0 ∨ offPrev k kk row v a + (![1, 132, 1] : Fin 3 → ℕ) a * (S1x8x128.size a - 1) < S5x12012x128.size a :=
  match v with
  | 0 => k0_off6_inb i k k0_h2 kk row a
  | 1 => k0_off9_inb i k k0_h2 kk row a
  | 2 => k0_off12_inb i k k0_h2 kk row a
  | 3 => k0_off15_inb i k k0_h2 kk row a
  | 4 => k0_off18_inb i k k0_h2 kk row a

def rectPrev (kk : Fin 2) (row : Fin 27) (v : Fin 5) : Rect S5x12012x128 :=
  ⟨⟨offPrev k kk row v, S1x8x128.size, ![1, 132, 1], offPrev_inb k i k0_h2 kk row v⟩, spos_1_132_1⟩

def offTop (kk : Fin 2) (c q : Fin 3) (v : Fin 5) : Fin 3 → ℕ :=
  match v with
  | 0 => k0_off7 k (BitVec.ofNat 32 kk.val) (BitVec.ofNat 32 (3 * c.val)) (BitVec.ofNat 32 q.val)
  | 1 => k0_off10 k (BitVec.ofNat 32 kk.val) (BitVec.ofNat 32 (3 * c.val)) (BitVec.ofNat 32 q.val)
  | 2 => k0_off13 k (BitVec.ofNat 32 kk.val) (BitVec.ofNat 32 (3 * c.val)) (BitVec.ofNat 32 q.val)
  | 3 => k0_off16 k (BitVec.ofNat 32 kk.val) (BitVec.ofNat 32 (3 * c.val)) (BitVec.ofNat 32 q.val)
  | 4 => k0_off19 k (BitVec.ofNat 32 kk.val) (BitVec.ofNat 32 (3 * c.val)) (BitVec.ofNat 32 q.val)

theorem offTop_inb (i : grid0.Coords) (k0_h2 : k0_cond2 i = 1#1) (kk : Fin 2) (c q : Fin 3) (v : Fin 5) (a : Fin 3) : S1x8x128.size a = 0 ∨ offTop k kk c q v a + (![1, 132, 1] : Fin 3 → ℕ) a * (S1x8x128.size a - 1) < S5x12012x128.size a :=
  match v with
  | 0 => k0_off7_inb i k k0_h2 kk c q a
  | 1 => k0_off10_inb i k k0_h2 kk c q a
  | 2 => k0_off13_inb i k k0_h2 kk c q a
  | 3 => k0_off16_inb i k k0_h2 kk c q a
  | 4 => k0_off19_inb i k k0_h2 kk c q a

def rectTop (kk : Fin 2) (c q : Fin 3) (v : Fin 5) : Rect S5x12012x128 :=
  ⟨⟨offTop k kk c q v, S1x8x128.size, ![1, 132, 1], offTop_inb k i k0_h2 kk c q v⟩, spos_1_132_1⟩

/-- The store of the word of row parity `kk`, channel `c`, tile `v`, column shift `s`, as this patch's own rows. -/
def pieceCur (c : Fin 3) (kk : Fin 2) (v : Fin 5) (s : Fin 9) : View.Piece (Elt F) S5x12012x128 .i32 :=
  ⟨rectCur i k0_h2 k kk ⟨9 * c.val + s.val, by omega⟩ v, shapeCast S1x8x128 (colsOf (deal i arg2 k0_h2 v84 v121 v142 v163 v165 v169 v171 v173 X k c kk) s v) shapeCasts_S8x128_S1x8x128⟩
/-- The same word as the next patch's previous rows. -/
def piecePrev (c : Fin 3) (kk : Fin 2) (v : Fin 5) (s : Fin 9) : View.Piece (Elt F) S5x12012x128 .i32 :=
  ⟨rectPrev i k0_h2 k kk ⟨9 * c.val + s.val, by omega⟩ v, shapeCast S1x8x128 (colsOf (deal i arg2 k0_h2 v84 v121 v142 v163 v165 v169 v171 v173 X k c kk) s v) shapeCasts_S8x128_S1x8x128⟩
/-- The last rows, for the patch after the next. -/
def pieceTop (c : Fin 3) (kk : Fin 2) (v : Fin 5) (q : Fin 3) : View.Piece (Elt F) S5x12012x128 .i32 :=
  ⟨rectTop i k0_h2 k kk c q v, shapeCast S1x8x128 (topsOf (deal i arg2 k0_h2 v84 v121 v142 v163 v165 v169 v171 v173 X k c kk) q v) shapeCasts_S8x128_S1x8x128⟩

/-- All stores of a trip, the last first. -/
def tripPieces : List (View.Piece (Elt F) S5x12012x128 .i32) :=
  (([0, 1, 2] : List (Fin 3)).flatMap fun c => ([0, 1] : List (Fin 2)).flatMap fun kk => ([0, 1, 2, 3, 4] : List (Fin 5)).flatMap fun v =>
    (([0, 1, 2, 3, 4, 5, 6, 7, 8] : List (Fin 9)).flatMap fun s =>
      [pieceCur i arg2 k0_h2 v84 v121 v142 v163 v165 v169 v171 v173 X k c kk v s, piecePrev i arg2 k0_h2 v84 v121 v142 v163 v165 v169 v171 v173 X k c kk v s])
    ++ (([0, 1, 2] : List (Fin 3)).map fun q => pieceTop i arg2 k0_h2 v84 v121 v142 v163 v165 v169 v171 v173 X k c kk v q)).reverse

end

section
variable (i : grid0.Coords)
  (arg2 : Memref sig .tc .vmem S2x3x7200x128 .i8) (harg2 : arg2.IsWhole)
  (arg3 : Memref sig .tc .smem S10 .f32) (harg3 : arg3.IsWhole)
  (arg4 : Memref sig .tc .vmem S7x3x7x96 .fp8e4m3) (harg4 : arg4.IsWhole)
  (arg5 : Memref sig .tc .vmem S168x1024 .bf16) (harg5 : arg5.IsWhole)
  (arg6 : Memref sig .tc .vmem S96x128 .f32) (harg6 : arg6.IsWhole)
  (arg7 : Memref sig .tc .vmem S96x128 .f32) (harg7 : arg7.IsWhole)
  (arg8 : Memref sig .tc .vmem S96x128 .f32) (harg8 : arg8.IsWhole)
  (arg9 : Memref sig .tc .vmem S2x10x96x320 .bf16) (harg9 : arg9.IsWhole)
  (arg10 : Memref sig .tc .vmem S5x12012x128 .i32) (harg10 : arg10.IsWhole)
  (arg11 : Memref sig .tc .vmem S384x256 .fp8e4m3) (harg11 : arg11.IsWhole)
  (arg12 : Memref sig .tc .vmem S2x8x128 .f32) (harg12 : arg12.IsWhole)
  (arg13 : Memref sig .tc .vmem S3x96x128 .f32) (harg13 : arg13.IsWhole)
  (arg14 : Memref sig .tc .vmem S2x5x96x128 .f32) (harg14 : arg14.IsWhole)
  (arg15 : Memref sig .tc .vmem S2x2x96x128 .f32) (harg15 : arg15.IsWhole)
  (k0_h2 : k0_cond2 i = 1#1) (v84 v121 v142 v163 v165 : IVec S8x128 32) (v169 : BitVec 32) (v171 : IVec S8x128 32) (v173 : IVec S8x128 1)

theorem trip_eq (c : Dev nD) (X : BufTy.Contents (Elt F) arg2.view.ty) (k : Fin k0_t2_loop.trips) :
    (trip (F := F) i arg2 harg2 arg3 harg3 arg4 harg4 arg5 harg5 arg6 harg6 arg7 harg7 arg8 harg8 arg9 harg9 arg10 harg10 arg11 harg11 arg12 harg12 arg13 harg13 arg14 harg14 arg15 harg15 k0_h2 v84 v121 v142 v163 v165 v169 v171 v173 c X k).1
      = tripPieces (F := F) i arg2 k0_h2 v84 v121 v142 v163 v165 v169 v171 v173 X k := by
  unfold trip
  with_unfolding_all rfl

end

end Cert.Proof.KernelIdeal

end
-- ==== Proof.RunMirror.lean ====
/-
  What one point of the grid leaves in the buffers, written in the comprehensions of the two mirror modules.
-/
module

public import proofs.«01_k».proof.Proof.StepMirror
public import proofs.«01_k».proof.Proof.PatchMirror
public import proofs.«01_k».proof.Proof.IdealRunA
public import proofs.«01_k».proof.Proof.IdealRunB
public import proofs.«01_k».proof.Proof.IdealRunC

@[expose] public section

set_option maxRecDepth 65536
set_option maxHeartbeats 40000000

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

theorem slices_phase (g : Fin 6) (ph : Fin 4) : Shape.Slices S96x1024 ![16 * g.val, 256 * ph.val] S16x256 := by
  revert g ph; decide

theorem inb_col : ∀ a, (![0, 0] : Fin 2 → ℕ) a + S96x1.size a ≤ S96x128.size a := by decide
theorem inb_all4 : ∀ a, (![0, 0, 0, 0] : Fin 4 → ℕ) a + S7x3x7x96.size a ≤ S7x3x7x96.size a := by decide
theorem inb_all5 : ∀ a, (![0, 0] : Fin 2 → ℕ) a + S168x1024.size a ≤ S168x1024.size a := by decide
theorem inb_all6 : ∀ a, (![0, 0] : Fin 2 → ℕ) a + S96x128.size a ≤ S96x128.size a := by decide
theorem inb_pair (g : Fin 2) : ∀ a, (![g.val, 0, 0] : Fin 3 → ℕ) a + S1x8x128.size a ≤ S2x8x128.size a := by revert g; decide
theorem inb_scale (g : Fin 2) : ∀ a, (![g.val, 0, 0] : Fin 3 → ℕ) a + S1x1x128.size a ≤ S2x8x128.size a := by revert g; decide
theorem inb_kind (g : Fin 3) : ∀ a, (![g.val, 0, 0] : Fin 3 → ℕ) a + S1x96x128.size a ≤ S3x96x128.size a := by revert g; decide
theorem inb_first (v : Fin 5) : ∀ a, (![v.val, 0, 0] : Fin 3 → ℕ) a + S1x64x128.size a ≤ S5x12012x128.size a := by revert v; decide

section
variable (i : grid0.Coords) (arg3 : Memref sig .tc .smem S10 .f32) (arg4 : Memref sig .tc .vmem S7x3x7x96 .fp8e4m3)
  (arg5 : Memref sig .tc .vmem S168x1024 .bf16) (arg6 arg7 : Memref sig .tc .vmem S96x128 .f32)
  (arg10 : Memref sig .tc .vmem S5x12012x128 .i32) (arg12 : Memref sig .tc .vmem S2x8x128 .f32)
  (f3 : BufTy.Contents (Elt F) arg3.view.ty) (f4 : BufTy.Contents (Elt F) arg4.view.ty) (f5 : BufTy.Contents (Elt F) arg5.view.ty)
  (f6 : BufTy.Contents (Elt F) arg6.view.ty) (f7 : BufTy.Contents (Elt F) arg7.view.ty) (X10 : BufTy.Contents (Elt F) arg10.view.ty)
  (wk : Vec F S384x256 .fp8e4m3) (k0_h2 : k0_cond2 i = 1#1)

/-- The weights, an eighth tap of zeros appended to every row of taps, spread to the columns of the four phases. -/
def spread : FVec F S96x1024 .f32 :=
  matmul dot_S168x96_S168x1024_S96x1024_0_0_1_1_n_n none
    (truncf .bf16 (shapeCast S168x96 (concatenate S7x3x8x96 2
        [⟨S7x3x7x96, extf .f32 (shapeCast S7x3x7x96 (View.readAt (Elt F) arg4.view (Rect.unit (s := S7x3x7x96) ![0, 0, 0, 0] S7x3x7x96.size inb_all4).toLoadRect f4)
            shapeCasts_S7x3x7x96_S7x3x7x96) bitsLt_fp8e4m3_f32⟩,
          ⟨S7x3x1x96, broadcast S7x3x1x96 (Scalar.ofBits .f32 0x00000000#32)⟩] concatenates_S7x3x7x96_S7x3x1x96_S7x3x8x96_d2) shapeCasts_S7x3x8x96_S168x96) bitsLt_bf16_f32)
    (View.readAt (Elt F) arg5.view (Rect.unit (s := S168x1024) ![0, 0] S168x1024.size inb_all5).toLoadRect f5)
    (constant S96x1024 .f32 0x00000000#32)

/-- The product of the two scales of a channel, one column of it. -/
def signCol : FVec F S96x1 .f32 :=
  mulf (shapeCast S96x1 (View.readAt (Elt F) arg6.view (Rect.unit (s := S96x128) ![0, 0] S96x1.size inb_col).toLoadRect f6) shapeCasts_S96x1_S96x1)
    (shapeCast S96x1 (View.readAt (Elt F) arg7.view (Rect.unit (s := S96x128) ![0, 0] S96x1.size inb_col).toLoadRect f7) shapeCasts_S96x1_S96x1)

/-- The spread weights, negated in the channels whose scale is negative. -/
def signed : FVec F S96x1024 .f32 :=
  select (broadcastTo S96x1024 (shapeCast S96x1 (cmpf .olt (signCol arg6 arg7 f6 f7) (broadcast S96x1 (Scalar.ofBits .f32 0x00000000#32))) shapeCasts_S96x1_S96x1)
      broadcasts_S96x1_S96x1024)
    (subf (broadcast S96x1024 (Scalar.ofBits .f32 0x00000000#32)) (spread arg4 arg5 f4 f5)) (spread arg4 arg5 f4 f5)

/-- The prepared weights: one row per channel group, phase and channel. -/
def wkMade : FVec F S384x256 .fp8e4m3 :=
  shapeCast S384x256 (truncf .fp8e4m3 (concatenate S384x256 0
      (([0, 1, 2, 3, 4, 5] : List (Fin 6)).flatMap fun g => ([0, 1, 2, 3] : List (Fin 4)).map fun ph =>
        ⟨S16x256, extractStridedSlice S16x256 ![16 * g.val, 256 * ph.val] (signed arg4 arg5 arg6 arg7 f4 f5 f6 f7) (slices_phase g ph)⟩)
      concatenates_S16x256_S16x256_S16x256_S16x256_S16x256_S16x256_S16x256_S16x256_S16x256_S16x256_S16x256_S16x256_S16x256_S16x256_S16x256_S16x256_S16x256_S16x256_S16x256_S16x256_S16x256_S16x256_S16x256_S16x256_S384x256_d0)
    bitsLt_fp8e4m3_f32) shapeCasts_S384x256_S384x256

def wkPieces : List (View.Piece (Elt F) S384x256 .fp8e4m3) :=
  [⟨Rect.unit (s := S384x256) ![0, 0] S384x256.size inb_S384x256_S384x256_0_0, wkMade arg4 arg5 arg6 arg7 f4 f5 f6 f7⟩]

def scalePiece (g : Fin 2) : View.Piece (Elt F) S2x8x128 .f32 :=
  ⟨Rect.unit (s := S2x8x128) ![g.val, 0, 0] S1x8x128.size (inb_pair g),
    shapeCast S1x8x128 (broadcast S8x128 (View.readAt (Elt F) arg3.view (Rect.unit (s := S10) (k0_off2 i (BitVec.ofNat 32 g.val)) S1.size (k0_off2_inb i k0_h2 g)).toLoadRect f3
      (Shape.Idx.first Nat.one_pos))) shapeCasts_S8x128_S1x8x128⟩

def scalePieces : List (View.Piece (Elt F) S2x8x128 .f32) := [scalePiece i arg3 f3 k0_h2 1, scalePiece i arg3 f3 k0_h2 0]

def scaleLoad (g : Fin 2) : FVec F S1x128 .f32 :=
  shapeCast S1x128 (arg12.view.readCov (scalePieces i arg3 f3 k0_h2) (Rect.unit (s := S2x8x128) ![g.val, 0, 0] S1x1x128.size (inb_scale g)).toLoadRect)
    shapeCasts_S1x1x128_S1x128

def magnitude : FVec F S96x128 .f32 :=
  absf (mulf (shapeCast S96x128 (View.readAt (Elt F) arg6.view (Rect.unit (s := S96x128) ![0, 0] S96x128.size inb_all6).toLoadRect f6) shapeCasts_S96x128_S96x128)
    (shapeCast S96x128 (View.readAt (Elt F) arg7.view (Rect.unit (s := S96x128) ![0, 0] S96x128.size inb_all6).toLoadRect f7) shapeCasts_S96x128_S96x128))

def kindScale (kind : Fin 3) : FVec F S96x128 .f32 :=
  match kind with
  | 0 => broadcastTo S96x128 (scaleLoad i arg3 arg12 f3 k0_h2 0) broadcasts_S1x128_S96x128
  | 1 => select (cmpi .slt (iota Kind.tc S96x128 32 [1] iota_S96x128_d1_w32) (broadcast S96x128 64#32))
      (broadcastTo S96x128 (shapeCast S1x128 (scaleLoad i arg3 arg12 f3 k0_h2 0) shapeCasts_S1x128_S1x128) broadcasts_S1x128_S96x128)
      (broadcastTo S96x128 (shapeCast S1x128 (scaleLoad i arg3 arg12 f3 k0_h2 1) shapeCasts_S1x128_S1x128) broadcasts_S1x128_S96x128)
  | 2 => broadcastTo S96x128 (scaleLoad i arg3 arg12 f3 k0_h2 1) broadcasts_S1x128_S96x128

def mulPiece (kind : Fin 3) : View.Piece (Elt F) S3x96x128 .f32 :=
  ⟨Rect.unit (s := S3x96x128) ![kind.val, 0, 0] S1x96x128.size (inb_kind kind),
    shapeCast S1x96x128 (mulf (magnitude arg6 arg7 f6 f7) (kindScale i arg3 arg12 f3 k0_h2 kind)) shapeCasts_S96x128_S1x96x128⟩

def mulPieces : List (View.Piece (Elt F) S3x96x128 .f32) :=
  [mulPiece i arg3 arg6 arg7 arg12 f3 f6 f7 k0_h2 2, mulPiece i arg3 arg6 arg7 arg12 f3 f6 f7 k0_h2 1, mulPiece i arg3 arg6 arg7 arg12 f3 f6 f7 k0_h2 0]

/-- The tiles the state before the first row is made of, two at a time. -/
def firstTile (u : Fin 3) (h : Fin 2) : Fin 5 :=
  match u, h with | 0, 0 => 0 | 0, 1 => 1 | 1, 0 => 3 | 1, 1 => 4 | 2, _ => 2

def firstAcc (u : Fin 3) : FVec F S384x256 .f32 :=
  match u with
  | 0 => convOf (View.readAt (Elt F) arg10.view (Rect.unit (s := S5x12012x128) ![0, 0, 0] S1x64x128.size (inb_first 0)).toLoadRect X10)
      (View.readAt (Elt F) arg10.view (Rect.unit (s := S5x12012x128) ![1, 0, 0] S1x64x128.size (inb_first 1)).toLoadRect X10) wk
  | 1 => convOf (View.readAt (Elt F) arg10.view (Rect.unit (s := S5x12012x128) ![3, 0, 0] S1x64x128.size (inb_first 3)).toLoadRect X10)
      (View.readAt (Elt F) arg10.view (Rect.unit (s := S5x12012x128) ![4, 0, 0] S1x64x128.size (inb_first 4)).toLoadRect X10) wk
  | 2 => convOf (View.readAt (Elt F) arg10.view (Rect.unit (s := S5x12012x128) ![2, 0, 0] S1x64x128.size (inb_first 2)).toLoadRect X10)
      (View.readAt (Elt F) arg10.view (Rect.unit (s := S5x12012x128) ![2, 0, 0] S1x64x128.size (inb_first 2)).toLoadRect X10) wk

def firstPiece (u : Fin 3) (h : Fin 2) (g : Fin 6) (t : Fin 2) : View.Piece (Elt F) S2x5x96x128 .f32 :=
  ⟨Rect.unit (s := S2x5x96x128) ![t.val, (firstTile u h).val, 16 * g.val, 0] S1x1x16x128.size (inb_carry t (firstTile u h) g),
    shapeCast S1x1x16x128 (pieceOf (firstAcc arg10 X10 wk u) g (match t with | 0 => 2 | 1 => 3) h) shapeCasts_S16x128_S1x1x16x128⟩

def firstPieces : List (View.Piece (Elt F) S2x5x96x128 .f32) :=
  (([0, 1, 2] : List (Fin 3)).flatMap fun u => ([0, 1] : List (Fin 2)).flatMap fun h => ([0, 1, 2, 3, 4, 5] : List (Fin 6)).flatMap fun g =>
    ([0, 1] : List (Fin 2)).map fun t => firstPiece arg10 X10 wk u h g t).reverse

end

section
variable (c : Dev nD) (i : grid0.Coords)
  (arg2 : Memref sig .tc .vmem S2x3x7200x128 .i8) (harg2 : arg2.IsWhole)
  (arg3 : Memref sig .tc .smem S10 .f32) (harg3 : arg3.IsWhole)
  (arg4 : Memref sig .tc .vmem S7x3x7x96 .fp8e4m3) (harg4 : arg4.IsWhole)
  (arg5 : Memref sig .tc .vmem S168x1024 .bf16) (harg5 : arg5.IsWhole)
  (arg6 : Memref sig .tc .vmem S96x128 .f32) (harg6 : arg6.IsWhole)
  (arg7 : Memref sig .tc .vmem S96x128 .f32) (harg7 : arg7.IsWhole)
  (arg8 : Memref sig .tc .vmem S96x128 .f32) (harg8 : arg8.IsWhole)
  (arg9 : Memref sig .tc .vmem S2x10x96x320 .bf16) (harg9 : arg9.IsWhole)
  (arg10 : Memref sig .tc .vmem S5x12012x128 .i32) (harg10 : arg10.IsWhole)
  (arg11 : Memref sig .tc .vmem S384x256 .fp8e4m3) (harg11 : arg11.IsWhole)
  (arg12 : Memref sig .tc .vmem S2x8x128 .f32) (harg12 : arg12.IsWhole)
  (arg13 : Memref sig .tc .vmem S3x96x128 .f32) (harg13 : arg13.IsWhole)
  (arg14 : Memref sig .tc .vmem S2x5x96x128 .f32) (harg14 : arg14.IsWhole)
  (arg15 : Memref sig .tc .vmem S2x2x96x128 .f32) (harg15 : arg15.IsWhole)
  (f2 : BufTy.Contents (Elt F) arg2.view.ty)
  (f3 : BufTy.Contents (Elt F) arg3.view.ty)
  (f4 : BufTy.Contents (Elt F) arg4.view.ty)
  (f5 : BufTy.Contents (Elt F) arg5.view.ty)
  (f6 : BufTy.Contents (Elt F) arg6.view.ty)
  (f7 : BufTy.Contents (Elt F) arg7.view.ty)
  (f8 : BufTy.Contents (Elt F) arg8.view.ty)
  (f9 : BufTy.Contents (Elt F) arg9.view.ty)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty)
  (h1 : k0_cond1 i = 1#1) (h2 : k0_cond2 i = 1#1) (h1' : ¬ k0_cond1 i = 1#1) (h2' : ¬ k0_cond2 i = 1#1)

/-- The stores of the twelve groups of patches. -/
def patchPieces : List (View.Piece (Elt F) S5x12012x128 .i32) :=
  pieces (F := F) i arg2 harg2 arg3 harg3 arg4 harg4 arg5 harg5 arg6 harg6 arg7 harg7 arg8 harg8 arg9 harg9 arg10 harg10 arg11 harg11 arg12 harg12 arg13 harg13 arg14 harg14 arg15 harg15 h2 k0_pay1466 runA.sl.v121 runA.sl.v142 runA.sl.v163 (muli runA.sl.v101 runA.sl.v100) (4#32) runA.sl.v171
    (cmpi CmpIPredicate.ne runA.sl.v171 runA.sl.v89) c f2 k0_t2_loop.trips

def clearPieces : List (View.Piece (Elt F) S5x12012x128 .i32) :=
  pb_k0_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 h1 k0_t1_loop.trips

/-- The five steps of a point. -/
def steps (X8 : BufTy.Contents (Elt F) arg8.view.ty) (X10 : BufTy.Contents (Elt F) arg10.view.ty) (X11 : BufTy.Contents (Elt F) arg11.view.ty)
    (X13 : BufTy.Contents (Elt F) arg13.view.ty) (G9 : BufTy.Contents (Elt F) arg9.view.ty) (G14 : BufTy.Contents (Elt F) arg14.view.ty)
    (G15 : BufTy.Contents (Elt F) arg15.view.ty) :=
  pb_k0_t3 (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) runA.sl.v8 X8 X10 X11 X13 G9 G14 G15 k0_t3_loop.trips

def R_A : BufTy.Contents (Elt F) arg10.view.ty := arg10.view.writes (Elt F) f10 ((patchPieces c i arg2 harg2 arg3 harg3 arg4 harg4 arg5 harg5 arg6 harg6 arg7 harg7 arg8 harg8 arg9 harg9 arg10 harg10 arg11 harg11 arg12 harg12 arg13 harg13 arg14 harg14 arg15 harg15 f2 h2) ++ clearPieces c i arg2 harg2 arg3 harg3 arg4 harg4 arg5 harg5 arg6 harg6 arg7 harg7 arg8 harg8 arg9 harg9 arg10 harg10 arg11 harg11 arg12 harg12 arg13 harg13 arg14 harg14 arg15 harg15 h1)
def R_B : BufTy.Contents (Elt F) arg10.view.ty := arg10.view.writes (Elt F) f10 (patchPieces c i arg2 harg2 arg3 harg3 arg4 harg4 arg5 harg5 arg6 harg6 arg7 harg7 arg8 harg8 arg9 harg9 arg10 harg10 arg11 harg11 arg12 harg12 arg13 harg13 arg14 harg14 arg15 harg15 f2 h2)
def W_A : BufTy.Contents (Elt F) arg11.view.ty := arg11.view.writes (Elt F) arg11.view.junk (wkPieces arg4 arg5 arg6 arg7 f4 f5 f6 f7)
def M_A : BufTy.Contents (Elt F) arg13.view.ty := arg13.view.writes (Elt F) arg13.view.junk (mulPieces i arg3 arg6 arg7 arg12 f3 f6 f7 h2)
def wk_A : FVec F S384x256 .fp8e4m3 :=
  arg11.view.readCov (wkPieces arg4 arg5 arg6 arg7 f4 f5 f6 f7) (Rect.unit (s := S384x256) ![0, 0] S384x256.size inb_S384x256_S384x256_0_0).toLoadRect
def C_A : List (View.Piece (Elt F) S2x5x96x128 .f32) := firstPieces arg10 (R_A c i arg2 harg2 arg3 harg3 arg4 harg4 arg5 harg5 arg6 harg6 arg7 harg7 arg8 harg8 arg9 harg9 arg10 harg10 arg11 harg11 arg12 harg12 arg13 harg13 arg14 harg14 arg15 harg15 f2 f10 h1 h2) (wk_A arg4 arg5 arg6 arg7 arg11 f4 f5 f6 f7)
def C_B : List (View.Piece (Elt F) S2x5x96x128 .f32) := firstPieces arg10 (R_B c i arg2 harg2 arg3 harg3 arg4 harg4 arg5 harg5 arg6 harg6 arg7 harg7 arg8 harg8 arg9 harg9 arg10 harg10 arg11 harg11 arg12 harg12 arg13 harg13 arg14 harg14 arg15 harg15 f2 f10 h2) (wkLoad arg11 f11)

/-- The steps of a first point, in the buffers made before them. -/
def steps_A := steps c i arg2 harg2 arg3 harg3 arg4 harg4 arg5 harg5 arg6 harg6 arg7 harg7 arg8 harg8 arg9 harg9 arg10 harg10 arg11 harg11 arg12 harg12 arg13 harg13 arg14 harg14 arg15 harg15 f8 (R_A c i arg2 harg2 arg3 harg3 arg4 harg4 arg5 harg5 arg6 harg6 arg7 harg7 arg8 harg8 arg9 harg9 arg10 harg10 arg11 harg11 arg12 harg12 arg13 harg13 arg14 harg14 arg15 harg15 f2 f10 h1 h2) (W_A arg4 arg5 arg6 arg7 arg11 f4 f5 f6 f7) (M_A i arg3 arg6 arg7 arg12 arg13 f3 f6 f7 h2) f9 (arg14.view.writes (Elt F) arg14.view.junk (C_A c i arg2 harg2 arg3 harg3 arg4 harg4 arg5 harg5 arg6 harg6 arg7 harg7 arg8 harg8 arg9 harg9 arg10 harg10 arg11 harg11 arg12 harg12 arg13 harg13 arg14 harg14 arg15 harg15 f2 f4 f5 f6 f7 f10 h1 h2)) f15
def steps_B := steps c i arg2 harg2 arg3 harg3 arg4 harg4 arg5 harg5 arg6 harg6 arg7 harg7 arg8 harg8 arg9 harg9 arg10 harg10 arg11 harg11 arg12 harg12 arg13 harg13 arg14 harg14 arg15 harg15 f8 (R_B c i arg2 harg2 arg3 harg3 arg4 harg4 arg5 harg5 arg6 harg6 arg7 harg7 arg8 harg8 arg9 harg9 arg10 harg10 arg11 harg11 arg12 harg12 arg13 harg13 arg14 harg14 arg15 harg15 f2 f10 h2) f11 (M_A i arg3 arg6 arg7 arg12 arg13 f3 f6 f7 h2) f9 (arg14.view.writes (Elt F) arg14.view.junk (C_B c i arg2 harg2 arg3 harg3 arg4 harg4 arg5 harg5 arg6 harg6 arg7 harg7 arg8 harg8 arg9 harg9 arg10 harg10 arg11 harg11 arg12 harg12 arg13 harg13 arg14 harg14 arg15 harg15 f2 f10 f11 h2)) f15

theorem scaleA_eq : runA.sl.H12_2 i arg3 f3 h2 = scalePieces (F := F) i arg3 f3 h2 := by
  with_unfolding_all rfl
theorem scaleB_eq : runB.sl.H12_2 i arg3 f3 h2 = scalePieces (F := F) i arg3 f3 h2 := by
  with_unfolding_all rfl
theorem mulA_eq : runA.sl.H13_3 i arg3 arg6 arg7 arg12 f3 f6 f7 h2 = mulPieces (F := F) i arg3 arg6 arg7 arg12 f3 f6 f7 h2 := by
  with_unfolding_all rfl
theorem mulB_eq : runB.sl.H13_3 i arg3 arg6 arg7 arg12 f3 f6 f7 h2 = mulPieces (F := F) i arg3 arg6 arg7 arg12 f3 f6 f7 h2 := by
  with_unfolding_all rfl
theorem wkA_eq : runA.sl.H11_1 arg4 arg5 arg6 arg7 f4 f5 f6 f7 = wkPieces (F := F) arg4 arg5 arg6 arg7 f4 f5 f6 f7 := by
  with_unfolding_all rfl

end

end Cert.Proof.KernelIdeal

end
-- ==== Proof.StepFold.lean ====
/-
  The five steps of a point one after the other: the block of the result they leave, and the maxima they carry on.
-/
module

public import proofs.«01_k».proof.Proof.StepFinish
public import proofs.«01_k».proof.Proof.RunMirror
public import Idealize.ShloMosaic.Lib.Writes

@[expose] public section

set_option maxRecDepth 65536
set_option maxHeartbeats 400000

noncomputable section

namespace Cert.Proof.KernelIdeal

open Cert.KernelIdeal Cert.KernelIdeal.Gen
open Idealize.ShloMosaic hiding ix1 ix2 ix3 ix4 ix5
open Idealize.ShloMosaic.TcCoe Idealize.ShloMosaic.Tactic Idealize.ShloMosaic.ValueIdx

attribute [local irreducible] cv

theorem t3_trips : k0_t3_loop.trips = 5 := by decide +kernel

theorem lanes_eq : runA.sl.v8 = lanes := rfl

section
variable (c : Dev nD) (i : grid0.Coords)
  (arg2 : Memref sig .tc .vmem S2x3x7200x128 .i8) (harg2 : arg2.IsWhole)
  (arg3 : Memref sig .tc .smem S10 .f32) (harg3 : arg3.IsWhole)
  (arg4 : Memref sig .tc .vmem S7x3x7x96 .fp8e4m3) (harg4 : arg4.IsWhole)
  (arg5 : Memref sig .tc .vmem S168x1024 .bf16) (harg5 : arg5.IsWhole)
  (arg6 : Memref sig .tc .vmem S96x128 .f32) (harg6 : arg6.IsWhole)
  (arg7 : Memref sig .tc .vmem S96x128 .f32) (harg7 : arg7.IsWhole)
  (arg8 : Memref sig .tc .vmem S96x128 .f32) (harg8 : arg8.IsWhole)
  (arg9 : Memref sig .tc .vmem S2x10x96x320 .bf16) (harg9 : arg9.IsWhole)
  (arg10 : Memref sig .tc .vmem S5x12012x128 .i32) (harg10 : arg10.IsWhole)
  (arg11 : Memref sig .tc .vmem S384x256 .fp8e4m3) (harg11 : arg11.IsWhole)
  (arg12 : Memref sig .tc .vmem S2x8x128 .f32) (harg12 : arg12.IsWhole)
  (arg13 : Memref sig .tc .vmem S3x96x128 .f32) (harg13 : arg13.IsWhole)
  (arg14 : Memref sig .tc .vmem S2x5x96x128 .f32) (harg14 : arg14.IsWhole)
  (arg15 : Memref sig .tc .vmem S2x2x96x128 .f32) (harg15 : arg15.IsWhole)
  (f2 : BufTy.Contents (Elt Ideal) arg2.view.ty)
  (f3 : BufTy.Contents (Elt Ideal) arg3.view.ty)
  (f4 : BufTy.Contents (Elt Ideal) arg4.view.ty)
  (f5 : BufTy.Contents (Elt Ideal) arg5.view.ty)
  (f6 : BufTy.Contents (Elt Ideal) arg6.view.ty)
  (f7 : BufTy.Contents (Elt Ideal) arg7.view.ty)
  (f8 : BufTy.Contents (Elt Ideal) arg8.view.ty)
  (f9 : BufTy.Contents (Elt Ideal) arg9.view.ty)
  (f10 : BufTy.Contents (Elt Ideal) arg10.view.ty)
  (f11 : BufTy.Contents (Elt Ideal) arg11.view.ty)
  (f12 : BufTy.Contents (Elt Ideal) arg12.view.ty)
  (f13 : BufTy.Contents (Elt Ideal) arg13.view.ty)
  (f14 : BufTy.Contents (Elt Ideal) arg14.view.ty)
  (f15 : BufTy.Contents (Elt Ideal) arg15.view.ty)
  (h1 : k0_cond1 i = 1#1) (h2 : k0_cond2 i = 1#1) (h1' : ¬ k0_cond1 i = 1#1) (h2' : ¬ k0_cond2 i = 1#1)

variable (X8 : BufTy.Contents (Elt Ideal) arg8.view.ty) (X10 : BufTy.Contents (Elt Ideal) arg10.view.ty) (X11 : BufTy.Contents (Elt Ideal) arg11.view.ty)
    (X13 : BufTy.Contents (Elt Ideal) arg13.view.ty) (G9 : BufTy.Contents (Elt Ideal) arg9.view.ty) (G14 : BufTy.Contents (Elt Ideal) arg14.view.ty)
    (G15 : BufTy.Contents (Elt Ideal) arg15.view.ty)

/-- The stores of the first `n` steps. -/
abbrev stepsTo (n : ℕ) := pb_k0_t3 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) runA.sl.v8 X8 X10 X11 X13 G9 G14 G15 n

/-- After `n` steps: the carried maxima, the stores into the result, and the rows they cover. -/
theorem steps_fold (hC : Carries arg10 arg11 arg14 X10 X11 (10 * (i 1).val + 1) G14) (n : ℕ) (hn : n ≤ k0_t3_loop.trips) :
    Carries arg10 arg11 arg14 X10 X11 (10 * (i 1).val + 2 * n + 1) (arg14.view.writes (Elt Ideal) G14 (stepsTo c i arg2 harg2 arg3 harg3 arg4 harg4 arg5 harg5 arg6 harg6 arg7 harg7 arg8 harg8 arg9 harg9 arg10 harg10 arg11 harg11 arg12 harg12 arg13 harg13 arg14 harg14 arg15 harg15 X8 X10 X11 X13 G9 G14 G15 n).2.1)
    ∧ (∀ p ∈ (stepsTo c i arg2 harg2 arg3 harg3 arg4 harg4 arg5 harg5 arg6 harg6 arg7 harg7 arg8 harg8 arg9 harg9 arg10 harg10 arg11 harg11 arg12 harg12 arg13 harg13 arg14 harg14 arg15 harg15 X8 X10 X11 X13 G9 G14 G15 n).1, ∀ x, p.2 x
        = OUT (View.read (Elt Ideal) arg11.view X11) (View.read (Elt Ideal) arg10.view X10) (View.read (Elt Ideal) arg13.view X13) (View.read (Elt Ideal) arg8.view X8) (i 1).val (p.1.emb x))
    ∧ (∀ y : S2x10x96x320.Idx, (y 1).val / 2 < n → ∃ p ∈ (stepsTo c i arg2 harg2 arg3 harg3 arg4 harg4 arg5 harg5 arg6 harg6 arg7 harg7 arg8 harg8 arg9 harg9 arg10 harg10 arg11 harg11 arg12 harg12 arg13 harg13 arg14 harg14 arg15 harg15 X8 X10 X11 X13 G9 G14 G15 n).1, y ∈ p.1.set) := by
  induction n with
  | zero =>
    refine ⟨hC, fun p hp => absurd hp List.not_mem_nil, fun y hy => absurd hy (Nat.not_lt_zero _)⟩
  | succ n ih =>
    obtain ⟨hc, ho, hcov⟩ := ih (Nat.le_of_succ_le hn)
    have e := pb_k0_t3_succ (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) runA.sl.v8 X8 X10 X11 X13 G9 G14 G15 ⟨n, hn⟩
    rw [step_eq, lanes_eq] at e
    have e1 := congrArg (fun z => z.1) e
    have e2 := congrArg (fun z => z.2.1) e
    dsimp only at e1 e2
    refine ⟨?_, ?_, ?_⟩
    · intro t v ch l
      rw [show (stepsTo c i arg2 harg2 arg3 harg3 arg4 harg4 arg5 harg5 arg6 harg6 arg7 harg7 arg8 harg8 arg9 harg9 arg10 harg10 arg11 harg11 arg12 harg12 arg13 harg13 arg14 harg14 arg15 harg15 X8 X10 X11 X13 G9 G14 G15 (n + 1)).2.1 = _ from e2, View.writes_append]
      refine (View.read_writes_apply_of_pieces arg14.view _ (CARY (View.read (Elt Ideal) arg11.view X11) (View.read (Elt Ideal) arg10.view X10) (10 * (i 1).val + 2 * n + 3)) _
        (carry_agree i arg10 arg11 X10 X11 ⟨n, hn⟩) (ix4 t v ch l) (carry_cover i arg10 arg11 X10 X11 ⟨n, hn⟩ _)).trans ?_
      show CAR _ _ (10 * (i 1).val + 2 * n + 3) t v ch l = CAR _ _ (10 * (i 1).val + 2 * (n + 1) + 1) t v ch l
      rw [show 10 * (i 1).val + 2 * (n + 1) + 1 = 10 * (i 1).val + 2 * n + 3 by omega]
    · intro p hp
      rw [show (stepsTo c i arg2 harg2 arg3 harg3 arg4 harg4 arg5 harg5 arg6 harg6 arg7 harg7 arg8 harg8 arg9 harg9 arg10 harg10 arg11 harg11 arg12 harg12 arg13 harg13 arg14 harg14 arg15 harg15 X8 X10 X11 X13 G9 G14 G15 (n + 1)).1 = _ from e1, List.mem_append] at hp
      rcases hp with hp | hp
      · exact out_agree i arg8 arg10 arg11 arg13 arg14 arg15 X8 X10 X11 X13 _ ⟨n, hn⟩ hc p hp
      · exact ho p hp
    · intro y hy
      rw [show (stepsTo c i arg2 harg2 arg3 harg3 arg4 harg4 arg5 harg5 arg6 harg6 arg7 harg7 arg8 harg8 arg9 harg9 arg10 harg10 arg11 harg11 arg12 harg12 arg13 harg13 arg14 harg14 arg15 harg15 X8 X10 X11 X13 G9 G14 G15 (n + 1)).1 = _ from e1]
      rcases Nat.lt_succ_iff_lt_or_eq.mp hy with hy | hy
      · obtain ⟨p, hp, h⟩ := hcov y hy
        exact ⟨p, List.mem_append_right _ hp, h⟩
      · obtain ⟨p, hp, h⟩ := out_cover i arg8 arg10 arg11 arg13 arg14 arg15 X8 X10 X11 X13 (arg14.view.writes (Elt Ideal) G14 (stepsTo c i arg2 harg2 arg3 harg3 arg4 harg4 arg5 harg5 arg6 harg6 arg7 harg7 arg8 harg8 arg9 harg9 arg10 harg10 arg11 harg11 arg12 harg12 arg13 harg13 arg14 harg14 arg15 harg15 X8 X10 X11 X13 G9 G14 G15 n).2.1) ⟨n, hn⟩ y hy
        exact ⟨p, List.mem_append_left _ hp, h⟩

/-- The block of the result after the five steps. -/
theorem steps_out (hC : Carries arg10 arg11 arg14 X10 X11 (10 * (i 1).val + 1) G14) :
    View.read (Elt Ideal) arg9.view (arg9.view.writes (Elt Ideal) f9 (steps (F := Ideal) c i arg2 harg2 arg3 harg3 arg4 harg4 arg5 harg5 arg6 harg6 arg7 harg7 arg8 harg8 arg9 harg9 arg10 harg10 arg11 harg11 arg12 harg12 arg13 harg13 arg14 harg14 arg15 harg15 X8 X10 X11 X13 G9 G14 G15).1)
      = OUT (View.read (Elt Ideal) arg11.view X11) (View.read (Elt Ideal) arg10.view X10) (View.read (Elt Ideal) arg13.view X13) (View.read (Elt Ideal) arg8.view X8) (i 1).val := by
  obtain ⟨-, ho, hcov⟩ := steps_fold (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (X8 := X8) (X10 := X10) (X11 := X11) (X13 := X13) (G9 := G9) (G14 := G14) (G15 := G15) hC _ (Nat.le_refl _)
  funext y
  refine View.read_writes_apply_of_pieces arg9.view f9 _ _ ho y (hcov y ?_)
  have h1 : (y 1).val < 10 := (y 1).isLt
  exact lt_of_lt_of_eq (show (y 1).val / 2 < 5 by omega) t3_trips.symm

/-- The carried maxima after the five steps. -/
theorem steps_carry (hC : Carries arg10 arg11 arg14 X10 X11 (10 * (i 1).val + 1) G14) :
    Carries arg10 arg11 arg14 X10 X11 (10 * ((i 1).val + 1) + 1) (arg14.view.writes (Elt Ideal) G14 (steps (F := Ideal) c i arg2 harg2 arg3 harg3 arg4 harg4 arg5 harg5 arg6 harg6 arg7 harg7 arg8 harg8 arg9 harg9 arg10 harg10 arg11 harg11 arg12 harg12 arg13 harg13 arg14 harg14 arg15 harg15 X8 X10 X11 X13 G9 G14 G15).2.1) := by
  obtain ⟨h, -, -⟩ := steps_fold (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (X8 := X8) (X10 := X10) (X11 := X11) (X13 := X13) (G9 := G9) (G14 := G14) (G15 := G15) hC _ (Nat.le_refl _)
  rw [show 10 * ((i 1).val + 1) + 1 = 10 * (i 1).val + 2 * k0_t3_loop.trips + 1 by rw [t3_trips]; omega]
  exact h

end

section
variable (arg10 : Memref sig .tc .vmem S5x12012x128 .i32) (arg11 : Memref sig .tc .vmem S384x256 .fp8e4m3) (arg14 : Memref sig .tc .vmem S2x5x96x128 .f32)
  (X10 : BufTy.Contents (Elt Ideal) arg10.view.ty) (X11 : BufTy.Contents (Elt Ideal) arg11.view.ty) (wk : Vec Ideal S384x256 .fp8e4m3)
  (hwk : ∀ m n, wk (ix2 m n) = (View.read (Elt Ideal) arg11.view X11) (ix2 m n))

include hwk in
theorem firstAcc_apply (u : Fin 3) (m : Fin 384) (h : Fin 2) (l : Fin 128) :
    firstAcc (F := Ideal) arg10 X10 wk u (ix2 m ⟨128 * h.val + l.val, by omega⟩)
      = cv (View.read (Elt Ideal) arg11.view X11) (View.read (Elt Ideal) arg10.view X10) 0 (firstTile u h) m l := by
  match u with
  | 0 =>
    unfold firstAcc
    refine (conv_tiles arg10 arg11 X10 X11 _ _ _ _ 0 1 0 0 (by decide) (by decide) rfl rfl wk hwk m h l).trans ?_
    match h with | 0 => rfl | 1 => rfl
  | 1 =>
    unfold firstAcc
    refine (conv_tiles arg10 arg11 X10 X11 _ _ _ _ 3 4 0 0 (by decide) (by decide) rfl rfl wk hwk m h l).trans ?_
    match h with | 0 => rfl | 1 => rfl
  | 2 =>
    unfold firstAcc
    refine (conv_tiles arg10 arg11 X10 X11 _ _ _ _ 2 2 0 0 (by decide) (by decide) rfl rfl wk hwk m h l).trans ?_
    match h with | 0 => rfl | 1 => rfl

theorem every3 (a : Fin 3) : a ∈ ([0, 1, 2] : List (Fin 3)) := by revert a; decide

include hwk in
/-- The maxima carried into the first row, from the patch before it. -/
theorem first_carries (f : BufTy.Contents (Elt Ideal) arg14.view.ty) :
    Carries arg10 arg11 arg14 X10 X11 1 (arg14.view.writes (Elt Ideal) f (firstPieces (F := Ideal) arg10 X10 wk)) := by
  intro t v ch l
  refine (View.read_writes_apply_of_pieces arg14.view f (CARY (View.read (Elt Ideal) arg11.view X11) (View.read (Elt Ideal) arg10.view X10) 1) _ ?_ (ix4 t v ch l) ?_).trans rfl
  · intro p hp
    unfold firstPieces at hp
    rw [List.mem_reverse, List.mem_flatMap] at hp; obtain ⟨u, -, hp⟩ := hp
    rw [List.mem_flatMap] at hp; obtain ⟨h, -, hp⟩ := hp
    rw [List.mem_flatMap] at hp; obtain ⟨g, -, hp⟩ := hp
    rw [List.mem_map] at hp; obtain ⟨t, -, rfl⟩ := hp
    intro x
    obtain ⟨j, l, rfl⟩ := exists_tile x
    refine Eq.trans ?_ (congrArg _ (carry_emb t (firstTile u h) g _)).symm
    refine (cast_store (pieceOf (firstAcc (F := Ideal) arg10 X10 wk u) g (match t with | 0 => 2 | 1 => 3) h) 0 0 j l).trans ?_
    show _ = CAR (View.read (Elt Ideal) arg11.view X11) (View.read (Elt Ideal) arg10.view X10) 1 t (firstTile u h) (chOf g j) l
    unfold CAR
    rw [if_pos rfl, pieceOf_apply, firstAcc_apply arg10 arg11 X10 X11 wk hwk]
    match t with | 0 => rfl | 1 => rfl
  · have tiles : ∀ v : Fin 5, ∃ u h, v = firstTile u h := by decide
    obtain ⟨u, h, rfl⟩ := tiles v
    refine ⟨firstPiece (F := Ideal) arg10 X10 wk u h ⟨ch.val / 16, by omega⟩ t, ?_, ?_⟩
    · unfold firstPieces
      rw [List.mem_reverse, List.mem_flatMap]; refine ⟨u, every3 _, ?_⟩
      rw [List.mem_flatMap]; refine ⟨h, all2 _, ?_⟩
      rw [List.mem_flatMap]; refine ⟨⟨ch.val / 16, by omega⟩, all6 _, ?_⟩
      rw [List.mem_map]; exact ⟨t, all2 _, rfl⟩
    · refine (Rect.mem_set_unit (inb := inb_carry t (firstTile u h) ⟨ch.val / 16, by omega⟩)).mpr fun a => ?_
      match a with
      | ⟨0, _⟩ => show t.val ≤ t.val ∧ t.val < t.val + 1; omega
      | ⟨1, _⟩ => show (firstTile u h).val ≤ (firstTile u h).val ∧ (firstTile u h).val < (firstTile u h).val + 1; omega
      | ⟨2, _⟩ => show 16 * (ch.val / 16) ≤ ch.val ∧ ch.val < 16 * (ch.val / 16) + 16; omega
      | ⟨3, _⟩ => show 0 ≤ l.val ∧ l.val < 0 + 128; omega

end

end Cert.Proof.KernelIdeal

end
-- ==== Proof.PatchPoint.lean ====
/-
  The stores of one group of patches read at an index: every word stored is a word of four rows of one column of the
  image, or the last rows of four columns.
-/
module

public import proofs.«01_k».proof.Proof.RunMirror
public import Idealize.ShloMosaic.Lib.ValueIdx
public import Idealize.ShloMosaic.Lib.BitcastFour
public import Idealize.ShloMosaic.Lib.Pipeline.Value
public import Idealize.ShloMosaic.Lib.KernelVsHost
public import Idealize.ShloMosaic.Lib.Pointwise.Reshape
public import Idealize.ShloMosaic.Lib.Pipeline.FrameBody

@[expose] public section

set_option maxRecDepth 65536
set_option maxHeartbeats 400000

noncomputable section

namespace Cert.Proof.KernelIdeal

open Cert.KernelIdeal Cert.KernelIdeal.Gen
open Idealize.ShloMosaic hiding ix1 ix2 ix3 ix4 ix5
open Idealize.ShloMosaic.TcCoe Idealize.ShloMosaic.Tactic Idealize.ShloMosaic.ValueIdx

/-- Four bytes joined to a word. -/
def pack4 (f : ℕ → BitVec 8) : BitVec 32 := f 3 ++ (f 2 ++ (f 1 ++ f 0 : BitVec 16) : BitVec 24)

theorem pack4_getLsbD (f : ℕ → BitVec 8) (q : ℕ) (hq : q < 32) : (pack4 f).getLsbD q = (f (q / 8)).getLsbD (q % 8) := by
  unfold pack4
  rw [BitVec.getLsbD_append, BitVec.getLsbD_append, BitVec.getLsbD_append]
  by_cases h1 : q < 8
  · rw [if_pos (by omega), if_pos (by omega), if_pos h1, show q / 8 = 0 by omega, show q % 8 = q by omega]
  · by_cases h2 : q < 16
    · rw [if_pos (by omega), if_pos h2, if_neg h1, show q / 8 = 1 by omega, show q % 8 = q - 8 by omega]
    · by_cases h3 : q < 24
      · rw [if_pos h3, if_neg h2, show q / 8 = 2 by omega, show q % 8 = q - 16 by omega]
      · rw [if_neg h3, show q / 8 = 3 by omega, show q % 8 = q - 24 by omega]

theorem pack4_byte (f : ℕ → BitVec 8) (b : ℕ) (hb : b < 4) : (pack4 f).extractLsb' (8 * b) 8 = f b := by
  apply BitVec.eq_of_getLsbD_eq
  intro q hq
  rw [BitVec.getLsbD_extractLsb', decide_eq_true hq, Bool.true_and, pack4_getLsbD _ _ (by omega), show (8 * b + q) / 8 = b by omega,
    show (8 * b + q) % 8 = q by omega]

theorem eq_pack4 (w : BitVec 32) (f : ℕ → BitVec 8) (h : ∀ q < 32, w.getLsbD q = (f (q / 8)).getLsbD (q % 8)) : w = pack4 f := by
  apply BitVec.eq_of_getLsbD_eq
  intro q hq
  rw [h q hq, pack4_getLsbD f q hq]

theorem pack4_congr (f g : ℕ → BitVec 8) (h : ∀ b < 4, f b = g b) : pack4 f = pack4 g := by
  unfold pack4
  rw [h 0 (by decide), h 1 (by decide), h 2 (by decide), h 3 (by decide)]

theorem join_top (a b c d : BitVec 32) :
    ((a >>> 24 ||| (b >>> 16 &&& 65280#32)) ||| (c >>> 8 &&& 16711680#32)) ||| (d &&& 4278190080#32)
      = pack4 fun n => (if n = 0 then a else if n = 1 then b else if n = 2 then c else d).extractLsb' 24 8 := by
  refine eq_pack4 _ _ fun q hq => ?_
  interval_cases q <;> simp [BitVec.getLsbD_extractLsb']

/-- The word of rows `4 P … 4 P + 3` of image `g`, channel `c`, at the column `C - 3` (zero outside the image). -/
def WORD (X : S2x3x7200x128.Idx → BitVec 8) (g : Fin 2) (c : Fin 3) (P C : ℕ) : BitVec 32 :=
  if 3 ≤ C ∧ C < 1283 then
    pack4 fun b => X (ix4 g c ⟨(((4 * P + b) / 8) * 80 + ((C - 3) / 128) * 8 + (4 * P + b) % 8) % 7200, Nat.mod_lt _ (by decide)⟩ ⟨(C - 3) % 128, Nat.mod_lt _ (by decide)⟩)
  else 0#32

/-- The image and column quad of a lane of a tile. -/
def imgOf (v : Fin 5) (l : Fin 128) : Fin 2 := match v with | 0 => 0 | 1 => 0 | 2 => (if l.val < 64 then 0 else 1) | 3 => 1 | 4 => 1
def quadOf (v : Fin 5) (l : Fin 128) : ℕ :=
  match v with | 0 => l.val | 1 => 128 + l.val | 2 => (if l.val < 64 then 256 + l.val else 192 + l.val) | 3 => l.val | 4 => 128 + l.val

/-- The patches: for every patch, tile and lane, the words of the two groups of four rows at nine columns, the last rows above them,
    and zeros. -/
def RSPEC (X : S2x3x7200x128.Idx → BitVec 8) (y : S5x12012x128.Idx) : BitVec 32 :=
  let v : Fin 5 := y 0
  let l : Fin 128 := y 2
  let P := (y 1).val / 66
  let w := (y 1).val % 66
  if w < 27 then
    if 1 ≤ P ∧ P ≤ 180 then WORD X (imgOf v l) ⟨w / 9 % 3, Nat.mod_lt _ (by decide)⟩ (P - 1) (4 * quadOf v l + w % 9) else 0#32
  else if w < 54 then
    if P < 180 then WORD X (imgOf v l) ⟨(w - 27) / 9 % 3, Nat.mod_lt _ (by decide)⟩ P (4 * quadOf v l + (w - 27) % 9) else 0#32
  else if w < 63 then
    if 2 ≤ P then
      pack4 fun b => (WORD X (imgOf v l) ⟨(w - 54) / 3 % 3, Nat.mod_lt _ (by decide)⟩ (P - 2) (4 * quadOf v l + 4 * ((w - 54) % 3) + b - 1)).extractLsb' 24 8
    else 0#32
  else 0#32

theorem t2_lt (k : Fin k0_t2_loop.trips) : k.val < 12 := Nat.lt_of_lt_of_le k.isLt k0_t2_abs.2.1

/-- The first patch of a group, halved. -/
abbrev tOf (k : Fin k0_t2_loop.trips) : ℕ := min (8 * k.val) 82

section
variable (i : grid0.Coords) (arg2 : Memref sig .tc .vmem S2x3x7200x128 .i8) (k0_h2 : k0_cond2 i = 1#1)
  (X : BufTy.Contents (Elt Ideal) arg2.view.ty) (k : Fin k0_t2_loop.trips)

theorem span_at (off : Fin 4 → ℕ) (inb : ∀ a, off a + S1x1x640x128.size a ≤ S2x3x7200x128.size a) (g : Fin 2) (c : Fin 3)
    (e : off = ![g.val, c.val, 80 * tOf k, 0]) (r : Fin 640) (l : Fin 128) :
    (View.readAt (Elt Ideal) arg2.view (Rect.unit (s := S2x3x7200x128) off S1x1x640x128.size inb).toLoadRect X) (ix4 0 0 r l)
      = (View.read (Elt Ideal) arg2.view X) (ix4 g c ⟨(80 * tOf k + r.val) % 7200, Nat.mod_lt _ (by decide)⟩ l) := by
  subst e
  have hk := t2_lt k
  rw [View.readAt_apply]
  refine congrArg (View.read (Elt Ideal) arg2.view X) (funext fun a => Fin.ext ?_)
  match a with
  | ⟨0, _⟩ => show g.val + 1 * 0 = g.val; omega
  | ⟨1, _⟩ => show c.val + 1 * 0 = c.val; omega
  | ⟨2, _⟩ => show 80 * min (8 * k.val) 82 + 1 * r.val = (80 * min (8 * k.val) 82 + r.val) % 7200; omega
  | ⟨3, _⟩ => show 0 + 1 * l.val = l.val; omega

theorem spanBytes_apply (g : Fin 2) (c : Fin 3) (r : Fin 640) (l : Fin 128) :
    spanBytes (F := Ideal) i arg2 k0_h2 X k g c (ix4 0 0 r l) = (View.read (Elt Ideal) arg2.view X) (ix4 g c ⟨(80 * tOf k + r.val) % 7200, Nat.mod_lt _ (by decide)⟩ l) := by
  match g, c with
  | 0, 0 => exact span_at arg2 X k _ _ 0 0 (k0_off3_eq k) r l
  | 0, 1 => exact span_at arg2 X k _ _ 0 1 (k0_off20_eq k) r l
  | 0, 2 => exact span_at arg2 X k _ _ 0 2 (k0_off22_eq k) r l
  | 1, 0 => exact span_at arg2 X k _ _ 1 0 (k0_off4_eq k) r l
  | 1, 1 => exact span_at arg2 X k _ _ 1 1 (k0_off21_eq k) r l
  | 1, 2 => exact span_at arg2 X k _ _ 1 2 (k0_off23_eq k) r l

theorem cast_span (x : IVec S1x1x640x128 8) (r : Fin 640) (l : Fin 128) :
    shapeCast S640x128 x shapeCasts_S1x1x640x128_S640x128 (ix2 r l) = x (ix4 0 0 r l) := by
  refine shapeCast_apply _ _ _ _ ?_
  rw [rowMajor_val4 _ 81920 81920 128 rfl rfl rfl, rowMajor_val2 _ 128 rfl]
  simp

theorem cast_words (x : IVec S160x128 32) (j : Fin 8) (n : Fin 20) (l : Fin 128) :
    shapeCast S8x20x128 x shapeCasts_S160x128_S8x20x128 (ix3 j n l) = x (ix2 ⟨20 * j.val + n.val, by omega⟩ l) := by
  refine shapeCast_apply _ _ _ _ ?_
  rw [rowMajor_val3 _ 2560 128 rfl rfl, rowMajor_val2 _ 128 rfl]
  show (20 * j.val + n.val) * 128 + l.val = j.val * 2560 + n.val * 128 + l.val
  omega

theorem spanWords_apply (g : Fin 2) (c : Fin 3) (j : Fin 8) (T : Fin 10) (kk : Fin 2) (l : Fin 128) :
    spanWords (F := Ideal) i arg2 k0_h2 X k g c (ix3 j ⟨2 * T.val + kk.val, by omega⟩ l)
      = WORD (View.read (Elt Ideal) arg2.view X) g c (2 * (tOf k + j.val) + kk.val) (128 * T.val + l.val + 3) := by
  have hk := t2_lt k
  unfold spanWords WORD
  rw [cast_words, if_pos (by omega)]
  refine eq_pack4 _ _ fun q hq => ?_
  rw [bitcast_8_32_getLsbD_ix2 _ _ _ _ q hq ⟨4 * (20 * j.val + (2 * T.val + kk.val)) + q / 8, by omega⟩ rfl, cast_span, spanBytes_apply]
  refine congrArg (fun z : BitVec 8 => z.getLsbD _) (congrArg (View.read (Elt Ideal) arg2.view X) ?_)
  funext a; refine Fin.ext ?_
  match a with
  | ⟨0, _⟩ => rfl
  | ⟨1, _⟩ => rfl
  | ⟨2, _⟩ =>
    show (80 * tOf k + (4 * (20 * j.val + (2 * T.val + kk.val)) + q / 8)) % 7200
      = ((4 * (2 * (tOf k + j.val) + kk.val) + q / 8) / 8 * 80 + (128 * T.val + l.val + 3 - 3) / 128 * 8 + (4 * (2 * (tOf k + j.val) + kk.val) + q / 8) % 8) % 7200
    generalize tOf k = t
    have e1 : (4 * (2 * (t + j.val) + kk.val) + q / 8) / 8 = t + j.val := by omega
    have e2 : (4 * (2 * (t + j.val) + kk.val) + q / 8) % 8 = 4 * kk.val + q / 8 := by omega
    have e3 : (128 * T.val + l.val + 3 - 3) / 128 = T.val := by omega
    rw [e1, e2, e3]
    congr 1
    omega
  | ⟨3, _⟩ => show l.val = (128 * T.val + l.val + 3 - 3) % 128; omega

/-- The lane every source is read at. -/
theorem index_apply (a : Fin 4) (j : Fin 8) (l : Fin 128) :
    (fixIdx (baseIdx runA.sl.v121 runA.sl.v142 runA.sl.v163 (muli runA.sl.v101 runA.sl.v100) (4#32) runA.sl.v171
      (cmpi CmpIPredicate.ne runA.sl.v171 runA.sl.v89) a) (ix2 j l)).toNat = 4 * (l.val % 32) + (l.val / 32 + 4 - a.val) % 4 := by
  revert a j l; decide +kernel

theorem quarter_apply (n : Fin 4) (j : Fin 8) (l : Fin 128) :
    (cmpi .eq k0_pay1466 (broadcast S8x128 (BitVec.ofNat 32 n.val))) (ix2 j l) = if l.val / 32 = n.val then 1#1 else 0#1 := by
  revert n j l; decide +kernel

theorem quarter1 (j : Fin 8) (l : Fin 128) :
    (cmpi .eq k0_pay1466 (broadcast S8x128 1#32)) (ix2 j l) = if l.val / 32 = 1 then 1#1 else 0#1 := quarter_apply 1 j l
theorem quarter2 (j : Fin 8) (l : Fin 128) :
    (cmpi .eq k0_pay1466 (broadcast S8x128 2#32)) (ix2 j l) = if l.val / 32 = 2 then 1#1 else 0#1 := quarter_apply 2 j l
theorem quarter3 (j : Fin 8) (l : Fin 128) :
    (cmpi .eq k0_pay1466 (broadcast S8x128 3#32)) (ix2 j l) = if l.val / 32 = 3 then 1#1 else 0#1 := quarter_apply 3 j l

theorem roll8 {α : Type} (n : ℕ) (hn : n < 128) (x : S8x128.Idx → α) (j : Fin 8) (l : Fin 128) :
    dynamicRotate 1 (BitVec.ofNat 32 n) none x rotates_S8x128_d1 (ix2 j l) = x (ix2 j ⟨(l.val + 128 - n) % 128, Nat.mod_lt _ (by decide)⟩) := by
  refine dynamicRotate_apply _ _ _ _ _ _ fun b => ?_
  have e : (BitVec.ofNat 32 n).toNat = n := by rw [BitVec.toNat_ofNat]; omega
  match b with
  | ⟨0, _⟩ => rfl
  | ⟨1, _⟩ =>
    rw [e]
    show (l.val + 128 - n) % 128 = (l.val + 128 - n % 128) % 128
    omega

theorem lane_eq (n : Fin 128) (j : Fin 8) (l : Fin 128) :
    (cmpi .eq lane32 (broadcast S8x128 (BitVec.ofNat 32 n.val))) (ix2 j l) = if l.val = n.val then 1#1 else 0#1 := by
  have hi : lane32 (ix2 j l) = BitVec.ofNat 32 l.val := by revert j l; decide +kernel
  show IntOp.cmpi .eq (lane32 (ix2 j l)) (BitVec.ofNat 32 n.val) = _
  rw [hi]
  by_cases h : l.val = n.val
  · rw [if_pos h, h]; unfold IntOp.cmpi; simp
  · rw [if_neg h]
    have : ¬ BitVec.ofNat 32 l.val = BitVec.ofNat 32 n.val := by
      intro e
      have := congrArg BitVec.toNat e
      rw [BitVec.toNat_ofNat, BitVec.toNat_ofNat] at this
      omega
    unfold IntOp.cmpi; rw [show (BitVec.ofNat 32 l.val == BitVec.ofNat 32 n.val) = false from beq_eq_false_iff_ne.mpr this]; rfl

theorem lane0 (j : Fin 8) (l : Fin 128) :
    (cmpi .eq lane32 (broadcast S8x128 0#32)) (ix2 j l) = if l.val = 0 then 1#1 else 0#1 := lane_eq 0 j l
theorem lane64 (j : Fin 8) (l : Fin 128) :
    (cmpi .eq lane32 (broadcast S8x128 64#32)) (ix2 j l) = if l.val = 64 then 1#1 else 0#1 := lane_eq 64 j l
theorem lane127 (j : Fin 8) (l : Fin 128) :
    (cmpi .eq lane32 (broadcast S8x128 127#32)) (ix2 j l) = if l.val = 127 then 1#1 else 0#1 := lane_eq 127 j l

theorem select8 {α : Type} (c : S8x128.Idx → BitVec 1) (x y : S8x128.Idx → α) (q : S8x128.Idx) (p : Prop) [Decidable p]
    (hc : c q = if p then 1#1 else 0#1) : select c x y q = if p then x q else y q := by
  by_cases hp : p
  · rw [if_pos hp] at hc ⊢; show (if c q = 1#1 then x q else y q) = _; rw [hc, if_pos rfl]
  · rw [if_neg hp] at hc ⊢; show (if c q = 1#1 then x q else y q) = _; rw [hc, if_neg (by decide)]

abbrev gotK (c : Fin 3) (kk : Fin 2) (v : Fin 5) (a : Fin 4) : IVec S8x128 32 :=
  got (F := Ideal) i arg2 k0_h2 runA.sl.v121 runA.sl.v142 runA.sl.v163 (muli runA.sl.v101 runA.sl.v100) (4#32) runA.sl.v171
      (cmpi CmpIPredicate.ne runA.sl.v171 runA.sl.v89) X k c kk v a
abbrev quarteredK (c : Fin 3) (kk : Fin 2) (v : Fin 5) (p : Fin 4) : IVec S8x128 32 :=
  quartered (F := Ideal) i arg2 k0_h2 k0_pay1466 runA.sl.v121 runA.sl.v142 runA.sl.v163 (muli runA.sl.v101 runA.sl.v100) (4#32) runA.sl.v171
      (cmpi CmpIPredicate.ne runA.sl.v171 runA.sl.v89) X k c kk v p
abbrev dealK (c : Fin 3) (kk : Fin 2) (p : Fin 4) (v : Fin 5) : IVec S8x128 32 :=
  deal (F := Ideal) i arg2 k0_h2 k0_pay1466 runA.sl.v121 runA.sl.v142 runA.sl.v163 (muli runA.sl.v101 runA.sl.v100) (4#32) runA.sl.v171
      (cmpi CmpIPredicate.ne runA.sl.v171 runA.sl.v89) X k c kk p v

theorem cast_row (x : IVec S8x1x128 32) (j : Fin 8) (l : Fin 128) : shapeCast S8x128 x shapeCasts_S8x1x128_S8x128 (ix2 j l) = x (ix3 j 0 l) := by
  refine shapeCast_apply _ _ _ _ ?_
  rw [rowMajor_val3 _ 128 128 rfl rfl, rowMajor_val2 _ 128 rfl]
  simp

theorem got_apply (c : Fin 3) (kk : Fin 2) (v : Fin 5) (a : Fin 4) (j : Fin 8) (l : Fin 128) :
    gotK i arg2 k0_h2 X k c kk v a (ix2 j l)
      = WORD (View.read (Elt Ideal) arg2.view X) (srcG v a) c (2 * (tOf k + j.val) + kk.val) (128 * (srcT v a).val + (4 * (l.val % 32) + (l.val / 32 + 4 - a.val) % 4) + 3) := by
  unfold gotK got dynamicGather
  have hl : 4 * (l.val % 32) + (l.val / 32 + 4 - a.val) % 4 < 128 := by omega
  have e : (fun b : Fin 2 => if b = 1 then (⟨((fixIdx (baseIdx runA.sl.v121 runA.sl.v142 runA.sl.v163 (muli runA.sl.v101 runA.sl.v100) (4#32) runA.sl.v171
      (cmpi CmpIPredicate.ne runA.sl.v171 runA.sl.v89) a)) (ix2 j l)).toNat % S8x128.size b, Nat.mod_lt _ (Fin.pos (ix2 j l b))⟩ : Fin (S8x128.size b)) else ix2 j l b)
      = ix2 j (⟨4 * (l.val % 32) + (l.val / 32 + 4 - a.val) % 4, hl⟩ : Fin 128) := by
    funext b
    match b with
    | ⟨0, _⟩ => rfl
    | ⟨1, _⟩ =>
      refine Fin.ext ?_
      show (fixIdx _ (ix2 j l)).toNat % 128 = _
      rw [index_apply]
      exact Nat.mod_eq_of_lt hl
  refine (congrArg _ e).trans ?_
  rw [cast_row]
  refine Eq.trans ?_ (spanWords_apply i arg2 k0_h2 X k (srcG v a) c j (srcT v a) kk ⟨4 * (l.val % 32) + (l.val / 32 + 4 - a.val) % 4, hl⟩)
  unfold extractStridedSlice
  refine congrArg _ (funext fun b => Fin.ext ?_)
  match b with
  | ⟨0, _⟩ => show 0 + j.val = j.val; omega
  | ⟨1, _⟩ => rfl
  | ⟨2, _⟩ => show 0 + (4 * (l.val % 32) + (l.val / 32 + 4 - a.val) % 4) = 4 * (l.val % 32) + (l.val / 32 + 4 - a.val) % 4; omega

theorem quartered_apply (c : Fin 3) (kk : Fin 2) (v : Fin 5) (p : Fin 4) (j : Fin 8) (l : Fin 128) :
    quarteredK i arg2 k0_h2 X k c kk v p (ix2 j l)
      = gotK i arg2 k0_h2 X k c kk v ⟨(l.val / 32 + 4 - p.val) % 4, Nat.mod_lt _ (by decide)⟩ (ix2 j l) := by
  unfold quarteredK quartered
  rw [select8 _ _ _ _ _ (quarter3 j l), select8 _ _ _ _ _ (quarter2 j l), select8 _ _ _ _ _ (quarter1 j l)]
  have hl : l.val / 32 < 4 := by omega
  have fe : ∀ (n : Fin 4) (m : ℕ) (h : m < 4), n.val = m → gotK i arg2 k0_h2 X k c kk v n (ix2 j l) = gotK i arg2 k0_h2 X k c kk v ⟨m, h⟩ (ix2 j l) := by
    rintro n m h rfl; rfl
  by_cases h3 : l.val / 32 = 3
  · rw [if_pos h3]
    match p with
    | 0 => exact fe 3 _ _ (by show 3 = (l.val / 32 + 4 - 0) % 4; omega)
    | 1 => exact fe 2 _ _ (by show 2 = (l.val / 32 + 4 - 1) % 4; omega)
    | 2 => exact fe 1 _ _ (by show 1 = (l.val / 32 + 4 - 2) % 4; omega)
    | 3 => exact fe 0 _ _ (by show 0 = (l.val / 32 + 4 - 3) % 4; omega)
  · rw [if_neg h3]
    by_cases h2 : l.val / 32 = 2
    · rw [if_pos h2]
      match p with
      | 0 => exact fe 2 _ _ (by show 2 = (l.val / 32 + 4 - 0) % 4; omega)
      | 1 => exact fe 1 _ _ (by show 1 = (l.val / 32 + 4 - 1) % 4; omega)
      | 2 => exact fe 0 _ _ (by show 0 = (l.val / 32 + 4 - 2) % 4; omega)
      | 3 => exact fe 3 _ _ (by show 3 = (l.val / 32 + 4 - 3) % 4; omega)
    · rw [if_neg h2]
      by_cases h1 : l.val / 32 = 1
      · rw [if_pos h1]
        match p with
        | 0 => exact fe 1 _ _ (by show 1 = (l.val / 32 + 4 - 0) % 4; omega)
        | 1 => exact fe 0 _ _ (by show 0 = (l.val / 32 + 4 - 1) % 4; omega)
        | 2 => exact fe 3 _ _ (by show 3 = (l.val / 32 + 4 - 2) % 4; omega)
        | 3 => exact fe 2 _ _ (by show 2 = (l.val / 32 + 4 - 3) % 4; omega)
      · rw [if_neg h1]
        have h0 : l.val / 32 = 0 := by
          omega
        match p with
        | 0 => exact fe 0 _ _ (by show 0 = (l.val / 32 + 4 - 0) % 4; omega)
        | 1 => exact fe 3 _ _ (by show 3 = (l.val / 32 + 4 - 1) % 4; omega)
        | 2 => exact fe 2 _ _ (by show 2 = (l.val / 32 + 4 - 2) % 4; omega)
        | 3 => exact fe 1 _ _ (by show 1 = (l.val / 32 + 4 - 3) % 4; omega)

theorem src_quad (v : Fin 5) (l : Fin 128) : srcG v ⟨l.val / 32, by omega⟩ = imgOf v l ∧ 32 * (srcT v ⟨l.val / 32, by omega⟩).val + l.val % 32 = quadOf v l := by
  revert v l; decide +kernel

theorem WORD_congr (Y : S2x3x7200x128.Idx → BitVec 8) (g g' : Fin 2) (c : Fin 3) (P C C' : ℕ) (hg : g = g') (hC : C = C') :
    WORD Y g c P C = WORD Y g' c P C' := by rw [hg, hC]

theorem deal_apply (c : Fin 3) (kk : Fin 2) (p : Fin 4) (v : Fin 5) (j : Fin 8) (l : Fin 128) :
    dealK i arg2 k0_h2 X k c kk p v (ix2 j l)
      = WORD (View.read (Elt Ideal) arg2.view X) (imgOf v l) c (2 * (tOf k + j.val) + kk.val) (4 * quadOf v l + p.val + 3) := by
  have key : ∀ (p : Fin 4) (l' : Fin 128), l'.val = (l.val + 32 * p.val) % 128 →
      quarteredK i arg2 k0_h2 X k c kk v p (ix2 j l') = WORD (View.read (Elt Ideal) arg2.view X) (imgOf v l) c (2 * (tOf k + j.val) + kk.val) (4 * quadOf v l + p.val + 3) := by
    intro p l' hl'
    rw [quartered_apply, got_apply]
    have e : (⟨(l'.val / 32 + 4 - p.val) % 4, Nat.mod_lt _ (by decide)⟩ : Fin 4) = ⟨l.val / 32, by omega⟩ := Fin.ext (by show (l'.val / 32 + 4 - p.val) % 4 = l.val / 32; omega)
    rw [e]
    have h := src_quad v l
    refine WORD_congr _ _ _ _ _ _ _ h.1 ?_
    rw [← h.2]
    show 128 * _ + (4 * (l'.val % 32) + (l'.val / 32 + 4 - l.val / 32) % 4) + 3 = _
    omega
  match p with
  | 0 => exact key 0 l (by show l.val = (l.val + 32 * 0) % 128; omega)
  | 1 => exact (roll8 96 (by decide) _ j l).trans (key 1 _ (by show (l.val + 128 - 96) % 128 = (l.val + 32 * 1) % 128; omega))
  | 2 => exact (roll8 64 (by decide) _ j l).trans (key 2 _ (by show (l.val + 128 - 64) % 128 = (l.val + 32 * 2) % 128; omega))
  | 3 => exact (roll8 32 (by decide) _ j l).trans (key 3 _ (by show (l.val + 128 - 32) % 128 = (l.val + 32 * 3) % 128; omega))

end

section
variable (x : Fin 5 → IVec S8x128 32) (f : Fin 2 → ℕ → Fin 8 → BitVec 32) (hx : ∀ v j l, x v (ix2 j l) = f (imgOf v l) (quadOf v l) j)

theorem f_congr {g g' : Fin 2} {q q' : ℕ} (j : Fin 8) (hg : g = g') (hq : q = q') : f g q j = f g' q' j := by rw [hg, hq]

include hx in
theorem shiftR_apply (v : Fin 5) (j : Fin 8) (l : Fin 128) :
    shiftR x v (ix2 j l) = if quadOf v l = 0 then 0#32 else f (imgOf v l) (quadOf v l - 1) j := by
  have hl := l.isLt
  match v with
  | 0 =>
    rw [show shiftR x 0 = select (cmpi .eq lane32 (broadcast S8x128 0#32)) (broadcast S8x128 0#32) (dynamicRotate 1 1#32 none (x 0) rotates_S8x128_d1) from rfl]
    rw [select8 _ _ _ _ _ (lane0 j l), roll8 1 (by decide), hx]
    by_cases h : l.val = 0
    · rw [if_pos h, if_pos (by show l.val = 0; exact h)]; rfl
    · rw [if_neg h, if_neg (by show ¬ l.val = 0; exact h)]
      exact f_congr f j rfl (by show (l.val + 128 - 1) % 128 = l.val - 1; omega)
  | 1 =>
    rw [show shiftR x 1 = select (cmpi .eq lane32 (broadcast S8x128 0#32)) (dynamicRotate 1 1#32 none (x 0) rotates_S8x128_d1) (dynamicRotate 1 1#32 none (x 1) rotates_S8x128_d1) from rfl]
    rw [select8 _ _ _ _ _ (lane0 j l), roll8 1 (by decide), roll8 1 (by decide), hx, hx]
    rw [if_neg (show ¬ quadOf 1 l = 0 by show ¬ 128 + l.val = 0; omega)]
    by_cases h : l.val = 0
    · rw [if_pos h]; exact f_congr f j rfl (by show (l.val + 128 - 1) % 128 = 128 + l.val - 1; omega)
    · rw [if_neg h]; exact f_congr f j rfl (by show 128 + (l.val + 128 - 1) % 128 = 128 + l.val - 1; omega)
  | 2 =>
    rw [show shiftR x 2 = select (cmpi .eq lane32 (broadcast S8x128 0#32)) (dynamicRotate 1 1#32 none (x 1) rotates_S8x128_d1)
      (select (cmpi .eq lane32 (broadcast S8x128 64#32)) (dynamicRotate 1 65#32 none (x 4) rotates_S8x128_d1) (dynamicRotate 1 1#32 none (x 2) rotates_S8x128_d1)) from rfl]
    rw [select8 _ _ _ _ _ (lane0 j l), select8 _ _ _ _ _ (lane64 j l), roll8 1 (by decide), roll8 1 (by decide), roll8 65 (by decide), hx, hx, hx]
    rw [if_neg (show ¬ quadOf 2 l = 0 by simp only [quadOf]; split_ifs <;> omega)]
    by_cases h : l.val = 0
    · rw [if_pos h]
      exact f_congr f j (by simp only [imgOf]; rw [if_pos (by omega)]) (by simp only [quadOf]; rw [if_pos (by omega)]; omega)
    · rw [if_neg h]
      by_cases h6 : l.val = 64
      · rw [if_pos h6]
        exact f_congr f j (by simp only [imgOf]; rw [if_neg (by omega)]) (by simp only [quadOf]; rw [if_neg (by omega)]; omega)
      · have h6' : ¬ l.val = 64 := h6
        rw [if_neg h6']
        refine f_congr f j ?_ ?_
        · simp only [imgOf]; congr 1; apply propext; constructor <;> intro _ <;> omega
        · simp only [quadOf]; split_ifs <;> omega
  | 3 =>
    rw [show shiftR x 3 = select (cmpi .eq lane32 (broadcast S8x128 0#32)) (broadcast S8x128 0#32) (dynamicRotate 1 1#32 none (x 3) rotates_S8x128_d1) from rfl]
    rw [select8 _ _ _ _ _ (lane0 j l), roll8 1 (by decide), hx]
    by_cases h : l.val = 0
    · rw [if_pos h, if_pos (by show l.val = 0; exact h)]; rfl
    · rw [if_neg h, if_neg (by show ¬ l.val = 0; exact h)]
      exact f_congr f j rfl (by show (l.val + 128 - 1) % 128 = l.val - 1; omega)
  | 4 =>
    rw [show shiftR x 4 = select (cmpi .eq lane32 (broadcast S8x128 0#32)) (dynamicRotate 1 1#32 none (x 3) rotates_S8x128_d1) (dynamicRotate 1 1#32 none (x 4) rotates_S8x128_d1) from rfl]
    rw [select8 _ _ _ _ _ (lane0 j l), roll8 1 (by decide), roll8 1 (by decide), hx, hx]
    rw [if_neg (show ¬ quadOf 4 l = 0 by show ¬ 128 + l.val = 0; omega)]
    by_cases h : l.val = 0
    · rw [if_pos h]; exact f_congr f j rfl (by show (l.val + 128 - 1) % 128 = 128 + l.val - 1; omega)
    · rw [if_neg h]; exact f_congr f j rfl (by show 128 + (l.val + 128 - 1) % 128 = 128 + l.val - 1; omega)

theorem both_lanes (j : Fin 8) (l : Fin 128) :
    (ori (cmpi .eq lane32 (broadcast S8x128 127#32)) (cmpi .eq lane32 (broadcast S8x128 63#32))) (ix2 j l) = if l.val = 127 ∨ l.val = 63 then 1#1 else 0#1 := by
  revert j l; decide +kernel

include hx in
theorem shiftL_apply (v : Fin 5) (j : Fin 8) (l : Fin 128) :
    shiftL x v (ix2 j l) = if quadOf v l = 319 then 0#32 else f (imgOf v l) (quadOf v l + 1) j := by
  have hl := l.isLt
  match v with
  | 0 =>
    rw [show shiftL x 0 = select (cmpi .eq lane32 (broadcast S8x128 127#32)) (dynamicRotate 1 127#32 none (x 1) rotates_S8x128_d1) (dynamicRotate 1 127#32 none (x 0) rotates_S8x128_d1) from rfl]
    rw [select8 _ _ _ _ _ (lane127 j l), roll8 127 (by decide), roll8 127 (by decide), hx, hx]
    rw [if_neg (show ¬ quadOf 0 l = 319 by show ¬ l.val = 319; omega)]
    by_cases h : l.val = 127
    · rw [if_pos h]; exact f_congr f j rfl (by show 128 + (l.val + 128 - 127) % 128 = l.val + 1; omega)
    · have h' : ¬ l.val = 127 := h
      rw [if_neg h']; exact f_congr f j rfl (by show (l.val + 128 - 127) % 128 = l.val + 1; omega)
  | 1 =>
    rw [show shiftL x 1 = select (cmpi .eq lane32 (broadcast S8x128 127#32)) (dynamicRotate 1 127#32 none (x 2) rotates_S8x128_d1) (dynamicRotate 1 127#32 none (x 1) rotates_S8x128_d1) from rfl]
    rw [select8 _ _ _ _ _ (lane127 j l), roll8 127 (by decide), roll8 127 (by decide), hx, hx]
    rw [if_neg (show ¬ quadOf 1 l = 319 by show ¬ 128 + l.val = 319; omega)]
    by_cases h : l.val = 127
    · rw [if_pos h]
      exact f_congr f j (by simp only [imgOf]; rw [if_pos (by omega)]) (by simp only [quadOf]; rw [if_pos (by omega)]; omega)
    · have h' : ¬ l.val = 127 := h
      rw [if_neg h']; exact f_congr f j rfl (by show 128 + (l.val + 128 - 127) % 128 = 128 + l.val + 1; omega)
  | 2 =>
    rw [show shiftL x 2 = select (ori (cmpi .eq lane32 (broadcast S8x128 127#32)) (cmpi .eq lane32 (broadcast S8x128 63#32))) (broadcast S8x128 0#32)
      (dynamicRotate 1 127#32 none (x 2) rotates_S8x128_d1) from rfl]
    rw [select8 _ _ _ _ _ (both_lanes j l), roll8 127 (by decide), hx]
    by_cases h : l.val = 127 ∨ l.val = 63
    · rw [if_pos h, if_pos (by simp only [quadOf]; split_ifs <;> omega)]; rfl
    · rw [if_neg h, if_neg (by simp only [quadOf]; split_ifs <;> omega)]
      refine f_congr f j ?_ ?_
      · simp only [imgOf]; congr 1; apply propext; constructor <;> intro _ <;> omega
      · simp only [quadOf]; split_ifs <;> omega
  | 3 =>
    rw [show shiftL x 3 = select (cmpi .eq lane32 (broadcast S8x128 127#32)) (dynamicRotate 1 127#32 none (x 4) rotates_S8x128_d1) (dynamicRotate 1 127#32 none (x 3) rotates_S8x128_d1) from rfl]
    rw [select8 _ _ _ _ _ (lane127 j l), roll8 127 (by decide), roll8 127 (by decide), hx, hx]
    rw [if_neg (show ¬ quadOf 3 l = 319 by show ¬ l.val = 319; omega)]
    by_cases h : l.val = 127
    · rw [if_pos h]; exact f_congr f j rfl (by show 128 + (l.val + 128 - 127) % 128 = l.val + 1; omega)
    · have h' : ¬ l.val = 127 := h
      rw [if_neg h']; exact f_congr f j rfl (by show (l.val + 128 - 127) % 128 = l.val + 1; omega)
  | 4 =>
    rw [show shiftL x 4 = select (cmpi .eq lane32 (broadcast S8x128 127#32)) (dynamicRotate 1 63#32 none (x 2) rotates_S8x128_d1) (dynamicRotate 1 127#32 none (x 4) rotates_S8x128_d1) from rfl]
    rw [select8 _ _ _ _ _ (lane127 j l), roll8 63 (by decide), roll8 127 (by decide), hx, hx]
    rw [if_neg (show ¬ quadOf 4 l = 319 by show ¬ 128 + l.val = 319; omega)]
    by_cases h : l.val = 127
    · rw [if_pos h]
      exact f_congr f j (by simp only [imgOf]; rw [if_neg (by omega)]) (by simp only [quadOf]; rw [if_neg (by omega)]; omega)
    · have h' : ¬ l.val = 127 := h
      rw [if_neg h']; exact f_congr f j rfl (by show 128 + (l.val + 128 - 127) % 128 = 128 + l.val + 1; omega)

end

theorem topWord_apply (d : Fin 4 → IVec S8x128 32) (q : S8x128.Idx) :
    topWord d q = pack4 fun b => (d ⟨b % 4, Nat.mod_lt _ (by decide)⟩ q).extractLsb' 24 8 := by
  refine Eq.trans (show topWord d q = _ from rfl) ((join_top (d 0 q) (d 1 q) (d 2 q) (d 3 q)).trans (pack4_congr _ _ fun b hb => ?_))
  interval_cases b <;> rfl

end Cert.Proof.KernelIdeal

end
-- ==== Proof.PatchRead.lean ====
/-
  The patches as one array: what every store of the twelve groups leaves, that together they fill every word that is ever read,
  and hence the whole buffer after a first point.
-/
module

public import proofs.«01_k».proof.Proof.PatchPoint
public import Idealize.ShloMosaic.Lib.Writes

@[expose] public section

set_option maxRecDepth 65536
set_option maxHeartbeats 400000

noncomputable section

namespace Cert.Proof.KernelIdeal

open Cert.KernelIdeal Cert.KernelIdeal.Gen
open Idealize.ShloMosaic hiding ix1 ix2 ix3 ix4 ix5
open Idealize.ShloMosaic.TcCoe Idealize.ShloMosaic.Tactic Idealize.ShloMosaic.ValueIdx

theorem WORD_out (Y : S2x3x7200x128.Idx → BitVec 8) (g : Fin 2) (c : Fin 3) (P C : ℕ) (h : C < 3 ∨ 1283 ≤ C) : WORD Y g c P C = 0#32 := by
  unfold WORD; exact if_neg (by omega)

theorem quad_le (v : Fin 5) (l : Fin 128) : quadOf v l ≤ 319 := by revert v l; decide +kernel

theorem all3 (a : Fin 3) : a ∈ ([0, 1, 2] : List (Fin 3)) := by revert a; decide
theorem all5 (a : Fin 5) : a ∈ ([0, 1, 2, 3, 4] : List (Fin 5)) := by revert a; decide
theorem all9 (a : Fin 9) : a ∈ ([0, 1, 2, 3, 4, 5, 6, 7, 8] : List (Fin 9)) := by revert a; decide
theorem both (a : Fin 2) : a ∈ ([0, 1] : List (Fin 2)) := by revert a; decide

theorem exists_row (x : S1x8x128.Idx) : ∃ (j : Fin 8) (l : Fin 128), x = ix3 0 j l := by
  refine ⟨x 1, x 2, funext fun a => ?_⟩
  match a with
  | ⟨0, _⟩ => exact Subsingleton.elim (α := Fin 1) _ _
  | ⟨1, _⟩ => rfl
  | ⟨2, _⟩ => rfl

theorem cast_put {α : Type} (x : S8x128.Idx → α) (j : Fin 8) (l : Fin 128) : shapeCast S1x8x128 x shapeCasts_S8x128_S1x8x128 (ix3 0 j l) = x (ix2 j l) := by
  refine shapeCast_apply _ _ _ _ ?_
  rw [rowMajor_val3 _ 1024 128 rfl rfl, rowMajor_val2 _ 128 rfl]
  simp

theorem RSPEC_prev (Y : S2x3x7200x128.Idx → BitVec 8) (v : Fin 5) (n : Fin 12012) (l : Fin 128) (P : ℕ) (c : Fin 3) (s : Fin 9)
    (hn : n.val = 66 * (P + 1) + (9 * c.val + s.val)) (hP : P < 180) :
    RSPEC Y (ix3 v n l) = WORD Y (imgOf v l) c P (4 * quadOf v l + s.val) := by
  have e1 : n.val / 66 = P + 1 := by omega
  have e2 : n.val % 66 = 9 * c.val + s.val := by omega
  show (if n.val % 66 < 27 then if 1 ≤ n.val / 66 ∧ n.val / 66 ≤ 180 then WORD Y (imgOf v l) ⟨n.val % 66 / 9 % 3, Nat.mod_lt _ (by decide)⟩ (n.val / 66 - 1) (4 * quadOf v l + n.val % 66 % 9) else 0#32 else _) = _
  rw [if_pos (by omega), if_pos (by omega)]
  refine congr (congr (congrArg (WORD Y (imgOf v l)) (Fin.ext (show n.val % 66 / 9 % 3 = c.val by omega))) (show n.val / 66 - 1 = P by omega)) (show _ + n.val % 66 % 9 = _ + s.val by omega)

theorem RSPEC_cur (Y : S2x3x7200x128.Idx → BitVec 8) (v : Fin 5) (n : Fin 12012) (l : Fin 128) (P : ℕ) (c : Fin 3) (s : Fin 9)
    (hn : n.val = 66 * P + (27 + (9 * c.val + s.val))) (hP : P < 180) :
    RSPEC Y (ix3 v n l) = WORD Y (imgOf v l) c P (4 * quadOf v l + s.val) := by
  have e1 : n.val / 66 = P := by omega
  have e2 : n.val % 66 = 27 + (9 * c.val + s.val) := by omega
  show (if n.val % 66 < 27 then _ else if n.val % 66 < 54 then if n.val / 66 < 180 then WORD Y (imgOf v l) ⟨(n.val % 66 - 27) / 9 % 3, Nat.mod_lt _ (by decide)⟩ (n.val / 66) (4 * quadOf v l + (n.val % 66 - 27) % 9) else 0#32 else _) = _
  rw [if_neg (by omega), if_pos (by omega), if_pos (by omega)]
  refine congr (congr (congrArg (WORD Y (imgOf v l)) (Fin.ext (show (n.val % 66 - 27) / 9 % 3 = c.val by omega))) e1) (show _ + (n.val % 66 - 27) % 9 = _ + s.val by omega)

theorem RSPEC_top (Y : S2x3x7200x128.Idx → BitVec 8) (v : Fin 5) (n : Fin 12012) (l : Fin 128) (P : ℕ) (c q : Fin 3)
    (hn : n.val = 66 * (P + 2) + (54 + (3 * c.val + q.val))) :
    RSPEC Y (ix3 v n l) = pack4 fun b => (WORD Y (imgOf v l) c P (4 * quadOf v l + 4 * q.val + b - 1)).extractLsb' 24 8 := by
  have e1 : n.val / 66 = P + 2 := by omega
  have e2 : n.val % 66 = 54 + (3 * c.val + q.val) := by omega
  show (if n.val % 66 < 27 then _ else if n.val % 66 < 54 then _ else if n.val % 66 < 63 then if 2 ≤ n.val / 66 then
    pack4 fun b => (WORD Y (imgOf v l) ⟨(n.val % 66 - 54) / 3 % 3, Nat.mod_lt _ (by decide)⟩ (n.val / 66 - 2) (4 * quadOf v l + 4 * ((n.val % 66 - 54) % 3) + b - 1)).extractLsb' 24 8 else 0#32 else _) = _
  rw [if_neg (by omega), if_neg (by omega), if_pos (by omega), if_pos (by omega)]
  refine pack4_congr _ _ fun b _ => congrArg (fun w : BitVec 32 => w.extractLsb' 24 8) ?_
  refine congr (congr (congrArg (WORD Y (imgOf v l)) (Fin.ext (show (n.val % 66 - 54) / 3 % 3 = c.val by omega))) (show n.val / 66 - 2 = P by omega)) ?_
  rw [show (n.val % 66 - 54) % 3 = q.val by omega]

/-- A word of the patches some store fills. -/
def Filled (n : ℕ) : Prop := (n % 66 < 27 ∧ 1 ≤ n / 66 ∧ n / 66 ≤ 180) ∨ (27 ≤ n % 66 ∧ n % 66 < 54 ∧ n / 66 < 180) ∨ (54 ≤ n % 66 ∧ n % 66 < 63 ∧ 2 ≤ n / 66)

theorem RSPEC_zero (Y : S2x3x7200x128.Idx → BitVec 8) (y : S5x12012x128.Idx) (h : ¬ Filled (y 1).val) : RSPEC Y y = 0#32 := by
  unfold Filled at h
  show (if (y 1).val % 66 < 27 then if 1 ≤ (y 1).val / 66 ∧ (y 1).val / 66 ≤ 180 then _ else 0#32
    else if (y 1).val % 66 < 54 then if (y 1).val / 66 < 180 then _ else 0#32
    else if (y 1).val % 66 < 63 then if 2 ≤ (y 1).val / 66 then _ else 0#32 else 0#32) = 0#32
  by_cases h1 : (y 1).val % 66 < 27
  · rw [if_pos h1, if_neg (by omega)]
  · rw [if_neg h1]
    by_cases h2 : (y 1).val % 66 < 54
    · rw [if_pos h2, if_neg (by omega)]
    · rw [if_neg h2]
      by_cases h3 : (y 1).val % 66 < 63
      · rw [if_pos h3, if_neg (by omega)]
      · rw [if_neg h3]

section
variable (i : grid0.Coords) (arg2 : Memref sig .tc .vmem S2x3x7200x128 .i8) (k0_h2 : k0_cond2 i = 1#1)
  (X : BufTy.Contents (Elt Ideal) arg2.view.ty) (k : Fin k0_t2_loop.trips)

theorem cols_apply (c : Fin 3) (kk : Fin 2) (s : Fin 9) (v : Fin 5) (j : Fin 8) (l : Fin 128) :
    colsOf (dealK i arg2 k0_h2 X k c kk) s v (ix2 j l)
      = WORD (View.read (Elt Ideal) arg2.view X) (imgOf v l) c (2 * (tOf k + j.val) + kk.val) (4 * quadOf v l + s.val) := by
  have hq := quad_le v l
  have endR : ∀ (p : Fin 4) (s : ℕ), s + 1 = p.val →
      shiftR (dealK i arg2 k0_h2 X k c kk p) v (ix2 j l) = WORD (View.read (Elt Ideal) arg2.view X) (imgOf v l) c (2 * (tOf k + j.val) + kk.val) (4 * quadOf v l + s) := by
    intro p s hs
    rw [shiftR_apply (dealK i arg2 k0_h2 X k c kk p) (fun g q j => WORD (View.read (Elt Ideal) arg2.view X) g c (2 * (tOf k + j.val) + kk.val) (4 * q + p.val + 3))
      (fun v j l => deal_apply i arg2 k0_h2 X k c kk p v j l) v j l]
    by_cases h : quadOf v l = 0
    · rw [if_pos h, WORD_out _ _ _ _ _ (by omega)]
    · rw [if_neg h]; exact WORD_congr _ _ _ _ _ _ _ rfl (by omega)
  have endL : ∀ (p : Fin 4) (s : ℕ), s = p.val + 7 →
      shiftL (dealK i arg2 k0_h2 X k c kk p) v (ix2 j l) = WORD (View.read (Elt Ideal) arg2.view X) (imgOf v l) c (2 * (tOf k + j.val) + kk.val) (4 * quadOf v l + s) := by
    intro p s hs
    rw [shiftL_apply (dealK i arg2 k0_h2 X k c kk p) (fun g q j => WORD (View.read (Elt Ideal) arg2.view X) g c (2 * (tOf k + j.val) + kk.val) (4 * q + p.val + 3))
      (fun v j l => deal_apply i arg2 k0_h2 X k c kk p v j l) v j l]
    by_cases h : quadOf v l = 319
    · rw [if_pos h, WORD_out _ _ _ _ _ (by omega)]
    · rw [if_neg h]; exact WORD_congr _ _ _ _ _ _ _ rfl (by omega)
  have mid : ∀ (p : Fin 4) (s : ℕ), s = p.val + 3 →
      dealK i arg2 k0_h2 X k c kk p v (ix2 j l) = WORD (View.read (Elt Ideal) arg2.view X) (imgOf v l) c (2 * (tOf k + j.val) + kk.val) (4 * quadOf v l + s) := by
    intro p s hs
    rw [deal_apply]; exact WORD_congr _ _ _ _ _ _ _ rfl (by omega)
  match s with
  | 0 => exact endR 1 0 rfl
  | 1 => exact endR 2 1 rfl
  | 2 => exact endR 3 2 rfl
  | 3 => exact mid 0 3 rfl
  | 4 => exact mid 1 4 rfl
  | 5 => exact mid 2 5 rfl
  | 6 => exact mid 3 6 rfl
  | 7 => exact endL 0 7 rfl
  | 8 => exact endL 1 8 rfl

theorem zero_bytes (Y : S2x3x7200x128.Idx → BitVec 8) (g : Fin 2) (c : Fin 3) (P : ℕ) (f : ℕ → ℕ) (h : ∀ b < 4, f b < 3 ∨ 1283 ≤ f b) :
    0#32 = pack4 fun b => (WORD Y g c P (f b)).extractLsb' 24 8 :=
  (pack4_congr (fun b => (WORD Y g c P (f b)).extractLsb' 24 8) (fun _ => 0#8) fun b hb => by rw [WORD_out _ _ _ _ _ (h b hb)]; rfl).symm

theorem tops_apply (c : Fin 3) (kk : Fin 2) (q : Fin 3) (v : Fin 5) (j : Fin 8) (l : Fin 128) :
    topsOf (dealK i arg2 k0_h2 X k c kk) q v (ix2 j l)
      = pack4 fun b => (WORD (View.read (Elt Ideal) arg2.view X) (imgOf v l) c (2 * (tOf k + j.val) + kk.val) (4 * quadOf v l + 4 * q.val + b - 1)).extractLsb' 24 8 := by
  have hq := quad_le v l
  have hT : ∀ v j l, topWord (fun p => dealK i arg2 k0_h2 X k c kk p v) (ix2 j l)
      = pack4 fun b => (WORD (View.read (Elt Ideal) arg2.view X) (imgOf v l) c (2 * (tOf k + j.val) + kk.val) (4 * quadOf v l + b % 4 + 3)).extractLsb' 24 8 := by
    intro v j l
    rw [topWord_apply]
    exact pack4_congr _ _ fun b _ => congrArg (fun w : BitVec 32 => w.extractLsb' 24 8) (deal_apply i arg2 k0_h2 X k c kk _ v j l)
  match q with
  | 0 =>
    refine (shiftR_apply (fun v => topWord (fun p => dealK i arg2 k0_h2 X k c kk p v))
      (fun g q j => pack4 fun b => (WORD (View.read (Elt Ideal) arg2.view X) g c (2 * (tOf k + j.val) + kk.val) (4 * q + b % 4 + 3)).extractLsb' 24 8) hT v j l).trans ?_
    by_cases h : quadOf v l = 0
    · rw [if_pos h]
      exact zero_bytes _ _ _ _ _ fun b hb => Or.inl (by show 4 * quadOf v l + 4 * 0 + b - 1 < 3; omega)
    · rw [if_neg h]
      refine pack4_congr _ _ fun b hb => congrArg (fun w : BitVec 32 => w.extractLsb' 24 8) (WORD_congr _ _ _ _ _ _ _ rfl ?_)
      show 4 * (quadOf v l - 1) + b % 4 + 3 = 4 * quadOf v l + 4 * 0 + b - 1
      omega
  | 1 =>
    refine (hT v j l).trans ?_
    refine pack4_congr _ _ fun b hb => congrArg (fun w : BitVec 32 => w.extractLsb' 24 8) (WORD_congr _ _ _ _ _ _ _ rfl ?_)
    show 4 * quadOf v l + b % 4 + 3 = 4 * quadOf v l + 4 * 1 + b - 1
    omega
  | 2 =>
    refine (shiftL_apply (fun v => topWord (fun p => dealK i arg2 k0_h2 X k c kk p v))
      (fun g q j => pack4 fun b => (WORD (View.read (Elt Ideal) arg2.view X) g c (2 * (tOf k + j.val) + kk.val) (4 * q + b % 4 + 3)).extractLsb' 24 8) hT v j l).trans ?_
    by_cases h : quadOf v l = 319
    · rw [if_pos h]
      exact zero_bytes _ _ _ _ _ fun b hb => Or.inr (by show 1283 ≤ 4 * quadOf v l + 4 * 2 + b - 1; omega)
    · rw [if_neg h]
      refine pack4_congr _ _ fun b hb => congrArg (fun w : BitVec 32 => w.extractLsb' 24 8) (WORD_congr _ _ _ _ _ _ _ rfl ?_)
      show 4 * (quadOf v l + 1) + b % 4 + 3 = 4 * quadOf v l + 4 * 2 + b - 1
      omega

theorem offCur_eq (kk : Fin 2) (row : Fin 27) (v : Fin 5) : offCur k kk row v = ![v.val, 132 * tOf k + 66 * kk.val + row.val + 27, 0] :=
  match v with
  | 0 => k0_off5_eq k kk row | 1 => k0_off8_eq k kk row | 2 => k0_off11_eq k kk row | 3 => k0_off14_eq k kk row | 4 => k0_off17_eq k kk row
theorem offPrev_eq (kk : Fin 2) (row : Fin 27) (v : Fin 5) : offPrev k kk row v = ![v.val, 132 * tOf k + 66 * kk.val + row.val + 66, 0] :=
  match v with
  | 0 => k0_off6_eq k kk row | 1 => k0_off9_eq k kk row | 2 => k0_off12_eq k kk row | 3 => k0_off15_eq k kk row | 4 => k0_off18_eq k kk row
theorem offTop_eq (kk : Fin 2) (c q : Fin 3) (v : Fin 5) : offTop k kk c q v = ![v.val, 132 * tOf k + 66 * kk.val + 3 * c.val + q.val + 186, 0] :=
  match v with
  | 0 => k0_off7_eq k kk c q | 1 => k0_off10_eq k kk c q | 2 => k0_off13_eq k kk c q | 3 => k0_off16_eq k kk c q | 4 => k0_off19_eq k kk c q

/-- Where row `j`, lane `l` of a strided store lands. -/
theorem strided_emb (off : Fin 3 → ℕ) (inb : ∀ a, S1x8x128.size a = 0 ∨ off a + (![1, 132, 1] : Fin 3 → ℕ) a * (S1x8x128.size a - 1) < S5x12012x128.size a)
    (v : Fin 5) (b : ℕ) (hb : b + 924 < 12012) (e : off = ![v.val, b, 0]) (j : Fin 8) (l : Fin 128) :
    (⟨⟨off, S1x8x128.size, ![1, 132, 1], inb⟩, spos_1_132_1⟩ : Rect S5x12012x128).emb (ix3 0 j l) = ix3 v ⟨b + 132 * j.val, by omega⟩ l := by
  subst e
  funext a; refine Fin.ext ?_
  match a with
  | ⟨0, _⟩ => show v.val + 1 * 0 = v.val; omega
  | ⟨1, _⟩ => rfl
  | ⟨2, _⟩ => show 0 + 1 * l.val = l.val; omega

abbrev curK (c : Fin 3) (kk : Fin 2) (v : Fin 5) (s : Fin 9) : View.Piece (Elt Ideal) S5x12012x128 .i32 :=
  pieceCur (F := Ideal) i arg2 k0_h2 k0_pay1466 runA.sl.v121 runA.sl.v142 runA.sl.v163 (muli runA.sl.v101 runA.sl.v100) (4#32) runA.sl.v171
      (cmpi CmpIPredicate.ne runA.sl.v171 runA.sl.v89) X k c kk v s
abbrev prevK (c : Fin 3) (kk : Fin 2) (v : Fin 5) (s : Fin 9) : View.Piece (Elt Ideal) S5x12012x128 .i32 :=
  piecePrev (F := Ideal) i arg2 k0_h2 k0_pay1466 runA.sl.v121 runA.sl.v142 runA.sl.v163 (muli runA.sl.v101 runA.sl.v100) (4#32) runA.sl.v171
      (cmpi CmpIPredicate.ne runA.sl.v171 runA.sl.v89) X k c kk v s
abbrev topK (c : Fin 3) (kk : Fin 2) (v : Fin 5) (q : Fin 3) : View.Piece (Elt Ideal) S5x12012x128 .i32 :=
  pieceTop (F := Ideal) i arg2 k0_h2 k0_pay1466 runA.sl.v121 runA.sl.v142 runA.sl.v163 (muli runA.sl.v101 runA.sl.v100) (4#32) runA.sl.v171
      (cmpi CmpIPredicate.ne runA.sl.v171 runA.sl.v89) X k c kk v q
abbrev tripK : List (View.Piece (Elt Ideal) S5x12012x128 .i32) :=
  tripPieces (F := Ideal) i arg2 k0_h2 k0_pay1466 runA.sl.v121 runA.sl.v142 runA.sl.v163 (muli runA.sl.v101 runA.sl.v100) (4#32) runA.sl.v171
      (cmpi CmpIPredicate.ne runA.sl.v171 runA.sl.v89) X k

theorem cur_emb (c : Fin 3) (kk : Fin 2) (v : Fin 5) (s : Fin 9) (j : Fin 8) (l : Fin 128) (n : Fin 12012)
    (hn : n.val = 132 * tOf k + 66 * kk.val + (9 * c.val + s.val) + 27 + 132 * j.val) :
    (curK i arg2 k0_h2 X k c kk v s).1.emb (ix3 0 j l) = ix3 v n l := by
  have hk := t2_lt k
  have ht : tOf k ≤ 82 := Nat.min_le_right _ _
  refine (strided_emb _ (offCur_inb k i k0_h2 kk ⟨9 * c.val + s.val, by omega⟩ v) v (132 * tOf k + 66 * kk.val + (9 * c.val + s.val) + 27) (by omega) (offCur_eq k kk _ v) j l).trans ?_
  exact congrArg (fun n => ix3 v n l) (Fin.ext hn.symm)
theorem prev_emb (c : Fin 3) (kk : Fin 2) (v : Fin 5) (s : Fin 9) (j : Fin 8) (l : Fin 128) (n : Fin 12012)
    (hn : n.val = 132 * tOf k + 66 * kk.val + (9 * c.val + s.val) + 66 + 132 * j.val) :
    (prevK i arg2 k0_h2 X k c kk v s).1.emb (ix3 0 j l) = ix3 v n l := by
  have hk := t2_lt k
  have ht : tOf k ≤ 82 := Nat.min_le_right _ _
  refine (strided_emb _ (offPrev_inb k i k0_h2 kk ⟨9 * c.val + s.val, by omega⟩ v) v (132 * tOf k + 66 * kk.val + (9 * c.val + s.val) + 66) (by omega) (offPrev_eq k kk _ v) j l).trans ?_
  exact congrArg (fun n => ix3 v n l) (Fin.ext hn.symm)
theorem top_emb (c : Fin 3) (kk : Fin 2) (v : Fin 5) (q : Fin 3) (j : Fin 8) (l : Fin 128) (n : Fin 12012)
    (hn : n.val = 132 * tOf k + 66 * kk.val + 3 * c.val + q.val + 186 + 132 * j.val) :
    (topK i arg2 k0_h2 X k c kk v q).1.emb (ix3 0 j l) = ix3 v n l := by
  have hk := t2_lt k
  have ht : tOf k ≤ 82 := Nat.min_le_right _ _
  refine (strided_emb _ (offTop_inb k i k0_h2 kk c q v) v (132 * tOf k + 66 * kk.val + 3 * c.val + q.val + 186) (by omega) (offTop_eq k kk c q v) j l).trans ?_
  exact congrArg (fun n => ix3 v n l) (Fin.ext hn.symm)

theorem mem_trip (p : View.Piece (Elt Ideal) S5x12012x128 .i32) :
    p ∈ tripK i arg2 k0_h2 X k ↔ ∃ c kk v, (∃ s, p = curK i arg2 k0_h2 X k c kk v s ∨ p = prevK i arg2 k0_h2 X k c kk v s) ∨ ∃ q, p = topK i arg2 k0_h2 X k c kk v q := by
  unfold tripK tripPieces
  rw [List.mem_reverse, List.mem_flatMap]
  constructor
  · rintro ⟨c, -, h⟩
    rw [List.mem_flatMap] at h; obtain ⟨kk, -, h⟩ := h
    rw [List.mem_flatMap] at h; obtain ⟨v, -, h⟩ := h
    rw [List.mem_append] at h
    rcases h with h | h
    · rw [List.mem_flatMap] at h; obtain ⟨s, -, h⟩ := h
      rw [List.mem_cons, List.mem_singleton] at h
      exact ⟨c, kk, v, Or.inl ⟨s, h⟩⟩
    · rw [List.mem_map] at h; obtain ⟨q, -, h⟩ := h
      exact ⟨c, kk, v, Or.inr ⟨q, h.symm⟩⟩
  · rintro ⟨c, kk, v, h⟩
    refine ⟨c, all3 c, ?_⟩
    rw [List.mem_flatMap]; refine ⟨kk, both kk, ?_⟩
    rw [List.mem_flatMap]; refine ⟨v, all5 v, ?_⟩
    rw [List.mem_append]
    rcases h with ⟨s, h⟩ | ⟨q, h⟩
    · refine Or.inl ?_
      rw [List.mem_flatMap]; refine ⟨s, all9 s, ?_⟩
      rw [List.mem_cons, List.mem_singleton]; exact h
    · refine Or.inr ?_
      rw [List.mem_map]; exact ⟨q, all3 q, h.symm⟩

theorem trip_agree (p : View.Piece (Elt Ideal) S5x12012x128 .i32) (hp : p ∈ tripK i arg2 k0_h2 X k) (x : p.1.shape.Idx) : p.2 x = RSPEC (View.read (Elt Ideal) arg2.view X) (p.1.emb x) := by
  have hk := t2_lt k
  have ht : tOf k ≤ 82 := Nat.min_le_right _ _
  obtain ⟨c, kk, v, ⟨s, rfl | rfl⟩ | ⟨q, rfl⟩⟩ := (mem_trip i arg2 k0_h2 X k p).mp hp
  · obtain ⟨j, l, rfl⟩ := exists_row x
    rw [cur_emb i arg2 k0_h2 X k c kk v s j l ⟨132 * tOf k + 66 * kk.val + (9 * c.val + s.val) + 27 + 132 * j.val, by omega⟩ rfl]
    refine Eq.trans ?_ (RSPEC_cur _ v _ l (2 * (tOf k + j.val) + kk.val) c s (by show _ + 132 * j.val = _; omega) (by omega)).symm
    exact (cast_put (colsOf (dealK i arg2 k0_h2 X k c kk) s v) j l).trans (cols_apply i arg2 k0_h2 X k c kk s v j l)
  · obtain ⟨j, l, rfl⟩ := exists_row x
    rw [prev_emb i arg2 k0_h2 X k c kk v s j l ⟨132 * tOf k + 66 * kk.val + (9 * c.val + s.val) + 66 + 132 * j.val, by omega⟩ rfl]
    refine Eq.trans ?_ (RSPEC_prev _ v _ l (2 * (tOf k + j.val) + kk.val) c s (by show _ + 132 * j.val = _; omega) (by omega)).symm
    exact (cast_put (colsOf (dealK i arg2 k0_h2 X k c kk) s v) j l).trans (cols_apply i arg2 k0_h2 X k c kk s v j l)
  · obtain ⟨j, l, rfl⟩ := exists_row x
    rw [top_emb i arg2 k0_h2 X k c kk v q j l ⟨132 * tOf k + 66 * kk.val + 3 * c.val + q.val + 186 + 132 * j.val, by omega⟩ rfl]
    refine Eq.trans ?_ (RSPEC_top _ v _ l (2 * (tOf k + j.val) + kk.val) c q (by show _ + 132 * j.val = _; omega)).symm
    exact (cast_put (topsOf (dealK i arg2 k0_h2 X k c kk) q v) j l).trans (tops_apply i arg2 k0_h2 X k c kk q v j l)

end

theorem t2_trips : k0_t2_loop.trips = 12 := by decide +kernel
theorem t1_trips : k0_t1_loop.trips = 182 := by decide +kernel

section
variable (c : Dev nD) (i : grid0.Coords)
  (arg2 : Memref sig .tc .vmem S2x3x7200x128 .i8) (harg2 : arg2.IsWhole)
  (arg3 : Memref sig .tc .smem S10 .f32) (harg3 : arg3.IsWhole)
  (arg4 : Memref sig .tc .vmem S7x3x7x96 .fp8e4m3) (harg4 : arg4.IsWhole)
  (arg5 : Memref sig .tc .vmem S168x1024 .bf16) (harg5 : arg5.IsWhole)
  (arg6 : Memref sig .tc .vmem S96x128 .f32) (harg6 : arg6.IsWhole)
  (arg7 : Memref sig .tc .vmem S96x128 .f32) (harg7 : arg7.IsWhole)
  (arg8 : Memref sig .tc .vmem S96x128 .f32) (harg8 : arg8.IsWhole)
  (arg9 : Memref sig .tc .vmem S2x10x96x320 .bf16) (harg9 : arg9.IsWhole)
  (arg10 : Memref sig .tc .vmem S5x12012x128 .i32) (harg10 : arg10.IsWhole)
  (arg11 : Memref sig .tc .vmem S384x256 .fp8e4m3) (harg11 : arg11.IsWhole)
  (arg12 : Memref sig .tc .vmem S2x8x128 .f32) (harg12 : arg12.IsWhole)
  (arg13 : Memref sig .tc .vmem S3x96x128 .f32) (harg13 : arg13.IsWhole)
  (arg14 : Memref sig .tc .vmem S2x5x96x128 .f32) (harg14 : arg14.IsWhole)
  (arg15 : Memref sig .tc .vmem S2x2x96x128 .f32) (harg15 : arg15.IsWhole)
  (f2 : BufTy.Contents (Elt Ideal) arg2.view.ty)
  (f3 : BufTy.Contents (Elt Ideal) arg3.view.ty)
  (f4 : BufTy.Contents (Elt Ideal) arg4.view.ty)
  (f5 : BufTy.Contents (Elt Ideal) arg5.view.ty)
  (f6 : BufTy.Contents (Elt Ideal) arg6.view.ty)
  (f7 : BufTy.Contents (Elt Ideal) arg7.view.ty)
  (f8 : BufTy.Contents (Elt Ideal) arg8.view.ty)
  (f9 : BufTy.Contents (Elt Ideal) arg9.view.ty)
  (f10 : BufTy.Contents (Elt Ideal) arg10.view.ty)
  (f11 : BufTy.Contents (Elt Ideal) arg11.view.ty)
  (f12 : BufTy.Contents (Elt Ideal) arg12.view.ty)
  (f13 : BufTy.Contents (Elt Ideal) arg13.view.ty)
  (f14 : BufTy.Contents (Elt Ideal) arg14.view.ty)
  (f15 : BufTy.Contents (Elt Ideal) arg15.view.ty)
  (h1 : k0_cond1 i = 1#1) (h2 : k0_cond2 i = 1#1) (h1' : ¬ k0_cond1 i = 1#1) (h2' : ¬ k0_cond2 i = 1#1)

theorem mem_patch (n : ℕ) (hn : n ≤ k0_t2_loop.trips) (p : View.Piece (Elt Ideal) S5x12012x128 .i32) :
    p ∈ pieces (F := Ideal) i arg2 harg2 arg3 harg3 arg4 harg4 arg5 harg5 arg6 harg6 arg7 harg7 arg8 harg8 arg9 harg9 arg10 harg10 arg11 harg11 arg12 harg12 arg13 harg13 arg14 harg14 arg15 harg15 h2 k0_pay1466 runA.sl.v121 runA.sl.v142 runA.sl.v163 (muli runA.sl.v101 runA.sl.v100) (4#32) runA.sl.v171
      (cmpi CmpIPredicate.ne runA.sl.v171 runA.sl.v89) c f2 n ↔ ∃ k : Fin k0_t2_loop.trips, k.val < n ∧ p ∈ tripK i arg2 h2 f2 k := by
  induction n with
  | zero =>
    rw [pieces.eq_1]
    exact ⟨fun h => absurd h List.not_mem_nil, fun ⟨k, hk, _⟩ => absurd hk (Nat.not_lt_zero _)⟩
  | succ n ih =>
    have e := pieces_succ (F := Ideal) i arg2 harg2 arg3 harg3 arg4 harg4 arg5 harg5 arg6 harg6 arg7 harg7 arg8 harg8 arg9 harg9 arg10 harg10 arg11 harg11 arg12 harg12 arg13 harg13 arg14 harg14 arg15 harg15 h2 k0_pay1466 runA.sl.v121 runA.sl.v142 runA.sl.v163 (muli runA.sl.v101 runA.sl.v100) (4#32) runA.sl.v171
      (cmpi CmpIPredicate.ne runA.sl.v171 runA.sl.v89) c f2 ⟨n, hn⟩
    rw [show pieces (F := Ideal) i arg2 harg2 arg3 harg3 arg4 harg4 arg5 harg5 arg6 harg6 arg7 harg7 arg8 harg8 arg9 harg9 arg10 harg10 arg11 harg11 arg12 harg12 arg13 harg13 arg14 harg14 arg15 harg15 h2 k0_pay1466 runA.sl.v121 runA.sl.v142 runA.sl.v163 (muli runA.sl.v101 runA.sl.v100) (4#32) runA.sl.v171
      (cmpi CmpIPredicate.ne runA.sl.v171 runA.sl.v89) c f2 (n + 1) = _ from e, trip_eq, List.mem_append]
    rw [show (p ∈ pieces (F := Ideal) i arg2 harg2 arg3 harg3 arg4 harg4 arg5 harg5 arg6 harg6 arg7 harg7 arg8 harg8 arg9 harg9 arg10 harg10 arg11 harg11 arg12 harg12 arg13 harg13 arg14 harg14 arg15 harg15 h2 k0_pay1466 runA.sl.v121 runA.sl.v142 runA.sl.v163 (muli runA.sl.v101 runA.sl.v100) (4#32) runA.sl.v171
      (cmpi CmpIPredicate.ne runA.sl.v171 runA.sl.v89) c f2 (⟨n, hn⟩ : Fin k0_t2_loop.trips).val) ↔ _ from ih (Nat.le_of_succ_le hn)]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.mp hk with hk | hk
      · exact Or.inr ⟨k, hk, h⟩
      · refine Or.inl ?_
        have : k = ⟨n, hn⟩ := Fin.ext hk
        rw [this] at h; exact h

theorem patch_agree (p : View.Piece (Elt Ideal) S5x12012x128 .i32) (hp : p ∈ patchPieces (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 h2) (x : p.1.shape.Idx) :
    p.2 x = RSPEC (View.read (Elt Ideal) arg2.view f2) (p.1.emb x) := by
  unfold patchPieces at hp
  obtain ⟨k, -, hk⟩ := (mem_patch (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (f2 := f2) (h2 := h2) k0_t2_loop.trips (Nat.le_refl _) p).mp hp
  exact trip_agree i arg2 h2 f2 k p hk x

theorem patch_cover (y : S5x12012x128.Idx) (hy : Filled (y 1).val) : ∃ p ∈ patchPieces (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 h2, y ∈ p.1.set := by
  have h1 : (y 1).val < 12012 := (y 1).isLt
  have get : ∀ (k : Fin k0_t2_loop.trips) (p : View.Piece (Elt Ideal) S5x12012x128 .i32), p ∈ tripK i arg2 h2 f2 k → (∃ x, p.1.emb x = y) →
      ∃ p ∈ patchPieces (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 h2, y ∈ p.1.set := by
    rintro k p hp ⟨x, hx⟩
    refine ⟨p, ?_, ?_⟩
    · unfold patchPieces
      exact (mem_patch (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (f2 := f2) (h2 := h2) k0_t2_loop.trips (Nat.le_refl _) p).mpr ⟨k, k.isLt, hp⟩
    · rw [← hx]; exact LoadRect.idx_mem _ _
  have hy3 : ∀ n : Fin 12012, n.val = (y 1).val → (ix3 (y 0) n (y 2) : S5x12012x128.Idx) = y := by
    intro n hn
    funext a
    match a with
    | ⟨0, _⟩ => rfl
    | ⟨1, _⟩ => exact Fin.ext hn
    | ⟨2, _⟩ => rfl
  have trip : ∀ Q, Q < 180 → ∃ (k : Fin k0_t2_loop.trips) (j : Fin 8) (kk : Fin 2), 2 * (tOf k + j.val) + kk.val = Q := by
    intro Q hQ
    refine ⟨⟨Q / 2 / 8, by rw [t2_trips]; omega⟩, ⟨Q / 2 - min (8 * (Q / 2 / 8)) 82, by omega⟩, ⟨Q % 2, by omega⟩, ?_⟩
    show 2 * (min (8 * (Q / 2 / 8)) 82 + (Q / 2 - min (8 * (Q / 2 / 8)) 82)) + Q % 2 = Q
    omega
  rcases hy with ⟨ha, hb, hc⟩ | ⟨ha, hb, hc⟩ | ⟨ha, hb, hc⟩
  · obtain ⟨k, j, kk, e⟩ := trip ((y 1).val / 66 - 1) (by omega)
    refine get k (prevK i arg2 h2 f2 k ⟨(y 1).val % 66 / 9, by omega⟩ kk (y 0) ⟨(y 1).val % 66 % 9, by omega⟩) ((mem_trip i arg2 h2 f2 k _).mpr ⟨_, _, _, Or.inl ⟨_, Or.inr rfl⟩⟩) ⟨ix3 0 j (y 2), ?_⟩
    refine (prev_emb i arg2 h2 f2 k _ kk (y 0) _ j (y 2) ⟨(y 1).val, h1⟩ ?_).trans (hy3 _ rfl)
    show (y 1).val = 132 * tOf k + 66 * kk.val + (9 * ((y 1).val % 66 / 9) + (y 1).val % 66 % 9) + 66 + 132 * j.val
    generalize tOf k = t at e ⊢
    omega
  · obtain ⟨k, j, kk, e⟩ := trip ((y 1).val / 66) hc
    refine get k (curK i arg2 h2 f2 k ⟨((y 1).val % 66 - 27) / 9, by omega⟩ kk (y 0) ⟨((y 1).val % 66 - 27) % 9, by omega⟩) ((mem_trip i arg2 h2 f2 k _).mpr ⟨_, _, _, Or.inl ⟨_, Or.inl rfl⟩⟩) ⟨ix3 0 j (y 2), ?_⟩
    refine (cur_emb i arg2 h2 f2 k _ kk (y 0) _ j (y 2) ⟨(y 1).val, h1⟩ ?_).trans (hy3 _ rfl)
    show (y 1).val = 132 * tOf k + 66 * kk.val + (9 * (((y 1).val % 66 - 27) / 9) + ((y 1).val % 66 - 27) % 9) + 27 + 132 * j.val
    generalize tOf k = t at e ⊢
    omega
  · obtain ⟨k, j, kk, e⟩ := trip ((y 1).val / 66 - 2) (by omega)
    refine get k (topK i arg2 h2 f2 k ⟨((y 1).val % 66 - 54) / 3, by omega⟩ kk (y 0) ⟨((y 1).val % 66 - 54) % 3, by omega⟩) ((mem_trip i arg2 h2 f2 k _).mpr ⟨_, _, _, Or.inr ⟨_, rfl⟩⟩) ⟨ix3 0 j (y 2), ?_⟩
    refine (top_emb i arg2 h2 f2 k _ kk (y 0) _ j (y 2) ⟨(y 1).val, h1⟩ ?_).trans (hy3 _ rfl)
    show (y 1).val = 132 * tOf k + 66 * kk.val + 3 * (((y 1).val % 66 - 54) / 3) + ((y 1).val % 66 - 54) % 3 + 186 + 132 * j.val
    generalize tOf k = t at e ⊢
    omega

/-- After the twelve groups the buffer holds the patches, if the words no store fills held zero. -/
theorem read_patched (f : BufTy.Contents (Elt Ideal) arg10.view.ty) (h0 : ∀ y : S5x12012x128.Idx, ¬ Filled (y 1).val → View.read (Elt Ideal) arg10.view f y = 0#32) :
    View.read (Elt Ideal) arg10.view (arg10.view.writes (Elt Ideal) f (patchPieces (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 h2)) = RSPEC (View.read (Elt Ideal) arg2.view f2) := by
  funext y
  by_cases h : ∃ p ∈ patchPieces (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 h2, y ∈ p.1.set
  · exact View.read_writes_apply_of_pieces arg10.view f (RSPEC (View.read (Elt Ideal) arg2.view f2)) _
      (fun p hp x => patch_agree (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (f2 := f2) (h2 := h2) p hp x) y h
  · rw [View.read_writes_apply_of_forall_not_mem arg10.view f y _ fun p hp hm => h ⟨p, hp, hm⟩]
    have hn : ¬ Filled (y 1).val := fun hf => h (patch_cover (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (f2 := f2) (h2 := h2) y hf)
    rw [h0 y hn, RSPEC_zero _ y hn]

theorem clear_trip (k : Fin k0_t1_loop.trips) :
    tripL_k0_t1 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 h1 k = [⟨Rect.unit (s := S5x12012x128) (k0_off1 k) S5x66x128.size (k0_off1_inb i k h1), k0_pay8⟩] := by
  unfold tripL_k0_t1 trip_k0_t1; rfl

theorem mem_clear (n : ℕ) (hn : n ≤ k0_t1_loop.trips) (p : View.Piece (Elt Ideal) S5x12012x128 .i32) :
    p ∈ pb_k0_t1 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 h1 n ↔ ∃ k : Fin k0_t1_loop.trips, k.val < n ∧
      p = ⟨Rect.unit (s := S5x12012x128) (k0_off1 k) S5x66x128.size (k0_off1_inb i k h1), k0_pay8⟩ := by
  induction n with
  | zero =>
    rw [pb_k0_t1.eq_1]
    exact ⟨fun h => absurd h List.not_mem_nil, fun ⟨k, hk, _⟩ => absurd hk (Nat.not_lt_zero _)⟩
  | succ n ih =>
    have e := pb_k0_t1_succ (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 h1 ⟨n, hn⟩
    rw [show pb_k0_t1 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 h1 (n + 1) = _ from e, clear_trip, List.mem_append, List.mem_singleton,
      show (p ∈ pb_k0_t1 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 h1 (⟨n, hn⟩ : Fin k0_t1_loop.trips).val) ↔ _ from ih (Nat.le_of_succ_le hn)]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.mp hk with hk | hk
      · exact Or.inr ⟨k, hk, h⟩
      · have : k = ⟨n, hn⟩ := Fin.ext hk
        rw [this] at h; exact Or.inl h

theorem read_cleared (f : BufTy.Contents (Elt Ideal) arg10.view.ty) (y : S5x12012x128.Idx) :
    View.read (Elt Ideal) arg10.view (arg10.view.writes (Elt Ideal) f (clearPieces (F := Ideal) c i arg2 harg2 arg3 harg3 arg4 harg4 arg5 harg5 arg6 harg6 arg7 harg7 arg8 harg8 arg9 harg9 arg10 harg10 arg11 harg11 arg12 harg12 arg13 harg13 arg14 harg14 arg15 harg15 h1)) y = 0#32 := by
  have h1' : (y 1).val < 12012 := (y 1).isLt
  refine View.read_writes_apply_of_pieces arg10.view f (fun _ => 0#32) _ (fun p hp x => ?_) y ?_
  · unfold clearPieces at hp
    obtain ⟨k, -, rfl⟩ := (mem_clear (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (h1 := h1) _ (Nat.le_refl _) p).mp hp
    rfl
  · refine ⟨_, (mem_clear (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (h1 := h1) _ (Nat.le_refl _) _).mpr ⟨⟨(y 1).val / 66, by rw [t1_trips]; omega⟩, Fin.isLt _, rfl⟩, ?_⟩
    refine (Rect.mem_set_unit (inb := k0_off1_inb i _ h1)).mpr fun a => ?_
    rw [k0_off1_eq]
    have a0 : (y 0).val < 5 := (y 0).isLt
    have a2 : (y 2).val < 128 := (y 2).isLt
    match a with
    | ⟨0, _⟩ => show 0 ≤ (y 0).val ∧ (y 0).val < 0 + 5; omega
    | ⟨1, _⟩ => show 66 * ((y 1).val / 66) ≤ (y 1).val ∧ (y 1).val < 66 * ((y 1).val / 66) + 66; omega
    | ⟨2, _⟩ => show 0 ≤ (y 2).val ∧ (y 2).val < 0 + 128; omega

/-- The patches after the first point of all. -/
theorem read_R_A : View.read (Elt Ideal) arg10.view (R_A (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f10 h1 h2) = RSPEC (View.read (Elt Ideal) arg2.view f2) := by
  unfold R_A
  rw [View.writes_append]
  exact read_patched (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (f2 := f2) (h2 := h2) _ fun y _ => read_cleared (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (h1 := h1) f10 y

/-- The patches after the first point of another pair: the words no store fills are zero since the first. -/
theorem read_R_B (Y : S2x3x7200x128.Idx → BitVec 8) (h : View.read (Elt Ideal) arg10.view f10 = RSPEC Y) :
    View.read (Elt Ideal) arg10.view (R_B (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f10 h2) = RSPEC (View.read (Elt Ideal) arg2.view f2) := by
  unfold R_B
  exact read_patched (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (f2 := f2) (h2 := h2) _ fun y hy => by rw [h, RSPEC_zero Y y hy]

end

end Cert.Proof.KernelIdeal

end
-- ==== Proof.Weights.lean ====
/-
  The buffers made at the first point and at the first point of a pair, read at an index: the prepared weights are sums over
  the taps, negated where the scale is negative; the multipliers are the absolute value of the scales' product times the
  image's scale.
-/
module

public import proofs.«01_k».proof.Proof.StepPoint
public import proofs.«01_k».proof.Proof.RunMirror
public import Idealize.ShloMosaic.Lib.Writes

@[expose] public section

set_option maxRecDepth 65536
set_option maxHeartbeats 400000

noncomputable section

namespace Cert.Proof.KernelIdeal

open Cert.KernelIdeal Cert.KernelIdeal.Gen
open Idealize.ShloMosaic hiding ix1 ix2 ix3 ix4 ix5
open Idealize.ShloMosaic.TcCoe Idealize.ShloMosaic.Tactic Idealize.ShloMosaic.ValueIdx
open scoped BigOperators

/-- The 24 pieces of the prepared weights, of a matrix. -/
def wkParts (X : S96x1024.Idx → EReal) : List ((s : Shape) × (s.Idx → EReal)) :=
  ([0, 1, 2, 3, 4, 5] : List (Fin 6)).flatMap fun g => ([0, 1, 2, 3] : List (Fin 4)).map fun ph =>
    ⟨S16x256, extractStridedSlice S16x256 ![16 * g.val, 256 * ph.val] X (slices_phase g ph)⟩

theorem wkParts_get (X : S96x1024.Idx → EReal) (g : Fin 6) (ph : Fin 4) (hk : 4 * g.val + ph.val < (wkParts X).length) :
    (wkParts X)[4 * g.val + ph.val] = ⟨S16x256, extractStridedSlice S16x256 ![16 * g.val, 256 * ph.val] X (slices_phase g ph)⟩ := by
  fin_cases g <;> fin_cases ph <;> rfl

theorem wkParts_pre (X : S96x1024.Idx → EReal) (g : Fin 6) (ph : Fin 4) :
    ((((wkParts X).take (4 * g.val + ph.val)).map (·.1)).map fun s => if h : s.rank = S384x256.rank then s.size ((0 : Fin S384x256.rank).cast h.symm) else 0).sum
      = 16 * (4 * g.val + ph.val) := by
  have e : (wkParts X).map (·.1) = List.replicate 24 S16x256 := rfl
  rw [List.map_take, e, List.take_replicate, List.map_replicate, List.sum_replicate]
  show min (4 * g.val + ph.val) 24 * 16 = 16 * (4 * g.val + ph.val)
  omega

theorem wkParts_apply (X : S96x1024.Idx → EReal) (h : Shape.Concatenates ((wkParts X).map (·.1)) S384x256 0) (g : Fin 6) (ph : Fin 4) (j : Fin 16) (n : Fin 256) :
    concatenate S384x256 0 (wkParts X) h (ix2 ⟨64 * g.val + 16 * ph.val + j.val, by omega⟩ n) = X (ix2 ⟨16 * g.val + j.val, by omega⟩ ⟨256 * ph.val + n.val, by omega⟩) := by
  have hlen : (wkParts X).length = 24 := rfl
  refine (concatenate_apply_piece (t := S384x256) 0 (wkParts X) h _ (4 * g.val + ph.val) (by rw [hlen]; omega) S16x256 _ (wkParts_get X g ph _) rfl
    (16 * (4 * g.val + ph.val)) (wkParts_pre X g ph) (ix2 j n) (fun b hb => ?_) ?_).trans ?_
  · match b with
    | ⟨0, _⟩ => exact absurd rfl hb
    | ⟨1, _⟩ => rfl
  · show 16 * (4 * g.val + ph.val) + j.val = 64 * g.val + 16 * ph.val + j.val
    omega
  · refine extractStridedSlice_apply _ _ _ _ _ fun a => ?_
    match a with
    | ⟨0, _⟩ => rfl
    | ⟨1, _⟩ => rfl

section
variable (arg4 : Memref sig .tc .vmem S7x3x7x96 .fp8e4m3)
  (arg5 : Memref sig .tc .vmem S168x1024 .bf16) (arg6 arg7 : Memref sig .tc .vmem S96x128 .f32) (arg11 : Memref sig .tc .vmem S384x256 .fp8e4m3)
  (f4 : BufTy.Contents (Elt Ideal) arg4.view.ty) (f5 : BufTy.Contents (Elt Ideal) arg5.view.ty)
  (f6 : BufTy.Contents (Elt Ideal) arg6.view.ty) (f7 : BufTy.Contents (Elt Ideal) arg7.view.ty)

theorem wk_A_apply (m : Fin 384) (n : Fin 256) : wk_A (F := Ideal) arg4 arg5 arg6 arg7 arg11 f4 f5 f6 f7 (ix2 m n)
    = (View.read (Elt Ideal) arg11.view (W_A (F := Ideal) arg4 arg5 arg6 arg7 arg11 f4 f5 f6 f7)) (ix2 m n) := by
  unfold wk_A W_A View.readCov
  rw [View.readAt_apply]
  refine congrArg (View.read (Elt Ideal) arg11.view _) (funext fun a => Fin.ext ?_)
  match a with
  | ⟨0, _⟩ => show 0 + 1 * m.val = m.val; omega
  | ⟨1, _⟩ => show 0 + 1 * n.val = n.val; omega

theorem read_W_A : View.read (Elt Ideal) arg11.view (W_A (F := Ideal) arg4 arg5 arg6 arg7 arg11 f4 f5 f6 f7) = wkMade (F := Ideal) arg4 arg5 arg6 arg7 f4 f5 f6 f7 := by
  funext y
  unfold W_A
  refine View.read_writes_apply_of_pieces (Val := Elt Ideal) arg11.view _ (fun y : S384x256.Idx => (wkMade (F := Ideal) arg4 arg5 arg6 arg7 f4 f5 f6 f7 y : Elt Ideal .fp8e4m3)) _ (fun p hp x => ?_) y ?_
  · unfold wkPieces at hp
    rw [List.mem_singleton] at hp
    subst hp
    refine congrArg (wkMade (F := Ideal) arg4 arg5 arg6 arg7 f4 f5 f6 f7) (funext fun a => Fin.ext ?_)
    match a with
    | ⟨0, _⟩ => show (x 0).val = 0 + 1 * (x 0).val; omega
    | ⟨1, _⟩ => show (x 1).val = 0 + 1 * (x 1).val; omega
  · refine ⟨⟨Rect.unit (s := S384x256) ![0, 0] S384x256.size inb_S384x256_S384x256_0_0, wkMade (F := Ideal) arg4 arg5 arg6 arg7 f4 f5 f6 f7⟩,
      by unfold wkPieces; exact List.mem_singleton.mpr rfl, ?_⟩
    refine (Rect.mem_set_unit (inb := inb_S384x256_S384x256_0_0)).mpr fun a => ?_
    have a0 : (y 0).val < 384 := (y 0).isLt
    have a1 : (y 1).val < 256 := (y 1).isLt
    match a with
    | ⟨0, _⟩ => show 0 ≤ (y 0).val ∧ (y 0).val < 0 + 384; omega
    | ⟨1, _⟩ => show 0 ≤ (y 1).val ∧ (y 1).val < 0 + 256; omega

theorem wkMade_apply (g : Fin 6) (ph : Fin 4) (j : Fin 16) (n : Fin 256) :
    wkMade (F := Ideal) arg4 arg5 arg6 arg7 f4 f5 f6 f7 (ix2 ⟨64 * g.val + 16 * ph.val + j.val, by omega⟩ n)
      = signed (F := Ideal) arg4 arg5 arg6 arg7 f4 f5 f6 f7 (ix2 ⟨16 * g.val + j.val, by omega⟩ ⟨256 * ph.val + n.val, by omega⟩) := by
  unfold wkMade
  exact (shapeCast_apply _ _ _ (ix2 ⟨64 * g.val + 16 * ph.val + j.val, by omega⟩ n) rfl).trans (wkParts_apply (signed (F := Ideal) arg4 arg5 arg6 arg7 f4 f5 f6 f7)
    concatenates_S16x256_S16x256_S16x256_S16x256_S16x256_S16x256_S16x256_S16x256_S16x256_S16x256_S16x256_S16x256_S16x256_S16x256_S16x256_S16x256_S16x256_S16x256_S16x256_S16x256_S16x256_S16x256_S16x256_S16x256_S384x256_d0 g ph j n)

/-- The weight of tap `r` of 168, channel `ch`. -/
def tapAt (w : S7x3x7x96.Idx → EReal) (r : Fin 168) (ch : Fin 96) : EReal :=
  if h : r.val % 8 < 7 then w (ix4 ⟨r.val / 24, by omega⟩ ⟨r.val / 8 % 3, by omega⟩ ⟨r.val % 8, h⟩ ch) else 0

theorem taps_apply (w : S7x3x7x96.Idx → EReal) (z : S7x3x1x96.Idx → EReal) (hz : ∀ y, z y = 0)
    (hc : Shape.Concatenates [S7x3x7x96, S7x3x1x96] S7x3x8x96 2) (hs : S7x3x8x96.ShapeCasts S168x96) (r : Fin 168) (ch : Fin 96) :
    shapeCast S168x96 (concatenate S7x3x8x96 2 [⟨S7x3x7x96, w⟩, ⟨S7x3x1x96, z⟩] hc) hs (ix2 r ch) = tapAt w r ch := by
  refine (shapeCast_apply _ _ _ (ix4 ⟨r.val / 24, by omega⟩ ⟨r.val / 8 % 3, by omega⟩ ⟨r.val % 8, by omega⟩ ch) ?_).trans ?_
  · rw [rowMajor_val4 _ 2304 768 96 rfl rfl rfl, rowMajor_val2 _ 96 rfl]
    show r.val / 24 * 2304 + r.val / 8 % 3 * 768 + r.val % 8 * 96 + ch.val = r.val * 96 + ch.val
    omega
  · unfold tapAt
    by_cases h : r.val % 8 < 7
    · rw [dif_pos h]
      refine concatenate_pair_apply_left (t := S7x3x8x96) (s₁ := S7x3x7x96) (s₂ := S7x3x1x96) 2 _ _ _ _ rfl (ix4 ⟨r.val / 24, by omega⟩ ⟨r.val / 8 % 3, by omega⟩ ⟨r.val % 8, h⟩ ch) (fun b => ?_)
      match b with
      | ⟨0, _⟩ => rfl
      | ⟨1, _⟩ => rfl
      | ⟨2, _⟩ => rfl
      | ⟨3, _⟩ => rfl
    · rw [dif_neg h]
      refine (concatenate_pair_apply_right (t := S7x3x8x96) (s₁ := S7x3x7x96) (s₂ := S7x3x1x96) 2 _ _ _ _ rfl rfl (ix4 ⟨r.val / 24, by omega⟩ ⟨r.val / 8 % 3, by omega⟩ 0 ch) (fun b hb => ?_) ?_).trans (hz _)
      · match b with
        | ⟨0, _⟩ => rfl
        | ⟨1, _⟩ => rfl
        | ⟨2, _⟩ => exact absurd rfl hb
        | ⟨3, _⟩ => rfl
      · show 0 + 7 = r.val % 8
        omega

theorem spread_dot (L : S168x96.Idx → EReal) (X : S168x1024.Idx → EReal) (ch : Fin 96) (x : Fin 1024) :
    FloatOps.matmul (F := Ideal) dot_S168x96_S168x1024_S96x1024_0_0_1_1_n_n none (φ₁ := .bf16) (φ₂ := .bf16) L X (constant S96x1024 .f32 0x00000000#32) (ix2 ch x)
      = ∑ r : Fin 168, L (ix2 r ch) * X (ix2 r x) := by
  rw [Ideal.matmul_apply, ← Equiv.sum_comp (contrEquiv1 dot_S168x96_S168x1024_S96x1024_0_0_1_1_n_n 168 rfl rfl).symm]
  rw [show (constant (F := Ideal) S96x1024 .f32 0x00000000#32) (ix2 ch x) = (0 : EReal) from Ideal.ofBits_zero_f32, zero_add]
  refine Finset.sum_congr rfl fun k _ => ?_
  have hk := contrEquiv1_symm_val dot_S168x96_S168x1024_S96x1024_0_0_1_1_n_n 168 rfl rfl k
  have el : dot_S168x96_S168x1024_S96x1024_0_0_1_1_n_n.lhsIdx (ix2 ch x) ((contrEquiv1 dot_S168x96_S168x1024_S96x1024_0_0_1_1_n_n 168 rfl rfl).symm k) = ix2 k ch := by
    funext a; apply Fin.ext
    match a with
    | ⟨0, _⟩ => exact hk
    | ⟨1, _⟩ => rfl
  have er : dot_S168x96_S168x1024_S96x1024_0_0_1_1_n_n.rhsIdx (ix2 ch x) ((contrEquiv1 dot_S168x96_S168x1024_S96x1024_0_0_1_1_n_n 168 rfl rfl).symm k) = ix2 k x := by
    funext a; apply Fin.ext
    match a with
    | ⟨0, _⟩ => exact hk
    | ⟨1, _⟩ => rfl
  rw [el, er]

theorem spread_apply (ch : Fin 96) (x : Fin 1024) : spread (F := Ideal) arg4 arg5 f4 f5 (ix2 ch x)
    = ∑ r : Fin 168, tapAt (View.read (Elt Ideal) arg4.view f4) r ch * (View.read (Elt Ideal) arg5.view f5) (ix2 r x) := by
  unfold spread
  refine (spread_dot _ _ ch x).trans (Finset.sum_congr rfl fun r _ => congr (congrArg HMul.hMul ?_) ?_)
  · refine (taps_apply (fun y => (shapeCast S7x3x7x96 (View.readAt (Elt Ideal) arg4.view (Rect.unit (s := S7x3x7x96) ![0, 0, 0, 0] S7x3x7x96.size inb_all4).toLoadRect f4)
      shapeCasts_S7x3x7x96_S7x3x7x96 : S7x3x7x96.Idx → Elt Ideal .fp8e4m3) y) (fun _ => Ideal.ofBits .f32 0x00000000#32) (fun _ => Ideal.ofBits_zero_f32)
      concatenates_S7x3x7x96_S7x3x1x96_S7x3x8x96_d2 shapeCasts_S7x3x8x96_S168x96 r ch).trans ?_
    unfold tapAt
    split_ifs with h
    · refine (shapeCast_apply _ _ _ (ix4 _ _ _ ch) rfl).trans ?_
      rw [View.readAt_apply]
      refine congrArg (View.read (Elt Ideal) arg4.view f4) (funext fun a => Fin.ext ?_)
      match a with
      | ⟨0, _⟩ => show 0 + 1 * (r.val / 24) = r.val / 24; omega
      | ⟨1, _⟩ => show 0 + 1 * (r.val / 8 % 3) = r.val / 8 % 3; omega
      | ⟨2, _⟩ => show 0 + 1 * (r.val % 8) = r.val % 8; omega
      | ⟨3, _⟩ => show 0 + 1 * ch.val = ch.val; omega
    · rfl
  · rw [View.readAt_apply]
    refine congrArg (View.read (Elt Ideal) arg5.view f5) (funext fun a => Fin.ext ?_)
    match a with
    | ⟨0, _⟩ => show 0 + 1 * r.val = r.val; omega
    | ⟨1, _⟩ => show 0 + 1 * x.val = x.val; omega

theorem signCol_apply (ch : Fin 96) : signCol (F := Ideal) arg6 arg7 f6 f7 (ix2 ch 0)
    = (View.read (Elt Ideal) arg6.view f6) (ix2 ch 0) * (View.read (Elt Ideal) arg7.view f7) (ix2 ch 0) := by
  have e : ∀ (a : Memref sig .tc .vmem S96x128 .f32) (f : BufTy.Contents (Elt Ideal) a.view.ty),
      shapeCast S96x1 (View.readAt (Elt Ideal) a.view (Rect.unit (s := S96x128) ![0, 0] S96x1.size inb_col).toLoadRect f) shapeCasts_S96x1_S96x1 (ix2 ch 0)
        = (View.read (Elt Ideal) a.view f) (ix2 ch 0) := by
    intro a f
    refine (shapeCast_apply _ _ _ (ix2 ch 0) rfl).trans ?_
    rw [View.readAt_apply]
    refine congrArg (View.read (Elt Ideal) a.view f) (funext fun a => Fin.ext ?_)
    match a with
    | ⟨0, _⟩ => show 0 + 1 * ch.val = ch.val; omega
    | ⟨1, _⟩ => rfl
  unfold signCol
  exact congr (congrArg HMul.hMul (e arg6 f6)) (e arg7 f7)

theorem signed_apply (ch : Fin 96) (x : Fin 1024) : signed (F := Ideal) arg4 arg5 arg6 arg7 f4 f5 f6 f7 (ix2 ch x)
    = if (View.read (Elt Ideal) arg6.view f6) (ix2 ch 0) * (View.read (Elt Ideal) arg7.view f7) (ix2 ch 0) < 0
      then 0 - spread (F := Ideal) arg4 arg5 f4 f5 (ix2 ch x) else spread (F := Ideal) arg4 arg5 f4 f5 (ix2 ch x) := by
  have hc : (broadcastTo S96x1024 (shapeCast S96x1 (cmpf .olt (signCol (F := Ideal) arg6 arg7 f6 f7) (broadcast S96x1 (Scalar.ofBits .f32 0x00000000#32))) shapeCasts_S96x1_S96x1)
      broadcasts_S96x1_S96x1024) (ix2 ch x) = BitVec.ofBool (decide ((View.read (Elt Ideal) arg6.view f6) (ix2 ch 0) * (View.read (Elt Ideal) arg7.view f7) (ix2 ch 0) < 0)) := by
    refine (broadcastTo_apply _ _ _ (ix2 ch 0) fun a => ?_).trans ?_
    · match a with
      | ⟨0, _⟩ => rfl
      | ⟨1, _⟩ => rfl
    · refine (shapeCast_apply _ _ _ (ix2 ch 0) rfl).trans ?_
      rw [← signCol_apply]
      show BitVec.ofBool (decide (signCol (F := Ideal) arg6 arg7 f6 f7 (ix2 ch 0) < Ideal.ofBits .f32 0x00000000#32)) = _
      rw [Ideal.ofBits_zero_f32]
  unfold signed
  show Scalar.select _ _ _ = _
  rw [hc]
  by_cases h : (View.read (Elt Ideal) arg6.view f6) (ix2 ch 0) * (View.read (Elt Ideal) arg7.view f7) (ix2 ch 0) < 0
  · rw [if_pos h, decide_eq_true h]
    show Ideal.ofBits .f32 0x00000000#32 - _ = _
    rw [Ideal.ofBits_zero_f32]
  · rw [if_neg h, decide_eq_false h]
    rfl

end

section
variable (i : grid0.Coords) (arg3 : Memref sig .tc .smem S10 .f32) (arg6 arg7 : Memref sig .tc .vmem S96x128 .f32) (arg12 : Memref sig .tc .vmem S2x8x128 .f32)
  (arg13 : Memref sig .tc .vmem S3x96x128 .f32)
  (f3 : BufTy.Contents (Elt Ideal) arg3.view.ty) (f6 : BufTy.Contents (Elt Ideal) arg6.view.ty) (f7 : BufTy.Contents (Elt Ideal) arg7.view.ty)
  (h2 : k0_cond2 i = 1#1)

theorem off2_nat : ∀ (p : Fin 5) (g : Fin 2), (Scalar.indexCast (Scalar.addi (Scalar.muli 2#32 (BitVec.ofNat 32 p.val)) (BitVec.ofNat 32 g.val)) : Index).toNat = 2 * p.val + g.val := by
  decide

theorem pair_lt : (i 0).val < 5 := (i 0).isLt

theorem off2_eq (g : Fin 2) : k0_off2 i (BitVec.ofNat 32 g.val) = ![2 * (i 0).val + g.val] := by
  unfold k0_off2
  exact congrArg (fun n : ℕ => ![n]) (off2_nat ⟨(i 0).val, pair_lt i⟩ g)

/-- The scale of one image of a pair. -/
def scaleAt (s : S10.Idx → EReal) (p : ℕ) (g : Fin 2) : EReal := s (ix1 ⟨(2 * p + g.val) % 10, Nat.mod_lt _ (by decide)⟩)

theorem scale_read (g : Fin 2) : View.readAt (Elt Ideal) arg3.view (Rect.unit (s := S10) (k0_off2 i (BitVec.ofNat 32 g.val)) S1.size (k0_off2_inb i h2 g)).toLoadRect f3
      (Shape.Idx.first Nat.one_pos) = scaleAt (View.read (Elt Ideal) arg3.view f3) (i 0).val g := by
  have hp := pair_lt i
  rw [View.readAt_apply]
  refine congrArg (View.read (Elt Ideal) arg3.view f3) (funext fun a => Fin.ext ?_)
  match a with
  | ⟨0, _⟩ =>
    show k0_off2 i (BitVec.ofNat 32 g.val) 0 + 1 * 0 = (2 * (i 0).val + g.val) % 10
    rw [off2_eq]
    show 2 * (i 0).val + g.val + 1 * 0 = (2 * (i 0).val + g.val) % 10
    omega

theorem scaleLoad_apply (g : Fin 2) (l : Fin 128) : scaleLoad (F := Ideal) i arg3 arg12 f3 h2 g (ix2 0 l) = scaleAt (View.read (Elt Ideal) arg3.view f3) (i 0).val g := by
  unfold scaleLoad View.readCov
  refine (shapeCast_apply _ _ _ (ix3 0 0 l) ?_).trans ?_
  · rw [rowMajor_val3 _ 128 128 rfl rfl, rowMajor_val2 _ 128 rfl]; rfl
  rw [View.readAt_apply]
  have hi : (Rect.unit (s := S2x8x128) ![g.val, 0, 0] S1x1x128.size (inb_scale g)).toLoadRect.idx (ix3 0 0 l) = ix3 g 0 l := by
    funext a; apply Fin.ext
    match a with
    | ⟨0, _⟩ => show g.val + 1 * 0 = g.val; omega
    | ⟨1, _⟩ => rfl
    | ⟨2, _⟩ => show 0 + 1 * l.val = l.val; omega
  rw [hi]
  refine (View.read_writes_apply_of_pieces arg12.view _ (fun y : S2x8x128.Idx => scaleAt (View.read (Elt Ideal) arg3.view f3) (i 0).val (y 0)) _ (fun p hp x => ?_) (ix3 g 0 l) ?_).trans rfl
  · unfold scalePieces at hp
    have hx : (x 0).val < 1 := by
      rcases List.mem_cons.mp hp with rfl | hp
      · exact (x 0).isLt
      · rw [List.mem_singleton] at hp; subst hp; exact (x 0).isLt
    rcases List.mem_cons.mp hp with rfl | hp
    · refine (scale_read i arg3 f3 h2 1).trans (congrArg (scaleAt _ _) (Fin.ext ?_))
      show 1 = 1 + 1 * (x 0).val; omega
    · rw [List.mem_singleton] at hp; subst hp
      refine (scale_read i arg3 f3 h2 0).trans (congrArg (scaleAt _ _) (Fin.ext ?_))
      show 0 = 0 + 1 * (x 0).val; omega
  · refine ⟨scalePiece i arg3 f3 h2 g, ?_, ?_⟩
    · unfold scalePieces
      match g with
      | 0 => exact List.mem_cons_of_mem _ (List.mem_singleton.mpr rfl)
      | 1 => exact List.mem_cons_self
    · refine (Rect.mem_set_unit (inb := inb_pair g)).mpr fun a => ?_
      match a with
      | ⟨0, _⟩ => show g.val ≤ g.val ∧ g.val < g.val + 1; omega
      | ⟨1, _⟩ => show 0 ≤ 0 ∧ 0 < 0 + 8; omega
      | ⟨2, _⟩ => show 0 ≤ l.val ∧ l.val < 0 + 128; omega

/-- The image of a pair a lane of a kind of tile is of. -/
def sideOf (kind : Fin 3) (l : Fin 128) : Fin 2 := match kind with | 0 => 0 | 1 => (if l.val < 64 then 0 else 1) | 2 => 1

theorem row_bcast (x : S1x128.Idx → EReal) (ch : Fin 96) (l : Fin 128) : broadcastTo S96x128 x broadcasts_S1x128_S96x128 (ix2 ch l) = x (ix2 0 l) := by
  refine broadcastTo_apply _ _ _ (ix2 0 l) fun a => ?_
  match a with
  | ⟨0, _⟩ => rfl
  | ⟨1, _⟩ => rfl

theorem low_lane : ∀ l : Fin 128, IntOp.cmpi .slt (BitVec.ofNat 32 l.val) 64#32 = if l.val < 64 then 1#1 else 0#1 := by decide

theorem kindScale_apply (kind : Fin 3) (ch : Fin 96) (l : Fin 128) : kindScale (F := Ideal) i arg3 arg12 f3 h2 kind (ix2 ch l)
    = scaleAt (View.read (Elt Ideal) arg3.view f3) (i 0).val (sideOf kind l) := by
  match kind with
  | 0 => exact (row_bcast _ ch l).trans (scaleLoad_apply i arg3 arg12 f3 h2 0 l)
  | 2 => exact (row_bcast _ ch l).trans (scaleLoad_apply i arg3 arg12 f3 h2 1 l)
  | 1 =>
    have e : ∀ g : Fin 2, (broadcastTo S96x128 (shapeCast S1x128 (scaleLoad (F := Ideal) i arg3 arg12 f3 h2 g) shapeCasts_S1x128_S1x128) broadcasts_S1x128_S96x128) (ix2 ch l)
        = scaleAt (View.read (Elt Ideal) arg3.view f3) (i 0).val g := fun g =>
      (row_bcast _ ch l).trans ((shapeCast_apply _ _ _ (ix2 0 l) rfl).trans (scaleLoad_apply i arg3 arg12 f3 h2 g l))
    show Scalar.select _ _ _ = _
    rw [e 0, e 1]
    have hl : (cmpi .slt (iota Kind.tc S96x128 32 [1] iota_S96x128_d1_w32) (broadcast S96x128 64#32)) (ix2 ch l) = if l.val < 64 then 1#1 else 0#1 := by
      refine Eq.trans ?_ (low_lane l)
      show IntOp.cmpi .slt (BitVec.ofNat 32 (0 * 128 + l.val)) 64#32 = _
      rw [Nat.zero_mul, Nat.zero_add]
    rw [hl]
    show _ = scaleAt _ _ (if l.val < 64 then 0 else 1)
    by_cases h : l.val < 64
    · rw [if_pos h, if_pos h]; rfl
    · rw [if_neg h, if_neg h]; rfl

theorem magnitude_apply (ch : Fin 96) (l : Fin 128) : magnitude (F := Ideal) arg6 arg7 f6 f7 (ix2 ch l)
    = max ((View.read (Elt Ideal) arg6.view f6) (ix2 ch l) * (View.read (Elt Ideal) arg7.view f7) (ix2 ch l))
        (-((View.read (Elt Ideal) arg6.view f6) (ix2 ch l) * (View.read (Elt Ideal) arg7.view f7) (ix2 ch l))) := by
  have e : ∀ (a : Memref sig .tc .vmem S96x128 .f32) (f : BufTy.Contents (Elt Ideal) a.view.ty),
      shapeCast S96x128 (View.readAt (Elt Ideal) a.view (Rect.unit (s := S96x128) ![0, 0] S96x128.size inb_all6).toLoadRect f) shapeCasts_S96x128_S96x128 (ix2 ch l)
        = (View.read (Elt Ideal) a.view f) (ix2 ch l) := by
    intro a f
    refine (shapeCast_apply _ _ _ (ix2 ch l) rfl).trans ?_
    rw [View.readAt_apply]
    refine congrArg (View.read (Elt Ideal) a.view f) (funext fun a => Fin.ext ?_)
    match a with
    | ⟨0, _⟩ => show 0 + 1 * ch.val = ch.val; omega
    | ⟨1, _⟩ => show 0 + 1 * l.val = l.val; omega
  unfold magnitude
  have e' := congr (congrArg HMul.hMul (e arg6 f6)) (e arg7 f7)
  exact congrArg (fun s : EReal => max s (-s)) e'

/-- The multipliers. -/
def MSPEC (s : S10.Idx → EReal) (a b : S96x128.Idx → EReal) (p : ℕ) (y : S3x96x128.Idx) : EReal :=
  max (a (ix2 (y 1) (y 2)) * b (ix2 (y 1) (y 2))) (-(a (ix2 (y 1) (y 2)) * b (ix2 (y 1) (y 2)))) * scaleAt s p (sideOf (y 0) (y 2))

theorem mulPiece_agree (kind : Fin 3) (x : (mulPiece (F := Ideal) i arg3 arg6 arg7 arg12 f3 f6 f7 h2 kind).1.shape.Idx) :
    (mulPiece (F := Ideal) i arg3 arg6 arg7 arg12 f3 f6 f7 h2 kind).2 x
      = MSPEC (View.read (Elt Ideal) arg3.view f3) (View.read (Elt Ideal) arg6.view f6) (View.read (Elt Ideal) arg7.view f7) (i 0).val
        ((mulPiece (F := Ideal) i arg3 arg6 arg7 arg12 f3 f6 f7 h2 kind).1.emb x) := by
  obtain ⟨a, ch, l, rfl⟩ : ∃ (a : Fin 1) (ch : Fin 96) (l : Fin 128), x = ix3 a ch l :=
    ⟨x 0, x 1, x 2, by funext q; match q with | ⟨0, _⟩ => rfl | ⟨1, _⟩ => rfl | ⟨2, _⟩ => rfl⟩
  have he : (mulPiece (F := Ideal) i arg3 arg6 arg7 arg12 f3 f6 f7 h2 kind).1.emb (ix3 a ch l) = ix3 kind ch l := by
    funext q; apply Fin.ext
    match q with
    | ⟨0, _⟩ => show kind.val + 1 * a.val = kind.val; omega
    | ⟨1, _⟩ => show 0 + 1 * ch.val = ch.val; omega
    | ⟨2, _⟩ => show 0 + 1 * l.val = l.val; omega
  rw [he]
  unfold mulPiece
  refine (shapeCast_apply (mulf (magnitude (F := Ideal) arg6 arg7 f6 f7) (kindScale (F := Ideal) i arg3 arg12 f3 h2 kind)) shapeCasts_S96x128_S1x96x128 (ix3 a ch l) (ix2 ch l) ?_).trans ?_
  · rw [rowMajor_val3 _ 12288 128 rfl rfl, rowMajor_val2 _ 128 rfl]
    show ch.val * 128 + l.val = a.val * 12288 + ch.val * 128 + l.val
    omega
  · exact congr (congrArg HMul.hMul (magnitude_apply arg6 arg7 f6 f7 ch l)) (kindScale_apply i arg3 arg12 f3 h2 kind ch l)

theorem read_M_A : View.read (Elt Ideal) arg13.view (M_A (F := Ideal) i arg3 arg6 arg7 arg12 arg13 f3 f6 f7 h2)
    = MSPEC (View.read (Elt Ideal) arg3.view f3) (View.read (Elt Ideal) arg6.view f6) (View.read (Elt Ideal) arg7.view f7) (i 0).val := by
  funext y
  unfold M_A
  have hmem : ∀ p, p ∈ mulPieces (F := Ideal) i arg3 arg6 arg7 arg12 f3 f6 f7 h2 ↔ ∃ kind, p = mulPiece (F := Ideal) i arg3 arg6 arg7 arg12 f3 f6 f7 h2 kind := by
    intro p
    unfold mulPieces
    rw [List.mem_cons, List.mem_cons, List.mem_singleton]
    constructor
    · rintro (h | h | h)
      · exact ⟨2, h⟩
      · exact ⟨1, h⟩
      · exact ⟨0, h⟩
    · rintro ⟨kind, h⟩
      match kind with
      | 0 => exact Or.inr (Or.inr h)
      | 1 => exact Or.inr (Or.inl h)
      | 2 => exact Or.inl h
  refine View.read_writes_apply_of_pieces arg13.view _ _ _ (fun p hp x => ?_) y ?_
  · obtain ⟨kind, rfl⟩ := (hmem p).mp hp
    exact mulPiece_agree i arg3 arg6 arg7 arg12 f3 f6 f7 h2 kind x
  · refine ⟨_, (hmem _).mpr ⟨y 0, rfl⟩, ?_⟩
    refine (Rect.mem_set_unit (inb := inb_kind (y 0))).mpr fun a => ?_
    have a1 : (y 1).val < 96 := (y 1).isLt
    have a2 : (y 2).val < 128 := (y 2).isLt
    match a with
    | ⟨0, _⟩ => show (y 0).val ≤ (y 0).val ∧ (y 0).val < (y 0).val + 1; omega
    | ⟨1, _⟩ => show 0 ≤ (y 1).val ∧ (y 1).val < 0 + 96; omega
    | ⟨2, _⟩ => show 0 ≤ (y 2).val ∧ (y 2).val < 0 + 128; omega

end

end Cert.Proof.KernelIdeal

end
-- ==== Proof.RunLeaves.lean ====
/-
  What the runs of one point leave in the buffers.
-/
module

public import proofs.«01_k».proof.Proof.RunMirror

@[expose] public section

set_option maxRecDepth 65536
set_option maxHeartbeats 40000000

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

section
variable (c : Dev nD) (i : grid0.Coords)
  (arg2 : Memref sig .tc .vmem S2x3x7200x128 .i8) (harg2 : arg2.IsWhole)
  (arg3 : Memref sig .tc .smem S10 .f32) (harg3 : arg3.IsWhole)
  (arg4 : Memref sig .tc .vmem S7x3x7x96 .fp8e4m3) (harg4 : arg4.IsWhole)
  (arg5 : Memref sig .tc .vmem S168x1024 .bf16) (harg5 : arg5.IsWhole)
  (arg6 : Memref sig .tc .vmem S96x128 .f32) (harg6 : arg6.IsWhole)
  (arg7 : Memref sig .tc .vmem S96x128 .f32) (harg7 : arg7.IsWhole)
  (arg8 : Memref sig .tc .vmem S96x128 .f32) (harg8 : arg8.IsWhole)
  (arg9 : Memref sig .tc .vmem S2x10x96x320 .bf16) (harg9 : arg9.IsWhole)
  (arg10 : Memref sig .tc .vmem S5x12012x128 .i32) (harg10 : arg10.IsWhole)
  (arg11 : Memref sig .tc .vmem S384x256 .fp8e4m3) (harg11 : arg11.IsWhole)
  (arg12 : Memref sig .tc .vmem S2x8x128 .f32) (harg12 : arg12.IsWhole)
  (arg13 : Memref sig .tc .vmem S3x96x128 .f32) (harg13 : arg13.IsWhole)
  (arg14 : Memref sig .tc .vmem S2x5x96x128 .f32) (harg14 : arg14.IsWhole)
  (arg15 : Memref sig .tc .vmem S2x2x96x128 .f32) (harg15 : arg15.IsWhole)
  (f2 : BufTy.Contents (Elt F) arg2.view.ty)
  (f3 : BufTy.Contents (Elt F) arg3.view.ty)
  (f4 : BufTy.Contents (Elt F) arg4.view.ty)
  (f5 : BufTy.Contents (Elt F) arg5.view.ty)
  (f6 : BufTy.Contents (Elt F) arg6.view.ty)
  (f7 : BufTy.Contents (Elt F) arg7.view.ty)
  (f8 : BufTy.Contents (Elt F) arg8.view.ty)
  (f9 : BufTy.Contents (Elt F) arg9.view.ty)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty)
  (h1 : k0_cond1 i = 1#1) (h2 : k0_cond2 i = 1#1) (h1' : ¬ k0_cond1 i = 1#1) (h2' : ¬ k0_cond2 i = 1#1)

theorem runA_10 : (runA (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1 h2).2.1 = R_A c i arg2 harg2 arg3 harg3 arg4 harg4 arg5 harg5 arg6 harg6 arg7 harg7 arg8 harg8 arg9 harg9 arg10 harg10 arg11 harg11 arg12 harg12 arg13 harg13 arg14 harg14 arg15 harg15 f2 f10 h1 h2 := by
  unfold runA; with_unfolding_all rfl
theorem runA_11 : (runA (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1 h2).2.2.1 = W_A arg4 arg5 arg6 arg7 arg11 f4 f5 f6 f7 := by
  unfold runA; with_unfolding_all rfl
theorem runA_13 : (runA (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1 h2).2.2.2.2.1 = M_A i arg3 arg6 arg7 arg12 arg13 f3 f6 f7 h2 := by
  unfold runA; with_unfolding_all rfl
theorem runA_14 : (runA (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1 h2).2.2.2.2.2.1
    = arg14.view.writes (Elt F) arg14.view.junk ((steps_A c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f15 h1 h2).2.1 ++ C_A c i arg2 harg2 arg3 harg3 arg4 harg4 arg5 harg5 arg6 harg6 arg7 harg7 arg8 harg8 arg9 harg9 arg10 harg10 arg11 harg11 arg12 harg12 arg13 harg13 arg14 harg14 arg15 harg15 f2 f4 f5 f6 f7 f10 h1 h2) := by
  unfold runA; with_unfolding_all rfl
theorem runA_9 : (runA (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1 h2).1 = arg9.view.writes (Elt F) f9 (steps_A c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f15 h1 h2).1 := by
  unfold runA; with_unfolding_all rfl

theorem runB_10 : (runB (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2).2.1 = R_B c i arg2 harg2 arg3 harg3 arg4 harg4 arg5 harg5 arg6 harg6 arg7 harg7 arg8 harg8 arg9 harg9 arg10 harg10 arg11 harg11 arg12 harg12 arg13 harg13 arg14 harg14 arg15 harg15 f2 f10 h2 := by
  unfold runB; with_unfolding_all rfl
theorem runB_11 : (runB (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2).2.2.1 = f11 := by
  unfold runB; with_unfolding_all rfl
theorem runB_13 : (runB (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2).2.2.2.2.1 = M_A i arg3 arg6 arg7 arg12 arg13 f3 f6 f7 h2 := by
  unfold runB; with_unfolding_all rfl
theorem runB_14 : (runB (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2).2.2.2.2.2.1
    = arg14.view.writes (Elt F) arg14.view.junk ((steps_B c i arg2 harg2 arg3 harg3 arg4 harg4 arg5 harg5 arg6 harg6 arg7 harg7 arg8 harg8 arg9 harg9 arg10 harg10 arg11 harg11 arg12 harg12 arg13 harg13 arg14 harg14 arg15 harg15 f2 f3 f6 f7 f8 f9 f10 f11 f15 h2).2.1 ++ C_B c i arg2 harg2 arg3 harg3 arg4 harg4 arg5 harg5 arg6 harg6 arg7 harg7 arg8 harg8 arg9 harg9 arg10 harg10 arg11 harg11 arg12 harg12 arg13 harg13 arg14 harg14 arg15 harg15 f2 f10 f11 h2) := by
  unfold runB; with_unfolding_all rfl
theorem runB_9 : (runB (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2).1 = arg9.view.writes (Elt F) f9 (steps_B c i arg2 harg2 arg3 harg3 arg4 harg4 arg5 harg5 arg6 harg6 arg7 harg7 arg8 harg8 arg9 harg9 arg10 harg10 arg11 harg11 arg12 harg12 arg13 harg13 arg14 harg14 arg15 harg15 f2 f3 f6 f7 f8 f9 f10 f11 f15 h2).1 := by
  unfold runB; with_unfolding_all rfl

theorem runC_10 : (runC (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2').2.1 = f10 := by
  unfold runC; with_unfolding_all rfl
theorem runC_11 : (runC (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2').2.2.1 = f11 := by
  unfold runC; with_unfolding_all rfl
theorem runC_13 : (runC (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2').2.2.2.2.1 = f13 := by
  unfold runC; with_unfolding_all rfl
theorem runC_14 : (runC (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2').2.2.2.2.2.1
    = arg14.view.writes (Elt F) f14 (steps c i arg2 harg2 arg3 harg3 arg4 harg4 arg5 harg5 arg6 harg6 arg7 harg7 arg8 harg8 arg9 harg9 arg10 harg10 arg11 harg11 arg12 harg12 arg13 harg13 arg14 harg14 arg15 harg15 f8 f10 f11 f13 f9 f14 f15).2.1 := by
  unfold runC; with_unfolding_all rfl
theorem runC_9 : (runC (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2').1 = arg9.view.writes (Elt F) f9 (steps c i arg2 harg2 arg3 harg3 arg4 harg4 arg5 harg5 arg6 harg6 arg7 harg7 arg8 harg8 arg9 harg9 arg10 harg10 arg11 harg11 arg12 harg12 arg13 harg13 arg14 harg14 arg15 harg15 f8 f10 f11 f13 f9 f14 f15).1 := by
  unfold runC; with_unfolding_all rfl

end

end Cert.Proof.KernelIdeal

end
-- ==== Proof.Point.lean ====
/-
  What each of the three runs of the body leaves, as values: the result's block, and the four scratch buffers the next point reads.
-/
module

public import proofs.«01_k».proof.Proof.StepFold
public import proofs.«01_k».proof.Proof.PatchRead
public import proofs.«01_k».proof.Proof.Weights
public import proofs.«01_k».proof.Proof.RunLeaves

@[expose] public section

set_option maxRecDepth 65536
set_option maxHeartbeats 400000

noncomputable section

namespace Cert.Proof.KernelIdeal

open Cert.KernelIdeal Cert.KernelIdeal.Gen
open Idealize.ShloMosaic hiding ix1 ix2 ix3 ix4 ix5
open Idealize.ShloMosaic.TcCoe Idealize.ShloMosaic.Tactic Idealize.ShloMosaic.ValueIdx

attribute [local irreducible] cv

/-- The signed weights spread over the rows of a patch: row of phase and channel, column of patch word. -/
def WV (w : S7x3x7x96.Idx → EReal) (sel : S168x1024.Idx → EReal) (a b : S96x128.Idx → EReal) (y : S384x256.Idx) : EReal :=
  let ch : Fin 96 := ⟨16 * ((y 0).val / 64) + (y 0).val % 16, by have h : (y 0).val < 384 := (y 0).isLt; omega⟩
  let x : Fin 1024 := ⟨256 * ((y 0).val % 64 / 16) + (y 1).val, by have h : (y 1).val < 256 := (y 1).isLt; omega⟩
  if a (ix2 ch 0) * b (ix2 ch 0) < 0 then 0 - ∑ r : Fin 168, tapAt w r ch * sel (ix2 r x) else ∑ r : Fin 168, tapAt w r ch * sel (ix2 r x)

theorem carries_congr (arg10 : Memref sig .tc .vmem S5x12012x128 .i32) (arg11 : Memref sig .tc .vmem S384x256 .fp8e4m3) (arg14 : Memref sig .tc .vmem S2x5x96x128 .f32)
    {X10 Y10 : BufTy.Contents (Elt Ideal) arg10.view.ty} {X11 Y11 : BufTy.Contents (Elt Ideal) arg11.view.ty} {X14 Y14 : BufTy.Contents (Elt Ideal) arg14.view.ty} {P : ℕ}
    (h10 : X10 = Y10) (h11 : X11 = Y11) (h14 : X14 = Y14) (h : Carries arg10 arg11 arg14 Y10 Y11 P Y14) : Carries arg10 arg11 arg14 X10 X11 P X14 := by
  subst h10 h11 h14; exact h

theorem wkMade_eq (arg4 : Memref sig .tc .vmem S7x3x7x96 .fp8e4m3) (arg5 : Memref sig .tc .vmem S168x1024 .bf16) (arg6 arg7 : Memref sig .tc .vmem S96x128 .f32)
    (f4 : BufTy.Contents (Elt Ideal) arg4.view.ty) (f5 : BufTy.Contents (Elt Ideal) arg5.view.ty)
    (f6 : BufTy.Contents (Elt Ideal) arg6.view.ty) (f7 : BufTy.Contents (Elt Ideal) arg7.view.ty) :
    wkMade (F := Ideal) arg4 arg5 arg6 arg7 f4 f5 f6 f7
      = WV (View.read (Elt Ideal) arg4.view f4) (View.read (Elt Ideal) arg5.view f5) (View.read (Elt Ideal) arg6.view f6) (View.read (Elt Ideal) arg7.view f7) := by
  funext y
  have h0 : (y 0).val < 384 := (y 0).isLt
  have h1 : (y 1).val < 256 := (y 1).isLt
  have hy : y = ix2 ⟨64 * ((y 0).val / 64) + 16 * ((y 0).val % 64 / 16) + (y 0).val % 16, by omega⟩ (y 1) := by
    funext a
    refine Fin.ext ?_
    match a with
    | ⟨0, _⟩ => show (y 0).val = 64 * ((y 0).val / 64) + 16 * ((y 0).val % 64 / 16) + (y 0).val % 16; omega
    | ⟨1, _⟩ => rfl
  refine (congrArg (wkMade (F := Ideal) arg4 arg5 arg6 arg7 f4 f5 f6 f7) hy).trans ?_
  refine (wkMade_apply arg4 arg5 arg6 arg7 f4 f5 f6 f7 ⟨(y 0).val / 64, by omega⟩ ⟨(y 0).val % 64 / 16, by omega⟩ ⟨(y 0).val % 16, by omega⟩ (y 1)).trans ?_
  refine (signed_apply arg4 arg5 arg6 arg7 f4 f5 f6 f7 _ _).trans ?_
  rw [spread_apply]
  rfl

section
variable (c : Dev nD) (i : grid0.Coords)
  (arg2 : Memref sig .tc .vmem S2x3x7200x128 .i8) (harg2 : arg2.IsWhole)
  (arg3 : Memref sig .tc .smem S10 .f32) (harg3 : arg3.IsWhole)
  (arg4 : Memref sig .tc .vmem S7x3x7x96 .fp8e4m3) (harg4 : arg4.IsWhole)
  (arg5 : Memref sig .tc .vmem S168x1024 .bf16) (harg5 : arg5.IsWhole)
  (arg6 : Memref sig .tc .vmem S96x128 .f32) (harg6 : arg6.IsWhole)
  (arg7 : Memref sig .tc .vmem S96x128 .f32) (harg7 : arg7.IsWhole)
  (arg8 : Memref sig .tc .vmem S96x128 .f32) (harg8 : arg8.IsWhole)
  (arg9 : Memref sig .tc .vmem S2x10x96x320 .bf16) (harg9 : arg9.IsWhole)
  (arg10 : Memref sig .tc .vmem S5x12012x128 .i32) (harg10 : arg10.IsWhole)
  (arg11 : Memref sig .tc .vmem S384x256 .fp8e4m3) (harg11 : arg11.IsWhole)
  (arg12 : Memref sig .tc .vmem S2x8x128 .f32) (harg12 : arg12.IsWhole)
  (arg13 : Memref sig .tc .vmem S3x96x128 .f32) (harg13 : arg13.IsWhole)
  (arg14 : Memref sig .tc .vmem S2x5x96x128 .f32) (harg14 : arg14.IsWhole)
  (arg15 : Memref sig .tc .vmem S2x2x96x128 .f32) (harg15 : arg15.IsWhole)
  (f2 : BufTy.Contents (Elt Ideal) arg2.view.ty)
  (f3 : BufTy.Contents (Elt Ideal) arg3.view.ty)
  (f4 : BufTy.Contents (Elt Ideal) arg4.view.ty)
  (f5 : BufTy.Contents (Elt Ideal) arg5.view.ty)
  (f6 : BufTy.Contents (Elt Ideal) arg6.view.ty)
  (f7 : BufTy.Contents (Elt Ideal) arg7.view.ty)
  (f8 : BufTy.Contents (Elt Ideal) arg8.view.ty)
  (f9 : BufTy.Contents (Elt Ideal) arg9.view.ty)
  (f10 : BufTy.Contents (Elt Ideal) arg10.view.ty)
  (f11 : BufTy.Contents (Elt Ideal) arg11.view.ty)
  (f12 : BufTy.Contents (Elt Ideal) arg12.view.ty)
  (f13 : BufTy.Contents (Elt Ideal) arg13.view.ty)
  (f14 : BufTy.Contents (Elt Ideal) arg14.view.ty)
  (f15 : BufTy.Contents (Elt Ideal) arg15.view.ty)
  (h1 : k0_cond1 i = 1#1) (h2 : k0_cond2 i = 1#1) (h1' : ¬ k0_cond1 i = 1#1) (h2' : ¬ k0_cond2 i = 1#1)
  (Xv : S2x3x7200x128.Idx → BitVec 8) (sv : S10.Idx → EReal) (wv : S7x3x7x96.Idx → EReal) (selv : S168x1024.Idx → EReal) (av bv bbv : S96x128.Idx → EReal)

/-- The first point of all. -/
theorem pointA (e2 : View.read (Elt Ideal) arg2.view f2 = Xv) (e3 : View.read (Elt Ideal) arg3.view f3 = sv) (e4 : View.read (Elt Ideal) arg4.view f4 = wv) (e5 : View.read (Elt Ideal) arg5.view f5 = selv) (e6 : View.read (Elt Ideal) arg6.view f6 = av) (e7 : View.read (Elt Ideal) arg7.view f7 = bv) (e8 : View.read (Elt Ideal) arg8.view f8 = bbv) (hi : (i 1).val = 0) :
    View.read (Elt Ideal) arg9.view (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1 h2).1 = OUT (WV wv selv av bv) (RSPEC Xv) (MSPEC sv av bv (i 0).val) bbv (i 1).val
    ∧ View.read (Elt Ideal) arg10.view (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1 h2).2.1 = RSPEC Xv ∧ View.read (Elt Ideal) arg11.view (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1 h2).2.2.1 = (WV wv selv av bv)
    ∧ View.read (Elt Ideal) arg13.view (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1 h2).2.2.2.2.1 = MSPEC sv av bv (i 0).val
    ∧ Carries arg10 arg11 arg14 (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1 h2).2.1 (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1 h2).2.2.1 (10 * ((i 1).val + 1) + 1) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1 h2).2.2.2.2.2.1 := by
  have hR : View.read (Elt Ideal) arg10.view (R_A (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f10 h1 h2) = RSPEC Xv := by rw [read_R_A (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (f2 := f2) (f10 := f10) (h1 := h1) (h2 := h2), e2]
  have hW : View.read (Elt Ideal) arg11.view (W_A (F := Ideal) arg4 arg5 arg6 arg7 arg11 f4 f5 f6 f7) = WV wv selv av bv := by rw [read_W_A, wkMade_eq, e4, e5, e6, e7]
  have hM : View.read (Elt Ideal) arg13.view (M_A (F := Ideal) i arg3 arg6 arg7 arg12 arg13 f3 f6 f7 h2) = MSPEC sv av bv (i 0).val := by rw [read_M_A, e3, e6, e7]
  have hC : Carries arg10 arg11 arg14 (R_A (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f10 h1 h2) (W_A (F := Ideal) arg4 arg5 arg6 arg7 arg11 f4 f5 f6 f7) (10 * (i 1).val + 1) (arg14.view.writes (Elt Ideal) arg14.view.junk (C_A (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f4 f5 f6 f7 f10 h1 h2)) := by
    rw [hi]
    exact first_carries arg10 arg11 arg14 _ _ _ (wk_A_apply arg4 arg5 arg6 arg7 arg11 f4 f5 f6 f7) _
  refine ⟨(congrArg (fun z => View.read (Elt Ideal) arg9.view z) (runA_9 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1 h2)).trans ?_,
    (congrArg (fun z => View.read (Elt Ideal) arg10.view z) (runA_10 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1 h2)).trans hR,
    (congrArg (fun z => View.read (Elt Ideal) arg11.view z) (runA_11 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1 h2)).trans hW,
    (congrArg (fun z => View.read (Elt Ideal) arg13.view z) (runA_13 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1 h2)).trans hM,
    carries_congr arg10 arg11 arg14 (runA_10 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1 h2) (runA_11 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1 h2) (runA_14 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1 h2) ?_⟩
  · refine (steps_out (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) _ _ _ _ _ _ _ _ hC).trans ?_
    rw [hR, hW, hM, e8]
  · rw [View.writes_append]
    exact steps_carry (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) _ _ _ _ _ _ _ hC

/-- The first point of another pair. -/
theorem pointB (WS : S384x256.Idx → EReal) (Yv : S2x3x7200x128.Idx → BitVec 8) (e2 : View.read (Elt Ideal) arg2.view f2 = Xv) (e3 : View.read (Elt Ideal) arg3.view f3 = sv) (e4 : View.read (Elt Ideal) arg4.view f4 = wv) (e5 : View.read (Elt Ideal) arg5.view f5 = selv) (e6 : View.read (Elt Ideal) arg6.view f6 = av) (e7 : View.read (Elt Ideal) arg7.view f7 = bv) (e8 : View.read (Elt Ideal) arg8.view f8 = bbv) (hi : (i 1).val = 0) (e10 : View.read (Elt Ideal) arg10.view f10 = RSPEC Yv) (e11 : View.read (Elt Ideal) arg11.view f11 = WS) :
    View.read (Elt Ideal) arg9.view (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2).1 = OUT WS (RSPEC Xv) (MSPEC sv av bv (i 0).val) bbv (i 1).val
    ∧ View.read (Elt Ideal) arg10.view (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2).2.1 = RSPEC Xv ∧ View.read (Elt Ideal) arg11.view (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2).2.2.1 = WS
    ∧ View.read (Elt Ideal) arg13.view (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2).2.2.2.2.1 = MSPEC sv av bv (i 0).val
    ∧ Carries arg10 arg11 arg14 (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2).2.1 (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2).2.2.1 (10 * ((i 1).val + 1) + 1) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2).2.2.2.2.2.1 := by
  have hR : View.read (Elt Ideal) arg10.view (R_B (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f10 h2) = RSPEC Xv := by rw [read_R_B (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (f2 := f2) (f10 := f10) (h2 := h2) Yv e10, e2]
  have hW : View.read (Elt Ideal) arg11.view f11 = WS := e11
  have hM : View.read (Elt Ideal) arg13.view (M_A (F := Ideal) i arg3 arg6 arg7 arg12 arg13 f3 f6 f7 h2) = MSPEC sv av bv (i 0).val := by rw [read_M_A, e3, e6, e7]
  have hC : Carries arg10 arg11 arg14 (R_B (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f10 h2) f11 (10 * (i 1).val + 1) (arg14.view.writes (Elt Ideal) arg14.view.junk (C_B (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f10 f11 h2)) := by
    rw [hi]
    exact first_carries arg10 arg11 arg14 _ _ _ (wkLoad_apply arg11 f11) _
  refine ⟨(congrArg (fun z => View.read (Elt Ideal) arg9.view z) (runB_9 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h2 h1')).trans ?_,
    (congrArg (fun z => View.read (Elt Ideal) arg10.view z) (runB_10 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h2 h1')).trans hR,
    (congrArg (fun z => View.read (Elt Ideal) arg11.view z) (runB_11 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h2 h1')).trans hW,
    (congrArg (fun z => View.read (Elt Ideal) arg13.view z) (runB_13 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h2 h1')).trans hM,
    carries_congr arg10 arg11 arg14 (runB_10 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h2 h1') (runB_11 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h2 h1') (runB_14 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h2 h1') ?_⟩
  · refine (steps_out (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) _ _ _ _ _ _ _ _ hC).trans ?_
    rw [hR, hW, hM, e8]
  · rw [View.writes_append]
    exact steps_carry (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) _ _ _ _ _ _ _ hC

/-- Every other point. -/
theorem pointC (WS : S384x256.Idx → EReal) (e8 : View.read (Elt Ideal) arg8.view f8 = bbv) (e10 : View.read (Elt Ideal) arg10.view f10 = RSPEC Xv) (e11 : View.read (Elt Ideal) arg11.view f11 = WS) (e13 : View.read (Elt Ideal) arg13.view f13 = MSPEC sv av bv (i 0).val) (e14 : Carries arg10 arg11 arg14 f10 f11 (10 * (i 1).val + 1) f14) :
    View.read (Elt Ideal) arg9.view (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2').1 = OUT WS (RSPEC Xv) (MSPEC sv av bv (i 0).val) bbv (i 1).val
    ∧ View.read (Elt Ideal) arg10.view (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2').2.1 = RSPEC Xv ∧ View.read (Elt Ideal) arg11.view (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2').2.2.1 = WS
    ∧ View.read (Elt Ideal) arg13.view (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2').2.2.2.2.1 = MSPEC sv av bv (i 0).val
    ∧ Carries arg10 arg11 arg14 (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2').2.1 (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2').2.2.1 (10 * ((i 1).val + 1) + 1) (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2').2.2.2.2.2.1 := by
  have hR : View.read (Elt Ideal) arg10.view f10 = RSPEC Xv := e10
  have hW : View.read (Elt Ideal) arg11.view f11 = WS := e11
  have hM : View.read (Elt Ideal) arg13.view f13 = MSPEC sv av bv (i 0).val := e13
  have hC : Carries arg10 arg11 arg14 f10 f11 (10 * (i 1).val + 1) f14 := e14
  refine ⟨(congrArg (fun z => View.read (Elt Ideal) arg9.view z) (runC_9 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2')).trans ?_,
    (congrArg (fun z => View.read (Elt Ideal) arg10.view z) (runC_10 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2')).trans hR,
    (congrArg (fun z => View.read (Elt Ideal) arg11.view z) (runC_11 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2')).trans hW,
    (congrArg (fun z => View.read (Elt Ideal) arg13.view z) (runC_13 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2')).trans hM,
    carries_congr arg10 arg11 arg14 (runC_10 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2') (runC_11 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2') (runC_14 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 h1' h2') ?_⟩
  · refine (steps_out (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) _ _ _ _ _ _ _ _ hC).trans ?_
    rw [hR, hW, hM, e8]
  · exact steps_carry (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) _ _ _ _ _ _ _ hC

end

end Cert.Proof.KernelIdeal

end
-- ==== Proof.Track.lean ====
/-
  The run of the kernel with its result named: after every point the result's block is `OUT` of the pair's codes and the scales,
  and the scratch buffers hold the pair's patches, the signed weights, the multipliers and the maxima carried to the next rows.
-/
module

public import proofs.«01_k».proof.Proof.Blocks
public import proofs.«01_k».proof.Proof.Point

@[expose] public section

set_option maxRecDepth 16384
set_option maxHeartbeats 4000000

noncomputable section

namespace Cert.Proof.KernelIdeal

open Cert.KernelIdeal Cert.KernelIdeal.Gen
open Idealize.ShloMosaic hiding ix1 ix2 ix3 ix4 ix5
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

attribute [local irreducible] cv OUT RSPEC MSPEC WV

local notation "𝕄" => MT nD τ sig Unit (Elt Ideal) ℕ (UU nD τ) ℕ

variable (m : (ℓ : Loc nD τ sig) → Buf (Elt Ideal) ℓ) (ρ : Dev nD → PrngReg)

/-- The signed weights of the launch. -/
def WVc (c : Dev nD) : S384x256.Idx → EReal := WV (V m c main_v5) (V m c main_cst) (V m c main_v7) (V m c main_v9)

/-- The multipliers of a pair. -/
def MSc (c : Dev nD) (p : ℕ) : S3x96x128.Idx → EReal := MSPEC (V m c main_arg1) (V m c main_v7) (V m c main_v9) p

/-- The result's block at a point. -/
def OUTc (c : Dev nD) (n : ℕ) : S2x10x96x320.Idx → EReal := OUT (WVc m c) (RSPEC (XB m c (n / 18))) (MSc m c (n / 18)) (V m c main_v11) (n % 18)

/-- What the scratch buffers hold once `n` points have run. -/
def Inv (c : Dev nD) (n : ℕ) (f10 : BufTy.Contents (Elt Ideal) (Memref.whole cc0_scratch0).view.ty) (f11 : BufTy.Contents (Elt Ideal) (Memref.whole cc0_scratch1).view.ty)
    (f13 : BufTy.Contents (Elt Ideal) (Memref.whole cc0_scratch3).view.ty) (f14 : BufTy.Contents (Elt Ideal) (Memref.whole cc0_scratch4).view.ty) : Prop :=
  n = 0 ∨ (View.read (Elt Ideal) (Memref.whole cc0_scratch0).view f10 = RSPEC (XB m c ((n - 1) / 18))
    ∧ View.read (Elt Ideal) (Memref.whole cc0_scratch1).view f11 = WVc m c
    ∧ View.read (Elt Ideal) (Memref.whole cc0_scratch3).view f13 = MSc m c ((n - 1) / 18)
    ∧ Carries (Memref.whole cc0_scratch0) (Memref.whole cc0_scratch1) (Memref.whole cc0_scratch4) f10 f11 (10 * ((n - 1) % 18 + 1) + 1) f14)

/-- The scratch once `n` points have run. -/
def TΦ (c : Dev nD) (n : ℕ) : sProp 𝕄 :=
  iprop((∃ f10, ∃ f11, ∃ f12, ∃ f13, ∃ f14, ∃ f15, ⌜Inv m c n f10 f11 f13 f14⌝ ∗ ((Memref.whole cc0_scratch0).view.loc (c : Thread nD τ) ↦[(Memref.whole cc0_scratch0).view.set]{fullShare} f10) ∗ ((Memref.whole cc0_scratch1).view.loc (c : Thread nD τ) ↦[(Memref.whole cc0_scratch1).view.set]{fullShare} f11) ∗ ((Memref.whole cc0_scratch2).view.loc (c : Thread nD τ) ↦[(Memref.whole cc0_scratch2).view.set]{fullShare} f12) ∗ ((Memref.whole cc0_scratch3).view.loc (c : Thread nD τ) ↦[(Memref.whole cc0_scratch3).view.set]{fullShare} f13) ∗ ((Memref.whole cc0_scratch4).view.loc (c : Thread nD τ) ↦[(Memref.whole cc0_scratch4).view.set]{fullShare} f14) ∗ ((Memref.whole cc0_scratch5).view.loc (c : Thread nD τ) ↦[(Memref.whole cc0_scratch5).view.set]{fullShare} f15)) ∗ ∃ r, prngReg c r)

/-- The proof data: each input's buffer at its block, the result's at `OUT`, the scratch at the invariant. -/
def tdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => OUTc m c t.val
  Φ t := TΦ m c t.val
  q _ := fullShare
  owed _ := 0

theorem tafter_0 (c : Dev nD) (t : Fin cfg0.N) : (tdats m 0 c).after 0 t = iblk m c 0 t := by dsimp only [tdats]
theorem tafter_1 (c : Dev nD) (t : Fin cfg0.N) : (tdats m 0 c).after 1 t = iblk m c 1 t := by dsimp only [tdats]
theorem tafter_2 (c : Dev nD) (t : Fin cfg0.N) : (tdats m 0 c).after 2 t = iblk m c 2 t := by dsimp only [tdats]
theorem tafter_3 (c : Dev nD) (t : Fin cfg0.N) : (tdats m 0 c).after 3 t = iblk m c 3 t := by dsimp only [tdats]
theorem tafter_4 (c : Dev nD) (t : Fin cfg0.N) : (tdats m 0 c).after 4 t = iblk m c 4 t := by dsimp only [tdats]
theorem tafter_5 (c : Dev nD) (t : Fin cfg0.N) : (tdats m 0 c).after 5 t = iblk m c 5 t := by dsimp only [tdats]
theorem tafter_6 (c : Dev nD) (t : Fin cfg0.N) : (tdats m 0 c).after 6 t = iblk m c 6 t := by dsimp only [tdats]
theorem tafter_7 (c : Dev nD) (t : Fin cfg0.N) : (tdats m 0 c).after 7 t = OUTc m c t.val := by dsimp only [tdats]
theorem tbefore_0 (c : Dev nD) (t : Fin cfg0.N) (d) : (tdats m 0 c).before 0 t d = iblk m c 0 t :=
  before0_0_of m (tdats m 0 c) rfl (tafter_0 m c) t d
theorem tbefore_1 (c : Dev nD) (t : Fin cfg0.N) (d) : (tdats m 0 c).before 1 t d = iblk m c 1 t :=
  before0_1_of m (tdats m 0 c) rfl (tafter_1 m c) t d
theorem tbefore_2 (c : Dev nD) (t : Fin cfg0.N) (d) : (tdats m 0 c).before 2 t d = iblk m c 2 t :=
  before0_2_of m (tdats m 0 c) rfl (tafter_2 m c) t d
theorem tbefore_3 (c : Dev nD) (t : Fin cfg0.N) (d) : (tdats m 0 c).before 3 t d = iblk m c 3 t :=
  before0_3_of m (tdats m 0 c) rfl (tafter_3 m c) t d
theorem tbefore_4 (c : Dev nD) (t : Fin cfg0.N) (d) : (tdats m 0 c).before 4 t d = iblk m c 4 t :=
  before0_4_of m (tdats m 0 c) rfl (tafter_4 m c) t d
theorem tbefore_5 (c : Dev nD) (t : Fin cfg0.N) (d) : (tdats m 0 c).before 5 t d = iblk m c 5 t :=
  before0_5_of m (tdats m 0 c) rfl (tafter_5 m c) t d
theorem tbefore_6 (c : Dev nD) (t : Fin cfg0.N) (d) : (tdats m 0 c).before 6 t d = iblk m c 6 t :=
  before0_6_of m (tdats m 0 c) rfl (tafter_6 m c) t d

theorem body_track (c : Dev nD) : BodyObligation (tdats m 0 c) (defs₀ (F := Ideal)) 𝒱₀ () Set.univ := fun t => by
  rw [bigSep_W0, bigSep_W0]
  sl_whnfR [defs₀, Defs.onTc]
  simp only [tbefore_0, tbefore_1, tbefore_2, tbefore_3, tbefore_4, tbefore_5, tbefore_6]
  rw [show (tdats m 0 c).Φ t.succ = TΦ m c (t.val + 1) from rfl, show (tdats m 0 c).Φ t.castSucc = TΦ m c t.val from rfl,
    show (tdats m 0 c).owesAt () t.succ = (tdats m 0 c).owesAt () t.castSucc from rfl,
    tafter_0, tafter_1, tafter_2, tafter_3, tafter_4, tafter_5, tafter_6, tafter_7]
  unfold TΦ
  unfold owns
  iintro ⟨HΦ, Ho, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩⟩
  icases HΦ with ⟨⟨%f10, %f11, %f12, %f13, %f14, %f15, %hI, H10, H11, H12, H13, H14, H15⟩, HR⟩
  by_cases h1 : k0_cond1 (grid0.coords t) = 1#1
  · have h2 := cond2_of_cond1 _ h1
    have hp := pointA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
          f2 f3 f4 f5 f6 f7 f8 f9 f10 f11 f12 f13 f14 f15 h1 h2 (XB m c (t.val / 18)) (V m c main_arg1) (V m c main_v5) (V m c main_cst) (V m c main_v7) (V m c main_v9) (V m c main_v11) (e2.trans (iblk_0 m c t)) (e3.trans (iblk_1 m c t)) (e4.trans (iblk_2 m c t)) (e5.trans (iblk_3 m c t)) (e6.trans (iblk_4 m c t)) (e7.trans (iblk_5 m c t)) (e8.trans (iblk_6 m c t)) (by rw [grid_blk t]; exact first_blk t h2)
    rw [grid_pair t, grid_blk t] at hp
    obtain ⟨p9, p10, p11, p13, p14⟩ := hp
    iapply ((runA (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
      f2 f3 f4 f5 f6 f7 f8 f9 f10 f11 f12 f13 f14 f15 h1 h2).2.2.2.2.2.2.2 _)
    isplitl [H2 H3 H4 H5 H6 H7 H8 H9 H10 H11 H12 H13 H14 H15]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    iintro ⟨H2, H3, H4, H5, H6, H7, H8, H9, H10, H11, H12, H13, H14, H15⟩
    isplitl [HR H10 H11 H12 H13 H14 H15]
    · isplitl [H10 H11 H12 H13 H14 H15]
      · iexists _; iexists _; iexists _; iexists _; iexists _; iexists _
        isplitr; swap
        · isplitl [H10]; · iexact H10
          isplitl [H11]; · iexact H11
          isplitl [H12]; · iexact H12
          isplitl [H13]; · iexact H13
          isplitl [H14]; · iexact H14
          iexact H15
        ipureintro; exact Or.inr ⟨p10, p11, p13, p14⟩
      iexact HR
    isplitl [Ho]; · iexact Ho
    isplitl [H2]
    · iexists _; isplitr; · ipureintro; exact e2
      iexact H2
    isplitl [H3]
    · iexists _; isplitr; · ipureintro; exact e3
      iexact H3
    isplitl [H4]
    · iexists _; isplitr; · ipureintro; exact e4
      iexact H4
    isplitl [H5]
    · iexists _; isplitr; · ipureintro; exact e5
      iexact H5
    isplitl [H6]
    · iexists _; isplitr; · ipureintro; exact e6
      iexact H6
    isplitl [H7]
    · iexists _; isplitr; · ipureintro; exact e7
      iexact H7
    isplitl [H8]
    · iexists _; isplitr; · ipureintro; exact e8
      iexact H8
    iexists _; isplitr; swap; · iexact H9
    ipureintro; exact p9
  · unfold Inv at hI
    rcases hI with h0 | ⟨i10, i11, i13, i14⟩
    · exact absurd (cond1_of_zero t h0) h1
    by_cases h2 : k0_cond2 (grid0.coords t) = 1#1
    · skip
      have hp := pointB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
          f2 f3 f4 f5 f6 f7 f8 f9 f10 f11 f12 f13 f14 f15 h2 h1 (XB m c (t.val / 18)) (V m c main_arg1) (V m c main_v5) (V m c main_cst) (V m c main_v7) (V m c main_v9) (V m c main_v11) (WVc m c) _ (e2.trans (iblk_0 m c t)) (e3.trans (iblk_1 m c t)) (e4.trans (iblk_2 m c t)) (e5.trans (iblk_3 m c t)) (e6.trans (iblk_4 m c t)) (e7.trans (iblk_5 m c t)) (e8.trans (iblk_6 m c t)) (by rw [grid_blk t]; exact first_blk t h2) i10 i11
      rw [grid_pair t, grid_blk t] at hp
      obtain ⟨p9, p10, p11, p13, p14⟩ := hp
      iapply ((runB (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
        f2 f3 f4 f5 f6 f7 f8 f9 f10 f11 f12 f13 f14 f15 h1 h2).2.2.2.2.2.2.2 _)
      isplitl [H2 H3 H4 H5 H6 H7 H8 H9 H10 H11 H12 H13 H14 H15]
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexact H15
      iintro ⟨H2, H3, H4, H5, H6, H7, H8, H9, H10, H11, H12, H13, H14, H15⟩
      isplitl [HR H10 H11 H12 H13 H14 H15]
      · isplitl [H10 H11 H12 H13 H14 H15]
        · iexists _; iexists _; iexists _; iexists _; iexists _; iexists _
          isplitr; swap
          · isplitl [H10]; · iexact H10
            isplitl [H11]; · iexact H11
            isplitl [H12]; · iexact H12
            isplitl [H13]; · iexact H13
            isplitl [H14]; · iexact H14
            iexact H15
          ipureintro; exact Or.inr ⟨p10, p11, p13, p14⟩
        iexact HR
      isplitl [Ho]; · iexact Ho
      isplitl [H2]
      · iexists _; isplitr; · ipureintro; exact e2
        iexact H2
      isplitl [H3]
      · iexists _; isplitr; · ipureintro; exact e3
        iexact H3
      isplitl [H4]
      · iexists _; isplitr; · ipureintro; exact e4
        iexact H4
      isplitl [H5]
      · iexists _; isplitr; · ipureintro; exact e5
        iexact H5
      isplitl [H6]
      · iexists _; isplitr; · ipureintro; exact e6
        iexact H6
      isplitl [H7]
      · iexists _; isplitr; · ipureintro; exact e7
        iexact H7
      isplitl [H8]
      · iexists _; isplitr; · ipureintro; exact e8
        iexact H8
      iexists _; isplitr; swap; · iexact H9
      ipureintro; exact p9
    · have hd := later_pair t h2
      have hm := later_blk t h2
      have j10 := i10
      rw [hd] at j10
      have j13 := i13
      rw [hd, MSc, ← grid_pair t] at j13
      have j14 := i14
      rw [hm, ← grid_blk t] at j14
      have hp := pointC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
          f2 f3 f4 f5 f6 f7 f8 f9 f10 f11 f12 f13 f14 f15 h1 h2 (XB m c (t.val / 18)) (V m c main_arg1) (V m c main_v7) (V m c main_v9) (V m c main_v11) (WVc m c) (e8.trans (iblk_6 m c t)) j10 i11 j13 j14
      rw [grid_pair t, grid_blk t] at hp
      obtain ⟨p9, p10, p11, p13, p14⟩ := hp
      iapply ((runC (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
        f2 f3 f4 f5 f6 f7 f8 f9 f10 f11 f12 f13 f14 f15 h1 h2).2.2.2.2.2.2.2 _)
      isplitl [H2 H3 H4 H5 H6 H7 H8 H9 H10 H11 H12 H13 H14 H15]
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexact H15
      iintro ⟨H2, H3, H4, H5, H6, H7, H8, H9, H10, H11, H12, H13, H14, H15⟩
      isplitl [HR H10 H11 H12 H13 H14 H15]
      · isplitl [H10 H11 H12 H13 H14 H15]
        · iexists _; iexists _; iexists _; iexists _; iexists _; iexists _
          isplitr; swap
          · isplitl [H10]; · iexact H10
            isplitl [H11]; · iexact H11
            isplitl [H12]; · iexact H12
            isplitl [H13]; · iexact H13
            isplitl [H14]; · iexact H14
            iexact H15
          ipureintro; exact Or.inr ⟨p10, p11, p13, p14⟩
        iexact HR
      isplitl [Ho]; · iexact Ho
      isplitl [H2]
      · iexists _; isplitr; · ipureintro; exact e2
        iexact H2
      isplitl [H3]
      · iexists _; isplitr; · ipureintro; exact e3
        iexact H3
      isplitl [H4]
      · iexists _; isplitr; · ipureintro; exact e4
        iexact H4
      isplitl [H5]
      · iexists _; isplitr; · ipureintro; exact e5
        iexact H5
      isplitl [H6]
      · iexists _; isplitr; · ipureintro; exact e6
        iexact H6
      isplitl [H7]
      · iexists _; isplitr; · ipureintro; exact e7
        iexact H7
      isplitl [H8]
      · iexists _; isplitr; · ipureintro; exact e8
        iexact H8
      iexists _; isplitr; swap; · iexact H9
      ipureintro; exact p9

theorem track_in (c : Dev nD) : ΦA spec0 c ⊢ (tdats m 0 c).Φ 0 := by
  rw [show (tdats m 0 c).Φ 0 = TΦ m c 0 from rfl, PhiA_eq]
  unfold TΦ
  iintro ⟨⟨⟨%f10, H10⟩, ⟨%f11, H11⟩, ⟨%f12, H12⟩, ⟨%f13, H13⟩, ⟨%f14, H14⟩, ⟨%f15, H15⟩⟩, HR⟩
  isplitl [H10 H11 H12 H13 H14 H15]
  · iexists f10; iexists f11; iexists f12; iexists f13; iexists f14; iexists f15
    isplitr
    · ipureintro; exact Or.inl rfl
    isplitl [H10]; · iexact H10
    isplitl [H11]; · iexact H11
    isplitl [H12]; · iexact H12
    isplitl [H13]; · iexact H13
    isplitl [H14]; · iexact H14
    iexact H15
  iexact HR

theorem track_out (c : Dev nD) : (tdats m 0 c).Φ (Fin.last cfg0.N) ⊢ ΦA spec0 c := by
  rw [show (tdats m 0 c).Φ (Fin.last cfg0.N) = TΦ m c cfg0.N from rfl, PhiA_eq]
  unfold TΦ
  iintro ⟨⟨%f10, %f11, %f12, %f13, %f14, %f15, %hI, H10, H11, H12, H13, H14, H15⟩, HR⟩
  isplitl [H10 H11 H12 H13 H14 H15]
  · isplitl [H10]; · iexists _; iexact H10
    isplitl [H11]; · iexists _; iexact H11
    isplitl [H12]; · iexists _; iexact H12
    isplitl [H13]; · iexists _; iexact H13
    isplitl [H14]; · iexists _; iexact H14
    iexists _; iexact H15
  iexact HR

set_option backward.isDefEq.respectTransparency.types false in
/-- Every execution terminates with every array at what the library computes from the proof data. -/
theorem run_track : θ_run defs (onTc (τ := τ) (main (F := Ideal))) (s₀ m ρ) (Pipeline.FramePost cfgs (tdats m) 0 (V m)) :=
  Pipeline.θ_run_frame_track (Q' := _) cfgs (tdats m) (0 : Fin 1) launch0 defs₀ 𝒱₀ m ρ main
    (hbody := fun c => (body_track m c).loose) (hshare := fun c => (tdats m 0 c).share_full fun _ => rfl)
    (howed := fun _ _ => rfl) (V := V m) (hmain := hmain m 𝒱₀) (hA := fun _ _ => rfl) (hin := track_in m) (hout := track_out m)

end Cert.Proof.KernelIdeal

end
-- ==== Proof.Spec.lean ====
/-
  The convolution the two programs share, on plain functions: the padded image, one sum of 147 products, the scales and the
  clamp, the largest of a window; and the sum of 256 products of one phase of a patch, which is that sum re-indexed.
-/
module

public import proofs.«01_k».proof.KernelIdeal
public import Idealize.ShloMosaic.Lib.ValueIdx

@[expose] public section

set_option maxRecDepth 65536
set_option maxHeartbeats 400000

noncomputable section

namespace Cert.Proof.Spec

open scoped BigOperators

/-- The image with a border of three zeros. -/
def PADX (x : ℕ → ℕ → ℕ → ℕ → EReal) (b ρ C c : ℕ) : EReal :=
  if 3 ≤ ρ ∧ ρ < 723 ∧ 3 ≤ C ∧ C < 1283 then x b (ρ - 3) (C - 3) c else 0

/-- The convolution, at stride two. -/
def CONV (x w : ℕ → ℕ → ℕ → ℕ → EReal) (b R J ch : ℕ) : EReal :=
  ∑ n : Fin 147, PADX x b (2 * R + n.val / 21) (2 * J + n.val / 3 % 7) (n.val % 3) * w (n.val / 21) (n.val / 3 % 7) (n.val % 3) ch

/-- Scaled, shifted and clamped. -/
def ACT (x w : ℕ → ℕ → ℕ → ℕ → EReal) (xs ws bs bb : ℕ → EReal) (b R J ch : ℕ) : EReal :=
  max (CONV x w b R J ch * xs b * ws ch * bs ch + bb ch) 0

/-- The largest over the window of output row `I`, column `q`, as what bounds it. -/
def IsPool (v : EReal) (f : ℕ → ℕ → EReal) (I q : ℕ) : Prop :=
  ∀ z : EReal, v ≤ z ↔ ∀ a e : Fin 3, 1 ≤ 2 * I + a.val → 1 ≤ 2 * q + e.val → f (2 * I + a.val - 1) (2 * q + e.val - 1) ≤ z

theorem IsPool.unique {v v' : EReal} {f : ℕ → ℕ → EReal} {I q : ℕ} (h : IsPool v f I q) (h' : IsPool v' f I q) : v = v' :=
  le_antisymm ((h v').mpr ((h' v').mp le_rfl)) ((h' v).mpr ((h v).mp le_rfl))

/-- Where tap (row `kh`, column `kw`, channel `c`) of phase `ph` stands among the 256 rows of a patch. -/
def spot (kh kw c ph : ℕ) : ℕ :=
  if kh + 2 * (ph / 2) = 0 then 4 * (54 + 3 * c + (kw + 2 * (ph % 2) + 1) / 4) + (kw + 2 * (ph % 2) + 1) % 4
  else if kh + 2 * (ph / 2) ≤ 4 then 4 * (9 * c + kw + 2 * (ph % 2)) + (kh + 2 * (ph / 2) - 1)
  else 4 * (27 + 9 * c + kw + 2 * (ph % 2)) + (kh + 2 * (ph / 2) - 5)

/-- Tap `r` of 168 (an eighth column of zeros after each seven). -/
def TAP (w : ℕ → ℕ → ℕ → ℕ → EReal) (r ch : ℕ) : EReal := if r % 8 < 7 then w (r / 24) (r % 8) (r / 8 % 3) ch else 0

/-- The matrix that spreads the taps of phase `ph` over the rows of a patch. -/
def SEL (r ph k : ℕ) : EReal := if r % 8 < 7 ∧ k = spot (r / 24) (r % 8) (r / 8 % 3) ph then 1 else 0

/-- A weight of a phase: the tap that stands there, negated where the scale is negative. -/
def WK (w : ℕ → ℕ → ℕ → ℕ → EReal) (neg : Prop) [Decidable neg] (ch ph k : ℕ) : EReal :=
  if neg then 0 - ∑ r : Fin 168, TAP w r.val ch * SEL r.val ph k else ∑ r : Fin 168, TAP w r.val ch * SEL r.val ph k

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem spot_lt (kh kw c ph : ℕ) (h1 : kh < 7) (h2 : kw < 7) (h3 : c < 3) (h4 : ph < 4) : spot kh kw c ph < 256 := by
  unfold spot; split_ifs <;> omega

theorem taps_back : ∀ r : Fin 168, r.val % 8 < 7 → ((r.val / 24 * 21 + r.val % 8 * 3 + r.val / 8 % 3) % 147 / 21 * 24
    + (r.val / 24 * 21 + r.val % 8 * 3 + r.val / 8 % 3) % 147 % 3 * 8 + (r.val / 24 * 21 + r.val % 8 * 3 + r.val / 8 % 3) % 147 / 3 % 7) % 168 = r.val := by
  decide +kernel

theorem taps_forth : ∀ n : Fin 147, ((n.val / 21 * 24 + n.val % 3 * 8 + n.val / 3 % 7) % 168 / 24 * 21 + (n.val / 21 * 24 + n.val % 3 * 8 + n.val / 3 % 7) % 168 % 8 * 3
    + (n.val / 21 * 24 + n.val % 3 * 8 + n.val / 3 % 7) % 168 / 8 % 3) % 147 = n.val := by decide +kernel

theorem taps_same : ∀ r : Fin 168, r.val % 8 < 7 → (r.val / 24 * 21 + r.val % 8 * 3 + r.val / 8 % 3) % 147 / 21 = r.val / 24
    ∧ (r.val / 24 * 21 + r.val % 8 * 3 + r.val / 8 % 3) % 147 / 3 % 7 = r.val % 8
    ∧ (r.val / 24 * 21 + r.val % 8 * 3 + r.val / 8 % 3) % 147 % 3 = r.val / 8 % 3 := by decide +kernel

/-- Taps numbered with an eighth column, and without it. -/
theorem sum_taps (f : ℕ → ℕ → ℕ → ℝ) :
    ∑ r : Fin 168, (if r.val % 8 < 7 then f (r.val / 24) (r.val % 8) (r.val / 8 % 3) else 0)
      = ∑ n : Fin 147, f (n.val / 21) (n.val / 3 % 7) (n.val % 3) := by
  rw [← Finset.sum_filter]
  refine Finset.sum_nbij' (fun r : Fin 168 => (⟨(r.val / 24 * 21 + r.val % 8 * 3 + r.val / 8 % 3) % 147, Nat.mod_lt _ (by decide)⟩ : Fin 147))
    (fun n : Fin 147 => (⟨(n.val / 21 * 24 + n.val % 3 * 8 + n.val / 3 % 7) % 168, Nat.mod_lt _ (by decide)⟩ : Fin 168)) ?_ ?_ ?_ ?_ ?_
  · intro r _; exact Finset.mem_univ _
  · intro n _
    refine Finset.mem_filter.mpr ⟨Finset.mem_univ _, ?_⟩
    have := n.isLt
    show (n.val / 21 * 24 + n.val % 3 * 8 + n.val / 3 % 7) % 168 % 8 < 7
    omega
  · intro r hr
    have h := (Finset.mem_filter.mp hr).2
    have := r.isLt
    apply Fin.ext
    show ((r.val / 24 * 21 + r.val % 8 * 3 + r.val / 8 % 3) % 147 / 21 * 24 + (r.val / 24 * 21 + r.val % 8 * 3 + r.val / 8 % 3) % 147 % 3 * 8
      + (r.val / 24 * 21 + r.val % 8 * 3 + r.val / 8 % 3) % 147 / 3 % 7) % 168 = r.val
    exact taps_back r h
  · intro n _
    have := n.isLt
    apply Fin.ext
    show ((n.val / 21 * 24 + n.val % 3 * 8 + n.val / 3 % 7) % 168 / 24 * 21 + (n.val / 21 * 24 + n.val % 3 * 8 + n.val / 3 % 7) % 168 % 8 * 3
      + (n.val / 21 * 24 + n.val % 3 * 8 + n.val / 3 % 7) % 168 / 8 % 3) % 147 = n.val
    exact taps_forth n
  · intro r hr
    have h := (Finset.mem_filter.mp hr).2
    have := r.isLt
    show f (r.val / 24) (r.val % 8) (r.val / 8 % 3) = f ((r.val / 24 * 21 + r.val % 8 * 3 + r.val / 8 % 3) % 147 / 21)
      ((r.val / 24 * 21 + r.val % 8 * 3 + r.val / 8 % 3) % 147 / 3 % 7) ((r.val / 24 * 21 + r.val % 8 * 3 + r.val / 8 % 3) % 147 % 3)
    obtain ⟨e1, e2, e3⟩ := taps_same r h
    rw [e1, e2, e3]

/-- The sum over the rows of a patch, in the reals. -/
theorem real_phase (τ : Fin 168 → ℝ) (d : Fin 256 → ℝ) (ph : ℕ) (hph : ph < 4) (ω p : ℕ → ℕ → ℕ → ℝ)
    (hτ : ∀ r : Fin 168, τ r = if r.val % 8 < 7 then ω (r.val / 24) (r.val % 8) (r.val / 8 % 3) else 0)
    (hd : ∀ kh < 7, ∀ kw < 7, ∀ c < 3, ∃ h, d ⟨spot kh kw c ph, h⟩ = p kh kw c) :
    ∑ k : Fin 256, (∑ r : Fin 168, τ r * (if r.val % 8 < 7 ∧ k.val = spot (r.val / 24) (r.val % 8) (r.val / 8 % 3) ph then (1 : ℝ) else 0)) * d k
      = ∑ n : Fin 147, p (n.val / 21) (n.val / 3 % 7) (n.val % 3) * ω (n.val / 21) (n.val / 3 % 7) (n.val % 3) := by
  rw [← sum_taps (fun a b c => p a b c * ω a b c)]
  simp only [Finset.sum_mul]
  rw [Finset.sum_comm]
  refine Finset.sum_congr rfl fun r _ => ?_
  have hr := r.isLt
  rw [hτ r]
  by_cases h : r.val % 8 < 7
  · obtain ⟨hl, e⟩ := hd (r.val / 24) (by omega) (r.val % 8) h (r.val / 8 % 3) (by omega)
    rw [if_pos h, if_pos h, Finset.sum_eq_single (⟨spot (r.val / 24) (r.val % 8) (r.val / 8 % 3) ph, hl⟩ : Fin 256), e]
    · rw [if_pos ⟨h, rfl⟩, mul_one, mul_comm]
    · intro k _ hk
      rw [if_neg fun hh => hk (Fin.ext hh.2), mul_zero, zero_mul]
    · intro hn; exact absurd (Finset.mem_univ _) hn
  · rw [if_neg h, if_neg h]
    exact Finset.sum_eq_zero fun k _ => by rw [zero_mul, zero_mul]

/-- The sum over the rows of a patch is the convolution, negated where the weights are. -/
theorem conv_phase (x w : ℕ → ℕ → ℕ → ℕ → EReal) (hx : ∀ a b c d, ∃ v : ℝ, x a b c d = v) (hw : ∀ a b c d, ∃ v : ℝ, w a b c d = v)
    (neg : Prop) [Decidable neg] (b R J ch ph : ℕ) (hph : ph < 4) (D : Fin 256 → EReal) (hD : ∀ k, ∃ v : ℝ, D k = v)
    (hS : ∀ kh < 7, ∀ kw < 7, ∀ c < 3, ∃ h, D ⟨spot kh kw c ph, h⟩ = PADX x b (2 * R + kh) (2 * J + kw) c) :
    ∑ k : Fin 256, WK w neg ch ph k.val * D k = if neg then -CONV x w b R J ch else CONV x w b R J ch := by
  choose ξ hξ using hx
  choose ω hω using hw
  choose d hd using hD
  let P : ℕ → ℕ → ℕ → ℝ := fun ρ C c => if 3 ≤ ρ ∧ ρ < 723 ∧ 3 ≤ C ∧ C < 1283 then ξ b (ρ - 3) (C - 3) c else 0
  have hP : ∀ ρ C c, PADX x b ρ C c = ((P ρ C c : ℝ) : EReal) := by
    intro ρ C c
    show (if _ then _ else _) = (((if _ then _ else _ : ℝ)) : EReal)
    split_ifs with h
    · rw [hξ]
    · rfl
  let τ : Fin 168 → ℝ := fun r => if r.val % 8 < 7 then ω (r.val / 24) (r.val % 8) (r.val / 8 % 3) ch else 0
  let σ : Fin 168 → ℕ → ℝ := fun r k => if r.val % 8 < 7 ∧ k = spot (r.val / 24) (r.val % 8) (r.val / 8 % 3) ph then 1 else 0
  have hT : ∀ r : Fin 168, TAP w r.val ch = ((τ r : ℝ) : EReal) := by
    intro r
    show (if _ then _ else _) = (((if _ then _ else _ : ℝ)) : EReal)
    split_ifs with h
    · rw [hω]
    · rfl
  have hσ : ∀ (r : Fin 168) (k : ℕ), SEL r.val ph k = ((σ r k : ℝ) : EReal) := by
    intro r k
    show (if _ then _ else _) = (((if _ then _ else _ : ℝ)) : EReal)
    split_ifs <;> rfl
  have hA : ∀ k : ℕ, ∑ r : Fin 168, TAP w r.val ch * SEL r.val ph k = ((∑ r : Fin 168, τ r * σ r k : ℝ) : EReal) := by
    intro k
    rw [coe_sum]
    exact Finset.sum_congr rfl fun r _ => by rw [hT, hσ, EReal.coe_mul]
  have hC : CONV x w b R J ch = ((∑ n : Fin 147, P (2 * R + n.val / 21) (2 * J + n.val / 3 % 7) (n.val % 3) * ω (n.val / 21) (n.val / 3 % 7) (n.val % 3) ch : ℝ) : EReal) := by
    unfold CONV
    rw [coe_sum]
    exact Finset.sum_congr rfl fun n _ => by rw [hP, hω, EReal.coe_mul]
  have hcore := real_phase τ d ph hph (fun a b c => ω a b c ch) (fun kh kw c => P (2 * R + kh) (2 * J + kw) c) (fun r => rfl)
    (fun kh h1 kw h2 c h3 => by
      obtain ⟨h, e⟩ := hS kh h1 kw h2 c h3
      refine ⟨h, ?_⟩
      rw [hd, hP] at e
      exact EReal.coe_eq_coe_iff.mp e)
  by_cases hn : neg
  · rw [if_pos hn, hC, ← hcore, ← EReal.coe_neg, ← Finset.sum_neg_distrib, coe_sum]
    refine Finset.sum_congr rfl fun k _ => ?_
    unfold WK
    rw [if_pos hn, hA, hd, zero_sub, ← EReal.coe_neg, ← EReal.coe_mul, neg_mul]
  · rw [if_neg hn, hC, ← hcore, coe_sum]
    refine Finset.sum_congr rfl fun k _ => ?_
    unfold WK
    rw [if_neg hn, hA, hd, ← EReal.coe_mul]

/-- The scales folded into one factor that is never negative give what the scales one after the other give. -/
theorem scaled (a xs ws bs bb : EReal) :
    max ((if ws * bs < 0 then -a else a) * (max (ws * bs) (-(ws * bs)) * xs) + bb) 0 = max (a * xs * ws * bs + bb) 0 := by
  have e : a * xs * ws * bs = a * (ws * bs * xs) := by
    rw [mul_assoc (a * xs), mul_assoc a, mul_comm xs]
  rw [e]
  by_cases h : ws * bs < 0
  · have hm : max (ws * bs) (-(ws * bs)) = -(ws * bs) := max_eq_right (le_of_lt (lt_trans h (EReal.neg_pos.mpr h)))
    rw [if_pos h, hm, neg_mul, neg_mul, mul_neg, neg_neg]
  · have h0 : 0 ≤ ws * bs := not_lt.mp h
    have hm : max (ws * bs) (-(ws * bs)) = ws * bs := max_eq_left (le_trans (by simpa using EReal.neg_le_neg_iff.mpr h0) h0)
    rw [if_neg h, hm]

/-- Scaling by a factor that is not negative, shifting and clamping keep the order, so pass through a maximum. -/
theorem clamp_max (a b c d : EReal) (hc : 0 ≤ c) : max (max a b * c + d) 0 = max (max (a * c + d) 0) (max (b * c + d) 0) := by
  have hm : Monotone fun y : EReal => max (y * c + d) 0 := fun y y' h =>
    max_le_max (add_le_add (mul_le_mul_of_nonneg_right h hc) le_rfl) le_rfl
  exact hm.map_max

theorem factor_nonneg (s xs : EReal) (h : 0 ≤ xs) : 0 ≤ max s (-s) * xs := by
  refine mul_nonneg ?_ h
  by_cases hs : 0 ≤ s
  · exact le_max_of_le_left hs
  · exact le_max_of_le_right (EReal.neg_nonneg.mpr (le_of_lt (not_le.mp hs)))

end Cert.Proof.Spec
-- ==== Proof.Bytes.lean ====
/-
  The bytes of a patch are the padded image: what stands in a patch at the place of each tap.
-/
module

public import proofs.«01_k».proof.Proof.PatchRead
public import proofs.«01_k».proof.Proof.StepPoint
public import proofs.«01_k».proof.Proof.Spec

@[expose] public section

set_option maxRecDepth 65536
set_option maxHeartbeats 400000

noncomputable section

namespace Cert.Proof.KernelIdeal

open Cert.KernelIdeal Cert.KernelIdeal.Gen Cert.Proof.Spec
open Idealize.ShloMosaic hiding ix1 ix2 ix3 ix4 ix5
open Idealize.ShloMosaic.TcCoe Idealize.ShloMosaic.Tactic Idealize.ShloMosaic.ValueIdx

theorem dec_zero : dec 0#8 = 0 := by
  simp [dec, Ideal.ofBits, Ideal.e4m3fn]

/-- Byte `b` of the zero word. -/
theorem zero_byte (b : ℕ) : (0#32).extractLsb' b 8 = 0#8 := by
  apply BitVec.eq_of_getLsbD_eq
  intro q hq
  simp

theorem nine (m c s : ℕ) (e : m = 9 * c + s) (hs : s < 9) (hc : c < 3) : m / 9 % 3 = c := by omega

/-- The words of a patch of a lane. -/
def RS (X : S2x3x7200x128.Idx → BitVec 8) (v : Fin 5) (l : Fin 128) (P w : ℕ) : BitVec 32 :=
  if w < 27 then
    if 1 ≤ P ∧ P ≤ 180 then WORD X (imgOf v l) ⟨w / 9 % 3, Nat.mod_lt _ (by decide)⟩ (P - 1) (4 * quadOf v l + w % 9) else 0#32
  else if w < 54 then
    if P < 180 then WORD X (imgOf v l) ⟨(w - 27) / 9 % 3, Nat.mod_lt _ (by decide)⟩ P (4 * quadOf v l + (w - 27) % 9) else 0#32
  else if w < 63 then
    if 2 ≤ P then
      pack4 fun b => (WORD X (imgOf v l) ⟨(w - 54) / 3 % 3, Nat.mod_lt _ (by decide)⟩ (P - 2) (4 * quadOf v l + 4 * ((w - 54) % 3) + b - 1)).extractLsb' 24 8
    else 0#32
  else 0#32

theorem RSPEC_at (X : S2x3x7200x128.Idx → BitVec 8) (v : Fin 5) (l : Fin 128) (P w : ℕ) (hP : P ≤ 180) (hw : w < 66) (h : (66 * P + w) % 12012 < 12012) :
    RSPEC X (ix3 v ⟨(66 * P + w) % 12012, h⟩ l) = RS X v l P w := by
  have e1 : (66 * P + w) % 12012 / 66 = P := by omega
  have e2 : (66 * P + w) % 12012 % 66 = w := by omega
  refine (show RSPEC X (ix3 v ⟨(66 * P + w) % 12012, h⟩ l) = RS X v l ((66 * P + w) % 12012 / 66) ((66 * P + w) % 12012 % 66) from rfl).trans ?_
  rw [e1, e2]

section
variable (X : S2x3x7200x128.Idx → BitVec 8) (x : ℕ → ℕ → ℕ → ℕ → EReal) (n : Fin 2 → ℕ)
  (hX : ∀ (g : Fin 2) (c : Fin 3) (row col : ℕ), row < 720 → col < 1280 →
    dec (X (ix4 g c ⟨(row / 8 * 80 + col / 128 * 8 + row % 8) % 7200, Nat.mod_lt _ (by decide)⟩ ⟨col % 128, Nat.mod_lt _ (by decide)⟩)) = x (n g) row col c.val)

include hX in
/-- A byte of a word: a row of the padded image. -/
theorem word_byte (g : Fin 2) (c : Fin 3) (P C b : ℕ) (hP : P < 180) (hb : b < 4) :
    dec ((WORD X g c P C).extractLsb' (8 * b) 8) = PADX x (n g) (4 * P + b + 3) C c.val := by
  unfold WORD PADX
  by_cases hC : 3 ≤ C ∧ C < 1283
  · rw [if_pos hC, if_pos ⟨by omega, by omega, hC.1, hC.2⟩, pack4_byte _ b hb]
    have := hX g c (4 * P + b) (C - 3) (by omega) (by omega)
    rw [show 4 * P + b + 3 - 3 = 4 * P + b by omega]
    exact this
  · rw [if_neg hC, if_neg (by omega), zero_byte, dec_zero]

theorem padx_congr (b : ℕ) {ρ ρ' C C' c c' : ℕ} (h1 : ρ = ρ') (h2 : C = C') (h3 : c = c') : PADX x b ρ C c = PADX x b ρ' C' c' := by rw [h1, h2, h3]

theorem padx_out (b ρ C c : ℕ) (h : ρ < 3 ∨ 723 ≤ ρ) : PADX x b ρ C c = 0 := if_neg (by omega)

include hX in
/-- The place of a tap holds the padded image under the tap. -/
theorem spot_byte (v : Fin 5) (l : Fin 128) (P : ℕ) (hP : P ≤ 180) (ph : ℕ) (hph : ph < 4) (h0 : P = 0 → ph / 2 = 1)
    (kh kw c : ℕ) (h1 : kh < 7) (h2 : kw < 7) (h3 : c < 3) :
    dec (wbyte (RS X v l P (spot kh kw c ph / 4)) (spot kh kw c ph % 4))
      = PADX x (n (imgOf v l)) (2 * (2 * P + ph / 2 - 1) + kh) (2 * (2 * quadOf v l + ph % 2) + kw) c := by
  by_cases c1 : kh + 2 * (ph / 2) = 0
  · have e : spot kh kw c ph = 4 * (54 + 3 * c + (kw + 2 * (ph % 2) + 1) / 4) + (kw + 2 * (ph % 2) + 1) % 4 := by unfold spot; rw [if_pos c1]
    have e1 : spot kh kw c ph / 4 = 54 + 3 * c + (kw + 2 * (ph % 2) + 1) / 4 := by omega
    have e2 : spot kh kw c ph % 4 = (kw + 2 * (ph % 2) + 1) % 4 := by omega
    rw [e1, e2]
    unfold RS
    rw [if_neg (by omega), if_neg (by omega), if_pos (by omega)]
    by_cases hp : 2 ≤ P
    · rw [if_pos hp]
      refine (congrArg dec (pack4_byte _ _ (by omega))).trans ?_
      refine (word_byte X x n hX (imgOf v l) _ (P - 2) _ 3 (by omega) (by omega)).trans ?_
      refine padx_congr x _ (by omega) ?_ ?_
      · show 4 * quadOf v l + 4 * ((54 + 3 * c + (kw + 2 * (ph % 2) + 1) / 4 - 54) % 3) + (kw + 2 * (ph % 2) + 1) % 4 - 1 = _
        omega
      · show (54 + 3 * c + (kw + 2 * (ph % 2) + 1) / 4 - 54) / 3 % 3 = c
        omega
    · rw [if_neg hp, wbyte, zero_byte, dec_zero, padx_out _ _ _ _ _ (by omega)]
  by_cases c2 : kh + 2 * (ph / 2) ≤ 4
  · have e : spot kh kw c ph = 4 * (9 * c + kw + 2 * (ph % 2)) + (kh + 2 * (ph / 2) - 1) := by unfold spot; rw [if_neg c1, if_pos c2]
    have e1 : spot kh kw c ph / 4 = 9 * c + kw + 2 * (ph % 2) := by omega
    have e2 : spot kh kw c ph % 4 = kh + 2 * (ph / 2) - 1 := by omega
    rw [e1, e2]
    unfold RS
    rw [if_pos (by omega)]
    by_cases hp : 1 ≤ P ∧ P ≤ 180
    · rw [if_pos hp]
      refine (word_byte X x n hX (imgOf v l) _ (P - 1) _ (kh + 2 * (ph / 2) - 1) (by omega) (by omega)).trans ?_
      refine padx_congr x _ (by omega) ?_ ?_
      · show 4 * quadOf v l + (9 * c + kw + 2 * (ph % 2)) % 9 = _
        omega
      · exact nine (9 * c + kw + 2 * (ph % 2)) c (kw + 2 * (ph % 2)) (by omega) (by omega) h3
    · rw [if_neg hp, wbyte, zero_byte, dec_zero, padx_out _ _ _ _ _ (by omega)]
  · have e : spot kh kw c ph = 4 * (27 + 9 * c + kw + 2 * (ph % 2)) + (kh + 2 * (ph / 2) - 5) := by unfold spot; rw [if_neg c1, if_neg c2]
    have e1 : spot kh kw c ph / 4 = 27 + 9 * c + kw + 2 * (ph % 2) := by omega
    have e2 : spot kh kw c ph % 4 = kh + 2 * (ph / 2) - 5 := by omega
    rw [e1, e2]
    unfold RS
    rw [if_neg (by omega), if_pos (by omega)]
    by_cases hp : P < 180
    · rw [if_pos hp]
      refine (word_byte X x n hX (imgOf v l) _ P _ (kh + 2 * (ph / 2) - 5) hp (by omega)).trans ?_
      refine padx_congr x _ (by omega) ?_ ?_
      · show 4 * quadOf v l + (27 + 9 * c + kw + 2 * (ph % 2) - 27) % 9 = _
        omega
      · exact nine (27 + 9 * c + kw + 2 * (ph % 2) - 27) c (kw + 2 * (ph % 2)) (by omega) (by omega) h3
    · rw [if_neg hp, wbyte, zero_byte, dec_zero, padx_out _ _ _ _ _ (by omega)]
end

section
variable (X : S2x3x7200x128.Idx → BitVec 8) (hr : ∀ y, ∃ r : ℝ, dec (X y) = r)

theorem zero_real (b : ℕ) : ∃ r : ℝ, dec ((0#32).extractLsb' b 8) = r := ⟨0, by rw [zero_byte, dec_zero]; rfl⟩

include hr in
theorem word_real (g : Fin 2) (c : Fin 3) (P C b : ℕ) (hb : b < 4) : ∃ r : ℝ, dec ((WORD X g c P C).extractLsb' (8 * b) 8) = r := by
  unfold WORD
  split_ifs
  · rw [pack4_byte _ b hb]; exact hr _
  · exact zero_real _

include hr in
/-- Every byte of a patch denotes a real. -/
theorem patch_real (v : Fin 5) (l : Fin 128) (P w b : ℕ) (hb : b < 4) : ∃ r : ℝ, dec (wbyte (RS X v l P w) b) = r := by
  unfold RS wbyte
  split_ifs
  · exact word_real X hr _ _ _ _ b hb
  · exact zero_real _
  · exact word_real X hr _ _ _ _ b hb
  · exact zero_real _
  · rw [pack4_byte _ b hb]; exact word_real X hr _ _ _ _ 3 (by decide)
  · exact zero_real _
  · exact zero_real _
end

end Cert.Proof.KernelIdeal

end
-- ==== Proof.Tie.lean ====
/-
  The kernel's block is the pooled activation: its convolutions are those of the image and the weights, up to the sign moved into
  the weights, and its largest is the window's.
-/
module

public import proofs.«01_k».proof.Proof.Bytes
public import proofs.«01_k».proof.Proof.Point

@[expose] public section

set_option maxRecDepth 65536
set_option maxHeartbeats 400000

noncomputable section

namespace Cert.Proof.KernelIdeal

open Cert.KernelIdeal Cert.KernelIdeal.Gen Cert.Proof.Spec
open Idealize.ShloMosaic hiding ix1 ix2 ix3 ix4 ix5
open Idealize.ShloMosaic.TcCoe Idealize.ShloMosaic.Tactic Idealize.ShloMosaic.ValueIdx

section
variable (w : S7x3x7x96.Idx → EReal) (sel : S168x1024.Idx → EReal) (a b : S96x128.Idx → EReal) (ω : ℕ → ℕ → ℕ → ℕ → EReal)
  (hw : ∀ (kh : Fin 7) (c : Fin 3) (kw : Fin 7) (ch : Fin 96), w (ix4 kh c kw ch) = ω kh.val kw.val c.val ch.val)
  (hsel : ∀ (r : Fin 168) (x : Fin 1024), r.val % 8 < 7 →
    sel (ix2 r x) = if x.val % 256 = spot (r.val / 24) (r.val % 8) (r.val / 8 % 3) (x.val / 256) then 1 else 0)

theorem tap_of_lt (r : Fin 168) (ch : Fin 96) (h : r.val % 8 < 7) :
    tapAt w r ch = w (ix4 ⟨r.val / 24, by omega⟩ ⟨r.val / 8 % 3, by omega⟩ ⟨r.val % 8, h⟩ ch) := dif_pos h

include hw hsel in
theorem tap_term (r : Fin 168) (ch : Fin 96) (ph : Fin 4) (k : Fin 256) (h : 256 * ph.val + k.val < 1024) :
    tapAt w r ch * sel (ix2 r ⟨256 * ph.val + k.val, h⟩) = TAP ω r.val ch.val * SEL r.val ph.val k.val := by
  by_cases hr : r.val % 8 < 7
  · rw [tap_of_lt w r ch hr, hw, hsel r _ hr]
    have e1 : (256 * ph.val + k.val) % 256 = k.val := by omega
    have e2 : (256 * ph.val + k.val) / 256 = ph.val := by omega
    unfold TAP SEL
    rw [if_pos hr]
    refine congrArg₂ (· * ·) rfl ?_
    show (if (256 * ph.val + k.val) % 256 = spot (r.val / 24) (r.val % 8) (r.val / 8 % 3) ((256 * ph.val + k.val) / 256) then (1 : EReal) else 0) = _
    rw [e1, e2]
    simp only [hr, true_and]
  · unfold TAP tapAt
    rw [dif_neg hr, if_neg hr, zero_mul, zero_mul]

include hw hsel in
/-- A weight as the kernel lays it out. -/
theorem weight_at (ph : Fin 4) (ch : Fin 96) (k : Fin 256) :
    WV w sel a b (ix2 (mrow ph ch) k) = WK ω (a (ix2 ch 0) * b (ix2 ch 0) < 0) ch.val ph.val k.val := by
  have hc : (⟨16 * ((64 * (ch.val / 16) + 16 * ph.val + ch.val % 16) / 64) + (64 * (ch.val / 16) + 16 * ph.val + ch.val % 16) % 16, by omega⟩ : Fin 96) = ch :=
    Fin.ext (by show 16 * ((64 * (ch.val / 16) + 16 * ph.val + ch.val % 16) / 64) + (64 * (ch.val / 16) + 16 * ph.val + ch.val % 16) % 16 = ch.val; omega)
  have hp : (64 * (ch.val / 16) + 16 * ph.val + ch.val % 16) % 64 / 16 = ph.val := by omega
  have hx : (⟨256 * ((64 * (ch.val / 16) + 16 * ph.val + ch.val % 16) % 64 / 16) + k.val, by omega⟩ : Fin 1024) = ⟨256 * ph.val + k.val, by omega⟩ :=
    Fin.ext (by show 256 * ((64 * (ch.val / 16) + 16 * ph.val + ch.val % 16) % 64 / 16) + k.val = 256 * ph.val + k.val; rw [hp])
  have hs : ∑ r : Fin 168, tapAt w r ch * sel (ix2 r ⟨256 * ph.val + k.val, by omega⟩) = ∑ r : Fin 168, TAP ω r.val ch.val * SEL r.val ph.val k.val :=
    Finset.sum_congr rfl fun r _ => tap_term w sel ω hw hsel r ch ph k (by omega)
  unfold WK
  rw [← hs]
  unfold WV
  dsimp only
  exact (congrArg₂ (fun (c : Fin 96) (x : Fin 1024) => if a (ix2 c 0) * b (ix2 c 0) < 0 then 0 - ∑ r : Fin 168, tapAt w r c * sel (ix2 r x)
    else ∑ r : Fin 168, tapAt w r c * sel (ix2 r x)) hc hx)

variable (X : S2x3x7200x128.Idx → BitVec 8) (x : ℕ → ℕ → ℕ → ℕ → EReal) (n : Fin 2 → ℕ)
  (hX : ∀ (g : Fin 2) (c : Fin 3) (row col : ℕ), row < 720 → col < 1280 →
    dec (X (ix4 g c ⟨(row / 8 * 80 + col / 128 * 8 + row % 8) % 7200, Nat.mod_lt _ (by decide)⟩ ⟨col % 128, Nat.mod_lt _ (by decide)⟩)) = x (n g) row col c.val)
  (hr : ∀ y, ∃ r : ℝ, dec (X y) = r) (hx : ∀ a b c d, ∃ v : ℝ, x a b c d = v) (hω : ∀ a b c d, ∃ v : ℝ, ω a b c d = v)

include hw hsel hX hr hx hω in
/-- A convolution of the kernel. -/
theorem conv_at (P : ℕ) (hP : P ≤ 180) (ph : Fin 4) (h0 : P = 0 → ph.val / 2 = 1) (v : Fin 5) (ch : Fin 96) (l : Fin 128) :
    cv (WV w sel a b) (RSPEC X) P v (mrow ph ch) l
      = if a (ix2 ch 0) * b (ix2 ch 0) < 0 then -CONV x ω (n (imgOf v l)) (2 * P + ph.val / 2 - 1) (2 * quadOf v l + ph.val % 2) ch.val
        else CONV x ω (n (imgOf v l)) (2 * P + ph.val / 2 - 1) (2 * quadOf v l + ph.val % 2) ch.val := by
  unfold cv
  have e : ∀ k : Fin 256, WV w sel a b (ix2 (mrow ph ch) k) * dec (wbyte (RSPEC X (ix3 v ⟨(66 * P + k.val / 4) % 12012, Nat.mod_lt _ (by decide)⟩ l)) (k.val % 4))
      = WK ω (a (ix2 ch 0) * b (ix2 ch 0) < 0) ch.val ph.val k.val * (fun k : Fin 256 => dec (wbyte (RS X v l P (k.val / 4)) (k.val % 4))) k := fun k => by
    rw [weight_at w sel a b ω hw hsel, RSPEC_at X v l P (k.val / 4) hP (by omega)]
  refine (Finset.sum_congr rfl fun k _ => e k).trans ?_
  refine conv_phase x ω hx hω _ _ _ _ _ _ ph.isLt _ (fun k => patch_real X hr v l P _ _ (Nat.mod_lt _ (by decide))) fun kh h1 kw h2 c h3 => ?_
  exact ⟨spot_lt kh kw c ph.val h1 h2 h3 ph.isLt, spot_byte X x n hX v l P hP ph.val ph.isLt h0 kh kw c h1 h2 h3⟩
end

theorem ph0_val (t : Fin 2) : (ph0 t).val = t.val := by revert t; decide
theorem ph1_val (t : Fin 2) : (ph1 t).val = 2 + t.val := by revert t; decide

section
variable (W : S384x256.Idx → EReal) (R : S5x12012x128.Idx → BitVec 32) (M : S3x96x128.Idx → EReal) (B : S96x128.Idx → EReal)
  (P : ℕ) (hP1 : 1 ≤ P) (hP : P ≤ 180) (ch : Fin 96) (g : Fin 2) (S A : ℕ → ℕ → EReal) (c d : EReal) (hc : 0 ≤ c)
  (hS : ∀ P ≤ 180, ∀ ph : Fin 4, (P = 0 → ph.val / 2 = 1) → ∀ (v : Fin 5) (l : Fin 128), imgOf v l = g →
    cv W R P v (mrow ph ch) l = S (2 * P + ph.val / 2 - 1) (2 * quadOf v l + ph.val % 2))
  (hA : ∀ r j, max (S r j * c + d) 0 = A r j)

include hP1 hP hc hS hA in
/-- The largest over three rows of one column. -/
theorem rows_le (t : Fin 2) (v : Fin 5) (l : Fin 128) (hg : imgOf v l = g) (z : EReal) :
    max (MX W R P t v ch l * c + d) 0 ≤ z ↔ ∀ e : Fin 3, 1 ≤ 2 * (P - 1) + e.val → A (2 * (P - 1) + e.val - 1) (2 * quadOf v l + t.val) ≤ z := by
  have q0 : ∀ Q ≤ 180, 1 ≤ Q → cv W R Q v (mrow (ph0 t) ch) l = S (2 * Q - 1) (2 * quadOf v l + t.val) := fun Q hQ h1 => by
    rw [hS Q hQ (ph0 t) (by omega) v l hg, ph0_val, show 2 * Q + t.val / 2 - 1 = 2 * Q - 1 by omega, show t.val % 2 = t.val by omega]
  have q1 : ∀ Q ≤ 180, cv W R Q v (mrow (ph1 t) ch) l = S (2 * Q) (2 * quadOf v l + t.val) := fun Q hQ => by
    rw [hS Q hQ (ph1 t) (by rw [ph1_val]; omega) v l hg, ph1_val, show 2 * Q + (2 + t.val) / 2 - 1 = 2 * Q by omega, show (2 + t.val) % 2 = t.val by omega]
  unfold MX CAR
  by_cases h : P = 1
  · subst h
    rw [if_pos rfl, q1 0 (by omega), q0 1 (by omega) (by omega), clamp_max _ _ _ _ hc, hA, hA, max_le_iff]
    constructor
    · rintro ⟨x1, x2⟩ e he
      match e with
      | 0 => exact absurd he (by decide)
      | 1 => exact x1
      | 2 => exact x2
    · intro y
      exact ⟨y 1 (by decide), y 2 (by decide)⟩
  · rw [if_neg h, q1 (P - 1) (by omega), q0 (P - 1) (by omega) (by omega), q0 P hP hP1, clamp_max _ _ _ _ hc, clamp_max _ _ _ _ hc, hA, hA, hA, max_le_iff, max_le_iff]
    have k1 : 2 * (P - 1) + 1 - 1 = 2 * (P - 1) := by omega
    have k2 : 2 * (P - 1) + 2 - 1 = 2 * P - 1 := by omega
    constructor
    · rintro ⟨⟨x0, x1⟩, x2⟩ e he
      match e with
      | 0 => exact x0
      | 1 => show A (2 * (P - 1) + 1 - 1) _ ≤ z; rw [k1]; exact x1
      | 2 => show A (2 * (P - 1) + 2 - 1) _ ≤ z; rw [k2]; exact x2
    · intro y
      have y1 := y 1 (by show 1 ≤ 2 * (P - 1) + 1; omega)
      have y2 := y 2 (by show 1 ≤ 2 * (P - 1) + 2; omega)
      exact ⟨⟨y 0 (by show 1 ≤ 2 * (P - 1) + 0; omega), k1 ▸ y1⟩, k2 ▸ y2⟩

/-- The lane to the left. -/
theorem SH_eq (v : Fin 5) (l : Fin 128) : ∃ v' l', SH W R P v ch l = MX W R P 1 v' ch l' ∧ imgOf v' l' = imgOf v l
    ∧ (quadOf v l = 0 ∧ quadOf v' l' = 0 ∨ quadOf v l = quadOf v' l' + 1) := by
  unfold SH
  by_cases h : l.val = 0
  · have hl : l = 0 := Fin.ext h
    subst hl
    rw [if_pos h]
    match v with
    | 0 => exact ⟨0, 0, rfl, rfl, Or.inl ⟨rfl, rfl⟩⟩
    | 1 => exact ⟨0, 127, rfl, rfl, Or.inr rfl⟩
    | 2 => exact ⟨1, 127, rfl, rfl, Or.inr rfl⟩
    | 3 => exact ⟨3, 0, rfl, rfl, Or.inl ⟨rfl, rfl⟩⟩
    | 4 => exact ⟨3, 127, rfl, rfl, Or.inr rfl⟩
  · rw [if_neg h]
    by_cases h2 : v = 2 ∧ l.val = 64
    · rw [if_pos h2]
      obtain ⟨rfl, hl⟩ := h2
      have hl : l = 64 := Fin.ext hl
      subst hl
      exact ⟨4, 127, rfl, rfl, Or.inr rfl⟩
    · rw [if_neg h2]
      refine ⟨v, ⟨l.val - 1, by omega⟩, rfl, ?_, Or.inr ?_⟩
      · revert v l; decide +kernel
      · revert v l; decide +kernel

include hP1 hP hc hS hA in
/-- What the kernel stores: the window's largest. -/
theorem fin_pool (v : Fin 5) (l : Fin 128) (hg : imgOf v l = g) (hM : M (ix3 (kindOf v) ch l) = c) (hB : B (ix2 ch l) = d) :
    IsPool (FIN W R M B P v ch l) A (P - 1) (quadOf v l) := by
  intro z
  obtain ⟨v', l', hs, hi, hq⟩ := SH_eq W R P ch v l
  unfold FIN
  rw [hM, hB, hs, clamp_max _ _ _ _ hc, clamp_max _ _ _ _ hc, max_le_iff, max_le_iff,
    rows_le W R P hP1 hP ch g S A c d hc hS hA 0 v l hg, rows_le W R P hP1 hP ch g S A c d hc hS hA 1 v l hg,
    rows_le W R P hP1 hP ch g S A c d hc hS hA 1 v' l' (hi.trans hg)]
  constructor
  · rintro ⟨⟨x1, x2⟩, x0⟩ a e ha he
    match e with
    | 0 =>
      have he' : 1 ≤ 2 * quadOf v l + 0 := he
      show A (2 * (P - 1) + a.val - 1) (2 * quadOf v l + 0 - 1) ≤ z
      rw [show 2 * quadOf v l + 0 - 1 = 2 * quadOf v' l' + 1 by omega]
      exact x0 a ha
    | 1 => exact x1 a ha
    | 2 => exact x2 a ha
  · intro y
    refine ⟨⟨fun a ha => y a 1 ha (Nat.le_add_left 1 _), fun a ha => y a 2 ha (by show 1 ≤ 2 * quadOf v l + 2; omega)⟩, fun a ha => ?_⟩
    rcases hq with ⟨q1, q2⟩ | q
    · have := y a 2 ha (by show 1 ≤ 2 * quadOf v l + 2; omega)
      rw [q1] at this
      rw [q2]
      exact this
    · have := y a 0 ha (by show 1 ≤ 2 * quadOf v l + 0; omega)
      rw [q] at this
      rw [show 2 * quadOf v' l' + (1 : Fin 2).val = 2 * (quadOf v' l' + 1) + (0 : Fin 3).val - 1 from by
        show 2 * quadOf v' l' + 1 = 2 * (quadOf v' l' + 1) + 0 - 1; omega]
      exact this
end

theorem img_tile : ∀ (a : Fin 2) (q : Fin 320), imgOf (tileAt a q) (laneAt a q) = a := by decide +kernel
theorem quad_tile : ∀ (a : Fin 2) (q : Fin 320), quadOf (tileAt a q) (laneAt a q) = q.val := by decide +kernel
theorem side_kind : ∀ (v : Fin 5) (l : Fin 128), sideOf (kindOf v) l = imgOf v l := by decide +kernel

end Cert.Proof.KernelIdeal

end
-- ==== Proof.SelBase.lean ====
/- What an entry of the selection matrix the host makes should be: one exactly where the column is that tap's place. -/
module

public import proofs.«01_k».proof.KernelIdeal

@[expose] public section

set_option maxRecDepth 65536
set_option maxHeartbeats 40000000

noncomputable section

namespace Cert.Proof.Spec

open Cert.KernelIdeal

/-- Where tap (row `kh`, column `kw`, channel `c`) of phase `ph` stands among the 256 rows of a patch. -/
def place (kh kw c ph : ℕ) : ℕ :=
  if kh + 2 * (ph / 2) = 0 then 4 * (54 + 3 * c + (kw + 2 * (ph % 2) + 1) / 4) + (kw + 2 * (ph % 2) + 1) % 4
  else if kh + 2 * (ph / 2) ≤ 4 then 4 * (9 * c + kw + 2 * (ph % 2)) + (kh + 2 * (ph / 2) - 1)
  else 4 * (27 + 9 * c + kw + 2 * (ph % 2)) + (kh + 2 * (ph / 2) - 5)

/-- Whether row `r`, column `x` of the selection matrix is one. -/
def chosen (r x : ℕ) : Bool :=
  Nat.blt (r % 8) 7 && Nat.beq (x % 256) (place (r / 24) (r % 8) (r / 8 % 3) (x / 256))

/-- Row `r`, column `x` of the table is what `chosen` says. -/
abbrev LitAt (r x : ℕ) : Prop := lit0t (r * 1024 + x) = bif chosen r x then 0x3F80#16 else 0#16

end Cert.Proof.Spec
end
-- ==== Proof.SelArms.lean ====
/- The selection matrix's table as a digit tree with computed leaves. -/
module

public import proofs.«01_k».proof.Proof.SelBase
public import Mathlib.Tactic.IntervalCases

@[expose] public section

set_option maxRecDepth 65536
set_option maxHeartbeats 40000000

namespace Cert.Proof.Spec

open Cert.KernelIdeal

/-- The arm of a base-128 digit. -/
def arms (f : ℕ → BitVec 16) (i : ℕ) : BitVec 16 := match i % 128 with
  | 0 => f 0
  | 1 => f 1
  | 2 => f 2
  | 3 => f 3
  | 4 => f 4
  | 5 => f 5
  | 6 => f 6
  | 7 => f 7
  | 8 => f 8
  | 9 => f 9
  | 10 => f 10
  | 11 => f 11
  | 12 => f 12
  | 13 => f 13
  | 14 => f 14
  | 15 => f 15
  | 16 => f 16
  | 17 => f 17
  | 18 => f 18
  | 19 => f 19
  | 20 => f 20
  | 21 => f 21
  | 22 => f 22
  | 23 => f 23
  | 24 => f 24
  | 25 => f 25
  | 26 => f 26
  | 27 => f 27
  | 28 => f 28
  | 29 => f 29
  | 30 => f 30
  | 31 => f 31
  | 32 => f 32
  | 33 => f 33
  | 34 => f 34
  | 35 => f 35
  | 36 => f 36
  | 37 => f 37
  | 38 => f 38
  | 39 => f 39
  | 40 => f 40
  | 41 => f 41
  | 42 => f 42
  | 43 => f 43
  | 44 => f 44
  | 45 => f 45
  | 46 => f 46
  | 47 => f 47
  | 48 => f 48
  | 49 => f 49
  | 50 => f 50
  | 51 => f 51
  | 52 => f 52
  | 53 => f 53
  | 54 => f 54
  | 55 => f 55
  | 56 => f 56
  | 57 => f 57
  | 58 => f 58
  | 59 => f 59
  | 60 => f 60
  | 61 => f 61
  | 62 => f 62
  | 63 => f 63
  | 64 => f 64
  | 65 => f 65
  | 66 => f 66
  | 67 => f 67
  | 68 => f 68
  | 69 => f 69
  | 70 => f 70
  | 71 => f 71
  | 72 => f 72
  | 73 => f 73
  | 74 => f 74
  | 75 => f 75
  | 76 => f 76
  | 77 => f 77
  | 78 => f 78
  | 79 => f 79
  | 80 => f 80
  | 81 => f 81
  | 82 => f 82
  | 83 => f 83
  | 84 => f 84
  | 85 => f 85
  | 86 => f 86
  | 87 => f 87
  | 88 => f 88
  | 89 => f 89
  | 90 => f 90
  | 91 => f 91
  | 92 => f 92
  | 93 => f 93
  | 94 => f 94
  | 95 => f 95
  | 96 => f 96
  | 97 => f 97
  | 98 => f 98
  | 99 => f 99
  | 100 => f 100
  | 101 => f 101
  | 102 => f 102
  | 103 => f 103
  | 104 => f 104
  | 105 => f 105
  | 106 => f 106
  | 107 => f 107
  | 108 => f 108
  | 109 => f 109
  | 110 => f 110
  | 111 => f 111
  | 112 => f 112
  | 113 => f 113
  | 114 => f 114
  | 115 => f 115
  | 116 => f 116
  | 117 => f 117
  | 118 => f 118
  | 119 => f 119
  | 120 => f 120
  | 121 => f 121
  | 122 => f 122
  | 123 => f 123
  | 124 => f 124
  | 125 => f 125
  | 126 => f 126
  | 127 => f 127
  | _ => 0#16

/-- The arm of a base-128 digit of which only half the values occur. -/
def armsHalf (f : ℕ → BitVec 16) (i : ℕ) : BitVec 16 := match i % 128 with
  | 0 => f 0
  | 1 => f 1
  | 2 => f 2
  | 3 => f 3
  | 4 => f 4
  | 5 => f 5
  | 6 => f 6
  | 7 => f 7
  | 8 => f 8
  | 9 => f 9
  | 10 => f 10
  | 11 => f 11
  | 12 => f 12
  | 13 => f 13
  | 14 => f 14
  | 15 => f 15
  | 16 => f 16
  | 17 => f 17
  | 18 => f 18
  | 19 => f 19
  | 20 => f 20
  | 21 => f 21
  | 22 => f 22
  | 23 => f 23
  | 24 => f 24
  | 25 => f 25
  | 26 => f 26
  | 27 => f 27
  | 28 => f 28
  | 29 => f 29
  | 30 => f 30
  | 31 => f 31
  | 32 => f 32
  | 33 => f 33
  | 34 => f 34
  | 35 => f 35
  | 36 => f 36
  | 37 => f 37
  | 38 => f 38
  | 39 => f 39
  | 40 => f 40
  | 41 => f 41
  | 42 => f 42
  | 43 => f 43
  | 44 => f 44
  | 45 => f 45
  | 46 => f 46
  | 47 => f 47
  | 48 => f 48
  | 49 => f 49
  | 50 => f 50
  | 51 => f 51
  | 52 => f 52
  | 53 => f 53
  | 54 => f 54
  | 55 => f 55
  | 56 => f 56
  | 57 => f 57
  | 58 => f 58
  | 59 => f 59
  | 60 => f 60
  | 61 => f 61
  | 62 => f 62
  | 63 => f 63
  | _ => 0#16

/-- `place`, by comparisons alone. -/
def placeB (kh kw c ph : ℕ) : ℕ :=
  bif Nat.beq (kh + 2 * (ph / 2)) 0 then 4 * (54 + 3 * c + (kw + 2 * (ph % 2) + 1) / 4) + (kw + 2 * (ph % 2) + 1) % 4
  else bif Nat.ble (kh + 2 * (ph / 2)) 4 then 4 * (9 * c + kw + 2 * (ph % 2)) + (kh + 2 * (ph / 2) - 1)
  else 4 * (27 + 9 * c + kw + 2 * (ph % 2)) + (kh + 2 * (ph / 2) - 5)

/-- Entry `k` of the table's piece `p`. -/
def pick (p k : ℕ) : BitVec 16 :=
  bif Nat.blt (p / 8 % 8) 7 && Nat.beq (128 * (p % 2) + k) (placeB (p / 8 / 24) (p / 8 % 8) (p / 8 / 8 % 3) (p / 2 % 4)) then 0x3F80#16 else 0x0000#16

theorem arms_apply (f : ℕ → BitVec 16) (i : ℕ) : arms f i = f (i % 128) := by
  unfold arms
  have h := Nat.mod_lt i (by decide : 0 < 128)
  generalize i % 128 = k at h ⊢
  interval_cases k <;> rfl

theorem armsHalf_apply (f : ℕ → BitVec 16) (i : ℕ) (h : i % 128 < 64) : armsHalf f i = f (i % 128) := by
  unfold armsHalf
  generalize i % 128 = k at h ⊢
  interval_cases k <;> rfl

theorem placeB_eq (kh kw c ph : ℕ) : placeB kh kw c ph = place kh kw c ph := by
  unfold placeB place
  by_cases h1 : kh + 2 * (ph / 2) = 0
  · rw [if_pos h1, h1]; rfl
  · rw [if_neg h1, show Nat.beq (kh + 2 * (ph / 2)) 0 = false from by rw [Bool.eq_false_iff]; intro h; exact h1 (Nat.eq_of_beq_eq_true h)]
    by_cases h2 : kh + 2 * (ph / 2) ≤ 4
    · rw [if_pos h2, show Nat.ble (kh + 2 * (ph / 2)) 4 = true from Nat.ble_eq_true_of_le h2]; rfl
    · rw [if_neg h2, show Nat.ble (kh + 2 * (ph / 2)) 4 = false from by rw [Bool.eq_false_iff]; intro h; exact h2 (Nat.le_of_ble_eq_true h)]; rfl

theorem pick_eq (r x : ℕ) (hx : x < 1024) : pick ((r * 1024 + x) / 128) ((r * 1024 + x) % 128) = bif chosen r x then 0x3F80#16 else 0#16 := by
  unfold pick chosen
  rw [placeB_eq, show (r * 1024 + x) / 128 / 8 = r by omega, show (r * 1024 + x) / 128 / 2 % 4 = x / 256 by omega,
    show 128 * ((r * 1024 + x) / 128 % 2) + (r * 1024 + x) % 128 = x % 256 by omega]

end Cert.Proof.Spec
end
-- ==== Proof.SelPart00.lean ====
/- Entries 0 on of the selection matrix's table. -/
module

public import proofs.«01_k».proof.Proof.SelArms

@[expose] public section

set_option maxRecDepth 65536
set_option maxHeartbeats 40000000
set_option smartUnfolding false

namespace Cert.Proof.Spec

open Cert.KernelIdeal

theorem lit_0 : ∀ i, lit0t1_0 i = arms (fun b => arms (pick (0 + b)) i) (i / 128) := fun i => rfl

end Cert.Proof.Spec
end
-- ==== Proof.SelPart01.lean ====
/- Entries 16384 on of the selection matrix's table. -/
module

public import proofs.«01_k».proof.Proof.SelArms

@[expose] public section

set_option maxRecDepth 65536
set_option maxHeartbeats 40000000
set_option smartUnfolding false

namespace Cert.Proof.Spec

open Cert.KernelIdeal

theorem lit_1 : ∀ i, lit0t1_1 i = arms (fun b => arms (pick (128 + b)) i) (i / 128) := fun i => rfl

end Cert.Proof.Spec
end
-- ==== Proof.SelPart02.lean ====
/- Entries 32768 on of the selection matrix's table. -/
module

public import proofs.«01_k».proof.Proof.SelArms

@[expose] public section

set_option maxRecDepth 65536
set_option maxHeartbeats 40000000
set_option smartUnfolding false

namespace Cert.Proof.Spec

open Cert.KernelIdeal

theorem lit_2 : ∀ i, lit0t1_2 i = arms (fun b => arms (pick (256 + b)) i) (i / 128) := fun i => rfl

end Cert.Proof.Spec
end
-- ==== Proof.SelPart03.lean ====
/- Entries 49152 on of the selection matrix's table. -/
module

public import proofs.«01_k».proof.Proof.SelArms

@[expose] public section

set_option maxRecDepth 65536
set_option maxHeartbeats 40000000
set_option smartUnfolding false

namespace Cert.Proof.Spec

open Cert.KernelIdeal

theorem lit_3 : ∀ i, lit0t1_3 i = arms (fun b => arms (pick (384 + b)) i) (i / 128) := fun i => rfl

end Cert.Proof.Spec
end
-- ==== Proof.SelPart04.lean ====
/- Entries 65536 on of the selection matrix's table. -/
module

public import proofs.«01_k».proof.Proof.SelArms

@[expose] public section

set_option maxRecDepth 65536
set_option maxHeartbeats 40000000
set_option smartUnfolding false

namespace Cert.Proof.Spec

open Cert.KernelIdeal

theorem lit_4 : ∀ i, lit0t1_4 i = arms (fun b => arms (pick (512 + b)) i) (i / 128) := fun i => rfl

end Cert.Proof.Spec
end
-- ==== Proof.SelPart05.lean ====
/- Entries 81920 on of the selection matrix's table. -/
module

public import proofs.«01_k».proof.Proof.SelArms

@[expose] public section

set_option maxRecDepth 65536
set_option maxHeartbeats 40000000
set_option smartUnfolding false

namespace Cert.Proof.Spec

open Cert.KernelIdeal

theorem lit_5 : ∀ i, lit0t1_5 i = arms (fun b => arms (pick (640 + b)) i) (i / 128) := fun i => rfl

end Cert.Proof.Spec
end
-- ==== Proof.SelPart06.lean ====
/- Entries 98304 on of the selection matrix's table. -/
module

public import proofs.«01_k».proof.Proof.SelArms

@[expose] public section

set_option maxRecDepth 65536
set_option maxHeartbeats 40000000
set_option smartUnfolding false

namespace Cert.Proof.Spec

open Cert.KernelIdeal

theorem lit_6 : ∀ i, lit0t1_6 i = arms (fun b => arms (pick (768 + b)) i) (i / 128) := fun i => rfl

end Cert.Proof.Spec
end
-- ==== Proof.SelPart07.lean ====
/- Entries 114688 on of the selection matrix's table. -/
module

public import proofs.«01_k».proof.Proof.SelArms

@[expose] public section

set_option maxRecDepth 65536
set_option maxHeartbeats 40000000
set_option smartUnfolding false

namespace Cert.Proof.Spec

open Cert.KernelIdeal

theorem lit_7 : ∀ i, lit0t1_7 i = arms (fun b => arms (pick (896 + b)) i) (i / 128) := fun i => rfl

end Cert.Proof.Spec
end
-- ==== Proof.SelPart08.lean ====
/- Entries 131072 on of the selection matrix's table. -/
module

public import proofs.«01_k».proof.Proof.SelArms

@[expose] public section

set_option maxRecDepth 65536
set_option maxHeartbeats 40000000
set_option smartUnfolding false

namespace Cert.Proof.Spec

open Cert.KernelIdeal

theorem lit_8 : ∀ i, lit0t1_8 i = arms (fun b => arms (pick (1024 + b)) i) (i / 128) := fun i => rfl

end Cert.Proof.Spec
end
-- ==== Proof.SelPart09.lean ====
/- Entries 147456 on of the selection matrix's table. -/
module

public import proofs.«01_k».proof.Proof.SelArms

@[expose] public section

set_option maxRecDepth 65536
set_option maxHeartbeats 40000000
set_option smartUnfolding false

namespace Cert.Proof.Spec

open Cert.KernelIdeal

theorem lit_9 : ∀ i, lit0t1_9 i = arms (fun b => arms (pick (1152 + b)) i) (i / 128) := fun i => rfl

end Cert.Proof.Spec
end
-- ==== Proof.SelPart10.lean ====
/- Entries 163840 on of the selection matrix's table. -/
module

public import proofs.«01_k».proof.Proof.SelArms

@[expose] public section

set_option maxRecDepth 65536
set_option maxHeartbeats 40000000
set_option smartUnfolding false

namespace Cert.Proof.Spec

open Cert.KernelIdeal

theorem lit_10 : ∀ i, lit0t1_10 i = armsHalf (fun b => arms (pick (1280 + b)) i) (i / 128) := fun i => rfl

end Cert.Proof.Spec
end
-- ==== Proof.SelTable.lean ====
/- Every entry of the selection matrix. -/
module

public import proofs.«01_k».proof.Proof.SelPart00
public import proofs.«01_k».proof.Proof.SelPart01
public import proofs.«01_k».proof.Proof.SelPart02
public import proofs.«01_k».proof.Proof.SelPart03
public import proofs.«01_k».proof.Proof.SelPart04
public import proofs.«01_k».proof.Proof.SelPart05
public import proofs.«01_k».proof.Proof.SelPart06
public import proofs.«01_k».proof.Proof.SelPart07
public import proofs.«01_k».proof.Proof.SelPart08
public import proofs.«01_k».proof.Proof.SelPart09
public import proofs.«01_k».proof.Proof.SelPart10

@[expose] public section

set_option maxRecDepth 65536
set_option maxHeartbeats 40000000

namespace Cert.Proof.Spec

open Cert.KernelIdeal

theorem at_digits (g : ℕ → BitVec 16) (n i : ℕ) (e : g i = arms (fun b => arms (pick (128 * n + b)) i) (i / 128)) (hk : i / 16384 = n) :
    g i = pick (i / 128) (i % 128) := by
  rw [e, arms_apply, arms_apply, show 128 * n + i / 128 % 128 = i / 128 by omega]

theorem at_digits_half (g : ℕ → BitVec 16) (n i : ℕ) (e : g i = armsHalf (fun b => arms (pick (128 * n + b)) i) (i / 128)) (hk : i / 16384 = n)
    (h : i / 128 % 128 < 64) : g i = pick (i / 128) (i % 128) := by
  rw [e, armsHalf_apply _ _ h, arms_apply, show 128 * n + i / 128 % 128 = i / 128 by omega]

theorem lit_pick (i : ℕ) (hi : i < 172032) : lit0t i = pick (i / 128) (i % 128) := by
  have h : i / 16384 < 11 := by omega
  unfold lit0t
  generalize hk : i / 16384 = k at h ⊢
  interval_cases k
  · exact at_digits lit0t1_0 0 i (lit_0 i) hk
  · exact at_digits lit0t1_1 1 i (lit_1 i) hk
  · exact at_digits lit0t1_2 2 i (lit_2 i) hk
  · exact at_digits lit0t1_3 3 i (lit_3 i) hk
  · exact at_digits lit0t1_4 4 i (lit_4 i) hk
  · exact at_digits lit0t1_5 5 i (lit_5 i) hk
  · exact at_digits lit0t1_6 6 i (lit_6 i) hk
  · exact at_digits lit0t1_7 7 i (lit_7 i) hk
  · exact at_digits lit0t1_8 8 i (lit_8 i) hk
  · exact at_digits lit0t1_9 9 i (lit_9 i) hk
  · exact at_digits_half lit0t1_10 10 i (lit_10 i) hk (by omega)

theorem lit_eq (r x : ℕ) (hr : r < 168) (hx : x < 1024) : LitAt r x := by
  unfold LitAt
  rw [lit_pick _ (by omega), pick_eq r x hx]

end Cert.Proof.Spec
end
-- ==== Proof.HostVals.lean ====
/-
  What the lines before the region leave: the planes of the image codes, the weights, the small arrays chanLanes over lanes,
  and the table that places the taps.
-/
module

public import proofs.«01_k».proof.Proof.Blocks
public import proofs.«01_k».proof.Proof.Bytes
public import proofs.«01_k».proof.Proof.SelTable
public import Idealize.ShloMosaic.Lib.KernelVsHost
public import Idealize.ShloMosaic.Lib.Pointwise.Reshape
public import Idealize.ShloMosaic.Lib.StableHlo.Run
public import Idealize.ShloMosaic.Lib.IdealHost

@[expose] public section

set_option maxRecDepth 65536
set_option maxHeartbeats 400000

noncomputable section

namespace Cert.Proof.KernelIdeal

open Cert.KernelIdeal Cert.KernelIdeal.Gen Cert.KernelIdeal.Facts Cert.Proof.Spec
open Idealize.ShloMosaic hiding ix1 ix2 ix3 ix4 ix5
open Idealize.ShloMosaic.TcCoe Idealize.ShloMosaic.Tactic Idealize.ShloMosaic.ValueIdx
open Idealize.SL Idealize.SL.Sem

/-- The image codes by channel, block of eight rows, block of 128 columns, row, column. -/
def planes (x : S10x720x1280x3.Idx → BitVec 8) : S10x3x7200x128.Idx → BitVec 8 :=
  shapeCast S10x3x7200x128 (transpose (s := S10x3x90x8x10x128) S10x3x90x10x8x128 [0, 1, 2, 4, 3, 5]
    (shapeCast S10x3x90x8x10x128 (transpose (s := S10x720x1280x3) S10x3x720x1280 [0, 3, 1, 2] x transposes_S10x720x1280x3_S10x3x720x1280_0_3_1_2)
      shapeCasts_S10x3x720x1280_S10x3x90x8x10x128) transposes_S10x3x90x8x10x128_S10x3x90x10x8x128_0_1_2_4_3_5) shapeCasts_S10x3x90x10x8x128_S10x3x7200x128

/-- An index of the array split by rows. -/
def atRows (b : Fin 10) (c : Fin 3) (i : Fin 90) (r : Fin 8) (q : Fin 10) (l : Fin 128) : S10x3x90x8x10x128.Idx :=
  fun a => match a with
    | ⟨0, _⟩ => b
    | ⟨1, _⟩ => c
    | ⟨2, _⟩ => i
    | ⟨3, _⟩ => r
    | ⟨4, _⟩ => q
    | ⟨5, _⟩ => l

/-- An index of the array split by column blocks. -/
def atBlocks (b : Fin 10) (c : Fin 3) (i : Fin 90) (q : Fin 10) (r : Fin 8) (l : Fin 128) : S10x3x90x10x8x128.Idx :=
  fun a => match a with
    | ⟨0, _⟩ => b
    | ⟨1, _⟩ => c
    | ⟨2, _⟩ => i
    | ⟨3, _⟩ => q
    | ⟨4, _⟩ => r
    | ⟨5, _⟩ => l

theorem planes_apply (x : S10x720x1280x3.Idx → BitVec 8) (b : Fin 10) (c : Fin 3) (k : Fin 7200) (l : Fin 128)
    (h1 : k.val / 80 * 8 + k.val % 8 < 720) (h2 : k.val % 80 / 8 * 128 + l.val < 1280) :
    planes x (ix4 b c k l) = x (ix4 b ⟨k.val / 80 * 8 + k.val % 8, h1⟩ ⟨k.val % 80 / 8 * 128 + l.val, h2⟩ c) := by
  have hk := k.isLt
  have hl := l.isLt
  unfold planes
  refine (shapeCast_apply _ _ _ (atBlocks b c ⟨k.val / 80, by omega⟩ ⟨k.val % 80 / 8, by omega⟩ ⟨k.val % 8, by omega⟩ l) ?_).trans ?_
  · rw [rowMajor_val6 _ 2764800 921600 10240 1024 128 rfl rfl rfl rfl rfl, rowMajor_val4 _ 2764800 921600 128 rfl rfl rfl]
    show b.val * 2764800 + c.val * 921600 + k.val / 80 * 10240 + k.val % 80 / 8 * 1024 + k.val % 8 * 128 + l.val
      = b.val * 2764800 + c.val * 921600 + k.val * 128 + l.val
    omega
  refine (transpose_apply _ _ _ _ (atRows b c ⟨k.val / 80, by omega⟩ ⟨k.val % 8, by omega⟩ ⟨k.val % 80 / 8, by omega⟩ l) fun a => ?_).trans ?_
  · match a with
    | ⟨0, _⟩ => rfl
    | ⟨1, _⟩ => rfl
    | ⟨2, _⟩ => rfl
    | ⟨3, _⟩ => rfl
    | ⟨4, _⟩ => rfl
    | ⟨5, _⟩ => rfl
  refine (shapeCast_apply _ _ _ (ix4 b c ⟨k.val / 80 * 8 + k.val % 8, h1⟩ ⟨k.val % 80 / 8 * 128 + l.val, h2⟩) ?_).trans ?_
  · rw [rowMajor_val6 _ 2764800 921600 10240 1280 128 rfl rfl rfl rfl rfl, rowMajor_val4 _ 2764800 921600 1280 rfl rfl rfl]
    show b.val * 2764800 + c.val * 921600 + (k.val / 80 * 8 + k.val % 8) * 1280 + (k.val % 80 / 8 * 128 + l.val)
      = b.val * 2764800 + c.val * 921600 + k.val / 80 * 10240 + k.val % 8 * 1280 + k.val % 80 / 8 * 128 + l.val
    omega
  refine transpose_apply _ _ _ _ _ fun a => ?_
  match a with
  | ⟨0, _⟩ => rfl
  | ⟨1, _⟩ => rfl
  | ⟨2, _⟩ => rfl
  | ⟨3, _⟩ => rfl

/-- A channel's number along the lanes. -/
def chanLanes (s : S96.Idx → EReal) : S96x128.Idx → EReal :=
  broadcastInDim S96x128 ![0, 1] bcast_S96x1_S96x128_0_1 (broadcastInDim S96x1 ![0] bcast_S96_S96x1_0 s)

theorem chanLanes_apply (s : S96.Idx → EReal) (ch : Fin 96) (l : Fin 128) : chanLanes s (ix2 ch l) = s (ix1 ch) := by
  unfold chanLanes
  refine (broadcastInDim_apply _ _ _ (ix2 ch l) (ix2 ch 0) fun a => ?_).trans ?_
  · match a with
    | ⟨0, _⟩ => rfl
    | ⟨1, _⟩ => rfl
  · refine broadcastInDim_apply _ _ _ _ _ fun a => ?_
    match a with
    | ⟨0, _⟩ => rfl

/-- The weights, a column of the window next to the channels. -/
def tapArr (w : S7x7x3x96.Idx → BitVec 8) : S7x3x7x96.Idx → EReal :=
  bitcastToFloat (F := Ideal) .fp8e4m3 (transpose (s := S7x7x3x96) S7x3x7x96 [0, 2, 1, 3] w transposes_S7x7x3x96_S7x3x7x96_0_2_1_3)

theorem tapArr_apply (w : S7x7x3x96.Idx → BitVec 8) (kh : Fin 7) (c : Fin 3) (kw : Fin 7) (ch : Fin 96) :
    tapArr w (ix4 kh c kw ch) = dec (w (ix4 kh kw c ch)) := by
  unfold tapArr
  refine congrArg dec (transpose_apply [0, 2, 1, 3] w transposes_S7x7x3x96_S7x3x7x96_0_2_1_3 _ _ fun a => ?_)
  match a with
  | ⟨0, _⟩ => rfl
  | ⟨1, _⟩ => rfl
  | ⟨2, _⟩ => rfl
  | ⟨3, _⟩ => rfl

/-- The table of the tap places. -/
def table : S168x1024.Idx → EReal := fun i => Ideal.ofBits .bf16 (lit0 (S168x1024.rowMajor i))

theorem table_apply (r : Fin 168) (x : Fin 1024) (h : r.val % 8 < 7) :
    table (ix2 r x) = if x.val % 256 = spot (r.val / 24) (r.val % 8) (r.val / 8 % 3) (x.val / 256) then 1 else 0 := by
  have e : lit0 (S168x1024.rowMajor (ix2 r x)) = lit0t (r.val * 1024 + x.val) := by
    show lit0t (S168x1024.rowMajor (ix2 r x)).val = _
    rw [rowMajor_val2 _ 1024 rfl]
  have hl := lit_eq r.val x.val r.isLt x.isLt
  unfold table
  rw [e]
  unfold LitAt chosen at hl
  rw [hl]
  have hp : place (r.val / 24) (r.val % 8) (r.val / 8 % 3) (x.val / 256) = spot (r.val / 24) (r.val % 8) (r.val / 8 % 3) (x.val / 256) := rfl
  rw [hp]
  have hb : Nat.blt (r.val % 8) 7 = true := by rw [Nat.blt_eq]; exact h
  rw [hb, Bool.true_and]
  by_cases hq : x.val % 256 = spot (r.val / 24) (r.val % 8) (r.val / 8 % 3) (x.val / 256)
  · rw [if_pos hq, show Nat.beq (x.val % 256) (spot (r.val / 24) (r.val % 8) (r.val / 8 % 3) (x.val / 256)) = true by rw [Nat.beq_eq]; exact hq]
    exact Ideal.ofBits_one_bf16
  · rw [if_neg hq, show Nat.beq (x.val % 256) (spot (r.val / 24) (r.val % 8) (r.val / 8 % 3) (x.val / 256)) = false by
      rw [← Bool.not_eq_true, Nat.beq_eq]; exact hq]
    exact Ideal.ofBits_zero_bf16

variable (m : (ℓ : Loc nD τ sig) → Buf (Elt Ideal) ℓ) (c : Dev nD)

theorem V_planes : V m c main_v3 = planes (m ((c : Thread nD τ).loc main_arg0)) := by
  unfold V
  simp only [hostOps0]
  after_results
  rfl

theorem V_tapArr : V m c main_v5 = tapArr (m ((c : Thread nD τ).loc main_arg2)) := by
  unfold V
  simp only [hostOps0]
  after_results
  rfl

theorem V_table : V m c main_cst = table := by
  unfold V
  simp only [hostOps0]
  after_results
  rfl

theorem V_spread3 : V m c main_v7 = chanLanes (m ((c : Thread nD τ).loc main_arg3)) := by
  unfold V
  simp only [hostOps0]
  after_results
  rfl

theorem V_spread4 : V m c main_v9 = chanLanes (m ((c : Thread nD τ).loc main_arg4)) := by
  unfold V
  simp only [hostOps0]
  after_results
  rfl

theorem V_spread5 : V m c main_v11 = chanLanes (m ((c : Thread nD τ).loc main_arg5)) := by
  unfold V
  simp only [hostOps0]
  after_results
  rfl

end Cert.Proof.KernelIdeal

end
-- ==== Proof.RefValue.lean ====
/-
  The reference read at an index: the largest over a window of the convolution, scaled, shifted and clamped.
-/
module

public import proofs.«01_k».proof.Proof.Gen.ReferenceIdeal.Frame
public import proofs.«01_k».proof.Proof.Spec
public import Idealize.ShloMosaic.Lib.ValueIdx
public import Idealize.ShloMosaic.Lib.MatmulPlain
public import Idealize.ShloMosaic.Lib.KernelVsHost
public import Idealize.ShloMosaic.Lib.Pointwise.Reshape
public import Idealize.ShloMosaic.Lib.Pipeline.Value
public import Idealize.ShloMosaic.Lib.Pipeline.ValueKit.Geometry
public import Idealize.ShloMosaic.Lib.Pipeline.ValueKit.Acc
public import Idealize.ShloMosaic.Lib.StableHlo.Run

@[expose] public section

set_option maxRecDepth 65536
set_option maxHeartbeats 400000

noncomputable section

namespace Cert.Proof.ReferenceIdeal

open Cert.ReferenceIdeal Cert.ReferenceIdeal.Gen
open Cert.ReferenceIdeal.Facts
open Cert.Proof.Spec
open Idealize.ShloMosaic hiding ix1 ix2 ix3 ix4 ix5
open Idealize.ShloMosaic.TcCoe Idealize.ShloMosaic.Tactic Idealize.ShloMosaic.ValueIdx
open scoped BigOperators

/-- An image, of natural numbers. -/
def xOf (x : S10x720x1280x3.Idx → EReal) (b r C c : ℕ) : EReal :=
  x (ix4 ⟨b % 10, Nat.mod_lt _ (by decide)⟩ ⟨r % 720, Nat.mod_lt _ (by decide)⟩ ⟨C % 1280, Nat.mod_lt _ (by decide)⟩ ⟨c % 3, Nat.mod_lt _ (by decide)⟩)
/-- The weights, of natural numbers. -/
def wOf (w : S7x7x3x96.Idx → EReal) (kh kw c ch : ℕ) : EReal :=
  w (ix4 ⟨kh % 7, Nat.mod_lt _ (by decide)⟩ ⟨kw % 7, Nat.mod_lt _ (by decide)⟩ ⟨c % 3, Nat.mod_lt _ (by decide)⟩ ⟨ch % 96, Nat.mod_lt _ (by decide)⟩)
/-- A scale an image. -/
def xsOf (s : S10.Idx → EReal) (b : ℕ) : EReal := s (ix1 ⟨b % 10, Nat.mod_lt _ (by decide)⟩)
/-- A scale a channel. -/
def chOf (s : S96.Idx → EReal) (ch : ℕ) : EReal := s (ix1 ⟨ch % 96, Nat.mod_lt _ (by decide)⟩)

section
variable (x : S10x720x1280x3.Idx → EReal) (w : S7x7x3x96.Idx → EReal) (xs : S10.Idx → EReal) (ws bs bb : S96.Idx → EReal)

def padded : S10x726x1286x3.Idx → EReal :=
  pad S10x726x1286x3 ![0, 3, 3, 0] ![0, 3, 3, 0] ![0, 0, 0, 0] x (sitofp (F := Ideal) .bf16 (constantI S_ 32 0#32)) pads_S10x720x1280x3_S10x726x1286x3_000_330_330_000 h_S_

theorem padded_apply (b : Fin 10) (ρ : Fin 726) (C : Fin 1286) (c : Fin 3) : padded x (ix4 b ρ C c) = PADX (xOf x) b.val ρ.val C.val c.val := by
  unfold PADX
  by_cases h : 3 ≤ ρ.val ∧ ρ.val < 723 ∧ 3 ≤ C.val ∧ C.val < 1283
  · rw [if_pos h]
    unfold padded xOf
    refine pad_apply_of_inside _ _ _ _ _ _ _ _ _ fun a => ?_
    match a with
    | ⟨0, _⟩ => show b.val = 0 + b.val % 10 * (0 + 1); omega
    | ⟨1, _⟩ => show ρ.val = 3 + (ρ.val - 3) % 720 * (0 + 1); omega
    | ⟨2, _⟩ => show C.val = 3 + (C.val - 3) % 1280 * (0 + 1); omega
    | ⟨3, _⟩ => show c.val = 0 + c.val % 3 * (0 + 1); omega
  · rw [if_neg h]
    unfold padded
    have hz : (sitofp (F := Ideal) .bf16 (constantI S_ 32 0#32)) (Shape.Idx.first h_S_) = (0 : EReal) := by
      show (((0#32 : BitVec 32).toInt : ℝ) : EReal) = 0
      simp
    by_cases h1 : 3 ≤ ρ.val ∧ ρ.val < 723
    · refine (pad_apply_of_not_inside _ _ _ _ _ _ _ _ (2 : Fin 4) ?_).trans hz
      show ¬(3 ≤ C.val ∧ (C.val - 3) % (0 + 1) = 0 ∧ (C.val - 3) / (0 + 1) < 1280)
      omega
    · refine (pad_apply_of_not_inside _ _ _ _ _ _ _ _ (1 : Fin 4) ?_).trans hz
      show ¬(3 ≤ ρ.val ∧ (ρ.val - 3) % (0 + 1) = 0 ∧ (ρ.val - 3) / (0 + 1) < 720)
      omega

theorem col_ok (kw : Fin 7) : S10x726x1286x3.SlicesBy ![0, 0, kw.val, 0] ![1, 1, 2, 1] S10x726x640x3 := by
  match kw with
  | 0 => exact slicesBy_S10x726x1286x3_S10x726x640x3_0s1_0s1_0s2_0s1
  | 1 => exact slicesBy_S10x726x1286x3_S10x726x640x3_0s1_0s1_1s2_0s1
  | 2 => exact slicesBy_S10x726x1286x3_S10x726x640x3_0s1_0s1_2s2_0s1
  | 3 => exact slicesBy_S10x726x1286x3_S10x726x640x3_0s1_0s1_3s2_0s1
  | 4 => exact slicesBy_S10x726x1286x3_S10x726x640x3_0s1_0s1_4s2_0s1
  | 5 => exact slicesBy_S10x726x1286x3_S10x726x640x3_0s1_0s1_5s2_0s1
  | 6 => exact slicesBy_S10x726x1286x3_S10x726x640x3_0s1_0s1_6s2_0s1

theorem row_ok (kh : Fin 7) : S10x726x640x21.SlicesBy ![0, kh.val, 0, 0] ![1, 2, 1, 1] S10x360x640x21 := by
  match kh with
  | 0 => exact slicesBy_S10x726x640x21_S10x360x640x21_0s1_0s2_0s1_0s1
  | 1 => exact slicesBy_S10x726x640x21_S10x360x640x21_0s1_1s2_0s1_0s1
  | 2 => exact slicesBy_S10x726x640x21_S10x360x640x21_0s1_2s2_0s1_0s1
  | 3 => exact slicesBy_S10x726x640x21_S10x360x640x21_0s1_3s2_0s1_0s1
  | 4 => exact slicesBy_S10x726x640x21_S10x360x640x21_0s1_4s2_0s1_0s1
  | 5 => exact slicesBy_S10x726x640x21_S10x360x640x21_0s1_5s2_0s1_0s1
  | 6 => exact slicesBy_S10x726x640x21_S10x360x640x21_0s1_6s2_0s1_0s1

def colParts (u : S10x726x1286x3.Idx → EReal) : List ((s : Shape) × (s.Idx → EReal)) :=
  ([0, 1, 2, 3, 4, 5, 6] : List (Fin 7)).map fun kw => ⟨S10x726x640x3, Host.slice S10x726x640x3 ![0, 0, kw.val, 0] ![1, 1, 2, 1] u (col_ok kw)⟩

def rowParts (u : S10x726x640x21.Idx → EReal) : List ((s : Shape) × (s.Idx → EReal)) :=
  ([0, 1, 2, 3, 4, 5, 6] : List (Fin 7)).map fun kh => ⟨S10x360x640x21, Host.slice S10x360x640x21 ![0, kh.val, 0, 0] ![1, 2, 1, 1] u (row_ok kh)⟩

def cols : S10x726x640x21.Idx → EReal := concatenate S10x726x640x21 3 (colParts (padded x))
  concatenates_S10x726x640x3_S10x726x640x3_S10x726x640x3_S10x726x640x3_S10x726x640x3_S10x726x640x3_S10x726x640x3_S10x726x640x21_d3

def patches : S10x360x640x147.Idx → EReal := concatenate S10x360x640x147 3 (rowParts (cols x))
  concatenates_S10x360x640x21_S10x360x640x21_S10x360x640x21_S10x360x640x21_S10x360x640x21_S10x360x640x21_S10x360x640x21_S10x360x640x147_d3

theorem colParts_get (u : S10x726x1286x3.Idx → EReal) (kw : Fin 7) (hk : kw.val < (colParts u).length) :
    (colParts u)[kw.val] = ⟨S10x726x640x3, Host.slice S10x726x640x3 ![0, 0, kw.val, 0] ![1, 1, 2, 1] u (col_ok kw)⟩ := by
  fin_cases kw <;> rfl

theorem rowParts_get (u : S10x726x640x21.Idx → EReal) (kh : Fin 7) (hk : kh.val < (rowParts u).length) :
    (rowParts u)[kh.val] = ⟨S10x360x640x21, Host.slice S10x360x640x21 ![0, kh.val, 0, 0] ![1, 2, 1, 1] u (row_ok kh)⟩ := by
  fin_cases kh <;> rfl

theorem colParts_pre (u : S10x726x1286x3.Idx → EReal) (kw : Fin 7) :
    ((((colParts u).take kw.val).map (·.1)).map fun s => if h : s.rank = S10x726x640x21.rank then s.size ((3 : Fin S10x726x640x21.rank).cast h.symm) else 0).sum = 3 * kw.val := by
  have e : (colParts u).map (·.1) = List.replicate 7 S10x726x640x3 := rfl
  rw [List.map_take, e, List.take_replicate, List.map_replicate, List.sum_replicate]
  show min kw.val 7 * 3 = 3 * kw.val
  omega

theorem rowParts_pre (u : S10x726x640x21.Idx → EReal) (kh : Fin 7) :
    ((((rowParts u).take kh.val).map (·.1)).map fun s => if h : s.rank = S10x360x640x147.rank then s.size ((3 : Fin S10x360x640x147.rank).cast h.symm) else 0).sum = 21 * kh.val := by
  have e : (rowParts u).map (·.1) = List.replicate 7 S10x360x640x21 := rfl
  rw [List.map_take, e, List.take_replicate, List.map_replicate, List.sum_replicate]
  show min kh.val 7 * 21 = 21 * kh.val
  omega

theorem cols_apply (b : Fin 10) (ρ : Fin 726) (J : Fin 640) (n : Fin 21) :
    cols x (ix4 b ρ J n) = PADX (xOf x) b.val ρ.val (2 * J.val + n.val / 3) (n.val % 3) := by
  have hl : (colParts (padded x)).length = 7 := rfl
  unfold cols
  refine (concatenate_apply_piece (t := S10x726x640x21) 3 (colParts (padded x)) _ _ (n.val / 3) (by rw [hl]; omega) S10x726x640x3 _
    (colParts_get (padded x) ⟨n.val / 3, by omega⟩ _) rfl (3 * (n.val / 3)) (colParts_pre (padded x) ⟨n.val / 3, by omega⟩) (ix4 b ρ J ⟨n.val % 3, by omega⟩) (fun a ha => ?_) ?_).trans ?_
  · match a with
    | ⟨0, _⟩ => rfl
    | ⟨1, _⟩ => rfl
    | ⟨2, _⟩ => rfl
    | ⟨3, _⟩ => exact absurd rfl ha
  · show 3 * (n.val / 3) + n.val % 3 = n.val
    omega
  · refine Eq.trans ?_ (padded_apply x b ρ ⟨2 * J.val + n.val / 3, by omega⟩ ⟨n.val % 3, by omega⟩)
    refine congrArg (padded x) (funext fun a => Fin.ext ?_)
    match a with
    | ⟨0, _⟩ => show 0 + 1 * b.val = b.val; omega
    | ⟨1, _⟩ => show 0 + 1 * ρ.val = ρ.val; omega
    | ⟨2, _⟩ => show n.val / 3 + 2 * J.val = 2 * J.val + n.val / 3; omega
    | ⟨3, _⟩ => show 0 + 1 * (n.val % 3) = n.val % 3; omega

theorem patches_apply (b : Fin 10) (I : Fin 360) (J : Fin 640) (n : Fin 147) :
    patches x (ix4 b I J n) = PADX (xOf x) b.val (2 * I.val + n.val / 21) (2 * J.val + n.val / 3 % 7) (n.val % 3) := by
  have hl : (rowParts (cols x)).length = 7 := rfl
  unfold patches
  refine (concatenate_apply_piece (t := S10x360x640x147) 3 (rowParts (cols x)) _ _ (n.val / 21) (by rw [hl]; omega) S10x360x640x21 _
    (rowParts_get (cols x) ⟨n.val / 21, by omega⟩ _) rfl (21 * (n.val / 21)) (rowParts_pre (cols x) ⟨n.val / 21, by omega⟩) (ix4 b I J ⟨n.val % 21, by omega⟩) (fun a ha => ?_) ?_).trans ?_
  · match a with
    | ⟨0, _⟩ => rfl
    | ⟨1, _⟩ => rfl
    | ⟨2, _⟩ => rfl
    | ⟨3, _⟩ => exact absurd rfl ha
  · show 21 * (n.val / 21) + n.val % 21 = n.val
    omega
  · have h1 : n.val / 3 % 7 = n.val % 21 / 3 := by omega
    have h2 : n.val % 3 = n.val % 21 % 3 := by omega
    rw [h1, h2]
    refine Eq.trans ?_ (cols_apply x b ⟨2 * I.val + n.val / 21, by omega⟩ J ⟨n.val % 21, by omega⟩)
    refine congrArg (cols x) (funext fun a => Fin.ext ?_)
    match a with
    | ⟨0, _⟩ => show 0 + 1 * b.val = b.val; omega
    | ⟨1, _⟩ => show n.val / 21 + 2 * I.val = 2 * I.val + n.val / 21; omega
    | ⟨2, _⟩ => show 0 + 1 * J.val = J.val; omega
    | ⟨3, _⟩ => show 0 + 1 * (n.val % 21) = n.val % 21; omega

def conv : S10x360x640x96.Idx → EReal :=
  @Host.dotGeneral Ideal _ _ _ _ .bf16 .bf16 dot_S10x360x640x147_S147x96_S10x360x640x96_3_0_012_1_n_n none (patches x)
    (shapeCast S147x96 w shapeCasts_S7x7x3x96_S147x96)

theorem flat_apply (n : Fin 147) (ch : Fin 96) : shapeCast S147x96 w shapeCasts_S7x7x3x96_S147x96 (ix2 n ch) = wOf w (n.val / 21) (n.val / 3 % 7) (n.val % 3) ch.val := by
  unfold wOf
  refine shapeCast_apply _ _ _ _ ?_
  rw [rowMajor_val4 _ 2016 288 96 rfl rfl rfl, rowMajor_val2 _ 96 rfl]
  show n.val / 21 % 7 * 2016 + n.val / 3 % 7 % 7 * 288 + n.val % 3 % 3 * 96 + ch.val % 96 = n.val * 96 + ch.val
  have h1 : n.val / 3 = n.val / 21 * 7 + n.val / 3 % 7 := by omega
  have h2 : n.val = n.val / 3 * 3 + n.val % 3 := by omega
  have h3 : n.val / 21 % 7 = n.val / 21 := by omega
  have h4 : ch.val % 96 = ch.val := by omega
  rw [h3, h4, Nat.mod_mod, Nat.mod_mod]
  omega

theorem conv_apply (b : Fin 10) (I : Fin 360) (J : Fin 640) (ch : Fin 96) :
    conv x w (ix4 b I J ch) = CONV (xOf x) (wOf w) b.val I.val J.val ch.val := by
  unfold conv CONV
  simp only [Host.dotGeneral]
  refine (Ideal.dotGeneral_apply dot_S10x360x640x147_S147x96_S10x360x640x96_3_0_012_1_n_n none HostSchedule.single (patches x) (shapeCast S147x96 w shapeCasts_S7x7x3x96_S147x96) (ix4 b I J ch)).trans ?_
  rw [← Equiv.sum_comp (contrEquiv1 dot_S10x360x640x147_S147x96_S10x360x640x96_3_0_012_1_n_n 147 rfl rfl).symm]
  refine Finset.sum_congr rfl fun k _ => ?_
  have hk := contrEquiv1_symm_val dot_S10x360x640x147_S147x96_S10x360x640x96_3_0_012_1_n_n 147 rfl rfl k
  have el : dot_S10x360x640x147_S147x96_S10x360x640x96_3_0_012_1_n_n.lhsIdx (ix4 b I J ch) ((contrEquiv1 dot_S10x360x640x147_S147x96_S10x360x640x96_3_0_012_1_n_n 147 rfl rfl).symm k) = ix4 b I J k := by
    funext a; apply Fin.ext
    match a with
    | ⟨0, _⟩ => rfl
    | ⟨1, _⟩ => rfl
    | ⟨2, _⟩ => rfl
    | ⟨3, _⟩ => exact hk
  have er : dot_S10x360x640x147_S147x96_S10x360x640x96_3_0_012_1_n_n.rhsIdx (ix4 b I J ch) ((contrEquiv1 dot_S10x360x640x147_S147x96_S10x360x640x96_3_0_012_1_n_n 147 rfl rfl).symm k) = ix2 k ch := by
    funext a; apply Fin.ext
    match a with
    | ⟨0, _⟩ => exact hk
    | ⟨1, _⟩ => rfl
  rw [el, er, patches_apply, flat_apply]

def perImage : S10x360x640x96.Idx → EReal :=
  broadcastInDim S10x360x640x96 ![0, 1, 2, 3] bcast_S10x1x1x1_S10x360x640x96_0_1_2_3 (broadcastInDim S10x1x1x1 ![0] bcast_S10_S10x1x1x1_0 xs)
def perChannel (s : S96.Idx → EReal) : S10x360x640x96.Idx → EReal :=
  broadcastInDim S10x360x640x96 ![0, 1, 2, 3] bcast_S1x1x1x96_S10x360x640x96_0_1_2_3 (broadcastInDim S1x1x1x96 ![3] bcast_S96_S1x1x1x96_3 s)

theorem perImage_apply (b : Fin 10) (I : Fin 360) (J : Fin 640) (ch : Fin 96) : perImage xs (ix4 b I J ch) = xsOf xs b.val := by
  unfold perImage xsOf
  refine (broadcastInDim_apply _ _ _ (ix4 b I J ch) (ix4 b 0 0 0) fun a => ?_).trans ?_
  · match a with
    | ⟨0, _⟩ => rfl
    | ⟨1, _⟩ => rfl
    | ⟨2, _⟩ => rfl
    | ⟨3, _⟩ => rfl
  · refine broadcastInDim_apply _ _ _ _ _ fun a => ?_
    match a with
    | ⟨0, _⟩ => show b.val % 10 = b.val; omega

theorem perChannel_apply (s : S96.Idx → EReal) (b : Fin 10) (I : Fin 360) (J : Fin 640) (ch : Fin 96) : perChannel s (ix4 b I J ch) = chOf s ch.val := by
  unfold perChannel chOf
  refine (broadcastInDim_apply _ _ _ (ix4 b I J ch) (ix4 0 0 0 ch) fun a => ?_).trans ?_
  · match a with
    | ⟨0, _⟩ => rfl
    | ⟨1, _⟩ => rfl
    | ⟨2, _⟩ => rfl
    | ⟨3, _⟩ => rfl
  · refine broadcastInDim_apply _ _ _ _ _ fun a => ?_
    match a with
    | ⟨0, _⟩ => show ch.val % 96 = ch.val; omega

def acted : S10x360x640x96.Idx → EReal :=
  maximumf (F := Ideal) (φ := .f32) (addf (F := Ideal) (φ := .f32) (mulf (F := Ideal) (φ := .f32) (mulf (F := Ideal) (φ := .f32) (mulf (F := Ideal) (φ := .f32) (conv x w) (perImage xs)) (perChannel ws)) (perChannel bs)) (perChannel bb))
    (broadcastInDim S10x360x640x96 ![] bcast_S_S10x360x640x96 (constant (F := Ideal) S_ .f32 0x00000000#32))

theorem acted_apply (b : Fin 10) (I : Fin 360) (J : Fin 640) (ch : Fin 96) :
    acted x w xs ws bs bb (ix4 b I J ch) = ACT (xOf x) (wOf w) (xsOf xs) (chOf ws) (chOf bs) (chOf bb) b.val I.val J.val ch.val := by
  unfold acted ACT
  rw [← conv_apply, ← perImage_apply xs b I J ch, ← perChannel_apply ws b I J ch, ← perChannel_apply bs b I J ch, ← perChannel_apply bb b I J ch]
  show max _ (Ideal.ofBits .f32 0x00000000#32) = _
  rw [Ideal.ofBits_zero_f32]
  rfl

def pooled : S10x180x320x96.Idx → EReal :=
  Host.reduceWindow (FloatOps.maximumf (F := Ideal) (φ := .f32)) ![1, 3, 3, 1] ![1, 2, 2, 1] ![0, 1, 1, 0] ![0, 1, 1, 0] (acted x w xs ws bs bb)
    (constant (F := Ideal) S_ .f32 0xFF800000#32) reduceWindows_S10x360x640x96_S10x180x320x96_w1s1p0_0_w3s2p1_1_w3s2p1_1_w1s1p0_0 h_S_

theorem foldl_max_le {α : Type} (l : List α) (g : α → EReal) (v z : EReal) : l.foldl (fun r n => max r (g n)) v ≤ z ↔ v ≤ z ∧ ∀ n ∈ l, g n ≤ z := by
  induction l generalizing v with
  | nil => simp
  | cons a l ih =>
    rw [List.foldl_cons, ih, max_le_iff]
    constructor
    · rintro ⟨⟨h1, h2⟩, h3⟩
      refine ⟨h1, fun n hn => ?_⟩
      rcases List.mem_cons.mp hn with rfl | hn
      · exact h2
      · exact h3 n hn
    · rintro ⟨h1, h2⟩
      exact ⟨⟨h1, h2 a List.mem_cons_self⟩, fun n hn => h2 n (List.mem_cons_of_mem _ hn)⟩

/-- What one place of a window adds. -/
def term {s : Shape} {window : Fin s.rank → ℕ} (strides lo : Fin s.rank → ℕ) (u : s.Idx → EReal) (v : EReal) (j : Fin s.rank → ℕ)
    (y : Shape.Idx ⟨s.rank, window⟩) : EReal :=
  if hin : ∀ a, lo a ≤ j a * strides a + (y a).val ∧ j a * strides a + (y a).val - lo a < s.size a
  then u (fun a => ⟨j a * strides a + (y a).val - lo a, (hin a).2⟩) else v

theorem reduceWindow_fold {s t u : Shape} (f : EReal → EReal → EReal) (window strides lo hi : Fin s.rank → ℕ) (x : s.Idx → EReal) (init : u.Idx → EReal)
    (h : s.ReduceWindows window strides lo hi t) (hu : 0 < u.numel) (j : t.Idx) :
    Host.reduceWindow f window strides lo hi x init h hu j
      = (List.finRange (Shape.numel ⟨s.rank, window⟩)).foldl (fun r n => f r (term strides lo x (init (Shape.Idx.first hu)) (fun a => (j (a.cast h.1.symm)).val)
        ((Shape.rowMajor ⟨s.rank, window⟩).symm n))) (init (Shape.Idx.first hu)) := by
  unfold Host.reduceWindow term
  refine congrArg (fun g => List.foldl g (init (Shape.Idx.first hu)) (List.finRange (Shape.numel ⟨s.rank, window⟩))) (funext fun r => funext fun n => congrArg (f r) ?_)
  exact dite_congr rfl (fun _ => rfl) (fun _ => rfl)

theorem reduceWindow_max_le {s t u : Shape} (window strides lo hi : Fin s.rank → ℕ) (x : s.Idx → EReal) (init : u.Idx → EReal)
    (h : s.ReduceWindows window strides lo hi t) (hu : 0 < u.numel) (j : t.Idx) (z : EReal) :
    Host.reduceWindow (FloatOps.maximumf (F := Ideal) (φ := .f32)) window strides lo hi x init h hu j ≤ z
      ↔ init (Shape.Idx.first hu) ≤ z ∧ ∀ y : Shape.Idx ⟨s.rank, window⟩, term strides lo x (init (Shape.Idx.first hu)) (fun a => (j (a.cast h.1.symm)).val) y ≤ z := by
  rw [show (FloatOps.maximumf (F := Ideal) (φ := .f32)) = (fun a b : EReal => max a b) from rfl]
  refine (iff_of_eq (congrArg (· ≤ z) (reduceWindow_fold (fun a b : EReal => max a b) window strides lo hi x init h hu j))).trans ?_
  rw [foldl_max_le]
  constructor
  · rintro ⟨h0, g⟩
    refine ⟨h0, fun y => ?_⟩
    have := g ((Shape.rowMajor ⟨s.rank, window⟩) y) (List.mem_finRange _)
    rwa [Equiv.symm_apply_apply] at this
  · rintro ⟨h0, g⟩
    exact ⟨h0, fun n _ => g _⟩

theorem lowest : Ideal.ofBits .f32 0xFF800000#32 = (⊥ : EReal) := by
  simp [Ideal.ofBits, Ideal.ieee]

theorem pooled_isPool (b : Fin 10) (I : Fin 180) (q : Fin 320) (ch : Fin 96) : IsPool (pooled x w xs ws bs bb (ix4 b I q ch))
    (fun R J => ACT (xOf x) (wOf w) (xsOf xs) (chOf ws) (chOf bs) (chOf bb) b.val R J ch.val) I.val q.val := by
  intro z
  unfold pooled
  refine (reduceWindow_max_le _ _ _ _ _ _ _ _ _ _).trans ?_
  rw [show (constant (F := Ideal) S_ .f32 0xFF800000#32) (Shape.Idx.first h_S_) = (⊥ : EReal) from lowest]
  constructor
  · rintro ⟨-, h⟩ a e h1 h2
    have hh := h (ix4 0 a e 0)
    unfold term at hh
    split_ifs at hh with hin
    swap
    · refine absurd (fun d => ?_) hin
      match d with
      | ⟨0, _⟩ => show 0 ≤ b.val * 1 + 0 ∧ b.val * 1 + 0 - 0 < 10; omega
      | ⟨1, _⟩ => show 1 ≤ I.val * 2 + a.val ∧ I.val * 2 + a.val - 1 < 360; omega
      | ⟨2, _⟩ => show 1 ≤ q.val * 2 + e.val ∧ q.val * 2 + e.val - 1 < 640; omega
      | ⟨3, _⟩ => show 0 ≤ ch.val * 1 + 0 ∧ ch.val * 1 + 0 - 0 < 96; omega
    refine le_trans (le_of_eq ?_) hh
    refine (acted_apply x w xs ws bs bb b ⟨2 * I.val + a.val - 1, by omega⟩ ⟨2 * q.val + e.val - 1, by omega⟩ ch).symm.trans ?_
    refine congrArg (acted x w xs ws bs bb) (funext fun d => Fin.ext ?_)
    match d with
    | ⟨0, _⟩ => show b.val = b.val * 1 + 0 - 0; omega
    | ⟨1, _⟩ => show 2 * I.val + a.val - 1 = I.val * 2 + a.val - 1; omega
    | ⟨2, _⟩ => show 2 * q.val + e.val - 1 = q.val * 2 + e.val - 1; omega
    | ⟨3, _⟩ => show ch.val = ch.val * 1 + 0 - 0; omega
  · intro h
    refine ⟨bot_le, fun y => ?_⟩
    unfold term
    split_ifs with hin
    · have y0 : (y 0).val < 1 := (y 0).isLt
      have y1 : (y 1).val < 3 := (y 1).isLt
      have y2 : (y 2).val < 3 := (y 2).isLt
      have y3 : (y 3).val < 1 := (y 3).isLt
      have i1 : 1 ≤ I.val * 2 + (y 1).val := (hin 1).1
      have i2 : 1 ≤ q.val * 2 + (y 2).val := (hin 2).1
      refine le_trans (le_of_eq ?_) (h ⟨(y 1).val, y1⟩ ⟨(y 2).val, y2⟩ (by show 1 ≤ 2 * I.val + (y 1).val; omega) (by show 1 ≤ 2 * q.val + (y 2).val; omega))
      refine Eq.trans ?_ (acted_apply x w xs ws bs bb b ⟨2 * I.val + (y 1).val - 1, by omega⟩ ⟨2 * q.val + (y 2).val - 1, by omega⟩ ch)
      refine congrArg (acted x w xs ws bs bb) (funext fun d => Fin.ext ?_)
      match d with
      | ⟨0, _⟩ => show b.val * 1 + (y 0).val - 0 = b.val; omega
      | ⟨1, _⟩ => show I.val * 2 + (y 1).val - 1 = 2 * I.val + (y 1).val - 1; omega
      | ⟨2, _⟩ => show q.val * 2 + (y 2).val - 1 = 2 * q.val + (y 2).val - 1; omega
      | ⟨3, _⟩ => show ch.val * 1 + (y 3).val - 0 = ch.val; omega
    · exact bot_le

/-- The reference's result. -/
def refOut : S10x180x96x320.Idx → EReal :=
  transpose (s := S10x180x320x96) S10x180x96x320 [0, 1, 3, 2] (truncf (F := Ideal) (φ := .f32) .bf16 (pooled x w xs ws bs bb) bitsLt_bf16_f32) transposes_S10x180x320x96_S10x180x96x320_0_1_3_2

theorem refOut_isPool (b : Fin 10) (I : Fin 180) (ch : Fin 96) (q : Fin 320) : IsPool (refOut x w xs ws bs bb (ix4 b I ch q))
    (fun R J => ACT (xOf x) (wOf w) (xsOf xs) (chOf ws) (chOf bs) (chOf bb) b.val R J ch.val) I.val q.val := by
  have e : refOut x w xs ws bs bb (ix4 b I ch q) = pooled x w xs ws bs bb (ix4 b I q ch) := by
    unfold refOut
    refine transpose_apply _ _ _ _ _ fun d => ?_
    match d with
    | ⟨0, _⟩ => rfl
    | ⟨1, _⟩ => rfl
    | ⟨2, _⟩ => rfl
    | ⟨3, _⟩ => rfl
  rw [e]
  exact pooled_isPool x w xs ws bs bb b I q ch

end

/-- The padding's two operations, with the buffers' types read off. -/
theorem padOps_eq : (hostOps1_1 : List (HloOp τ sig (Elt Ideal)))
    = [StableHlo.unary main_c main_call0_v0 ((sitofp (F := Ideal) .bf16) : (⟨S_, .i32⟩ : BufTy).Contents (Elt Ideal) → (⟨S_, .bf16⟩ : BufTy).Contents (Elt Ideal)),
      StableHlo.binary main_v0_0 main_call0_v0 main_v1 ((fun x v => pad S10x726x1286x3 ![0, 3, 3, 0] ![0, 3, 3, 0] ![0, 0, 0, 0] x v pads_S10x720x1280x3_S10x726x1286x3_000_330_330_000 h_S_)
        : (⟨S10x720x1280x3, .bf16⟩ : BufTy).Contents (Elt Ideal) → (⟨S_, .bf16⟩ : BufTy).Contents (Elt Ideal) → (⟨S10x726x1286x3, .bf16⟩ : BufTy).Contents (Elt Ideal))] := rfl

/-- The lines that gather the columns of the windows. -/
def opsA : List (HloOp τ sig (Elt Ideal)) := hostOps1_2.take 8
/-- The lines that gather the rows of the windows. -/
def opsB : List (HloOp τ sig (Elt Ideal)) := (hostOps1_2.drop 8).take 8
/-- The lines from the product on. -/
def opsC : List (HloOp τ sig (Elt Ideal)) := hostOps1_2.drop 16

theorem ops_split : ([hostOps1, hostOps1_1, hostOps1_2] : List (List (HloOp τ sig (Elt Ideal)))).flatten = (hostOps1 ++ hostOps1_1) ++ (opsA ++ (opsB ++ opsC)) := rfl

section
variable (W : Valuation τ sig (Elt Ideal))

theorem pad_value : StableHlo.after (hostOps1 ++ hostOps1_1) W (Proc.devRef .tc main_v1) = padded (W (Proc.devRef .tc main_v0_0)) := by
  rw [padOps_eq]
  simp only [hostOps1, List.cons_append, List.nil_append]
  after_results
  rfl

theorem pad_keeps (b : Ref sig .tc) (h1 : b ≠ main_c) (h2 : b ≠ main_call0_v0) (h3 : b ≠ main_v1) :
    StableHlo.after (hostOps1 ++ hostOps1_1) W (Proc.devRef .tc b) = W (Proc.devRef .tc b) := by
  rw [padOps_eq]
  simp only [hostOps1, List.cons_append, List.nil_append, StableHlo.after_cons, StableHlo.after_nil]
  rw [StableHlo.binary_result_ne, StableHlo.unary_result_ne, StableHlo.nullary_result_ne]
  all_goals assumption

theorem a_value : StableHlo.after opsA W (Proc.devRef .tc main_v9) = concatenate S10x726x640x21 3 (colParts (W (Proc.devRef .tc main_v1)))
    concatenates_S10x726x640x3_S10x726x640x3_S10x726x640x3_S10x726x640x3_S10x726x640x3_S10x726x640x3_S10x726x640x3_S10x726x640x21_d3 := by
  simp only [opsA, hostOps1_2, List.take_succ_cons, List.take_zero]
  after_results
  rfl

theorem b_value : StableHlo.after opsB W (Proc.devRef .tc main_v17) = concatenate S10x360x640x147 3 (rowParts (W (Proc.devRef .tc main_v9)))
    concatenates_S10x360x640x21_S10x360x640x21_S10x360x640x21_S10x360x640x21_S10x360x640x21_S10x360x640x21_S10x360x640x21_S10x360x640x147_d3 := by
  simp only [opsB, hostOps1_2, List.take_succ_cons, List.take_zero, List.drop_succ_cons, List.drop_zero]
  after_results
  rfl

theorem a_keeps : StableHlo.after opsA W (Proc.devRef .tc main_v0_1) = W (Proc.devRef .tc main_v0_1)
    ∧ StableHlo.after opsA W (Proc.devRef .tc main_arg1) = W (Proc.devRef .tc main_arg1) ∧ StableHlo.after opsA W (Proc.devRef .tc main_arg3) = W (Proc.devRef .tc main_arg3)
    ∧ StableHlo.after opsA W (Proc.devRef .tc main_arg4) = W (Proc.devRef .tc main_arg4) ∧ StableHlo.after opsA W (Proc.devRef .tc main_arg5) = W (Proc.devRef .tc main_arg5) := by
  simp only [opsA, hostOps1_2, List.take_succ_cons, List.take_zero]
  refine ⟨?_, ?_, ?_, ?_, ?_⟩ <;> after_results

theorem b_keeps : StableHlo.after opsB W (Proc.devRef .tc main_v0_1) = W (Proc.devRef .tc main_v0_1)
    ∧ StableHlo.after opsB W (Proc.devRef .tc main_arg1) = W (Proc.devRef .tc main_arg1) ∧ StableHlo.after opsB W (Proc.devRef .tc main_arg3) = W (Proc.devRef .tc main_arg3)
    ∧ StableHlo.after opsB W (Proc.devRef .tc main_arg4) = W (Proc.devRef .tc main_arg4) ∧ StableHlo.after opsB W (Proc.devRef .tc main_arg5) = W (Proc.devRef .tc main_arg5) := by
  simp only [opsB, hostOps1_2, List.take_succ_cons, List.take_zero, List.drop_succ_cons, List.drop_zero]
  refine ⟨?_, ?_, ?_, ?_, ?_⟩ <;> after_results

/-- The result from the patches, the weights and the four small arrays. -/
def fromPatches (p : S10x360x640x147.Idx → EReal) (w : S7x7x3x96.Idx → EReal) (xs : S10.Idx → EReal) (ws bs bb : S96.Idx → EReal) : S10x180x96x320.Idx → EReal :=
  transpose (s := S10x180x320x96) S10x180x96x320 [0, 1, 3, 2] (truncf (F := Ideal) (φ := .f32) .bf16
    (Host.reduceWindow (FloatOps.maximumf (F := Ideal) (φ := .f32)) ![1, 3, 3, 1] ![1, 2, 2, 1] ![0, 1, 1, 0] ![0, 1, 1, 0]
      (maximumf (F := Ideal) (φ := .f32) (addf (F := Ideal) (φ := .f32) (mulf (F := Ideal) (φ := .f32) (mulf (F := Ideal) (φ := .f32) (mulf (F := Ideal) (φ := .f32)
        (@Host.dotGeneral Ideal _ _ _ _ .bf16 .bf16 dot_S10x360x640x147_S147x96_S10x360x640x96_3_0_012_1_n_n none p (shapeCast S147x96 w shapeCasts_S7x7x3x96_S147x96))
        (perImage xs)) (perChannel ws)) (perChannel bs)) (perChannel bb)) (broadcastInDim S10x360x640x96 ![] bcast_S_S10x360x640x96 (constant (F := Ideal) S_ .f32 0x00000000#32)))
      (constant (F := Ideal) S_ .f32 0xFF800000#32) reduceWindows_S10x360x640x96_S10x180x320x96_w1s1p0_0_w3s2p1_1_w3s2p1_1_w1s1p0_0 h_S_) bitsLt_bf16_f32)
    transposes_S10x180x320x96_S10x180x96x320_0_1_3_2

theorem c_value : StableHlo.after opsC W (Proc.devRef .tc main_v36) = fromPatches (W (Proc.devRef .tc main_v17)) (W (Proc.devRef .tc main_v0_1))
    (W (Proc.devRef .tc main_arg1)) (W (Proc.devRef .tc main_arg3)) (W (Proc.devRef .tc main_arg4)) (W (Proc.devRef .tc main_arg5)) := by
  simp only [opsC, hostOps1_2, List.drop_succ_cons, List.drop_zero]
  after_results
  rfl

/-- The lines after the region compute `refOut`. -/
theorem tail_value : StableHlo.after ([hostOps1, hostOps1_1, hostOps1_2].flatten) W (Proc.devRef .tc main_v36)
      = refOut (W (Proc.devRef .tc main_v0_0)) (W (Proc.devRef .tc main_v0_1)) (W (Proc.devRef .tc main_arg1)) (W (Proc.devRef .tc main_arg3))
          (W (Proc.devRef .tc main_arg4)) (W (Proc.devRef .tc main_arg5)) := by
  rw [ops_split, StableHlo.after_append, StableHlo.after_append, StableHlo.after_append, c_value, b_value, a_value, pad_value]
  obtain ⟨b1, b2, b3, b4, b5⟩ := b_keeps (StableHlo.after opsA (StableHlo.after (hostOps1 ++ hostOps1_1) W))
  obtain ⟨a1, a2, a3, a4, a5⟩ := a_keeps (StableHlo.after (hostOps1 ++ hostOps1_1) W)
  rw [b1, b2, b3, b4, b5, a1, a2, a3, a4, a5, pad_keeps, pad_keeps, pad_keeps, pad_keeps, pad_keeps]
  · rfl
  all_goals decide

end

end Cert.Proof.ReferenceIdeal

end
-- ==== Proof.RefRun.lean ====
/-
  The reference's run: its result is `refOut` of the decoded codes, its arguments are kept.
-/
module

public import proofs.«01_k».proof.Proof.RefValue

@[expose] public section

set_option maxRecDepth 65536
set_option maxHeartbeats 400000

noncomputable section

namespace Cert.Proof.ReferenceIdeal

open Cert.ReferenceIdeal Cert.ReferenceIdeal.Gen
open Idealize.ShloMosaic hiding ix1 ix2 ix3 ix4 ix5
open Idealize.ShloMosaic.TcCoe Idealize.ShloMosaic.Tactic Idealize.ShloMosaic.ValueIdx
open Idealize.SL Idealize.SL.Sem
open Idealize.ShloMosaic.Pipeline (Dat Cfg Window)

/-- The numbers the image codes stand for. -/
def decX (x : S10x720x1280x3.Idx → BitVec 8) : S10x720x1280x3.Idx → EReal := fun y => Ideal.ofBits .fp8e4m3 (x y)
/-- The numbers the weight codes stand for. -/
def decW (w : S7x7x3x96.Idx → BitVec 8) : S7x7x3x96.Idx → EReal := fun y => Ideal.ofBits .fp8e4m3 (w y)

variable (m : (ℓ : Loc nD τ sig) → Buf (Elt Ideal) ℓ) (ρ : Dev nD → PrngReg)

theorem arr_2 (c : Dev nD) : (dats m 0 c).arrAt 2 cfg0.N = decX (m ((c : Thread nD τ).loc main_arg0)) := by
  refine (dats m 0 c).arrAt_eq_of_covers 2 _ (by decide +kernel) fun t hf y => ?_
  blk_simp
  rw [after0_2]
  frame_out
  show Ideal.ofBits .fp8e4m3 (m ((c : Thread nD τ).loc main_arg0) _) = Ideal.ofBits .fp8e4m3 (m ((c : Thread nD τ).loc main_arg0) _)
  refine congrArg (fun j => Ideal.ofBits .fp8e4m3 (m ((c : Thread nD τ).loc main_arg0) j)) ?_
  funext a
  apply Fin.ext
  match a with
  | ⟨0, _⟩ => rfl
  | ⟨1, _⟩ => rfl
  | ⟨2, _⟩ => rfl
  | ⟨3, _⟩ => rfl

theorem arr_3 (c : Dev nD) : (dats m 0 c).arrAt 3 cfg0.N = decW (m ((c : Thread nD τ).loc main_arg2)) := by
  refine (dats m 0 c).arrAt_eq_of_covers 3 _ (by decide +kernel) fun t hf y => ?_
  blk_simp
  rw [after0_3]
  frame_out
  show Ideal.ofBits .fp8e4m3 (m ((c : Thread nD τ).loc main_arg2) _) = Ideal.ofBits .fp8e4m3 (m ((c : Thread nD τ).loc main_arg2) _)
  refine congrArg (fun j => Ideal.ofBits .fp8e4m3 (m ((c : Thread nD τ).loc main_arg2) j)) ?_
  funext a
  apply Fin.ext
  match a with
  | ⟨0, _⟩ => rfl
  | ⟨1, _⟩ => rfl
  | ⟨2, _⟩ => rfl
  | ⟨3, _⟩ => rfl

/-- The result of the reference, from its arguments. -/
def refRes (c : Dev nD) : S10x180x96x320.Idx → EReal :=
  refOut (decX (m ((c : Thread nD τ).loc main_arg0))) (decW (m ((c : Thread nD τ).loc main_arg2))) (m ((c : Thread nD τ).loc main_arg1))
    (m ((c : Thread nD τ).loc main_arg3)) (m ((c : Thread nD τ).loc main_arg4)) (m ((c : Thread nD τ).loc main_arg5))

theorem tail_res (c : Dev nD) : Pipeline.afterTail₀ cfgs (dats m) 0 (V0 m) [hostOps1, hostOps1_1, hostOps1_2] c main_v36 = refRes m c := by
  unfold Pipeline.afterTail₀
  rw [tail_value]
  have e2 := (Pipeline.withArrays_arr spec0 (by decide) c (V0 m c) (fun w => (dats m 0 c).arrAt w cfg0.N) 2).trans (arr_2 m c)
  have e3 := (Pipeline.withArrays_arr spec0 (by decide) c (V0 m c) (fun w => (dats m 0 c).arrAt w cfg0.N) 3).trans (arr_3 m c)
  have n1 := Pipeline.withArrays_of_ne spec0 c (V0 m c) (fun w => (dats m 0 c).arrAt w cfg0.N) main_arg1 (by exact (by decide : ∀ w, Pipeline.arrRef spec0 w ≠ main_arg1))
  have n3 := Pipeline.withArrays_of_ne spec0 c (V0 m c) (fun w => (dats m 0 c).arrAt w cfg0.N) main_arg3 (by exact (by decide : ∀ w, Pipeline.arrRef spec0 w ≠ main_arg3))
  have n4 := Pipeline.withArrays_of_ne spec0 c (V0 m c) (fun w => (dats m 0 c).arrAt w cfg0.N) main_arg4 (by exact (by decide : ∀ w, Pipeline.arrRef spec0 w ≠ main_arg4))
  have n5 := Pipeline.withArrays_of_ne spec0 c (V0 m c) (fun w => (dats m 0 c).arrAt w cfg0.N) main_arg5 (by exact (by decide : ∀ w, Pipeline.arrRef spec0 w ≠ main_arg5))
  unfold refRes
  exact congr (congr (congr (congr (congr (congrArg refOut e2) e3) (n1.trans (V_main_arg1 m c))) (n3.trans (V_main_arg3 m c))) (n4.trans (V_main_arg4 m c))) (n5.trans (V_main_arg5 m c))

theorem run_value : θ_run defs (onTc (τ := τ) (main (F := Ideal))) ⟨m, fun _ => 0, ρ⟩ (fun r => ∀ c : Dev nD,
      r.2.mem ((c.tc : Thread nD τ).loc main_v36) = refRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v36 (Pipeline.mem_restRefs_of main_v36 (by decide) (by decide))).trans (tail_res m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩) (run_main m ρ)

end Cert.Proof.ReferenceIdeal

end
-- ==== Proof.Algebra.lean ====
/-
  The kernel's array is the reference's: both hold the largest over the window of the scaled, shifted and clamped convolution.
-/
module

public import proofs.«01_k».proof.Proof.Track
public import proofs.«01_k».proof.Proof.Tie
public import proofs.«01_k».proof.Proof.HostVals
public import proofs.«01_k».proof.Proof.RefRun

@[expose] public section

set_option maxRecDepth 65536
set_option maxHeartbeats 400000

noncomputable section

namespace Cert.Proof.KernelIdeal

open Cert.KernelIdeal Cert.KernelIdeal.Gen Cert.Proof.Spec
open Cert.Proof.ReferenceIdeal (decX decW xOf wOf xsOf refOut refOut_isPool)
open Idealize.ShloMosaic hiding ix1 ix2 ix3 ix4 ix5
open Idealize.ShloMosaic.TcCoe Idealize.ShloMosaic.Tactic Idealize.ShloMosaic.ValueIdx
open Idealize.SL Idealize.SL.Sem

section
variable (x : S10x720x1280x3.Idx → BitVec 8) (s : S10.Idx → EReal) (w : S7x7x3x96.Idx → BitVec 8) (ws bs bb : S96.Idx → EReal)
  (hx : ∀ i, ∃ r : ℝ, Ideal.ofBits .fp8e4m3 (x i) = r) (hs : ∀ i, 0 ≤ s i) (hw : ∀ i, ∃ r : ℝ, Ideal.ofBits .fp8e4m3 (w i) = r)

/-- The two images of a pair. -/
def pairOf (p : ℕ) (y : S2x3x7200x128.Idx) : BitVec 8 := planes x (ix4 ⟨(2 * p + (y 0).val) % 10, Nat.mod_lt _ (by decide)⟩ (y 1) (y 2) (y 3))

theorem row_place (row col : ℕ) (h1 : row < 720) (h2 : col < 1280) : (row / 8 * 80 + col / 128 * 8 + row % 8) % 7200 / 80 * 8 + (row / 8 * 80 + col / 128 * 8 + row % 8) % 7200 % 8 = row % 720 := by
  have e : (row / 8 * 80 + col / 128 * 8 + row % 8) % 7200 = row / 8 * 80 + col / 128 * 8 + row % 8 := by omega
  rw [e]
  omega

theorem col_place (row col : ℕ) (h1 : row < 720) (h2 : col < 1280) : (row / 8 * 80 + col / 128 * 8 + row % 8) % 7200 % 80 / 8 * 128 + col % 128 = col % 1280 := by
  have e : (row / 8 * 80 + col / 128 * 8 + row % 8) % 7200 = row / 8 * 80 + col / 128 * 8 + row % 8 := by omega
  rw [e]
  omega

theorem pair_read (p : ℕ) (g : Fin 2) (c : Fin 3) (row col : ℕ) (h1 : row < 720) (h2 : col < 1280) :
    dec (pairOf x p (ix4 g c ⟨(row / 8 * 80 + col / 128 * 8 + row % 8) % 7200, Nat.mod_lt _ (by decide)⟩ ⟨col % 128, Nat.mod_lt _ (by decide)⟩))
      = xOf (decX x) (2 * p + g.val) row col c.val := by
  have e1 := row_place row col h1 h2
  have e2 := col_place row col h1 h2
  have l1 := Nat.mod_lt row (show 720 > 0 by decide)
  have l2 := Nat.mod_lt col (show 1280 > 0 by decide)
  refine (congrArg dec (planes_apply x ⟨(2 * p + g.val) % 10, Nat.mod_lt _ (by decide)⟩ c ⟨(row / 8 * 80 + col / 128 * 8 + row % 8) % 7200, Nat.mod_lt _ (by decide)⟩
    ⟨col % 128, Nat.mod_lt _ (by decide)⟩ (lt_of_eq_of_lt e1 l1) (lt_of_eq_of_lt e2 l2))).trans ?_
  unfold xOf decX
  refine congrArg (fun i => Ideal.ofBits .fp8e4m3 (x i)) (funext fun a => Fin.ext ?_)
  match a with
  | ⟨0, _⟩ => rfl
  | ⟨1, _⟩ => exact e1
  | ⟨2, _⟩ => exact e2
  | ⟨3, _⟩ => exact (Nat.mod_eq_of_lt c.isLt).symm

include hx in
theorem pair_real (p : ℕ) (y : S2x3x7200x128.Idx) : ∃ r : ℝ, dec (pairOf x p y) = r := by
  have h2 : (y 2).val < 7200 := (y 2).isLt
  have h3 : (y 3).val < 128 := (y 3).isLt
  unfold pairOf
  rw [planes_apply x ⟨(2 * p + (y 0).val) % 10, Nat.mod_lt _ (by decide)⟩ (y 1) (y 2) (y 3) (by omega) (by omega)]
  exact hx _

theorem chOf_val (f : S96.Idx → EReal) (ch : Fin 96) : Cert.Proof.ReferenceIdeal.chOf f ch.val = f (ix1 ch) := by
  unfold Cert.Proof.ReferenceIdeal.chOf
  refine congrArg f (funext fun a => Fin.ext ?_)
  match a with
  | ⟨0, _⟩ => exact Nat.mod_eq_of_lt ch.isLt

theorem tapArr_read (kh : Fin 7) (c : Fin 3) (kw : Fin 7) (ch : Fin 96) : tapArr w (ix4 kh c kw ch) = wOf (decW w) kh.val kw.val c.val ch.val := by
  rw [tapArr_apply]
  unfold wOf decW
  refine congrArg (fun i => Ideal.ofBits .fp8e4m3 (w i)) (funext fun a => Fin.ext ?_)
  match a with
  | ⟨0, _⟩ => exact (Nat.mod_eq_of_lt kh.isLt).symm
  | ⟨1, _⟩ => exact (Nat.mod_eq_of_lt kw.isLt).symm
  | ⟨2, _⟩ => exact (Nat.mod_eq_of_lt c.isLt).symm
  | ⟨3, _⟩ => exact (Nat.mod_eq_of_lt ch.isLt).symm

include hx hs hw in
/-- A place of the kernel's result holds the largest over its window. -/
theorem place_pool (p blk : ℕ) (hb : blk < 18) (g : Fin 2) (r : ℕ) (h1 : r < 10) (ch : Fin 96) (q : Fin 320) :
    IsPool (FIN (WV (tapArr w) table (chanLanes ws) (chanLanes bs)) (RSPEC (pairOf x p)) (MSPEC s (chanLanes ws) (chanLanes bs) p) (chanLanes bb) (10 * blk + r + 1) (tileAt g q) ch (laneAt g q))
      (fun R J => ACT (xOf (decX x)) (wOf (decW w)) (xsOf s) (Cert.Proof.ReferenceIdeal.chOf ws) (Cert.Proof.ReferenceIdeal.chOf bs) (Cert.Proof.ReferenceIdeal.chOf bb) (2 * p + g.val) R J ch.val) (10 * blk + r) q.val := by
  have hq := quad_tile g q
  have hi := img_tile g q
  have hk := fin_pool (WV (tapArr w) table (chanLanes ws) (chanLanes bs)) (RSPEC (pairOf x p)) (MSPEC s (chanLanes ws) (chanLanes bs) p) (chanLanes bb)
    (10 * blk + r + 1) (by omega) (by omega) ch g
    (fun R J => if Cert.Proof.ReferenceIdeal.chOf ws ch.val * Cert.Proof.ReferenceIdeal.chOf bs ch.val < 0 then -CONV (xOf (decX x)) (wOf (decW w)) (2 * p + g.val) R J ch.val
      else CONV (xOf (decX x)) (wOf (decW w)) (2 * p + g.val) R J ch.val)
    (fun R J => ACT (xOf (decX x)) (wOf (decW w)) (xsOf s) (Cert.Proof.ReferenceIdeal.chOf ws) (Cert.Proof.ReferenceIdeal.chOf bs) (Cert.Proof.ReferenceIdeal.chOf bb) (2 * p + g.val) R J ch.val)
    (max (Cert.Proof.ReferenceIdeal.chOf ws ch.val * Cert.Proof.ReferenceIdeal.chOf bs ch.val) (-(Cert.Proof.ReferenceIdeal.chOf ws ch.val * Cert.Proof.ReferenceIdeal.chOf bs ch.val)) * xsOf s (2 * p + g.val)) (Cert.Proof.ReferenceIdeal.chOf bb ch.val)
    (factor_nonneg _ _ (hs _))
    (fun P hP ph h0 v l hg => by
      have e := conv_at (tapArr w) table (chanLanes ws) (chanLanes bs) (wOf (decW w)) (tapArr_read w) table_apply (pairOf x p) (xOf (decX x)) (fun k => 2 * p + k.val)
        (pair_read x p) (pair_real x hx p) (fun a b c d => hx _) (fun a b c d => hw _) P hP ph h0 v ch l
      rw [hg, chanLanes_apply, chanLanes_apply, ← chOf_val ws ch, ← chOf_val bs ch] at e
      exact e)
    (fun r j => scaled _ _ _ _ _) (tileAt g q) (laneAt g q) hi
    (by
      show max (chanLanes ws (ix2 ch (laneAt g q)) * chanLanes bs (ix2 ch (laneAt g q)))
        (-(chanLanes ws (ix2 ch (laneAt g q)) * chanLanes bs (ix2 ch (laneAt g q)))) * scaleAt s p (sideOf (kindOf (tileAt g q)) (laneAt g q)) = _
      rw [side_kind, hi, chanLanes_apply, chanLanes_apply, ← chOf_val ws ch, ← chOf_val bs ch]
      rfl)
    (by rw [chanLanes_apply]; exact (chOf_val bb ch).symm)
  rw [hq] at hk
  exact hk

include hx hs hw in
/-- A block of the kernel's result holds, at each place, the largest over its window. -/
theorem block_pool (p blk : ℕ) (hb : blk < 18) (y : S2x10x96x320.Idx) :
    IsPool (OUT (WV (tapArr w) table (chanLanes ws) (chanLanes bs)) (RSPEC (pairOf x p)) (MSPEC s (chanLanes ws) (chanLanes bs) p) (chanLanes bb) blk y)
      (fun R J => ACT (xOf (decX x)) (wOf (decW w)) (xsOf s) (Cert.Proof.ReferenceIdeal.chOf ws) (Cert.Proof.ReferenceIdeal.chOf bs) (Cert.Proof.ReferenceIdeal.chOf bb)
        (2 * p + (y 0).val) R J (y 2).val) (10 * blk + (y 1).val) (y 3).val :=
  place_pool x s w ws bs bb hx hs hw p blk hb (y 0) (y 1).val (y 1).isLt (y 2) (y 3)

end

variable (m : (ℓ : Loc nD τ sig) → Buf (Elt Ideal) ℓ) (c : Dev nD)

theorem XB_pair (p : ℕ) : XB m c p = pairOf (m ((c : Thread nD τ).loc main_arg0)) p := by
  funext y
  unfold XB pairOf
  rw [V_planes]

theorem emb_7 (t : Fin cfg0.N) (y : S2x10x96x320.Idx) (h0 : 2 * (t.val / 18) + (y 0).val < 10) (h1 : 10 * (t.val % 18) + (y 1).val < 180) :
    (win0_7.blk t).view.emb y = ix4 ⟨2 * (t.val / 18) + (y 0).val, h0⟩ ⟨10 * (t.val % 18) + (y 1).val, h1⟩ (y 2) (y 3) := by
  refine funext fun a => Fin.ext ?_
  match a with
  | ⟨0, _⟩ =>
    show win0_7.index t 0 * 2 + 1 * (y 0).val = 2 * (t.val / 18) + (y 0).val
    rw [idx_7 t]
    show t.val / 18 * 2 + 1 * (y 0).val = _
    omega
  | ⟨1, _⟩ =>
    show win0_7.index t 1 * 10 + 1 * (y 1).val = 10 * (t.val % 18) + (y 1).val
    rw [idx_7 t]
    show t.val % 18 * 10 + 1 * (y 1).val = _
    omega
  | ⟨2, _⟩ =>
    show win0_7.index t 2 * 96 + 1 * (y 2).val = (y 2).val
    rw [idx_7 t]
    show 0 * 96 + 1 * (y 2).val = _
    omega
  | ⟨3, _⟩ =>
    show win0_7.index t 3 * 320 + 1 * (y 3).val = (y 3).val
    rw [idx_7 t]
    show 0 * 320 + 1 * (y 3).val = _
    omega

/-- The reference's result at the launch. -/
def goalOf : S10x180x96x320.Idx → EReal :=
  refOut (decX (m ((c : Thread nD τ).loc main_arg0))) (decW (m ((c : Thread nD τ).loc main_arg2))) (m ((c : Thread nD τ).loc main_arg1))
    (m ((c : Thread nD τ).loc main_arg3)) (m ((c : Thread nD τ).loc main_arg4)) (m ((c : Thread nD τ).loc main_arg5))

variable (hx : ∀ i, ∃ r : ℝ, Ideal.ofBits .fp8e4m3 (m ((c : Thread nD τ).loc main_arg0) i) = r)
  (hs : ∀ i : S10.Idx, (0 : EReal) ≤ m ((c : Thread nD τ).loc main_arg1) i)
  (hw : ∀ i, ∃ r : ℝ, Ideal.ofBits .fp8e4m3 (m ((c : Thread nD τ).loc main_arg2) i) = r)

include hx hs hw in
theorem block_value (t : Fin cfg0.N) (y : S2x10x96x320.Idx) : OUTc m c t.val y = goalOf m c ((win0_7.blk t).view.emb y) := by
  have hp := pair_small t
  have h0 : (y 0).val < 2 := (y 0).isLt
  have h1 : (y 1).val < 10 := (y 1).isLt
  have k0 : 2 * (t.val / 18) + (y 0).val < 10 := by omega
  have k1 : 10 * (t.val % 18) + (y 1).val < 180 := by omega
  refine Eq.trans ?_ (congrArg (goalOf m c) (emb_7 t y k0 k1)).symm
  unfold OUTc WVc MSc
  rw [XB_pair, V_tapArr, V_table, V_spread3, V_spread4, V_spread5, V_main_arg1]
  exact IsPool.unique (block_pool _ _ _ _ _ _ hx hs hw (t.val / 18) (t.val % 18) (Nat.mod_lt _ (by decide)) y) (refOut_isPool _ _ _ _ _ _ ⟨_, k0⟩ ⟨_, k1⟩ (y 2) (y 3))

include hx hs hw in
/-- The kernel's result array. -/
theorem arr_7 : (tdats m 0 c).arrAt 7 cfg0.N = goalOf m c := by
  refine (tdats m 0 c).arrAt_eq_of_covers 7 _ (by decide +kernel) fun t hf y => ?_
  refine Eq.trans ?_ (block_value m c hx hs hw t y)
  rw [← tafter_7 m c t]
  blk_simp

end Cert.Proof.KernelIdeal

end
-- ==== Proof.PreRead.lean ====
/-
  The precondition read: every code stands for a real number, and no scale of an image is below zero.
-/
module

public import proofs.«01_k».proof.Proof.Gen.Pre_finite
public import proofs.«01_k».proof.Pre_finite
public import Idealize.ShloMosaic.Lib.ReduceAll
public import Idealize.ShloMosaic.Lib.IdealHost
public import Idealize.ShloMosaic.PureOps.Ideal.Laws
public import Idealize.ShloMosaic.Lib.ValueIdx

@[expose] public section

set_option maxRecDepth 65536
set_option maxHeartbeats 400000

noncomputable section

namespace Cert.Proof.Pre_finite

open Cert.Pre_finite
open Idealize.ShloMosaic
open Idealize.ShloMosaic.TcCoe Idealize.ShloMosaic.Tactic Idealize.ShloMosaic.ValueIdx

instance : Subsingleton S_.Idx := ⟨fun a b => funext fun i => i.elim0⟩

theorem and_one : ∀ a b : BitVec 1, IntOp.andi a b = 1#1 → a = 1#1 ∧ b = 1#1 := by decide

/-- A code that is not one of the two without a number stands for a real number. -/
theorem code_real (b : BitVec 8) (h : ¬((b.extractLsb' 3 4).toNat = 15 ∧ (b.extractLsb' 0 3).toNat = 7)) :
    ∃ r : ℝ, Ideal.ofBits .fp8e4m3 b = r := by
  show ∃ r : ℝ, Ideal.e4m3fn b = r
  unfold Ideal.e4m3fn
  dsimp only
  rw [if_neg h]
  split_ifs
  all_goals exact ⟨_, rfl⟩

theorem code_test : ∀ n : Fin 256, IntOp.cmpi .ne (IntOp.andi ((BitVec.ofFin n : BitVec 8).setWidth 32) 127#32) 127#32 = 1#1 →
    ¬(((BitVec.ofFin n : BitVec 8).extractLsb' 3 4).toNat = 15 ∧ ((BitVec.ofFin n : BitVec 8).extractLsb' 0 3).toNat = 7) := by decide +kernel

theorem code_test' (b : BitVec 8) (h : IntOp.cmpi .ne (IntOp.andi (b.setWidth 32) 127#32) 127#32 = 1#1) : ∃ r : ℝ, Ideal.ofBits .fp8e4m3 b = r :=
  code_real b (code_test b.toFin h)

theorem read (x : S10x720x1280x3.Idx → BitVec 8) (s : S10.Idx → EReal) (w : S7x7x3x96.Idx → BitVec 8) (ws bs bb : S96.Idx → EReal)
    (h : @Cert.Pre_finite.fn Cert.Pre_finite.Gen.facts Ideal _ x s w ws bs bb = fun _ => 1#1) :
    (∀ i, ∃ r : ℝ, Ideal.ofBits .fp8e4m3 (x i) = r) ∧ (∀ i, 0 ≤ s i) ∧ (∀ i, ∃ r : ℝ, Ideal.ofBits .fp8e4m3 (w i) = r) := by
  have j : S_.Idx := fun a => a.elim0
  have h0 := congrFun h j
  obtain ⟨h1, hw⟩ := and_one _ _ h0
  obtain ⟨hs, hx⟩ := and_one _ _ h1
  refine ⟨fun i => code_test' _ (Host.reduce_andi_all _ _ _ _ j hx i), fun i => ?_, fun i => code_test' _ (Host.reduce_andi_all _ _ _ _ j hw i)⟩
  have e := Host.reduce_andi_all _ _ _ _ j hs i
  have e' : BitVec.ofBool (decide (Ideal.ofBits .f32 0x00000000#32 ≤ s i)) = 1#1 := e
  rw [Ideal.ofBits_zero_f32] at e'
  by_contra hn
  rw [decide_eq_false hn] at e'
  exact absurd e' (by decide)

end Cert.Proof.Pre_finite

end
-- ==== Proof.lean ====
module

public import proofs.«01_k».proof.Defs
public import proofs.«01_k».proof.Proof.BitsFrame
public import proofs.«01_k».proof.Proof.IdealFrame
public import proofs.«01_k».proof.Proof.Algebra
public import proofs.«01_k».proof.Proof.PreRead

@[expose] public section

noncomputable section

namespace Cert.Proof

open Idealize.ShloMosaic Idealize.ShloMosaic.TcCoe Idealize.SL Idealize.SL.Sem

theorem algebraic : @Cert.algebraic_KernelIdeal_ReferenceIdeal_pre_finite Cert.KernelIdeal.Gen.facts Cert.ReferenceIdeal.Gen.facts Cert.Pre_finite.Gen.facts := by
  intro m g m' g' hpre hag
  have hr := fun c => Cert.Proof.Pre_finite.read _ _ _ _ _ _ (hpre c)
  refine ⟨fun c => Cert.Proof.KernelIdeal.goalOf m c, ?_, ?_⟩
  · refine (Idealize.ShloMosaic.θ_run _ _ _).mono (fun r h c => ?_) (Cert.Proof.KernelIdeal.run_track m g)
    obtain ⟨hx, hs, hw⟩ := hr c
    exact ⟨((h c).1 7).trans (Cert.Proof.KernelIdeal.arr_7 m c hx hs hw),
      ((h c).2 Cert.KernelIdeal.main_arg0 (Pipeline.mem_restRefs_of Cert.KernelIdeal.main_arg0 (by decide) (by decide))).trans (Cert.KernelIdeal.Gen.V_main_arg0 m c),
      ((h c).1 1).trans (((Cert.Proof.KernelIdeal.tdats m 0 c).arrAt_in 1 rfl _).trans (Cert.KernelIdeal.Gen.V_main_arg1 m c)),
      ((h c).2 Cert.KernelIdeal.main_arg2 (Pipeline.mem_restRefs_of Cert.KernelIdeal.main_arg2 (by decide) (by decide))).trans (Cert.KernelIdeal.Gen.V_main_arg2 m c),
      ((h c).2 Cert.KernelIdeal.main_arg3 (Pipeline.mem_restRefs_of Cert.KernelIdeal.main_arg3 (by decide) (by decide))).trans (Cert.KernelIdeal.Gen.V_main_arg3 m c),
      ((h c).2 Cert.KernelIdeal.main_arg4 (Pipeline.mem_restRefs_of Cert.KernelIdeal.main_arg4 (by decide) (by decide))).trans (Cert.KernelIdeal.Gen.V_main_arg4 m c),
      ((h c).2 Cert.KernelIdeal.main_arg5 (Pipeline.mem_restRefs_of Cert.KernelIdeal.main_arg5 (by decide) (by decide))).trans (Cert.KernelIdeal.Gen.V_main_arg5 m c)⟩
  · refine (Idealize.ShloMosaic.θ_run _ _ _).mono (fun r h c => ?_) (Cert.Proof.ReferenceIdeal.run_value m' g')
    obtain ⟨a0, a1, a2, a3, a4, a5⟩ := hag c
    obtain ⟨h0, hrest⟩ := h c
    refine ⟨h0.trans ?_, hrest⟩
    unfold Cert.Proof.ReferenceIdeal.refRes Cert.Proof.KernelIdeal.goalOf
    exact congr (congr (congr (congr (congr (congrArg (fun x => Cert.Proof.ReferenceIdeal.refOut (Cert.Proof.ReferenceIdeal.decX x)) a0) (congrArg Cert.Proof.ReferenceIdeal.decW a2)) a1) a3) a4) a5

theorem claim : Cert.Claim := ⟨Cert.Kernel.Gen.facts, Cert.KernelIdeal.Gen.facts, Cert.ReferenceIdeal.Gen.facts, Cert.Pre_finite.Gen.facts,
  fun m ρ _ => Cert.Proof.Kernel.frame m ρ, fun m ρ _ => Cert.Proof.KernelIdeal.frame m ρ, fun m ρ _ => Cert.Proof.KernelIdeal.frame m ρ,
  fun m ρ _ => Cert.ReferenceIdeal.Gen.frame m ρ, fun m ρ _ => Cert.ReferenceIdeal.Gen.frame m ρ, trivial, algebraic⟩

end Cert.Proof

end
